-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_pooled [hPre_finite_pooled : Cert.Pre_finite_pooled.Facts] (m : (ℓ : Loc Cert.MixIdeal.nD Cert.MixIdeal.τ Cert.MixIdeal.sig) → Buf (Elt Ideal) ℓ) : Prop :=
  ∀ c : Dev Cert.MixIdeal.nD,
    (Cert.Pre_finite_pooled.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_pooled [hPre_finite_pooled : Cert.Pre_finite_pooled.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_pooled.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9)
      ∧ r.2.mem ((c.tc : Thread Cert.Attn.nD Cert.Attn.τ).loc Cert.Attn.main_arg10) = m ((c.tc : Thread Cert.Attn.nD Cert.Attn.τ).loc Cert.Attn.main_arg10))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9)
      ∧ r.2.mem ((c.tc : Thread Cert.AttnRefIdeal.nD Cert.AttnRefIdeal.τ).loc Cert.AttnRefIdeal.main_arg10) = m ((c.tc : Thread Cert.AttnRefIdeal.nD Cert.AttnRefIdeal.τ).loc Cert.AttnRefIdeal.main_arg10))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9)
      ∧ r.2.mem ((c.tc : Thread Cert.AttnRefIdeal.nD Cert.AttnRefIdeal.τ).loc Cert.AttnRefIdeal.main_arg10) = m ((c.tc : Thread Cert.AttnRefIdeal.nD Cert.AttnRefIdeal.τ).loc Cert.AttnRefIdeal.main_arg10))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixIdeal_pre_finite_pooled [hMixIdeal : Cert.MixIdeal.Facts] [hPre_finite_pooled : Cert.Pre_finite_pooled.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_pooled m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_MixRefIdeal_pre_finite_pooled [hMixRefIdeal : Cert.MixRefIdeal.Facts] [hPre_finite_pooled : Cert.Pre_finite_pooled.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_pooled m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8))
      ∧ r.2.sem = fun _ => 0)

def preserves_Attn_AttnIdeal : Prop :=
  IdealRules.named_const.Statement Cert.AttnIdeal.κ "scale" .f32 0x3E38AA3B#32 (((8 * (Real.log 2))⁻¹ : ℝ) : EReal)

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)
      ∧ m' ((c.tc : Thread Cert.AttnRefIdeal.nD Cert.AttnRefIdeal.τ).loc Cert.AttnRefIdeal.main_arg9) = m ((c.tc : Thread Cert.AttnIdeal.nD Cert.AttnIdeal.τ).loc Cert.AttnIdeal.main_arg9)
      ∧ m' ((c.tc : Thread Cert.AttnRefIdeal.nD Cert.AttnRefIdeal.τ).loc Cert.AttnRefIdeal.main_arg10) = m ((c.tc : Thread Cert.AttnIdeal.nD Cert.AttnIdeal.τ).loc Cert.AttnIdeal.main_arg10)) →
    ∃ (v0 : (c : Dev Cert.AttnIdeal.nD) → Buf (Elt Ideal) ((c.tc : Thread Cert.AttnIdeal.nD Cert.AttnIdeal.τ).loc Cert.AttnIdeal.main_v24_0)) (v1 : (c : Dev Cert.AttnIdeal.nD) → Buf (Elt Ideal) ((c.tc : Thread Cert.AttnIdeal.nD Cert.AttnIdeal.τ).loc Cert.AttnIdeal.main_v24_1)) (v2 : (c : Dev Cert.AttnIdeal.nD) → Buf (Elt Ideal) ((c.tc : Thread Cert.AttnIdeal.nD Cert.AttnIdeal.τ).loc Cert.AttnIdeal.main_v24_2)) (v3 : (c : Dev Cert.AttnIdeal.nD) → Buf (Elt Ideal) ((c.tc : Thread Cert.AttnIdeal.nD Cert.AttnIdeal.τ).loc Cert.AttnIdeal.main_v24_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v24_0) = v0 c
          ∧ r.2.mem ((c.tc : Thread Cert.AttnIdeal.nD Cert.AttnIdeal.τ).loc Cert.AttnIdeal.main_v24_1) = v1 c
          ∧ r.2.mem ((c.tc : Thread Cert.AttnIdeal.nD Cert.AttnIdeal.τ).loc Cert.AttnIdeal.main_v24_2) = v2 c
          ∧ r.2.mem ((c.tc : Thread Cert.AttnIdeal.nD Cert.AttnIdeal.τ).loc Cert.AttnIdeal.main_v24_3) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
          ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v25) = v0 c
          ∧ r.2.mem ((c.tc : Thread Cert.AttnRefIdeal.nD Cert.AttnRefIdeal.τ).loc Cert.AttnRefIdeal.main_v29) = v1 c
          ∧ r.2.mem ((c.tc : Thread Cert.AttnRefIdeal.nD Cert.AttnRefIdeal.τ).loc Cert.AttnRefIdeal.main_v33) = v2 c
          ∧ r.2.mem ((c.tc : Thread Cert.AttnRefIdeal.nD Cert.AttnRefIdeal.τ).loc Cert.AttnRefIdeal.main_v34) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8)
          ∧ r.2.mem ((c.tc : Thread Cert.AttnRefIdeal.nD Cert.AttnRefIdeal.τ).loc Cert.AttnRefIdeal.main_arg9) = m' ((c.tc : Thread Cert.AttnRefIdeal.nD Cert.AttnRefIdeal.τ).loc Cert.AttnRefIdeal.main_arg9)
          ∧ r.2.mem ((c.tc : Thread Cert.AttnRefIdeal.nD Cert.AttnRefIdeal.τ).loc Cert.AttnRefIdeal.main_arg10) = m' ((c.tc : Thread Cert.AttnRefIdeal.nD Cert.AttnRefIdeal.τ).loc Cert.AttnRefIdeal.main_arg10))

def preserves_Mix_MixIdeal : Prop :=
  True

def algebraic_MixIdeal_MixRefIdeal_pre_finite_pooled [hMixIdeal : Cert.MixIdeal.Facts] [hMixRefIdeal : Cert.MixRefIdeal.Facts] [hPre_finite_pooled : Cert.Pre_finite_pooled.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_pooled m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v43)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v43) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v160) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v32_0)) (v1 : (c : Dev Cert.ProjIdeal.nD) → Buf (Elt Ideal) ((c.tc : Thread Cert.ProjIdeal.nD Cert.ProjIdeal.τ).loc Cert.ProjIdeal.main_v32_1)) (v2 : (c : Dev Cert.ProjIdeal.nD) → Buf (Elt Ideal) ((c.tc : Thread Cert.ProjIdeal.nD Cert.ProjIdeal.τ).loc Cert.ProjIdeal.main_v32_2)) (v3 : (c : Dev Cert.ProjIdeal.nD) → Buf (Elt Ideal) ((c.tc : Thread Cert.ProjIdeal.nD Cert.ProjIdeal.τ).loc Cert.ProjIdeal.main_v32_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v32_0) = v0 c
          ∧ r.2.mem ((c.tc : Thread Cert.ProjIdeal.nD Cert.ProjIdeal.τ).loc Cert.ProjIdeal.main_v32_1) = v1 c
          ∧ r.2.mem ((c.tc : Thread Cert.ProjIdeal.nD Cert.ProjIdeal.τ).loc Cert.ProjIdeal.main_v32_2) = v2 c
          ∧ r.2.mem ((c.tc : Thread Cert.ProjIdeal.nD Cert.ProjIdeal.τ).loc Cert.ProjIdeal.main_v32_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v113) = v0 c
          ∧ r.2.mem ((c.tc : Thread Cert.ProjRefIdeal.nD Cert.ProjRefIdeal.τ).loc Cert.ProjRefIdeal.main_v115) = v1 c
          ∧ r.2.mem ((c.tc : Thread Cert.ProjRefIdeal.nD Cert.ProjRefIdeal.τ).loc Cert.ProjRefIdeal.main_v116) = v2 c
          ∧ r.2.mem ((c.tc : Thread Cert.ProjRefIdeal.nD Cert.ProjRefIdeal.τ).loc Cert.ProjRefIdeal.main_v117) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8))

def Claim : Prop :=
  ∃ (hAttn : Cert.Attn.Facts) (hAttnIdeal : Cert.AttnIdeal.Facts) (hAttnRefIdeal : Cert.AttnRefIdeal.Facts) (hMix : Cert.Mix.Facts) (hMixIdeal : Cert.MixIdeal.Facts) (hMixRefIdeal : Cert.MixRefIdeal.Facts) (hProj : Cert.Proj.Facts) (hProjIdeal : Cert.ProjIdeal.Facts) (hProjRefIdeal : Cert.ProjRefIdeal.Facts) (hPre_finite_scores : Cert.Pre_finite_scores.Facts) (hPre_finite_pooled : Cert.Pre_finite_pooled.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Mix (hMix := hMix)
    ∧ quiescent_MixIdeal (hMixIdeal := hMixIdeal)
    ∧ quiescent_MixIdeal_pre_finite_pooled (hMixIdeal := hMixIdeal) (hPre_finite_pooled := hPre_finite_pooled)
    ∧ quiescent_MixRefIdeal (hMixRefIdeal := hMixRefIdeal)
    ∧ quiescent_MixRefIdeal_pre_finite_pooled (hMixRefIdeal := hMixRefIdeal) (hPre_finite_pooled := hPre_finite_pooled)
    ∧ quiescent_Proj (hProj := hProj)
    ∧ quiescent_ProjIdeal (hProjIdeal := hProjIdeal)
    ∧ quiescent_ProjRefIdeal (hProjRefIdeal := hProjRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Mix_MixIdeal
    ∧ algebraic_MixIdeal_MixRefIdeal_pre_finite_pooled (hMixIdeal := hMixIdeal) (hMixRefIdeal := hMixRefIdeal) (hPre_finite_pooled := hPre_finite_pooled)
    ∧ preserves_Proj_ProjIdeal
    ∧ algebraic_ProjIdeal_ProjRefIdeal (hProjIdeal := hProjIdeal) (hProjRefIdeal := hProjRefIdeal)
-- ==== Pre_finite_pooled.lean ====
abbrev S8x4096x1024 : Shape := ⟨3, ![8, 4096, 1024]⟩
abbrev S32768x512 : Shape := ⟨2, ![32768, 512]⟩
abbrev S8x4096x512 : Shape := ⟨3, ![8, 4096, 512]⟩
abbrev S16x512 : Shape := ⟨2, ![16, 512]⟩
abbrev S4x128x128 : Shape := ⟨3, ![4, 128, 128]⟩
abbrev S512 : Shape := ⟨1, ![512]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S8x4096x1024 .f32) (main_arg1 : FVec F S32768x512 .f32) (main_arg2 : FVec F S8x4096x512 .f32) (main_arg3 : FVec F S16x512 .f32) (main_arg4 : FVec F S4x128x128 .f32) (main_arg5 : FVec F S512 .f32) (main_arg6 : FVec F S512 .f32) (main_arg7 : FVec F S1024x1024 .f32) (main_arg8 : FVec F S1024 .f32) (main_arg9 : FVec F S1024x5632 .f32) (main_arg10 : FVec F S2816x1024 .f32) (main_arg11 : FVec F S1024 .f32) : IVec S_ 1 :=
  let main_v0 : FVec F S8x4096x512 .f32 := Host.absf main_arg2
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S16x512 .f32 := Host.absf main_arg3
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  main_v8
-- ==== Pre_finite_scores.lean ====
abbrev S8x4096x8x64 : Shape := ⟨4, ![8, 4096, 8, 64]⟩
abbrev S8x4096x2x64 : Shape := ⟨4, ![8, 4096, 2, 64]⟩
abbrev S16x2x64 : Shape := ⟨3, ![16, 2, 64]⟩
abbrev S1024x1024 : Shape := ⟨2, ![1024, 1024]⟩
abbrev S512 : Shape := ⟨1, ![512]⟩
abbrev S1024x5632 : Shape := ⟨2, ![1024, 5632]⟩
abbrev S1024 : Shape := ⟨1, ![1024]⟩
abbrev S2816x1024 : Shape := ⟨2, ![2816, 1024]⟩
abbrev S_ : Shape := ⟨0, ![]⟩

class Facts : Prop where
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_
  h_S_ : 0 < S_.numel
  bcast_S_S8x4096x2x64 : S_.BroadcastsInDim S8x4096x2x64 (![] : Fin 0 → Fin S8x4096x2x64.rank)
  reducesTo_S8x4096x2x64_S_d0_1_2_3 : S8x4096x2x64.ReducesTo [0, 1, 2, 3] S_
  bcast_S_S16x2x64 : S_.BroadcastsInDim S16x2x64 (![] : Fin 0 → Fin S16x2x64.rank)
  reducesTo_S16x2x64_S_d0_1_2 : S16x2x64.ReducesTo [0, 1, 2] S_

variable [Facts]

def fn {F : FTy → Type} [FloatOps F] (main_arg0 : FVec F S8x4096x8x64 .f32) (main_arg1 : FVec F S8x4096x2x64 .f32) (main_arg2 : FVec F S8x4096x2x64 .f32) (main_arg3 : FVec F S16x2x64 .f32) (main_arg4 : FVec F S16x2x64 .f32) (main_arg5 : FVec F S1024x1024 .f32) (main_arg6 : FVec F S512 .f32) (main_arg7 : FVec F S512 .f32) (main_arg8 : FVec F S1024x5632 .f32) (main_arg9 : FVec F S1024 .f32) (main_arg10 : FVec F S2816x1024 .f32) : IVec S_ 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_c : IVec S_ 1 := constantI S_ 1 1#1
  let main_v3 : IVec S_ 1 := (fun x v => Host.reduce IntOp.andi x v reducesTo_S8x4096x8x64_S_d0_1_2_3 h_S_) main_v2 main_c
  let main_v4 : FVec F S8x4096x2x64 .f32 := Host.absf main_arg1
  let main_cst_0 : FVec F S_ .f32 := constant S_ .f32 0x7F800000#32
  let main_v5 : FVec F S8x4096x2x64 .f32 := broadcastInDim S8x4096x2x64 ![] bcast_S_S8x4096x2x64 main_cst_0
  let main_v6 : IVec S8x4096x2x64 1 := cmpf .olt main_v4 main_v5
  let main_c_1 : IVec S_ 1 := constantI S_ 1 1#1
  let main_v7 : IVec S_ 1 := (fun x v => Host.reduce IntOp.andi x v reducesTo_S8x4096x2x64_S_d0_1_2_3 h_S_) main_v6 main_c_1
  let main_v8 : IVec S_ 1 := andi main_v3 main_v7
  let main_v9 : FVec F S16x2x64 .f32 := Host.absf main_arg3
  let main_cst_2 : FVec F S_ .f32 := constant S_ .f32 0x7F800000#32
  let main_v10 : FVec F S16x2x64 .f32 := broadcastInDim S16x2x64 ![] bcast_S_S16x2x64 main_cst_2
  let main_v11 : IVec S16x2x64 1 := cmpf .olt main_v9 main_v10
  let main_c_3 : IVec S_ 1 := constantI S_ 1 1#1
  let main_v12 : IVec S_ 1 := (fun x v => Host.reduce IntOp.andi x v reducesTo_S16x2x64_S_d0_1_2 h_S_) main_v11 main_c_3
  let main_v13 : IVec S_ 1 := andi main_v8 main_v12
  main_v13
-- ==== Attn.lean ====
abbrev S8x4096x8x64 : Shape := ⟨4, ![8, 4096, 8, 64]⟩
abbrev S8x4096x2x64 : Shape := ⟨4, ![8, 4096, 2, 64]⟩
abbrev S16x2x64 : Shape := ⟨3, ![16, 2, 64]⟩
abbrev S1024x1024 : Shape := ⟨2, ![1024, 1024]⟩
abbrev S512 : Shape := ⟨1, ![512]⟩
abbrev S1024x5632 : Shape := ⟨2, ![1024, 5632]⟩
abbrev S1024 : Shape := ⟨1, ![1024]⟩
abbrev S2816x1024 : Shape := ⟨2, ![2816, 1024]⟩
abbrev S32768x512 : Shape := ⟨2, ![32768, 512]⟩
abbrev S1x16x2x64 : Shape := ⟨4, ![1, 16, 2, 64]⟩
abbrev S_ : Shape := ⟨0, ![]⟩
abbrev S1x128x2x64 : Shape := ⟨4, ![1, 128, 2, 64]⟩
abbrev S1024x1 : Shape := ⟨2, ![1024, 1]⟩
abbrev S32768x128 : Shape := ⟨2, ![32768, 128]⟩
abbrev S32768x64 : Shape := ⟨2, ![32768, 64]⟩
abbrev S32768x256 : Shape := ⟨2, ![32768, 256]⟩
abbrev S8x2x64x4096 : Shape := ⟨4, ![8, 2, 64, 4096]⟩
abbrev S8x2x16x4096 : Shape := ⟨4, ![8, 2, 16, 4096]⟩
abbrev S8x2x80x4096 : Shape := ⟨4, ![8, 2, 80, 4096]⟩
abbrev S16x128 : Shape := ⟨2, ![16, 128]⟩
abbrev S16x64 : Shape := ⟨2, ![16, 64]⟩
abbrev S16x256 : Shape := ⟨2, ![16, 256]⟩
abbrev S1x2x64x128 : Shape := ⟨4, ![1, 2, 64, 128]⟩
abbrev S1x2x16x128 : Shape := ⟨4, ![1, 2, 16, 128]⟩
abbrev S1x2x80x128 : Shape := ⟨4, ![1, 2, 80, 128]⟩
abbrev S4096x256 : Shape := ⟨2, ![4096, 256]⟩
abbrev S4096x128 : Shape := ⟨2, ![4096, 128]⟩
abbrev S1x1x80x4096 : Shape := ⟨4, ![1, 1, 80, 4096]⟩
abbrev S1x1x80x128 : Shape := ⟨4, ![1, 1, 80, 128]⟩
abbrev S64x1024 : Shape := ⟨2, ![64, 1024]⟩
abbrev S64x1 : Shape := ⟨2, ![64, 1]⟩
abbrev S64x5632 : Shape := ⟨2, ![64, 5632]⟩
abbrev S176x1024 : Shape := ⟨2, ![176, 1024]⟩
abbrev S272x128 : Shape := ⟨2, ![272, 128]⟩
abbrev S80x384 : Shape := ⟨2, ![80, 384]⟩
abbrev S2x4112x512 : Shape := ⟨3, ![2, 4112, 512]⟩
abbrev S256x128 : Shape := ⟨2, ![256, 128]⟩
abbrev S1x1x80x256 : Shape := ⟨4, ![1, 1, 80, 256]⟩
abbrev S80x256 : Shape := ⟨2, ![80, 256]⟩
abbrev S80x128 : Shape := ⟨2, ![80, 128]⟩
abbrev S128x256 : Shape := ⟨2, ![128, 256]⟩
abbrev S64x256 : Shape := ⟨2, ![64, 256]⟩
abbrev S128x512 : Shape := ⟨2, ![128, 512]⟩
abbrev S1x512 : Shape := ⟨2, ![1, 512]⟩
abbrev S256x512 : Shape := ⟨2, ![256, 512]⟩
abbrev S1x256x512 : Shape := ⟨3, ![1, 256, 512]⟩
abbrev S272x512 : Shape := ⟨2, ![272, 512]⟩
abbrev S1x272x512 : Shape := ⟨3, ![1, 272, 512]⟩
abbrev S80x512 : Shape := ⟨2, ![80, 512]⟩
abbrev S112x512 : Shape := ⟨2, ![112, 512]⟩
abbrev S384x512 : Shape := ⟨2, ![384, 512]⟩
abbrev S64x512 : Shape := ⟨2, ![64, 512]⟩

abbrev nBuf : Space → Nat
  | .hbm => 43
  | .vmem => 31
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S16x2x64, .f32⟩
  | .hbm, ⟨4, _⟩ => ⟨S16x2x64, .f32⟩
  | .hbm, ⟨5, _⟩ => ⟨S1024x1024, .f32⟩
  | .hbm, ⟨6, _⟩ => ⟨S512, .f32⟩
  | .hbm, ⟨7, _⟩ => ⟨S512, .f32⟩
  | .hbm, ⟨8, _⟩ => ⟨S1024x5632, .f32⟩
  | .hbm, ⟨9, _⟩ => ⟨S1024, .f32⟩
  | .hbm, ⟨10, _⟩ => ⟨S2816x1024, .f32⟩
  | .hbm, ⟨11, _⟩ => ⟨S32768x512, .f32⟩
  | .hbm, ⟨12, _⟩ => ⟨S1x16x2x64, .f32⟩
  | .hbm, ⟨13, _⟩ => ⟨S_, .i32⟩
  | .hbm, ⟨14, _⟩ => ⟨S_, .f32⟩
  | .hbm, ⟨15, _⟩ => ⟨S1x128x2x64, .f32⟩
  | .hbm, ⟨16, _⟩ => ⟨S1024, .f32⟩
  | .hbm, ⟨17, _⟩ => ⟨S1024x1, .f32⟩
  | .hbm, ⟨18, _⟩ => ⟨S32768x128, .f32⟩
  | .hbm, ⟨19, _⟩ => ⟨S32768x64, .f32⟩
  | .hbm, ⟨20, _⟩ => ⟨S32768x64, .f32⟩
  | .hbm, ⟨21, _⟩ => ⟨S32768x256, .f32⟩
  | .hbm, ⟨22, _⟩ => ⟨S32768x256, .bf16⟩
  | .hbm, ⟨23, _⟩ => ⟨S8x2x64x4096, .f32⟩
  | .hbm, ⟨24, _⟩ => ⟨S_, .f32⟩
  | .hbm, ⟨25, _⟩ => ⟨S8x2x16x4096, .f32⟩
  | .hbm, ⟨26, _⟩ => ⟨S8x2x80x4096, .f32⟩
  | .hbm, ⟨27, _⟩ => ⟨S8x2x80x4096, .bf16⟩
  | .hbm, ⟨28, _⟩ => ⟨S16x128, .f32⟩
  | .hbm, ⟨29, _⟩ => ⟨S16x64, .f32⟩
  | .hbm, ⟨30, _⟩ => ⟨S16x64, .f32⟩
  | .hbm, ⟨31, _⟩ => ⟨S16x256, .f32⟩
  | .hbm, ⟨32, _⟩ => ⟨S16x256, .bf16⟩
  | .hbm, ⟨33, _⟩ => ⟨S1x2x64x128, .f32⟩
  | .hbm, ⟨34, _⟩ => ⟨S_, .f32⟩
  | .hbm, ⟨35, _⟩ => ⟨S1x2x16x128, .f32⟩
  | .hbm, ⟨36, _⟩ => ⟨S1x2x80x128, .f32⟩
  | .hbm, ⟨37, _⟩ => ⟨S1x2x80x128, .bf16⟩
  | .hbm, ⟨38, _⟩ => ⟨S1024x1, .f32⟩
  | .hbm, ⟨39, _⟩ => ⟨S32768x512, .f32⟩
  | .hbm, ⟨40, _⟩ => ⟨S1024x1024, .bf16⟩
  | .hbm, ⟨41, _⟩ => ⟨S1024x5632, .bf16⟩
  | .hbm, ⟨42, _⟩ => ⟨S2816x1024, .bf16⟩
  | .local _ .vmem, ⟨0, _⟩ => ⟨S4096x256, .f32⟩
  | .local _ .vmem, ⟨1, _⟩ => ⟨S4096x256, .f32⟩
  | .local _ .vmem, ⟨2, _⟩ => ⟨S4096x128, .bf16⟩
  | .local _ .vmem, ⟨3, _⟩ => ⟨S4096x128, .bf16⟩
  | .local _ .vmem, ⟨4, _⟩ => ⟨S1x1x80x4096, .bf16⟩
  | .local _ .vmem, ⟨5, _⟩ => ⟨S1x1x80x4096, .bf16⟩
  | .local _ .vmem, ⟨6, _⟩ => ⟨S16x128, .bf16⟩
  | .local _ .vmem, ⟨7, _⟩ => ⟨S16x128, .bf16⟩
  | .local _ .vmem, ⟨8, _⟩ => ⟨S1x1x80x128, .bf16⟩
  | .local _ .vmem, ⟨9, _⟩ => ⟨S1x1x80x128, .bf16⟩
  | .local _ .vmem, ⟨10, _⟩ => ⟨S64x1024, .f32⟩
  | .local _ .vmem, ⟨11, _⟩ => ⟨S64x1024, .f32⟩
  | .local _ .vmem, ⟨12, _⟩ => ⟨S64x1, .f32⟩
  | .local _ .vmem, ⟨13, _⟩ => ⟨S64x1, .f32⟩
  | .local _ .vmem, ⟨14, _⟩ => ⟨S64x5632, .f32⟩
  | .local _ .vmem, ⟨15, _⟩ => ⟨S64x5632, .f32⟩
  | .local _ .vmem, ⟨16, _⟩ => ⟨S64x1, .f32⟩
  | .local _ .vmem, ⟨17, _⟩ => ⟨S64x1, .f32⟩
  | .local _ .vmem, ⟨18, _⟩ => ⟨S176x1024, .f32⟩
  | .local _ .vmem, ⟨19, _⟩ => ⟨S176x1024, .f32⟩
  | .local _ .vmem, ⟨20, _⟩ => ⟨S4096x256, .f32⟩
  | .local _ .vmem, ⟨21, _⟩ => ⟨S4096x256, .f32⟩
  | .local _ .vmem, ⟨22, _⟩ => ⟨S64x1024, .bf16⟩
  | .local _ .vmem, ⟨23, _⟩ => ⟨S64x1024, .bf16⟩
  | .local _ .vmem, ⟨24, _⟩ => ⟨S64x5632, .bf16⟩
  | .local _ .vmem, ⟨25, _⟩ => ⟨S64x5632, .bf16⟩
  | .local _ .vmem, ⟨26, _⟩ => ⟨S176x1024, .bf16⟩
  | .local _ .vmem, ⟨27, _⟩ => ⟨S176x1024, .bf16⟩
  | .local _ .vmem, ⟨28, _⟩ => ⟨S272x128, .bf16⟩
  | .local _ .vmem, ⟨29, _⟩ => ⟨S80x384, .bf16⟩
  | .local _ .vmem, ⟨30, _⟩ => ⟨S2x4112x512, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_v24_2 : Ref sig .tc := ⟨.hbm, 41, rfl⟩
abbrev main_v24_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 2], ![false, false]⟩

def k0_mult1 : BitVec 32 :=
  let c0_i32 : BitVec 32 := 0#32
  c0_i32
@[reducible] def k0_t1_loop : Scf.Loop 32 :=
  let c0_i32_135 : BitVec 32 := 0#32
  let c4_i32 : BitVec 32 := 4#32
  let v197 : BitVec 32 := Scalar.addi c0_i32_135 c4_i32
  let c1_i32 : BitVec 32 := 1#32
  ⟨c0_i32_135, v197, c1_i32⟩
def k0_mult2 (k0_t1 : Fin k0_t1_loop.trips) : BitVec 32 :=
  let c0_i32_135 : BitVec 32 := 0#32
  let c1_i32 : BitVec 32 := 1#32
  let arg19 : BitVec 32 := Scf.iv c0_i32_135 c1_i32 k0_t1
  let c4_i32_137 : BitVec 32 := 4#32
  let v199 : BitVec 32 := Scalar.muli arg19 c4_i32_137
  let c0_i32_138 : BitVec 32 := 0#32
  let v200 : BitVec 32 := Scalar.addi v199 c0_i32_138
  let c256_i32 : BitVec 32 := 256#32
  let v201 : BitVec 32 := Scalar.muli v200 c256_i32
  v201
def k0_off1 (k0_t1 : Fin k0_t1_loop.trips) (c0_i32_138 : BitVec 32) : Fin 2 → Nat :=
  let c0_i32_135 : BitVec 32 := 0#32
  let c1_i32 : BitVec 32 := 1#32
  let arg19 : BitVec 32 := Scf.iv c0_i32_135 c1_i32 k0_t1
  let c4_i32_137 : BitVec 32 := 4#32
  let v199 : BitVec 32 := Scalar.muli arg19 c4_i32_137
  let v200 : BitVec 32 := Scalar.addi v199 c0_i32_138
  let c256_i32 : BitVec 32 := 256#32
  let v201 : BitVec 32 := Scalar.muli v200 c256_i32
  let v202 : BitVec 32 := v201
  let v203 : Index := Scalar.indexCast v202
  let c128 : Index := 128#32
  ![v203.toNat, 128]
def k0_mult3 (k0_t1 : Fin k0_t1_loop.trips) : BitVec 32 :=
  let c0_i32_135 : BitVec 32 := 0#32
  let c1_i32 : BitVec 32 := 1#32
  let arg19 : BitVec 32 := Scf.iv c0_i32_135 c1_i32 k0_t1
  let c4_i32_137 : BitVec 32 := 4#32
  let v199 : BitVec 32 := Scalar.muli arg19 c4_i32_137
  let c0_i32_138 : BitVec 32 := 0#32
  let v200 : BitVec 32 := Scalar.addi v199 c0_i32_138
  let c256_i32_382 : BitVec 32 := 256#32
  let v534 : BitVec 32 := Scalar.muli v200 c256_i32_382
  v534
def k0_off2 (k0_t1 : Fin k0_t1_loop.trips) (c0_i32_138 : BitVec 32) : Fin 2 → Nat :=
  let c0_i32_135 : BitVec 32 := 0#32
  let c1_i32 : BitVec 32 := 1#32
  let arg19 : BitVec 32 := Scf.iv c0_i32_135 c1_i32 k0_t1
  let c4_i32_137 : BitVec 32 := 4#32
  let v199 : BitVec 32 := Scalar.muli arg19 c4_i32_137
  let v200 : BitVec 32 := Scalar.addi v199 c0_i32_138
  let c256_i32_382 : BitVec 32 := 256#32
  let v534 : BitVec 32 := Scalar.muli v200 c256_i32_382
  let v535 : BitVec 32 := v534
  let v536 : Index := Scalar.indexCast v535
  let c0_383 : Index := 0#32
  ![v536.toNat, 0]
def k0_mult4 (k0_t1 : Fin k0_t1_loop.trips) : BitVec 32 :=
  let c0_i32_135 : BitVec 32 := 0#32
  let c1_i32 : BitVec 32 := 1#32
  let arg19 : BitVec 32 := Scf.iv c0_i32_135 c1_i32 k0_t1
  let c4_i32_137 : BitVec 32 := 4#32
  let v199 : BitVec 32 := Scalar.muli arg19 c4_i32_137
  let c0_i32_138 : BitVec 32 := 0#32
  let v200 : BitVec 32 := Scalar.addi v199 c0_i32_138
  let c1_i32_384 : BitVec 32 := 1#32
  let v538 : BitVec 32 := Scalar.addi v200 c1_i32_384
  let c15_i32 : BitVec 32 := 15#32
  let v539 : BitVec 32 := Scalar.minsi v538 c15_i32
  let c256_i32_385 : BitVec 32 := 256#32
  let v540 : BitVec 32 := Scalar.muli v539 c256_i32_385
  v540
def k0_off3 (k0_t1 : Fin k0_t1_loop.trips) (c0_i32_138 : BitVec 32) : Fin 2 → Nat :=
  let c0_i32_135 : BitVec 32 := 0#32
  let c1_i32 : BitVec 32 := 1#32
  let arg19 : BitVec 32 := Scf.iv c0_i32_135 c1_i32 k0_t1
  let c4_i32_137 : BitVec 32 := 4#32
  let v199 : BitVec 32 := Scalar.muli arg19 c4_i32_137
  let v200 : BitVec 32 := Scalar.addi v199 c0_i32_138
  let c1_i32_384 : BitVec 32 := 1#32
  let v538 : BitVec 32 := Scalar.addi v200 c1_i32_384
  let c15_i32 : BitVec 32 := 15#32
  let v539 : BitVec 32 := Scalar.minsi v538 c15_i32
  let c256_i32_385 : BitVec 32 := 256#32
  let v540 : BitVec 32 := Scalar.muli v539 c256_i32_385
  let v541 : BitVec 32 := v540
  let v542 : Index := Scalar.indexCast v541
  let c0_386 : Index := 0#32
  ![v542.toNat, 0]
def k0_mult5 (k0_t1 : Fin k0_t1_loop.trips) : BitVec 32 :=
  let c0_i32_135 : BitVec 32 := 0#32
  let c1_i32 : BitVec 32 := 1#32
  let arg19 : BitVec 32 := Scf.iv c0_i32_135 c1_i32 k0_t1
  let c4_i32_137 : BitVec 32 := 4#32
  let v199 : BitVec 32 := Scalar.muli arg19 c4_i32_137
  let c0_i32_138 : BitVec 32 := 0#32
  let v200 : BitVec 32 := Scalar.addi v199 c0_i32_138
  let c256_i32_631 : BitVec 32 := 256#32
  let v873 : BitVec 32 := Scalar.muli v200 c256_i32_631
  v873
def k0_mult6 (k0_t1 : Fin k0_t1_loop.trips) : BitVec 32 :=
  let c0_i32_135 : BitVec 32 := 0#32
  let c1_i32 : BitVec 32 := 1#32
  let arg19 : BitVec 32 := Scf.iv c0_i32_135 c1_i32 k0_t1
  let c4_i32_633 : BitVec 32 := 4#32
  let v877 : BitVec 32 := Scalar.muli arg19 c4_i32_633
  let c1_i32_634 : BitVec 32 := 1#32
  let v878 : BitVec 32 := Scalar.addi v877 c1_i32_634
  let c256_i32_635 : BitVec 32 := 256#32
  let v879 : BitVec 32 := Scalar.muli v878 c256_i32_635
  v879
def k0_mult7 (k0_t1 : Fin k0_t1_loop.trips) : BitVec 32 :=
  let c0_i32_135 : BitVec 32 := 0#32
  let c1_i32 : BitVec 32 := 1#32
  let arg19 : BitVec 32 := Scf.iv c0_i32_135 c1_i32 k0_t1
  let c4_i32_633 : BitVec 32 := 4#32
  let v877 : BitVec 32 := Scalar.muli arg19 c4_i32_633
  let c1_i32_634 : BitVec 32 := 1#32
  let v878 : BitVec 32 := Scalar.addi v877 c1_i32_634
  let c256_i32_881 : BitVec 32 := 256#32
  let v1212 : BitVec 32 := Scalar.muli v878 c256_i32_881
  v1212
def k0_mult8 (k0_t1 : Fin k0_t1_loop.trips) : BitVec 32 :=
  let c0_i32_135 : BitVec 32 := 0#32
  let c1_i32 : BitVec 32 := 1#32
  let arg19 : BitVec 32 := Scf.iv c0_i32_135 c1_i32 k0_t1
  let c4_i32_633 : BitVec 32 := 4#32
  let v877 : BitVec 32 := Scalar.muli arg19 c4_i32_633
  let c1_i32_634 : BitVec 32 := 1#32
  let v878 : BitVec 32 := Scalar.addi v877 c1_i32_634
  let c1_i32_883 : BitVec 32 := 1#32
  let v1216 : BitVec 32 := Scalar.addi v878 c1_i32_883
  let c15_i32_884 : BitVec 32 := 15#32
  let v1217 : BitVec 32 := Scalar.minsi v1216 c15_i32_884
  let c256_i32_885 : BitVec 32 := 256#32
  let v1218 : BitVec 32 := Scalar.muli v1217 c256_i32_885
  v1218
def k0_mult9 (k0_t1 : Fin k0_t1_loop.trips) : BitVec 32 :=
  let c0_i32_135 : BitVec 32 := 0#32
  let c1_i32 : BitVec 32 := 1#32
  let arg19 : BitVec 32 := Scf.iv c0_i32_135 c1_i32 k0_t1
  let c4_i32_633 : BitVec 32 := 4#32
  let v877 : BitVec 32 := Scalar.muli arg19 c4_i32_633
  let c1_i32_634 : BitVec 32 := 1#32
  let v878 : BitVec 32 := Scalar.addi v877 c1_i32_634
  let c256_i32_1131 : BitVec 32 := 256#32
  let v1551 : BitVec 32 := Scalar.muli v878 c256_i32_1131
  v1551
def k0_mult10 (k0_t1 : Fin k0_t1_loop.trips) : BitVec 32 :=
  let c0_i32_135 : BitVec 32 := 0#32
  let c1_i32 : BitVec 32 := 1#32
  let arg19 : BitVec 32 := Scf.iv c0_i32_135 c1_i32 k0_t1
  let c4_i32_1133 : BitVec 32 := 4#32
  let v1555 : BitVec 32 := Scalar.muli arg19 c4_i32_1133
  let c2_i32 : BitVec 32 := 2#32
  let v1556 : BitVec 32 := Scalar.addi v1555 c2_i32
  let c256_i32_1134 : BitVec 32 := 256#32
  let v1557 : BitVec 32 := Scalar.muli v1556 c256_i32_1134
  v1557
def k0_mult11 (k0_t1 : Fin k0_t1_loop.trips) : BitVec 32 :=
  let c0_i32_135 : BitVec 32 := 0#32
  let c1_i32 : BitVec 32 := 1#32
  let arg19 : BitVec 32 := Scf.iv c0_i32_135 c1_i32 k0_t1
  let c4_i32_1133 : BitVec 32 := 4#32
  let v1555 : BitVec 32 := Scalar.muli arg19 c4_i32_1133
  let c2_i32 : BitVec 32 := 2#32
  let v1556 : BitVec 32 := Scalar.addi v1555 c2_i32
  let c256_i32_1380 : BitVec 32 := 256#32
  let v1890 : BitVec 32 := Scalar.muli v1556 c256_i32_1380
  v1890
def k0_mult12 (k0_t1 : Fin k0_t1_loop.trips) : BitVec 32 :=
  let c0_i32_135 : BitVec 32 := 0#32
  let c1_i32 : BitVec 32 := 1#32
  let arg19 : BitVec 32 := Scf.iv c0_i32_135 c1_i32 k0_t1
  let c4_i32_1133 : BitVec 32 := 4#32
  let v1555 : BitVec 32 := Scalar.muli arg19 c4_i32_1133
  let c2_i32 : BitVec 32 := 2#32
  let v1556 : BitVec 32 := Scalar.addi v1555 c2_i32
  let c1_i32_1382 : BitVec 32 := 1#32
  let v1894 : BitVec 32 := Scalar.addi v1556 c1_i32_1382
  let c15_i32_1383 : BitVec 32 := 15#32
  let v1895 : BitVec 32 := Scalar.minsi v1894 c15_i32_1383
  let c256_i32_1384 : BitVec 32 := 256#32
  let v1896 : BitVec 32 := Scalar.muli v1895 c256_i32_1384
  v1896
def k0_mult13 (k0_t1 : Fin k0_t1_loop.trips) : BitVec 32 :=
  let c0_i32_135 : BitVec 32 := 0#32
  let c1_i32 : BitVec 32 := 1#32
  let arg19 : BitVec 32 := Scf.iv c0_i32_135 c1_i32 k0_t1
  let c4_i32_1133 : BitVec 32 := 4#32
  let v1555 : BitVec 32 := Scalar.muli arg19 c4_i32_1133
  let c2_i32 : BitVec 32 := 2#32
  let v1556 : BitVec 32 := Scalar.addi v1555 c2_i32
  let c256_i32_1630 : BitVec 32 := 256#32
  let v2229 : BitVec 32 := Scalar.muli v1556 c256_i32_1630
  v2229
def k0_mult14 (k0_t1 : Fin k0_t1_loop.trips) : BitVec 32 :=
  let c0_i32_135 : BitVec 32 := 0#32
  let c1_i32 : BitVec 32 := 1#32
  let arg19 : BitVec 32 := Scf.iv c0_i32_135 c1_i32 k0_t1
  let c4_i32_1632 : BitVec 32 := 4#32
  let v2233 : BitVec 32 := Scalar.muli arg19 c4_i32_1632
  let c3_i32 : BitVec 32 := 3#32
  let v2234 : BitVec 32 := Scalar.addi v2233 c3_i32
  let c256_i32_1633 : BitVec 32 := 256#32
  let v2235 : BitVec 32 := Scalar.muli v2234 c256_i32_1633
  v2235
def k0_mult15 (k0_t1 : Fin k0_t1_loop.trips) : BitVec 32 :=
  let c0_i32_135 : BitVec 32 := 0#32
  let c1_i32 : BitVec 32 := 1#32
  let arg19 : BitVec 32 := Scf.iv c0_i32_135 c1_i32 k0_t1
  let c4_i32_1632 : BitVec 32 := 4#32
  let v2233 : BitVec 32 := Scalar.muli arg19 c4_i32_1632
  let c3_i32 : BitVec 32 := 3#32
  let v2234 : BitVec 32 := Scalar.addi v2233 c3_i32
  let c256_i32_1879 : BitVec 32 := 256#32
  let v2568 : BitVec 32 := Scalar.muli v2234 c256_i32_1879
  v2568
def k0_mult16 (k0_t1 : Fin k0_t1_loop.trips) : BitVec 32 :=
  let c0_i32_135 : BitVec 32 := 0#32
  let c1_i32 : BitVec 32 := 1#32
  let arg19 : BitVec 32 := Scf.iv c0_i32_135 c1_i32 k0_t1
  let c4_i32_1632 : BitVec 32 := 4#32
  let v2233 : BitVec 32 := Scalar.muli arg19 c4_i32_1632
  let c3_i32 : BitVec 32 := 3#32
  let v2234 : BitVec 32 := Scalar.addi v2233 c3_i32
  let c1_i32_1881 : BitVec 32 := 1#32
  let v2572 : BitVec 32 := Scalar.addi v2234 c1_i32_1881
  let c15_i32_1882 : BitVec 32 := 15#32
  let v2573 : BitVec 32 := Scalar.minsi v2572 c15_i32_1882
  let c256_i32_1883 : BitVec 32 := 256#32
  let v2574 : BitVec 32 := Scalar.muli v2573 c256_i32_1883
  v2574
def k0_mult17 (k0_t1 : Fin k0_t1_loop.trips) : BitVec 32 :=
  let c0_i32_135 : BitVec 32 := 0#32
  let c1_i32 : BitVec 32 := 1#32
  let arg19 : BitVec 32 := Scf.iv c0_i32_135 c1_i32 k0_t1
  let c4_i32_1632 : BitVec 32 := 4#32
  let v2233 : BitVec 32 := Scalar.muli arg19 c4_i32_1632
  let c3_i32 : BitVec 32 := 3#32
  let v2234 : BitVec 32 := Scalar.addi v2233 c3_i32
  let c256_i32_2129 : BitVec 32 := 256#32
  let v2907 : BitVec 32 := Scalar.muli v2234 c256_i32_2129
  v2907
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x80x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x80x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4096x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S176x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== AttnIdeal.lean ====
variable {F : FTy → Type} [FloatOps F] [Named F]
def κ : String → Option EReal := fun
  | "scale" => some (((8 * (Real.log 2))⁻¹ : ℝ) : EReal)
  | _ => none
-- ==== AttnRefIdeal.lean ====
abbrev S8x4096x8x64 : Shape := ⟨4, ![8, 4096, 8, 64]⟩
abbrev S8x4096x2x64 : Shape := ⟨4, ![8, 4096, 2, 64]⟩
abbrev S16x2x64 : Shape := ⟨3, ![16, 2, 64]⟩
abbrev S1024x1024 : Shape := ⟨2, ![1024, 1024]⟩
abbrev S512 : Shape := ⟨1, ![512]⟩
abbrev S1024x5632 : Shape := ⟨2, ![1024, 5632]⟩
abbrev S1024 : Shape := ⟨1, ![1024]⟩
abbrev S2816x1024 : Shape := ⟨2, ![2816, 1024]⟩
abbrev S1x16x2x64 : Shape := ⟨4, ![1, 16, 2, 64]⟩
abbrev S8x16x2x64 : Shape := ⟨4, ![8, 16, 2, 64]⟩
abbrev S8x4112x2x64 : Shape := ⟨4, ![8, 4112, 2, 64]⟩
abbrev S8x4096x2x4x64 : Shape := ⟨5, ![8, 4096, 2, 4, 64]⟩
abbrev S8x2x4112x4096x4 : Shape := ⟨5, ![8, 2, 4112, 4096, 4]⟩
abbrev S8x2x4x4096x4112 : Shape := ⟨5, ![8, 2, 4, 4096, 4112]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S32768x512 : Shape := ⟨2, ![32768, 512]⟩
abbrev S1024x1 : Shape := ⟨2, ![1024, 1]⟩

abbrev nBuf : Space → Nat
  | .hbm => 50
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S16x2x64, .f32⟩
  | .hbm, ⟨4, _⟩ => ⟨S16x2x64, .f32⟩
  | .hbm, ⟨5, _⟩ => ⟨S1024x1024, .f32⟩
  | .hbm, ⟨6, _⟩ => ⟨S512, .f32⟩
  | .hbm, ⟨7, _⟩ => ⟨S512, .f32⟩
  | .hbm, ⟨8, _⟩ => ⟨S1024x5632, .f32⟩
  | .hbm, ⟨9, _⟩ => ⟨S1024, .f32⟩
  | .hbm, ⟨10, _⟩ => ⟨S2816x1024, .f32⟩
  | .hbm, ⟨11, _⟩ => ⟨S1x16x2x64, .f32⟩
  | .hbm, ⟨12, _⟩ => ⟨S8x16x2x64, .f32⟩
  | .hbm, ⟨13, _⟩ => ⟨S1x16x2x64, .f32⟩
  | .hbm, ⟨14, _⟩ => ⟨S8x16x2x64, .f32⟩
  | .hbm, ⟨15, _⟩ => ⟨S8x4112x2x64, .f32⟩
  | .hbm, ⟨16, _⟩ => ⟨S8x4112x2x64, .f32⟩
  | .hbm, ⟨17, _⟩ => ⟨S8x4096x2x4x64, .f32⟩
  | .hbm, ⟨18, _⟩ => ⟨S8x2x4112x4096x4, .f32⟩
  | .hbm, ⟨19, _⟩ => ⟨S8x2x4x4096x4112, .f32⟩
  | .hbm, ⟨20, _⟩ => ⟨S_, .f32⟩
  | .hbm, ⟨21, _⟩ => ⟨S8x2x4x4096x4112, .f32⟩
  | .hbm, ⟨22, _⟩ => ⟨S8x2x4x4096x4112, .f32⟩
  | .hbm, ⟨23, _⟩ => ⟨S_, .f32⟩
  | .hbm, ⟨24, _⟩ => ⟨S8x2x4x4096, .f32⟩
  | .hbm, ⟨25, _⟩ => ⟨S_, .f32⟩
  | .hbm, ⟨26, _⟩ => ⟨S8x2x4x4096, .f32⟩
  | .hbm, ⟨27, _⟩ => ⟨S8x2x4x4096, .f32⟩
  | .hbm, ⟨28, _⟩ => ⟨S8x2x4x4096x1, .f32⟩
  | .hbm, ⟨29, _⟩ => ⟨S8x2x4x4096x4112, .f32⟩
  | .hbm, ⟨30, _⟩ => ⟨S8x2x4x4096x4112, .f32⟩
  | .hbm, ⟨31, _⟩ => ⟨S8x2x4x4096x4112, .f32⟩
  | .hbm, ⟨32, _⟩ => ⟨S_, .f32⟩
  | .hbm, ⟨33, _⟩ => ⟨S8x2x4x4096, .f32⟩
  | .hbm, ⟨34, _⟩ => ⟨S8x2x4x4096x1, .f32⟩
  | .hbm, ⟨35, _⟩ => ⟨S8x2x4x4096x4112, .f32⟩
  | .hbm, ⟨36, _⟩ => ⟨S8x2x4x4096x4112, .f32⟩
  | .hbm, ⟨37, _⟩ => ⟨S8x2x64x4x4096, .f32⟩
  | .hbm, ⟨38, _⟩ => ⟨S8x4096x2x4x64, .f32⟩
  | .hbm, ⟨39, _⟩ => ⟨S1024, .f32⟩
  | .hbm, ⟨40, _⟩ => ⟨S32768x512, .f32⟩
  | .hbm, ⟨41, _⟩ => ⟨S1024x1, .f32⟩
  | .hbm, ⟨42, _⟩ => ⟨S1024x1024, .f32⟩
  | .hbm, ⟨43, _⟩ => ⟨S1024x1024, .f32⟩
  | .hbm, ⟨44, _⟩ => ⟨S1024x1024, .bf16⟩
  | .hbm, ⟨45, _⟩ => ⟨S1024x1, .f32⟩
  | .hbm, ⟨46, _⟩ => ⟨S1024x5632, .f32⟩
  | .hbm, ⟨47, _⟩ => ⟨S1024x5632, .f32⟩
  | .hbm, ⟨48, _⟩ => ⟨S1024x5632, .bf16⟩
  | .hbm, ⟨49, _⟩ => ⟨S2816x1024, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Mix.lean ====
abbrev S8x4096x1024 : Shape := ⟨3, ![8, 4096, 1024]⟩
abbrev S32768x512 : Shape := ⟨2, ![32768, 512]⟩
abbrev S8x4096x512 : Shape := ⟨3, ![8, 4096, 512]⟩
abbrev S16x512 : Shape := ⟨2, ![16, 512]⟩
abbrev S4x128x128 : Shape := ⟨3, ![4, 128, 128]⟩
abbrev S512 : Shape := ⟨1, ![512]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S_ : Shape := ⟨0, ![]⟩
abbrev S2x256x256 : Shape := ⟨3, ![2, 256, 256]⟩
abbrev S1x128x128 : Shape := ⟨3, ![1, 128, 128]⟩
abbrev S128x128 : Shape := ⟨2, ![128, 128]⟩
abbrev S1 : Shape := ⟨1, ![1]⟩
abbrev S3 : Shape := ⟨1, ![3]⟩
abbrev S1024x1 : Shape := ⟨2, ![1024, 1]⟩
abbrev S1x1024 : Shape := ⟨2, ![1, 1024]⟩
abbrev S512x1024 : Shape := ⟨2, ![512, 1024]⟩
abbrev S512x512 : Shape := ⟨2, ![512, 512]⟩
abbrev S8x512 : Shape := ⟨2, ![8, 512]⟩
abbrev S544x512 : Shape := ⟨2, ![544, 512]⟩
abbrev S512x2816 : Shape := ⟨2, ![512, 2816]⟩
abbrev S512x1 : Shape := ⟨2, ![512, 1]⟩
abbrev S8x128 : Shape := ⟨2, ![8, 128]⟩
abbrev S544x128 : Shape := ⟨2, ![544, 128]⟩
abbrev S512x128 : Shape := ⟨2, ![512, 128]⟩
abbrev S504x128 : Shape := ⟨2, ![504, 128]⟩
abbrev S536x128 : Shape := ⟨2, ![536, 128]⟩
abbrev S528x128 : Shape := ⟨2, ![528, 128]⟩
abbrev S520x128 : Shape := ⟨2, ![520, 128]⟩
abbrev S512x256 : Shape := ⟨2, ![512, 256]⟩
abbrev S1x256x256 : Shape := ⟨3, ![1, 256, 256]⟩
abbrev S256x256 : Shape := ⟨2, ![256, 256]⟩
abbrev S1024x256 : Shape := ⟨2, ![1024, 256]⟩

abbrev nBuf : Space → Nat
  | .hbm => 69
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .f32⟩
  | .hbm, ⟨2, _⟩ => ⟨S8x4096x512, .f32⟩
  | .hbm, ⟨3, _⟩ => ⟨S16x512, .f32⟩
  | .hbm, ⟨4, _⟩ => ⟨S4x128x128, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1024, .f32⟩
  | .hbm, ⟨12, _⟩ => ⟨S32768x1024, .f32⟩
  | .hbm, ⟨13, _⟩ => ⟨S_, .f32⟩
  | .hbm, ⟨14, _⟩ => ⟨S2x256x256, .f32⟩
  | .hbm, ⟨15, _⟩ => ⟨S1x128x128, .f32⟩
  | .hbm, ⟨16, _⟩ => ⟨S128x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S3, .i32⟩
  | .hbm, ⟨24, _⟩ => ⟨S2x256x256, .f32⟩
  | .hbm, ⟨25, _⟩ => ⟨S1x128x128, .f32⟩
  | .hbm, ⟨26, _⟩ => ⟨S128x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S3, .i32⟩
  | .hbm, ⟨34, _⟩ => ⟨S2x256x256, .f32⟩
  | .hbm, ⟨35, _⟩ => ⟨S1x128x128, .f32⟩
  | .hbm, ⟨36, _⟩ => ⟨S128x128, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S3, .i32⟩
  | .hbm, ⟨44, _⟩ => ⟨S2x256x256, .f32⟩
  | .hbm, ⟨45, _⟩ => ⟨S1x128x128, .f32⟩
  | .hbm, ⟨46, _⟩ => ⟨S128x128, .f32⟩
  | .hbm, ⟨47, _⟩ => ⟨S_, .i32⟩
  | .hbm, ⟨48, _⟩ => ⟨S1, .i32⟩
  | .hbm, ⟨49, _⟩ => ⟨S_, .i32⟩
  | .hbm, ⟨50, _⟩ => ⟨S1, .i32⟩
  | .hbm, ⟨51, _⟩ => ⟨S_, .i32⟩
  | .hbm, ⟨52, _⟩ => ⟨S1, .i32⟩
  | .hbm, ⟨53, _⟩ => ⟨S3, .i32⟩
  | .hbm, ⟨54, _⟩ => ⟨S2x256x256, .f32⟩
  | .hbm, ⟨55, _⟩ => ⟨S2x256x256, .bf16⟩
  | .hbm, ⟨56, _⟩ => ⟨S1024, .f32⟩
  | .hbm, ⟨57, _⟩ => ⟨S1024x1, .f32⟩
  | .hbm, ⟨58, _⟩ => ⟨S32768x512, .f32⟩
  | .hbm, ⟨59, _⟩ => ⟨S1024x1024, .f32⟩
  | .hbm, ⟨60, _⟩ => ⟨S1024x1024, .f32⟩
  | .hbm, ⟨61, _⟩ => ⟨S1024x1024, .bf16⟩
  | .hbm, ⟨62, _⟩ => ⟨S1024x1, .f32⟩
  | .hbm, ⟨63, _⟩ => ⟨S1024x5632, .f32⟩
  | .hbm, ⟨64, _⟩ => ⟨S1024x5632, .f32⟩
  | .hbm, ⟨65, _⟩ => ⟨S1024x5632, .bf16⟩
  | .hbm, ⟨66, _⟩ => ⟨S2816x1024, .bf16⟩
  | .hbm, ⟨67, _⟩ => ⟨S1x1024, .f32⟩
  | .hbm, ⟨68, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S16x512, .f32⟩
  | .local _ .vmem, ⟨11, _⟩ => ⟨S2x256x256, .bf16⟩
  | .local _ .vmem, ⟨12, _⟩ => ⟨S1024x1024, .bf16⟩
  | .local _ .vmem, ⟨13, _⟩ => ⟨S1024x5632, .bf16⟩
  | .local _ .vmem, ⟨14, _⟩ => ⟨S2816x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S544x512, .f32⟩
  | .local _ .vmem, ⟨19, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_c_3 : Ref sig .tc := ⟨.hbm, 29, rfl⟩
abbrev main_v12 : Ref sig .tc := ⟨.hbm, 30, rfl⟩
abbrev main_c_4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_5 : Ref sig .tc := ⟨.hbm, 37, rfl⟩
abbrev main_v18 : Ref sig .tc := ⟨.hbm, 38, rfl⟩
abbrev main_c_6 : Ref sig .tc := ⟨.hbm, 39, rfl⟩
abbrev main_v19 : Ref sig .tc := ⟨.hbm, 40, rfl⟩
abbrev main_c_7 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_8 : Ref sig .tc := ⟨.hbm, 47, rfl⟩
abbrev main_v25 : Ref sig .tc := ⟨.hbm, 48, rfl⟩
abbrev main_c_9 : Ref sig .tc := ⟨.hbm, 49, rfl⟩
abbrev main_v26 : Ref sig .tc := ⟨.hbm, 50, rfl⟩
abbrev main_c_10 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixRefIdeal.lean ====
abbrev S8x4096x1024 : Shape := ⟨3, ![8, 4096, 1024]⟩
abbrev S32768x512 : Shape := ⟨2, ![32768, 512]⟩
abbrev S8x4096x512 : Shape := ⟨3, ![8, 4096, 512]⟩
abbrev S16x512 : Shape := ⟨2, ![16, 512]⟩
abbrev S4x128x128 : Shape := ⟨3, ![4, 128, 128]⟩
abbrev S512 : Shape := ⟨1, ![512]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x16x512 : Shape := ⟨3, ![1, 16, 512]⟩
abbrev S8x16x512 : Shape := ⟨3, ![8, 16, 512]⟩
abbrev S8x4112x512 : Shape := ⟨3, ![8, 4112, 512]⟩
abbrev S4112 : Shape := ⟨1, ![4112]⟩
abbrev S8x4112x128 : Shape := ⟨3, ![8, 4112, 128]⟩
abbrev S_ : Shape := ⟨0, ![]⟩
abbrev S8x1x128 : Shape := ⟨3, ![8, 1, 128]⟩
abbrev S8x4113x128 : Shape := ⟨3, ![8, 4113, 128]⟩
abbrev S4112x1 : Shape := ⟨2, ![4112, 1]⟩
abbrev S1 : Shape := ⟨1, ![1]⟩
abbrev S1x1 : Shape := ⟨2, ![1, 1]⟩
abbrev S1x4112x1 : Shape := ⟨3, ![1, 4112, 1]⟩
abbrev S8x4112x1x128 : Shape := ⟨4, ![8, 4112, 1, 128]⟩
abbrev S8x4112x4x128 : Shape := ⟨4, ![8, 4112, 4, 128]⟩
abbrev S4x128x8x4112 : Shape := ⟨4, ![4, 128, 8, 4112]⟩
abbrev S8x4096 : Shape := ⟨2, ![8, 4096]⟩
abbrev S8x4096x1 : Shape := ⟨3, ![8, 4096, 1]⟩
abbrev S1x1x512 : Shape := ⟨3, ![1, 1, 512]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S32768x1024 : Shape := ⟨2, ![32768, 1024]⟩

abbrev nBuf : Space → Nat
  | .hbm => 449
  | .vmem => 0
  | .smem => 0
  | _ => 0

abbrev hbmTy0_0 (i : Nat) : BufTy := match i % 128 with
  | 0 => ⟨S8x4096x1024, .f32⟩
  | 1 => ⟨S32768x512, .f32⟩
  | 2 => ⟨S8x4096x512, .f32⟩
  | 3 => ⟨S16x512, .f32⟩
  | 4 => ⟨S4x128x128, .f32⟩
  | 5 => ⟨S512, .f32⟩
  | 6 => ⟨S512, .f32⟩
  | 7 => ⟨S1024x1024, .f32⟩
  | 8 => ⟨S1024, .f32⟩
  | 9 => ⟨S1024x5632, .f32⟩
  | 10 => ⟨S2816x1024, .f32⟩
  | 11 => ⟨S1024, .f32⟩
  | 12 => ⟨S1x16x512, .f32⟩
  | 13 => ⟨S8x16x512, .f32⟩
  | 14 => ⟨S8x4112x512, .f32⟩
  | 15 => ⟨S4112, .i32⟩
  | 16 => ⟨S8x4112x128, .f32⟩
  | 17 => ⟨S_, .f32⟩
  | 18 => ⟨S8x1x128, .f32⟩
  | 19 => ⟨S_, .f32⟩
  | 20 => ⟨S_, .f32⟩
  | 21 => ⟨S8x4112x128, .f32⟩
  | 22 => ⟨S8x4113x128, .f32⟩
  | 23 => ⟨S_, .i32⟩
  | 24 => ⟨S4112, .i32⟩
  | 25 => ⟨S4112, .i32⟩
  | 26 => ⟨S_, .i32⟩
  | 27 => ⟨S_, .i32⟩
  | 28 => ⟨S_, .i32⟩
  | 29 => ⟨S4112, .i32⟩
  | 30 => ⟨S4112, .i32⟩
  | 31 => ⟨S_, .i32⟩
  | 32 => ⟨S4112, .i32⟩
  | 33 => ⟨S4112, .i32⟩
  | 34 => ⟨S_, .i32⟩
  | 35 => ⟨S4112, .i32⟩
  | 36 => ⟨S4112, .i32⟩
  | 37 => ⟨S_, .i32⟩
  | 38 => ⟨S4112, .i32⟩
  | 39 => ⟨S4112, .i32⟩
  | 40 => ⟨S_, .i32⟩
  | 41 => ⟨S_, .i32⟩
  | 42 => ⟨S_, .i32⟩
  | 43 => ⟨S4112, .i32⟩
  | 44 => ⟨S4112, .i32⟩
  | 45 => ⟨S_, .i32⟩
  | 46 => ⟨S4112, .i32⟩
  | 47 => ⟨S4112, .i32⟩
  | 48 => ⟨S_, .i32⟩
  | 49 => ⟨S4112, .i32⟩
  | 50 => ⟨S4112, .i1⟩
  | 51 => ⟨S_, .i32⟩
  | 52 => ⟨S4112, .i32⟩
  | 53 => ⟨S4112, .i32⟩
  | 54 => ⟨S4112, .i32⟩
  | 55 => ⟨S4112x1, .i32⟩
  | 56 => ⟨S1, .i32⟩
  | 57 => ⟨S_, .i32⟩
  | 58 => ⟨S4112x1, .i32⟩
  | 59 => ⟨S4112x1, .i1⟩
  | 60 => ⟨S1x1, .i32⟩
  | 61 => ⟨S4112x1, .i32⟩
  | 62 => ⟨S4112x1, .i1⟩
  | 63 => ⟨S4112x1, .i1⟩
  | 64 => ⟨S_, .i1⟩
  | 65 => ⟨S4112, .i1⟩
  | 66 => ⟨S8x4112x128, .f32⟩
  | 67 => ⟨S8x4112x128, .i1⟩
  | 68 => ⟨S_, .f32⟩
  | 69 => ⟨S8x4112x128, .f32⟩
  | 70 => ⟨S8x4112x128, .f32⟩
  | 71 => ⟨S_, .i32⟩
  | 72 => ⟨S4112, .i32⟩
  | 73 => ⟨S4112, .i1⟩
  | 74 => ⟨S_, .i32⟩
  | 75 => ⟨S4112, .i32⟩
  | 76 => ⟨S4112, .i32⟩
  | 77 => ⟨S4112, .i32⟩
  | 78 => ⟨S4112x1, .i32⟩
  | 79 => ⟨S1, .i32⟩
  | 80 => ⟨S_, .i32⟩
  | 81 => ⟨S4112x1, .i32⟩
  | 82 => ⟨S4112x1, .i1⟩
  | 83 => ⟨S1x1, .i32⟩
  | 84 => ⟨S4112x1, .i32⟩
  | 85 => ⟨S4112x1, .i1⟩
  | 86 => ⟨S4112x1, .i1⟩
  | 87 => ⟨S_, .i1⟩
  | 88 => ⟨S4112, .i1⟩
  | 89 => ⟨S8x4112x128, .f32⟩
  | 90 => ⟨S8x4112x128, .i1⟩
  | 91 => ⟨S_, .f32⟩
  | 92 => ⟨S8x4112x128, .f32⟩
  | 93 => ⟨S8x4112x128, .f32⟩
  | 94 => ⟨S8x4112x128, .f32⟩
  | 95 => ⟨S4112, .i32⟩
  | 96 => ⟨S4112, .f32⟩
  | 97 => ⟨S1x4112x1, .f32⟩
  | 98 => ⟨S8x4112x128, .f32⟩
  | 99 => ⟨S8x4112x128, .f32⟩
  | 100 => ⟨S8x4112x128, .f32⟩
  | 101 => ⟨S8x4112x128, .f32⟩
  | 102 => ⟨S_, .f32⟩
  | 103 => ⟨S8x1x128, .f32⟩
  | 104 => ⟨S_, .f32⟩
  | 105 => ⟨S_, .f32⟩
  | 106 => ⟨S8x4112x128, .f32⟩
  | 107 => ⟨S8x4113x128, .f32⟩
  | 108 => ⟨S_, .i32⟩
  | 109 => ⟨S4112, .i32⟩
  | 110 => ⟨S4112, .i32⟩
  | 111 => ⟨S_, .i32⟩
  | 112 => ⟨S_, .i32⟩
  | 113 => ⟨S_, .i32⟩
  | 114 => ⟨S4112, .i32⟩
  | 115 => ⟨S4112, .i32⟩
  | 116 => ⟨S_, .i32⟩
  | 117 => ⟨S4112, .i32⟩
  | 118 => ⟨S4112, .i32⟩
  | 119 => ⟨S_, .i32⟩
  | 120 => ⟨S4112, .i32⟩
  | 121 => ⟨S4112, .i32⟩
  | 122 => ⟨S_, .i32⟩
  | 123 => ⟨S4112, .i32⟩
  | 124 => ⟨S4112, .i32⟩
  | 125 => ⟨S_, .i32⟩
  | 126 => ⟨S_, .i32⟩
  | 127 => ⟨S_, .i32⟩
  | _ => ⟨S8x4096x1024, .f32⟩

abbrev hbmTy0_1 (i : Nat) : BufTy := match i % 128 with
  | 0 => ⟨S4112, .i32⟩
  | 1 => ⟨S4112, .i32⟩
  | 2 => ⟨S_, .i32⟩
  | 3 => ⟨S4112, .i32⟩
  | 4 => ⟨S4112, .i32⟩
  | 5 => ⟨S_, .i32⟩
  | 6 => ⟨S4112, .i32⟩
  | 7 => ⟨S4112, .i1⟩
  | 8 => ⟨S_, .i32⟩
  | 9 => ⟨S4112, .i32⟩
  | 10 => ⟨S4112, .i32⟩
  | 11 => ⟨S4112, .i32⟩
  | 12 => ⟨S4112x1, .i32⟩
  | 13 => ⟨S1, .i32⟩
  | 14 => ⟨S_, .i32⟩
  | 15 => ⟨S4112x1, .i32⟩
  | 16 => ⟨S4112x1, .i1⟩
  | 17 => ⟨S1x1, .i32⟩
  | 18 => ⟨S4112x1, .i32⟩
  | 19 => ⟨S4112x1, .i1⟩
  | 20 => ⟨S4112x1, .i1⟩
  | 21 => ⟨S_, .i1⟩
  | 22 => ⟨S4112, .i1⟩
  | 23 => ⟨S8x4112x128, .f32⟩
  | 24 => ⟨S8x4112x128, .i1⟩
  | 25 => ⟨S_, .f32⟩
  | 26 => ⟨S8x4112x128, .f32⟩
  | 27 => ⟨S8x4112x128, .f32⟩
  | 28 => ⟨S_, .i32⟩
  | 29 => ⟨S4112, .i32⟩
  | 30 => ⟨S4112, .i1⟩
  | 31 => ⟨S_, .i32⟩
  | 32 => ⟨S4112, .i32⟩
  | 33 => ⟨S4112, .i32⟩
  | 34 => ⟨S4112, .i32⟩
  | 35 => ⟨S4112x1, .i32⟩
  | 36 => ⟨S1, .i32⟩
  | 37 => ⟨S_, .i32⟩
  | 38 => ⟨S4112x1, .i32⟩
  | 39 => ⟨S4112x1, .i1⟩
  | 40 => ⟨S1x1, .i32⟩
  | 41 => ⟨S4112x1, .i32⟩
  | 42 => ⟨S4112x1, .i1⟩
  | 43 => ⟨S4112x1, .i1⟩
  | 44 => ⟨S_, .i1⟩
  | 45 => ⟨S4112, .i1⟩
  | 46 => ⟨S8x4112x128, .f32⟩
  | 47 => ⟨S8x4112x128, .i1⟩
  | 48 => ⟨S_, .f32⟩
  | 49 => ⟨S8x4112x128, .f32⟩
  | 50 => ⟨S8x4112x128, .f32⟩
  | 51 => ⟨S8x4112x128, .f32⟩
  | 52 => ⟨S4112, .i32⟩
  | 53 => ⟨S4112, .f32⟩
  | 54 => ⟨S1x4112x1, .f32⟩
  | 55 => ⟨S8x4112x128, .f32⟩
  | 56 => ⟨S8x4112x128, .f32⟩
  | 57 => ⟨S8x4112x128, .f32⟩
  | 58 => ⟨S8x4112x128, .f32⟩
  | 59 => ⟨S_, .f32⟩
  | 60 => ⟨S8x1x128, .f32⟩
  | 61 => ⟨S_, .f32⟩
  | 62 => ⟨S_, .f32⟩
  | 63 => ⟨S8x4112x128, .f32⟩
  | 64 => ⟨S8x4113x128, .f32⟩
  | 65 => ⟨S_, .i32⟩
  | 66 => ⟨S4112, .i32⟩
  | 67 => ⟨S4112, .i32⟩
  | 68 => ⟨S_, .i32⟩
  | 69 => ⟨S_, .i32⟩
  | 70 => ⟨S_, .i32⟩
  | 71 => ⟨S4112, .i32⟩
  | 72 => ⟨S4112, .i32⟩
  | 73 => ⟨S_, .i32⟩
  | 74 => ⟨S4112, .i32⟩
  | 75 => ⟨S4112, .i32⟩
  | 76 => ⟨S_, .i32⟩
  | 77 => ⟨S4112, .i32⟩
  | 78 => ⟨S4112, .i32⟩
  | 79 => ⟨S_, .i32⟩
  | 80 => ⟨S4112, .i32⟩
  | 81 => ⟨S4112, .i32⟩
  | 82 => ⟨S_, .i32⟩
  | 83 => ⟨S_, .i32⟩
  | 84 => ⟨S_, .i32⟩
  | 85 => ⟨S4112, .i32⟩
  | 86 => ⟨S4112, .i32⟩
  | 87 => ⟨S_, .i32⟩
  | 88 => ⟨S4112, .i32⟩
  | 89 => ⟨S4112, .i32⟩
  | 90 => ⟨S_, .i32⟩
  | 91 => ⟨S4112, .i32⟩
  | 92 => ⟨S4112, .i1⟩
  | 93 => ⟨S_, .i32⟩
  | 94 => ⟨S4112, .i32⟩
  | 95 => ⟨S4112, .i32⟩
  | 96 => ⟨S4112, .i32⟩
  | 97 => ⟨S4112x1, .i32⟩
  | 98 => ⟨S1, .i32⟩
  | 99 => ⟨S_, .i32⟩
  | 100 => ⟨S4112x1, .i32⟩
  | 101 => ⟨S4112x1, .i1⟩
  | 102 => ⟨S1x1, .i32⟩
  | 103 => ⟨S4112x1, .i32⟩
  | 104 => ⟨S4112x1, .i1⟩
  | 105 => ⟨S4112x1, .i1⟩
  | 106 => ⟨S_, .i1⟩
  | 107 => ⟨S4112, .i1⟩
  | 108 => ⟨S8x4112x128, .f32⟩
  | 109 => ⟨S8x4112x128, .i1⟩
  | 110 => ⟨S_, .f32⟩
  | 111 => ⟨S8x4112x128, .f32⟩
  | 112 => ⟨S8x4112x128, .f32⟩
  | 113 => ⟨S_, .i32⟩
  | 114 => ⟨S4112, .i32⟩
  | 115 => ⟨S4112, .i1⟩
  | 116 => ⟨S_, .i32⟩
  | 117 => ⟨S4112, .i32⟩
  | 118 => ⟨S4112, .i32⟩
  | 119 => ⟨S4112, .i32⟩
  | 120 => ⟨S4112x1, .i32⟩
  | 121 => ⟨S1, .i32⟩
  | 122 => ⟨S_, .i32⟩
  | 123 => ⟨S4112x1, .i32⟩
  | 124 => ⟨S4112x1, .i1⟩
  | 125 => ⟨S1x1, .i32⟩
  | 126 => ⟨S4112x1, .i32⟩
  | 127 => ⟨S4112x1, .i1⟩
  | _ => ⟨S8x4096x1024, .f32⟩

abbrev hbmTy0_2 (i : Nat) : BufTy := match i % 128 with
  | 0 => ⟨S4112x1, .i1⟩
  | 1 => ⟨S_, .i1⟩
  | 2 => ⟨S4112, .i1⟩
  | 3 => ⟨S8x4112x128, .f32⟩
  | 4 => ⟨S8x4112x128, .i1⟩
  | 5 => ⟨S_, .f32⟩
  | 6 => ⟨S8x4112x128, .f32⟩
  | 7 => ⟨S8x4112x128, .f32⟩
  | 8 => ⟨S8x4112x128, .f32⟩
  | 9 => ⟨S4112, .i32⟩
  | 10 => ⟨S4112, .f32⟩
  | 11 => ⟨S1x4112x1, .f32⟩
  | 12 => ⟨S8x4112x128, .f32⟩
  | 13 => ⟨S8x4112x128, .f32⟩
  | 14 => ⟨S8x4112x128, .f32⟩
  | 15 => ⟨S8x4112x128, .f32⟩
  | 16 => ⟨S_, .f32⟩
  | 17 => ⟨S8x1x128, .f32⟩
  | 18 => ⟨S_, .f32⟩
  | 19 => ⟨S_, .f32⟩
  | 20 => ⟨S8x4112x128, .f32⟩
  | 21 => ⟨S8x4113x128, .f32⟩
  | 22 => ⟨S_, .i32⟩
  | 23 => ⟨S4112, .i32⟩
  | 24 => ⟨S4112, .i32⟩
  | 25 => ⟨S_, .i32⟩
  | 26 => ⟨S_, .i32⟩
  | 27 => ⟨S_, .i32⟩
  | 28 => ⟨S4112, .i32⟩
  | 29 => ⟨S4112, .i32⟩
  | 30 => ⟨S_, .i32⟩
  | 31 => ⟨S4112, .i32⟩
  | 32 => ⟨S4112, .i32⟩
  | 33 => ⟨S_, .i32⟩
  | 34 => ⟨S4112, .i32⟩
  | 35 => ⟨S4112, .i32⟩
  | 36 => ⟨S_, .i32⟩
  | 37 => ⟨S4112, .i32⟩
  | 38 => ⟨S4112, .i32⟩
  | 39 => ⟨S_, .i32⟩
  | 40 => ⟨S_, .i32⟩
  | 41 => ⟨S_, .i32⟩
  | 42 => ⟨S4112, .i32⟩
  | 43 => ⟨S4112, .i32⟩
  | 44 => ⟨S_, .i32⟩
  | 45 => ⟨S4112, .i32⟩
  | 46 => ⟨S4112, .i32⟩
  | 47 => ⟨S_, .i32⟩
  | 48 => ⟨S4112, .i32⟩
  | 49 => ⟨S4112, .i1⟩
  | 50 => ⟨S_, .i32⟩
  | 51 => ⟨S4112, .i32⟩
  | 52 => ⟨S4112, .i32⟩
  | 53 => ⟨S4112, .i32⟩
  | 54 => ⟨S4112x1, .i32⟩
  | 55 => ⟨S1, .i32⟩
  | 56 => ⟨S_, .i32⟩
  | 57 => ⟨S4112x1, .i32⟩
  | 58 => ⟨S4112x1, .i1⟩
  | 59 => ⟨S1x1, .i32⟩
  | 60 => ⟨S4112x1, .i32⟩
  | 61 => ⟨S4112x1, .i1⟩
  | 62 => ⟨S4112x1, .i1⟩
  | 63 => ⟨S_, .i1⟩
  | 64 => ⟨S4112, .i1⟩
  | 65 => ⟨S8x4112x128, .f32⟩
  | 66 => ⟨S8x4112x128, .i1⟩
  | 67 => ⟨S_, .f32⟩
  | 68 => ⟨S8x4112x128, .f32⟩
  | 69 => ⟨S8x4112x128, .f32⟩
  | 70 => ⟨S_, .i32⟩
  | 71 => ⟨S4112, .i32⟩
  | 72 => ⟨S4112, .i1⟩
  | 73 => ⟨S_, .i32⟩
  | 74 => ⟨S4112, .i32⟩
  | 75 => ⟨S4112, .i32⟩
  | 76 => ⟨S4112, .i32⟩
  | 77 => ⟨S4112x1, .i32⟩
  | 78 => ⟨S1, .i32⟩
  | 79 => ⟨S_, .i32⟩
  | 80 => ⟨S4112x1, .i32⟩
  | 81 => ⟨S4112x1, .i1⟩
  | 82 => ⟨S1x1, .i32⟩
  | 83 => ⟨S4112x1, .i32⟩
  | 84 => ⟨S4112x1, .i1⟩
  | 85 => ⟨S4112x1, .i1⟩
  | 86 => ⟨S_, .i1⟩
  | 87 => ⟨S4112, .i1⟩
  | 88 => ⟨S8x4112x128, .f32⟩
  | 89 => ⟨S8x4112x128, .i1⟩
  | 90 => ⟨S_, .f32⟩
  | 91 => ⟨S8x4112x128, .f32⟩
  | 92 => ⟨S8x4112x128, .f32⟩
  | 93 => ⟨S8x4112x128, .f32⟩
  | 94 => ⟨S4112, .i32⟩
  | 95 => ⟨S4112, .f32⟩
  | 96 => ⟨S1x4112x1, .f32⟩
  | 97 => ⟨S8x4112x128, .f32⟩
  | 98 => ⟨S8x4112x128, .f32⟩
  | 99 => ⟨S8x4112x128, .f32⟩
  | 100 => ⟨S8x4112x1x128, .f32⟩
  | 101 => ⟨S8x4112x1x128, .f32⟩
  | 102 => ⟨S8x4112x1x128, .f32⟩
  | 103 => ⟨S8x4112x1x128, .f32⟩
  | 104 => ⟨S8x4112x4x128, .f32⟩
  | 105 => ⟨S4x128x8x4112, .f32⟩
  | 106 => ⟨S8x4112x4x128, .f32⟩
  | 107 => ⟨S8x4112x512, .f32⟩
  | 108 => ⟨S8x4096x512, .f32⟩
  | 109 => ⟨S8x4096x512, .f32⟩
  | 110 => ⟨S8x4096x512, .f32⟩
  | 111 => ⟨S_, .f32⟩
  | 112 => ⟨S8x4096, .f32⟩
  | 113 => ⟨S8x4096x1, .f32⟩
  | 114 => ⟨S_, .f32⟩
  | 115 => ⟨S8x4096x1, .f32⟩
  | 116 => ⟨S8x4096x1, .f32⟩
  | 117 => ⟨S_, .f32⟩
  | 118 => ⟨S8x4096x1, .f32⟩
  | 119 => ⟨S8x4096x1, .f32⟩
  | 120 => ⟨S8x4096x1, .f32⟩
  | 121 => ⟨S8x4096x512, .f32⟩
  | 122 => ⟨S8x4096x512, .f32⟩
  | 123 => ⟨S1x1x512, .f32⟩
  | 124 => ⟨S8x4096x512, .f32⟩
  | 125 => ⟨S8x4096x512, .f32⟩
  | 126 => ⟨S8x4096x512, .f32⟩
  | 127 => ⟨S_, .f32⟩
  | _ => ⟨S8x4096x1024, .f32⟩

abbrev hbmTy0_3 (i : Nat) : BufTy := match i % 128 with
  | 0 => ⟨S8x4096, .f32⟩
  | 1 => ⟨S8x4096x1, .f32⟩
  | 2 => ⟨S_, .f32⟩
  | 3 => ⟨S8x4096x1, .f32⟩
  | 4 => ⟨S8x4096x1, .f32⟩
  | 5 => ⟨S_, .f32⟩
  | 6 => ⟨S8x4096x1, .f32⟩
  | 7 => ⟨S8x4096x1, .f32⟩
  | 8 => ⟨S8x4096x1, .f32⟩
  | 9 => ⟨S8x4096x512, .f32⟩
  | 10 => ⟨S8x4096x512, .f32⟩
  | 11 => ⟨S1x1x512, .f32⟩
  | 12 => ⟨S8x4096x512, .f32⟩
  | 13 => ⟨S8x4096x512, .f32⟩
  | 14 => ⟨S8x4096x1024, .f32⟩
  | 15 => ⟨S8x4096x1024, .f32⟩
  | 16 => ⟨S8x4096x1024, .f32⟩
  | 17 => ⟨S8x4096x1024, .f32⟩
  | 18 => ⟨S_, .f32⟩
  | 19 => ⟨S8x4096, .f32⟩
  | 20 => ⟨S8x4096x1, .f32⟩
  | 21 => ⟨S_, .f32⟩
  | 22 => ⟨S8x4096x1, .f32⟩
  | 23 => ⟨S8x4096x1, .f32⟩
  | 24 => ⟨S_, .f32⟩
  | 25 => ⟨S8x4096x1, .f32⟩
  | 26 => ⟨S8x4096x1, .f32⟩
  | 27 => ⟨S8x4096x1, .f32⟩
  | 28 => ⟨S8x4096x1024, .f32⟩
  | 29 => ⟨S8x4096x1024, .f32⟩
  | 30 => ⟨S1x1x1024, .f32⟩
  | 31 => ⟨S8x4096x1024, .f32⟩
  | 32 => ⟨S8x4096x1024, .f32⟩
  | 33 => ⟨S8x4096x5632, .f32⟩
  | 34 => ⟨S8x4096x2816, .f32⟩
  | 35 => ⟨S8x4096x2816, .f32⟩
  | 36 => ⟨S8x4096x2816, .f32⟩
  | 37 => ⟨S_, .f32⟩
  | 38 => ⟨S8x4096x2816, .f32⟩
  | 39 => ⟨S8x4096x2816, .f32⟩
  | 40 => ⟨S_, .f32⟩
  | 41 => ⟨S8x4096x2816, .f32⟩
  | 42 => ⟨S8x4096x2816, .f32⟩
  | 43 => ⟨S8x4096x2816, .f32⟩
  | 44 => ⟨S8x4096x2816, .f32⟩
  | 45 => ⟨S8x4096x2816, .f32⟩
  | 46 => ⟨S8x4096x1024, .f32⟩
  | 47 => ⟨S8x4096x1024, .f32⟩
  | 48 => ⟨S8x4096x1024, .f32⟩
  | 49 => ⟨S_, .f32⟩
  | 50 => ⟨S8x4096, .f32⟩
  | 51 => ⟨S8x4096x1, .f32⟩
  | 52 => ⟨S_, .f32⟩
  | 53 => ⟨S8x4096x1, .f32⟩
  | 54 => ⟨S8x4096x1, .f32⟩
  | 55 => ⟨S_, .f32⟩
  | 56 => ⟨S8x4096x1, .f32⟩
  | 57 => ⟨S8x4096x1, .f32⟩
  | 58 => ⟨S8x4096x1, .f32⟩
  | 59 => ⟨S8x4096x1024, .f32⟩
  | 60 => ⟨S8x4096x1024, .f32⟩
  | 61 => ⟨S1x1x1024, .f32⟩
  | 62 => ⟨S8x4096x1024, .f32⟩
  | 63 => ⟨S8x4096x1024, .f32⟩
  | 64 => ⟨S32768x1024, .f32⟩
  | _ => ⟨S8x4096x1024, .f32⟩

abbrev hbmTy (i : Nat) : BufTy := match i / 128 with
  | 0 => hbmTy0_0 i
  | 1 => hbmTy0_1 i
  | 2 => hbmTy0_2 i
  | 3 => hbmTy0_3 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_call0_call0_cst : Ref sig .tc := ⟨.hbm, 19, rfl⟩
abbrev main_call0_call0_v0 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_c_1 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v10 : Ref sig .tc := ⟨.hbm, 33, rfl⟩
abbrev main_c_2 : Ref sig .tc := ⟨.hbm, 34, rfl⟩
abbrev main_v11 : Ref sig .tc := ⟨.hbm, 35, rfl⟩
abbrev main_v12 : Ref sig .tc := ⟨.hbm, 36, rfl⟩
abbrev main_c_3 : Ref sig .tc := ⟨.hbm, 37, rfl⟩
abbrev main_v13 : Ref sig .tc := ⟨.hbm, 38, rfl⟩
abbrev main_v14 : Ref sig .tc := ⟨.hbm, 39, rfl⟩
abbrev main_c_4 : Ref sig .tc := ⟨.hbm, 40, rfl⟩
abbrev main_c_5 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v15 : Ref sig .tc := ⟨.hbm, 47, rfl⟩
abbrev main_call3_c : Ref sig .tc := ⟨.hbm, 48, rfl⟩
abbrev main_call3_v0 : Ref sig .tc := ⟨.hbm, 49, rfl⟩
abbrev main_call3_v1 : Ref sig .tc := ⟨.hbm, 50, rfl⟩
abbrev main_call3_c_0 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_call3_v5 : Ref sig .tc := ⟨.hbm, 55, rfl⟩
abbrev main_call3_c_1 : Ref sig .tc := ⟨.hbm, 56, rfl⟩
abbrev main_call3_c_2 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_v9 : Ref sig .tc := ⟨.hbm, 61, rfl⟩
abbrev main_call3_v10 : Ref sig .tc := ⟨.hbm, 62, rfl⟩
abbrev main_call3_v11 : Ref sig .tc := ⟨.hbm, 63, rfl⟩
abbrev main_call3_c_3 : Ref sig .tc := ⟨.hbm, 64, rfl⟩
abbrev main_call3_v12 : Ref sig .tc := ⟨.hbm, 65, rfl⟩
abbrev main_call3_v13 : Ref sig .tc := ⟨.hbm, 66, rfl⟩
abbrev main_call3_v14 : Ref sig .tc := ⟨.hbm, 67, rfl⟩
abbrev main_call3_cst : Ref sig .tc := ⟨.hbm, 68, rfl⟩
abbrev main_call3_v15 : Ref sig .tc := ⟨.hbm, 69, rfl⟩
abbrev main_v16 : Ref sig .tc := ⟨.hbm, 70, rfl⟩
abbrev main_call4_c : Ref sig .tc := ⟨.hbm, 71, rfl⟩
abbrev main_call4_v0 : Ref sig .tc := ⟨.hbm, 72, rfl⟩
abbrev main_call4_v1 : Ref sig .tc := ⟨.hbm, 73, rfl⟩
abbrev main_call4_c_0 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_call4_v5 : Ref sig .tc := ⟨.hbm, 78, rfl⟩
abbrev main_call4_c_1 : Ref sig .tc := ⟨.hbm, 79, rfl⟩
abbrev main_call4_c_2 : Ref sig .tc := ⟨.hbm, 80, rfl⟩
abbrev main_call4_v6 : Ref sig .tc := ⟨.hbm, 81, rfl⟩
abbrev main_call4_v7 : Ref sig .tc := ⟨.hbm, 82, rfl⟩
abbrev main_call4_v8 : Ref sig .tc := ⟨.hbm, 83, rfl⟩
abbrev main_call4_v9 : Ref sig .tc := ⟨.hbm, 84, rfl⟩
abbrev main_call4_v10 : Ref sig .tc := ⟨.hbm, 85, rfl⟩
abbrev main_call4_v11 : Ref sig .tc := ⟨.hbm, 86, rfl⟩
abbrev main_call4_c_3 : Ref sig .tc := ⟨.hbm, 87, rfl⟩
abbrev main_call4_v12 : Ref sig .tc := ⟨.hbm, 88, rfl⟩
abbrev main_call4_v13 : Ref sig .tc := ⟨.hbm, 89, rfl⟩
abbrev main_call4_v14 : Ref sig .tc := ⟨.hbm, 90, rfl⟩
abbrev main_call4_cst : Ref sig .tc := ⟨.hbm, 91, rfl⟩
abbrev main_call4_v15 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_cst_6 : Ref sig .tc := ⟨.hbm, 102, rfl⟩
abbrev main_v26 : Ref sig .tc := ⟨.hbm, 103, rfl⟩
abbrev main_call5_call0_cst : Ref sig .tc := ⟨.hbm, 104, rfl⟩
abbrev main_call5_call0_v0 : Ref sig .tc := ⟨.hbm, 105, rfl⟩
abbrev main_v27 : Ref sig .tc := ⟨.hbm, 106, rfl⟩
abbrev main_v28 : Ref sig .tc := ⟨.hbm, 107, rfl⟩
abbrev main_c_7 : Ref sig .tc := ⟨.hbm, 108, rfl⟩
abbrev main_v29 : Ref sig .tc := ⟨.hbm, 109, rfl⟩
abbrev main_v30 : Ref sig .tc := ⟨.hbm, 110, rfl⟩
abbrev main_c_8 : Ref sig .tc := ⟨.hbm, 111, rfl⟩
abbrev main_c_9 : Ref sig .tc := ⟨.hbm, 112, rfl⟩
abbrev main_call6_v0 : Ref sig .tc := ⟨.hbm, 113, rfl⟩
abbrev main_call6_v1 : Ref sig .tc := ⟨.hbm, 114, rfl⟩
abbrev main_call6_v2 : Ref sig .tc := ⟨.hbm, 115, rfl⟩
abbrev main_call6_v3 : Ref sig .tc := ⟨.hbm, 116, rfl⟩
abbrev main_call6_v4 : Ref sig .tc := ⟨.hbm, 117, rfl⟩
abbrev main_v31 : Ref sig .tc := ⟨.hbm, 118, rfl⟩
abbrev main_c_10 : Ref sig .tc := ⟨.hbm, 119, rfl⟩
abbrev main_v32 : Ref sig .tc := ⟨.hbm, 120, rfl⟩
abbrev main_v33 : Ref sig .tc := ⟨.hbm, 121, rfl⟩
abbrev main_c_11 : Ref sig .tc := ⟨.hbm, 122, rfl⟩
abbrev main_v34 : Ref sig .tc := ⟨.hbm, 123, rfl⟩
abbrev main_v35 : Ref sig .tc := ⟨.hbm, 124, rfl⟩
abbrev main_c_12 : Ref sig .tc := ⟨.hbm, 125, rfl⟩
abbrev main_c_13 : Ref sig .tc := ⟨.hbm, 126, rfl⟩
abbrev main_call7_v0 : Ref sig .tc := ⟨.hbm, 127, rfl⟩
abbrev main_call7_v1 : Ref sig .tc := ⟨.hbm, 128, rfl⟩
abbrev main_call7_v2 : Ref sig .tc := ⟨.hbm, 129, rfl⟩
abbrev main_call7_v3 : Ref sig .tc := ⟨.hbm, 130, rfl⟩
abbrev main_call7_v4 : Ref sig .tc := ⟨.hbm, 131, rfl⟩
abbrev main_v36 : Ref sig .tc := ⟨.hbm, 132, rfl⟩
abbrev main_call8_c : Ref sig .tc := ⟨.hbm, 133, rfl⟩
abbrev main_call8_v0 : Ref sig .tc := ⟨.hbm, 134, rfl⟩
abbrev main_call8_v1 : Ref sig .tc := ⟨.hbm, 135, rfl⟩
abbrev main_call8_c_0 : Ref sig .tc := ⟨.hbm, 136, rfl⟩
abbrev main_call8_v2 : Ref sig .tc := ⟨.hbm, 137, rfl⟩
abbrev main_call8_v3 : Ref sig .tc := ⟨.hbm, 138, rfl⟩
abbrev main_call8_v4 : Ref sig .tc := ⟨.hbm, 139, rfl⟩
abbrev main_call8_v5 : Ref sig .tc := ⟨.hbm, 140, rfl⟩
abbrev main_call8_c_1 : Ref sig .tc := ⟨.hbm, 141, rfl⟩
abbrev main_call8_c_2 : Ref sig .tc := ⟨.hbm, 142, rfl⟩
abbrev main_call8_v6 : Ref sig .tc := ⟨.hbm, 143, rfl⟩
abbrev main_call8_v7 : Ref sig .tc := ⟨.hbm, 144, rfl⟩
abbrev main_call8_v8 : Ref sig .tc := ⟨.hbm, 145, rfl⟩
abbrev main_call8_v9 : Ref sig .tc := ⟨.hbm, 146, rfl⟩
abbrev main_call8_v10 : Ref sig .tc := ⟨.hbm, 147, rfl⟩
abbrev main_call8_v11 : Ref sig .tc := ⟨.hbm, 148, rfl⟩
abbrev main_call8_c_3 : Ref sig .tc := ⟨.hbm, 149, rfl⟩
abbrev main_call8_v12 : Ref sig .tc := ⟨.hbm, 150, rfl⟩
abbrev main_call8_v13 : Ref sig .tc := ⟨.hbm, 151, rfl⟩
abbrev main_call8_v14 : Ref sig .tc := ⟨.hbm, 152, rfl⟩
abbrev main_call8_cst : Ref sig .tc := ⟨.hbm, 153, rfl⟩
abbrev main_call8_v15 : Ref sig .tc := ⟨.hbm, 154, rfl⟩
abbrev main_v37 : Ref sig .tc := ⟨.hbm, 155, rfl⟩
abbrev main_call9_c : Ref sig .tc := ⟨.hbm, 156, rfl⟩
abbrev main_call9_v0 : Ref sig .tc := ⟨.hbm, 157, rfl⟩
abbrev main_call9_v1 : Ref sig .tc := ⟨.hbm, 158, rfl⟩
abbrev main_call9_c_0 : Ref sig .tc := ⟨.hbm, 159, rfl⟩
abbrev main_call9_v2 : Ref sig .tc := ⟨.hbm, 160, rfl⟩
abbrev main_call9_v3 : Ref sig .tc := ⟨.hbm, 161, rfl⟩
abbrev main_call9_v4 : Ref sig .tc := ⟨.hbm, 162, rfl⟩
abbrev main_call9_v5 : Ref sig .tc := ⟨.hbm, 163, rfl⟩
abbrev main_call9_c_1 : Ref sig .tc := ⟨.hbm, 164, rfl⟩
abbrev main_call9_c_2 : Ref sig .tc := ⟨.hbm, 165, rfl⟩
abbrev main_call9_v6 : Ref sig .tc := ⟨.hbm, 166, rfl⟩
abbrev main_call9_v7 : Ref sig .tc := ⟨.hbm, 167, rfl⟩
abbrev main_call9_v8 : Ref sig .tc := ⟨.hbm, 168, rfl⟩
abbrev main_call9_v9 : Ref sig .tc := ⟨.hbm, 169, rfl⟩
abbrev main_call9_v10 : Ref sig .tc := ⟨.hbm, 170, rfl⟩
abbrev main_call9_v11 : Ref sig .tc := ⟨.hbm, 171, rfl⟩
abbrev main_call9_c_3 : Ref sig .tc := ⟨.hbm, 172, rfl⟩
abbrev main_call9_v12 : Ref sig .tc := ⟨.hbm, 173, rfl⟩
abbrev main_call9_v13 : Ref sig .tc := ⟨.hbm, 174, rfl⟩
abbrev main_call9_v14 : Ref sig .tc := ⟨.hbm, 175, rfl⟩
abbrev main_call9_cst : Ref sig .tc := ⟨.hbm, 176, rfl⟩
abbrev main_call9_v15 : Ref sig .tc := ⟨.hbm, 177, rfl⟩
abbrev main_v38 : Ref sig .tc := ⟨.hbm, 178, rfl⟩
abbrev main_v39 : Ref sig .tc := ⟨.hbm, 179, rfl⟩
abbrev main_v40 : Ref sig .tc := ⟨.hbm, 180, rfl⟩
abbrev main_v41 : Ref sig .tc := ⟨.hbm, 181, rfl⟩
abbrev main_v42 : Ref sig .tc := ⟨.hbm, 182, rfl⟩
abbrev main_v43 : Ref sig .tc := ⟨.hbm, 183, rfl⟩
abbrev main_v44 : Ref sig .tc := ⟨.hbm, 184, rfl⟩
abbrev main_v45 : Ref sig .tc := ⟨.hbm, 185, rfl⟩
abbrev main_v46 : Ref sig .tc := ⟨.hbm, 186, rfl⟩
abbrev main_cst_14 : Ref sig .tc := ⟨.hbm, 187, rfl⟩
abbrev main_v47 : Ref sig .tc := ⟨.hbm, 188, rfl⟩
abbrev main_call10_call0_cst : Ref sig .tc := ⟨.hbm, 189, rfl⟩
abbrev main_call10_call0_v0 : Ref sig .tc := ⟨.hbm, 190, rfl⟩
abbrev main_v48 : Ref sig .tc := ⟨.hbm, 191, rfl⟩
abbrev main_v49 : Ref sig .tc := ⟨.hbm, 192, rfl⟩
abbrev main_c_15 : Ref sig .tc := ⟨.hbm, 193, rfl⟩
abbrev main_v50 : Ref sig .tc := ⟨.hbm, 194, rfl⟩
abbrev main_v51 : Ref sig .tc := ⟨.hbm, 195, rfl⟩
abbrev main_c_16 : Ref sig .tc := ⟨.hbm, 196, rfl⟩
abbrev main_c_17 : Ref sig .tc := ⟨.hbm, 197, rfl⟩
abbrev main_call11_v0 : Ref sig .tc := ⟨.hbm, 198, rfl⟩
abbrev main_call11_v1 : Ref sig .tc := ⟨.hbm, 199, rfl⟩
abbrev main_call11_v2 : Ref sig .tc := ⟨.hbm, 200, rfl⟩
abbrev main_call11_v3 : Ref sig .tc := ⟨.hbm, 201, rfl⟩
abbrev main_call11_v4 : Ref sig .tc := ⟨.hbm, 202, rfl⟩
abbrev main_v52 : Ref sig .tc := ⟨.hbm, 203, rfl⟩
abbrev main_c_18 : Ref sig .tc := ⟨.hbm, 204, rfl⟩
abbrev main_v53 : Ref sig .tc := ⟨.hbm, 205, rfl⟩
abbrev main_v54 : Ref sig .tc := ⟨.hbm, 206, rfl⟩
abbrev main_c_19 : Ref sig .tc := ⟨.hbm, 207, rfl⟩
abbrev main_v55 : Ref sig .tc := ⟨.hbm, 208, rfl⟩
abbrev main_v56 : Ref sig .tc := ⟨.hbm, 209, rfl⟩
abbrev main_c_20 : Ref sig .tc := ⟨.hbm, 210, rfl⟩
abbrev main_c_21 : Ref sig .tc := ⟨.hbm, 211, rfl⟩
abbrev main_call12_v0 : Ref sig .tc := ⟨.hbm, 212, rfl⟩
abbrev main_call12_v1 : Ref sig .tc := ⟨.hbm, 213, rfl⟩
abbrev main_call12_v2 : Ref sig .tc := ⟨.hbm, 214, rfl⟩
abbrev main_call12_v3 : Ref sig .tc := ⟨.hbm, 215, rfl⟩
abbrev main_call12_v4 : Ref sig .tc := ⟨.hbm, 216, rfl⟩
abbrev main_v57 : Ref sig .tc := ⟨.hbm, 217, rfl⟩
abbrev main_call13_c : Ref sig .tc := ⟨.hbm, 218, rfl⟩
abbrev main_call13_v0 : Ref sig .tc := ⟨.hbm, 219, rfl⟩
abbrev main_call13_v1 : Ref sig .tc := ⟨.hbm, 220, rfl⟩
abbrev main_call13_c_0 : Ref sig .tc := ⟨.hbm, 221, rfl⟩
abbrev main_call13_v2 : Ref sig .tc := ⟨.hbm, 222, rfl⟩
abbrev main_call13_v3 : Ref sig .tc := ⟨.hbm, 223, rfl⟩
abbrev main_call13_v4 : Ref sig .tc := ⟨.hbm, 224, rfl⟩
abbrev main_call13_v5 : Ref sig .tc := ⟨.hbm, 225, rfl⟩
abbrev main_call13_c_1 : Ref sig .tc := ⟨.hbm, 226, rfl⟩
abbrev main_call13_c_2 : Ref sig .tc := ⟨.hbm, 227, rfl⟩
abbrev main_call13_v6 : Ref sig .tc := ⟨.hbm, 228, rfl⟩
abbrev main_call13_v7 : Ref sig .tc := ⟨.hbm, 229, rfl⟩
abbrev main_call13_v8 : Ref sig .tc := ⟨.hbm, 230, rfl⟩
abbrev main_call13_v9 : Ref sig .tc := ⟨.hbm, 231, rfl⟩
abbrev main_call13_v10 : Ref sig .tc := ⟨.hbm, 232, rfl⟩
abbrev main_call13_v11 : Ref sig .tc := ⟨.hbm, 233, rfl⟩
abbrev main_call13_c_3 : Ref sig .tc := ⟨.hbm, 234, rfl⟩
abbrev main_call13_v12 : Ref sig .tc := ⟨.hbm, 235, rfl⟩
abbrev main_call13_v13 : Ref sig .tc := ⟨.hbm, 236, rfl⟩
abbrev main_call13_v14 : Ref sig .tc := ⟨.hbm, 237, rfl⟩
abbrev main_call13_cst : Ref sig .tc := ⟨.hbm, 238, rfl⟩
abbrev main_call13_v15 : Ref sig .tc := ⟨.hbm, 239, rfl⟩
abbrev main_v58 : Ref sig .tc := ⟨.hbm, 240, rfl⟩
abbrev main_call14_c : Ref sig .tc := ⟨.hbm, 241, rfl⟩
abbrev main_call14_v0 : Ref sig .tc := ⟨.hbm, 242, rfl⟩
abbrev main_call14_v1 : Ref sig .tc := ⟨.hbm, 243, rfl⟩
abbrev main_call14_c_0 : Ref sig .tc := ⟨.hbm, 244, rfl⟩
abbrev main_call14_v2 : Ref sig .tc := ⟨.hbm, 245, rfl⟩
abbrev main_call14_v3 : Ref sig .tc := ⟨.hbm, 246, rfl⟩
abbrev main_call14_v4 : Ref sig .tc := ⟨.hbm, 247, rfl⟩
abbrev main_call14_v5 : Ref sig .tc := ⟨.hbm, 248, rfl⟩
abbrev main_call14_c_1 : Ref sig .tc := ⟨.hbm, 249, rfl⟩
abbrev main_call14_c_2 : Ref sig .tc := ⟨.hbm, 250, rfl⟩
abbrev main_call14_v6 : Ref sig .tc := ⟨.hbm, 251, rfl⟩
abbrev main_call14_v7 : Ref sig .tc := ⟨.hbm, 252, rfl⟩
abbrev main_call14_v8 : Ref sig .tc := ⟨.hbm, 253, rfl⟩
abbrev main_call14_v9 : Ref sig .tc := ⟨.hbm, 254, rfl⟩
abbrev main_call14_v10 : Ref sig .tc := ⟨.hbm, 255, rfl⟩
abbrev main_call14_v11 : Ref sig .tc := ⟨.hbm, 256, rfl⟩
abbrev main_call14_c_3 : Ref sig .tc := ⟨.hbm, 257, rfl⟩
abbrev main_call14_v12 : Ref sig .tc := ⟨.hbm, 258, rfl⟩
abbrev main_call14_v13 : Ref sig .tc := ⟨.hbm, 259, rfl⟩
abbrev main_call14_v14 : Ref sig .tc := ⟨.hbm, 260, rfl⟩
abbrev main_call14_cst : Ref sig .tc := ⟨.hbm, 261, rfl⟩
abbrev main_call14_v15 : Ref sig .tc := ⟨.hbm, 262, rfl⟩
abbrev main_v59 : Ref sig .tc := ⟨.hbm, 263, rfl⟩
abbrev main_v60 : Ref sig .tc := ⟨.hbm, 264, rfl⟩
abbrev main_v61 : Ref sig .tc := ⟨.hbm, 265, rfl⟩
abbrev main_v62 : Ref sig .tc := ⟨.hbm, 266, rfl⟩
abbrev main_v63 : Ref sig .tc := ⟨.hbm, 267, rfl⟩
abbrev main_v64 : Ref sig .tc := ⟨.hbm, 268, rfl⟩
abbrev main_v65 : Ref sig .tc := ⟨.hbm, 269, rfl⟩
abbrev main_v66 : Ref sig .tc := ⟨.hbm, 270, rfl⟩
abbrev main_v67 : Ref sig .tc := ⟨.hbm, 271, rfl⟩
abbrev main_cst_22 : Ref sig .tc := ⟨.hbm, 272, rfl⟩
abbrev main_v68 : Ref sig .tc := ⟨.hbm, 273, rfl⟩
abbrev main_call15_call0_cst : Ref sig .tc := ⟨.hbm, 274, rfl⟩
abbrev main_call15_call0_v0 : Ref sig .tc := ⟨.hbm, 275, rfl⟩
abbrev main_v69 : Ref sig .tc := ⟨.hbm, 276, rfl⟩
abbrev main_v70 : Ref sig .tc := ⟨.hbm, 277, rfl⟩
abbrev main_c_23 : Ref sig .tc := ⟨.hbm, 278, rfl⟩
abbrev main_v71 : Ref sig .tc := ⟨.hbm, 279, rfl⟩
abbrev main_v72 : Ref sig .tc := ⟨.hbm, 280, rfl⟩
abbrev main_c_24 : Ref sig .tc := ⟨.hbm, 281, rfl⟩
abbrev main_c_25 : Ref sig .tc := ⟨.hbm, 282, rfl⟩
abbrev main_call16_v0 : Ref sig .tc := ⟨.hbm, 283, rfl⟩
abbrev main_call16_v1 : Ref sig .tc := ⟨.hbm, 284, rfl⟩
abbrev main_call16_v2 : Ref sig .tc := ⟨.hbm, 285, rfl⟩
abbrev main_call16_v3 : Ref sig .tc := ⟨.hbm, 286, rfl⟩
abbrev main_call16_v4 : Ref sig .tc := ⟨.hbm, 287, rfl⟩
abbrev main_v73 : Ref sig .tc := ⟨.hbm, 288, rfl⟩
abbrev main_c_26 : Ref sig .tc := ⟨.hbm, 289, rfl⟩
abbrev main_v74 : Ref sig .tc := ⟨.hbm, 290, rfl⟩
abbrev main_v75 : Ref sig .tc := ⟨.hbm, 291, rfl⟩
abbrev main_c_27 : Ref sig .tc := ⟨.hbm, 292, rfl⟩
abbrev main_v76 : Ref sig .tc := ⟨.hbm, 293, rfl⟩
abbrev main_v77 : Ref sig .tc := ⟨.hbm, 294, rfl⟩
abbrev main_c_28 : Ref sig .tc := ⟨.hbm, 295, rfl⟩
abbrev main_c_29 : Ref sig .tc := ⟨.hbm, 296, rfl⟩
abbrev main_call17_v0 : Ref sig .tc := ⟨.hbm, 297, rfl⟩
abbrev main_call17_v1 : Ref sig .tc := ⟨.hbm, 298, rfl⟩
abbrev main_call17_v2 : Ref sig .tc := ⟨.hbm, 299, rfl⟩
abbrev main_call17_v3 : Ref sig .tc := ⟨.hbm, 300, rfl⟩
abbrev main_call17_v4 : Ref sig .tc := ⟨.hbm, 301, rfl⟩
abbrev main_v78 : Ref sig .tc := ⟨.hbm, 302, rfl⟩
abbrev main_call18_c : Ref sig .tc := ⟨.hbm, 303, rfl⟩
abbrev main_call18_v0 : Ref sig .tc := ⟨.hbm, 304, rfl⟩
abbrev main_call18_v1 : Ref sig .tc := ⟨.hbm, 305, rfl⟩
abbrev main_call18_c_0 : Ref sig .tc := ⟨.hbm, 306, rfl⟩
abbrev main_call18_v2 : Ref sig .tc := ⟨.hbm, 307, rfl⟩
abbrev main_call18_v3 : Ref sig .tc := ⟨.hbm, 308, rfl⟩
abbrev main_call18_v4 : Ref sig .tc := ⟨.hbm, 309, rfl⟩
abbrev main_call18_v5 : Ref sig .tc := ⟨.hbm, 310, rfl⟩
abbrev main_call18_c_1 : Ref sig .tc := ⟨.hbm, 311, rfl⟩
abbrev main_call18_c_2 : Ref sig .tc := ⟨.hbm, 312, rfl⟩
abbrev main_call18_v6 : Ref sig .tc := ⟨.hbm, 313, rfl⟩
abbrev main_call18_v7 : Ref sig .tc := ⟨.hbm, 314, rfl⟩
abbrev main_call18_v8 : Ref sig .tc := ⟨.hbm, 315, rfl⟩
abbrev main_call18_v9 : Ref sig .tc := ⟨.hbm, 316, rfl⟩
abbrev main_call18_v10 : Ref sig .tc := ⟨.hbm, 317, rfl⟩
abbrev main_call18_v11 : Ref sig .tc := ⟨.hbm, 318, rfl⟩
abbrev main_call18_c_3 : Ref sig .tc := ⟨.hbm, 319, rfl⟩
abbrev main_call18_v12 : Ref sig .tc := ⟨.hbm, 320, rfl⟩
abbrev main_call18_v13 : Ref sig .tc := ⟨.hbm, 321, rfl⟩
abbrev main_call18_v14 : Ref sig .tc := ⟨.hbm, 322, rfl⟩
abbrev main_call18_cst : Ref sig .tc := ⟨.hbm, 323, rfl⟩
abbrev main_call18_v15 : Ref sig .tc := ⟨.hbm, 324, rfl⟩
abbrev main_v79 : Ref sig .tc := ⟨.hbm, 325, rfl⟩
abbrev main_call19_c : Ref sig .tc := ⟨.hbm, 326, rfl⟩
abbrev main_call19_v0 : Ref sig .tc := ⟨.hbm, 327, rfl⟩
abbrev main_call19_v1 : Ref sig .tc := ⟨.hbm, 328, rfl⟩
abbrev main_call19_c_0 : Ref sig .tc := ⟨.hbm, 329, rfl⟩
abbrev main_call19_v2 : Ref sig .tc := ⟨.hbm, 330, rfl⟩
abbrev main_call19_v3 : Ref sig .tc := ⟨.hbm, 331, rfl⟩
abbrev main_call19_v4 : Ref sig .tc := ⟨.hbm, 332, rfl⟩
abbrev main_call19_v5 : Ref sig .tc := ⟨.hbm, 333, rfl⟩
abbrev main_call19_c_1 : Ref sig .tc := ⟨.hbm, 334, rfl⟩
abbrev main_call19_c_2 : Ref sig .tc := ⟨.hbm, 335, rfl⟩
abbrev main_call19_v6 : Ref sig .tc := ⟨.hbm, 336, rfl⟩
abbrev main_call19_v7 : Ref sig .tc := ⟨.hbm, 337, rfl⟩
abbrev main_call19_v8 : Ref sig .tc := ⟨.hbm, 338, rfl⟩
abbrev main_call19_v9 : Ref sig .tc := ⟨.hbm, 339, rfl⟩
abbrev main_call19_v10 : Ref sig .tc := ⟨.hbm, 340, rfl⟩
abbrev main_call19_v11 : Ref sig .tc := ⟨.hbm, 341, rfl⟩
abbrev main_call19_c_3 : Ref sig .tc := ⟨.hbm, 342, rfl⟩
abbrev main_call19_v12 : Ref sig .tc := ⟨.hbm, 343, rfl⟩
abbrev main_call19_v13 : Ref sig .tc := ⟨.hbm, 344, rfl⟩
abbrev main_call19_v14 : Ref sig .tc := ⟨.hbm, 345, rfl⟩
abbrev main_call19_cst : Ref sig .tc := ⟨.hbm, 346, rfl⟩
abbrev main_call19_v15 : Ref sig .tc := ⟨.hbm, 347, rfl⟩
abbrev main_v80 : Ref sig .tc := ⟨.hbm, 348, rfl⟩
abbrev main_v81 : Ref sig .tc := ⟨.hbm, 349, rfl⟩
abbrev main_v82 : Ref sig .tc := ⟨.hbm, 350, rfl⟩
abbrev main_v83 : Ref sig .tc := ⟨.hbm, 351, rfl⟩
abbrev main_v84 : Ref sig .tc := ⟨.hbm, 352, rfl⟩
abbrev main_v85 : Ref sig .tc := ⟨.hbm, 353, rfl⟩
abbrev main_v86 : Ref sig .tc := ⟨.hbm, 354, rfl⟩
abbrev main_v87 : Ref sig .tc := ⟨.hbm, 355, rfl⟩
abbrev main_v88 : Ref sig .tc := ⟨.hbm, 356, rfl⟩
abbrev main_v89 : Ref sig .tc := ⟨.hbm, 357, rfl⟩
abbrev main_v90 : Ref sig .tc := ⟨.hbm, 358, rfl⟩
abbrev main_v91 : Ref sig .tc := ⟨.hbm, 359, rfl⟩
abbrev main_v92 : Ref sig .tc := ⟨.hbm, 360, rfl⟩
abbrev main_v93 : Ref sig .tc := ⟨.hbm, 361, rfl⟩
abbrev main_v94 : Ref sig .tc := ⟨.hbm, 362, rfl⟩
abbrev main_v95 : Ref sig .tc := ⟨.hbm, 363, rfl⟩
abbrev main_v96 : Ref sig .tc := ⟨.hbm, 364, rfl⟩
abbrev main_v97 : Ref sig .tc := ⟨.hbm, 365, rfl⟩
abbrev main_v98 : Ref sig .tc := ⟨.hbm, 366, rfl⟩
abbrev main_cst_30 : Ref sig .tc := ⟨.hbm, 367, rfl⟩
abbrev main_v99 : Ref sig .tc := ⟨.hbm, 368, rfl⟩
abbrev main_v100 : Ref sig .tc := ⟨.hbm, 369, rfl⟩
abbrev main_cst_31 : Ref sig .tc := ⟨.hbm, 370, rfl⟩
abbrev main_v101 : Ref sig .tc := ⟨.hbm, 371, rfl⟩
abbrev main_v102 : Ref sig .tc := ⟨.hbm, 372, rfl⟩
abbrev main_cst_32 : Ref sig .tc := ⟨.hbm, 373, rfl⟩
abbrev main_v103 : Ref sig .tc := ⟨.hbm, 374, rfl⟩
abbrev main_v104 : Ref sig .tc := ⟨.hbm, 375, rfl⟩
abbrev main_v105 : Ref sig .tc := ⟨.hbm, 376, rfl⟩
abbrev main_v106 : Ref sig .tc := ⟨.hbm, 377, rfl⟩
abbrev main_v107 : Ref sig .tc := ⟨.hbm, 378, rfl⟩
abbrev main_v108 : Ref sig .tc := ⟨.hbm, 379, rfl⟩
abbrev main_v109 : Ref sig .tc := ⟨.hbm, 380, rfl⟩
abbrev main_v110 : Ref sig .tc := ⟨.hbm, 381, rfl⟩
abbrev main_v111 : Ref sig .tc := ⟨.hbm, 382, rfl⟩
abbrev main_cst_33 : Ref sig .tc := ⟨.hbm, 383, rfl⟩
abbrev main_v112 : Ref sig .tc := ⟨.hbm, 384, rfl⟩
abbrev main_v113 : Ref sig .tc := ⟨.hbm, 385, rfl⟩
abbrev main_cst_34 : Ref sig .tc := ⟨.hbm, 386, rfl⟩
abbrev main_v114 : Ref sig .tc := ⟨.hbm, 387, rfl⟩
abbrev main_v115 : Ref sig .tc := ⟨.hbm, 388, rfl⟩
abbrev main_cst_35 : Ref sig .tc := ⟨.hbm, 389, rfl⟩
abbrev main_v116 : Ref sig .tc := ⟨.hbm, 390, rfl⟩
abbrev main_v117 : Ref sig .tc := ⟨.hbm, 391, rfl⟩
abbrev main_v118 : Ref sig .tc := ⟨.hbm, 392, rfl⟩
abbrev main_v119 : Ref sig .tc := ⟨.hbm, 393, rfl⟩
abbrev main_v120 : Ref sig .tc := ⟨.hbm, 394, rfl⟩
abbrev main_v121 : Ref sig .tc := ⟨.hbm, 395, rfl⟩
abbrev main_v122 : Ref sig .tc := ⟨.hbm, 396, rfl⟩
abbrev main_v123 : Ref sig .tc := ⟨.hbm, 397, rfl⟩
abbrev main_v124 : Ref sig .tc := ⟨.hbm, 398, rfl⟩
abbrev main_v125 : Ref sig .tc := ⟨.hbm, 399, rfl⟩
abbrev main_v126 : Ref sig .tc := ⟨.hbm, 400, rfl⟩
abbrev main_v127 : Ref sig .tc := ⟨.hbm, 401, rfl⟩
abbrev main_cst_36 : Ref sig .tc := ⟨.hbm, 402, rfl⟩
abbrev main_v128 : Ref sig .tc := ⟨.hbm, 403, rfl⟩
abbrev main_v129 : Ref sig .tc := ⟨.hbm, 404, rfl⟩
abbrev main_cst_37 : Ref sig .tc := ⟨.hbm, 405, rfl⟩
abbrev main_v130 : Ref sig .tc := ⟨.hbm, 406, rfl⟩
abbrev main_v131 : Ref sig .tc := ⟨.hbm, 407, rfl⟩
abbrev main_cst_38 : Ref sig .tc := ⟨.hbm, 408, rfl⟩
abbrev main_v132 : Ref sig .tc := ⟨.hbm, 409, rfl⟩
abbrev main_v133 : Ref sig .tc := ⟨.hbm, 410, rfl⟩
abbrev main_v134 : Ref sig .tc := ⟨.hbm, 411, rfl⟩
abbrev main_v135 : Ref sig .tc := ⟨.hbm, 412, rfl⟩
abbrev main_v136 : Ref sig .tc := ⟨.hbm, 413, rfl⟩
abbrev main_v137 : Ref sig .tc := ⟨.hbm, 414, rfl⟩
abbrev main_v138 : Ref sig .tc := ⟨.hbm, 415, rfl⟩
abbrev main_v139 : Ref sig .tc := ⟨.hbm, 416, rfl⟩
abbrev main_v140 : Ref sig .tc := ⟨.hbm, 417, rfl⟩
abbrev main_v141 : Ref sig .tc := ⟨.hbm, 418, rfl⟩
abbrev main_call20_v0 : Ref sig .tc := ⟨.hbm, 419, rfl⟩
abbrev main_call20_v1 : Ref sig .tc := ⟨.hbm, 420, rfl⟩
abbrev main_call20_cst : Ref sig .tc := ⟨.hbm, 421, rfl⟩
abbrev main_call20_v2 : Ref sig .tc := ⟨.hbm, 422, rfl⟩
abbrev main_call20_v3 : Ref sig .tc := ⟨.hbm, 423, rfl⟩
abbrev main_call20_cst_0 : Ref sig .tc := ⟨.hbm, 424, rfl⟩
abbrev main_call20_v4 : Ref sig .tc := ⟨.hbm, 425, rfl⟩
abbrev main_call20_v5 : Ref sig .tc := ⟨.hbm, 426, rfl⟩
abbrev main_v142 : Ref sig .tc := ⟨.hbm, 427, rfl⟩
abbrev main_v143 : Ref sig .tc := ⟨.hbm, 428, rfl⟩
abbrev main_v144 : Ref sig .tc := ⟨.hbm, 429, rfl⟩
abbrev main_v145 : Ref sig .tc := ⟨.hbm, 430, rfl⟩
abbrev main_v146 : Ref sig .tc := ⟨.hbm, 431, rfl⟩
abbrev main_v147 : Ref sig .tc := ⟨.hbm, 432, rfl⟩
abbrev main_cst_39 : Ref sig .tc := ⟨.hbm, 433, rfl⟩
abbrev main_v148 : Ref sig .tc := ⟨.hbm, 434, rfl⟩
abbrev main_v149 : Ref sig .tc := ⟨.hbm, 435, rfl⟩
abbrev main_cst_40 : Ref sig .tc := ⟨.hbm, 436, rfl⟩
abbrev main_v150 : Ref sig .tc := ⟨.hbm, 437, rfl⟩
abbrev main_v151 : Ref sig .tc := ⟨.hbm, 438, rfl⟩
abbrev main_cst_41 : Ref sig .tc := ⟨.hbm, 439, rfl⟩
abbrev main_v152 : Ref sig .tc := ⟨.hbm, 440, rfl⟩
abbrev main_v153 : Ref sig .tc := ⟨.hbm, 441, rfl⟩
abbrev main_v154 : Ref sig .tc := ⟨.hbm, 442, rfl⟩
abbrev main_v155 : Ref sig .tc := ⟨.hbm, 443, rfl⟩
abbrev main_v156 : Ref sig .tc := ⟨.hbm, 444, rfl⟩
abbrev main_v157 : Ref sig .tc := ⟨.hbm, 445, rfl⟩
abbrev main_v158 : Ref sig .tc := ⟨.hbm, 446, rfl⟩
abbrev main_v159 : Ref sig .tc := ⟨.hbm, 447, rfl⟩
abbrev main_v160 : Ref sig .tc := ⟨.hbm, 448, rfl⟩

abbrev nD : Nat := 1
abbrev τ : Topo := Topo.v7x

variable {F : FTy → Type} [FloatOps F]
-- ==== Proj.lean ====
abbrev S8x4096x1024 : Shape := ⟨3, ![8, 4096, 1024]⟩
abbrev S1024 : Shape := ⟨1, ![1024]⟩
abbrev S1024x1280 : Shape := ⟨2, ![1024, 1280]⟩
abbrev S64 : Shape := ⟨1, ![64]⟩
abbrev S64x16 : Shape := ⟨2, ![64, 16]⟩
abbrev S32768x1024 : Shape := ⟨2, ![32768, 1024]⟩
abbrev S1024x1 : Shape := ⟨2, ![1024, 1]⟩
abbrev S1x64 : Shape := ⟨2, ![1, 64]⟩
abbrev S8x64 : Shape := ⟨2, ![8, 64]⟩
abbrev S512 : Shape := ⟨1, ![512]⟩
abbrev S2x64 : Shape := ⟨2, ![2, 64]⟩
abbrev S128 : Shape := ⟨1, ![128]⟩
abbrev S640 : Shape := ⟨1, ![640]⟩
abbrev S1x640 : Shape := ⟨2, ![1, 640]⟩
abbrev S4x64 : Shape := ⟨2, ![4, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S64x32 : Shape := ⟨2, ![64, 32]⟩
abbrev S64x64 : Shape := ⟨2, ![64, 64]⟩
abbrev S64x128 : Shape := ⟨2, ![64, 128]⟩
abbrev S32768x512 : Shape := ⟨2, ![32768, 512]⟩
abbrev S32768x256 : Shape := ⟨2, ![32768, 256]⟩
abbrev S8x2x80x4096 : Shape := ⟨4, ![8, 2, 80, 4096]⟩
abbrev S1024x1024 : Shape := ⟨2, ![1024, 1024]⟩
abbrev S16x128 : Shape := ⟨2, ![16, 128]⟩
abbrev S1024x512 : Shape := ⟨2, ![1024, 512]⟩
abbrev S1024x256 : Shape := ⟨2, ![1024, 256]⟩
abbrev S1x2x80x1024 : Shape := ⟨4, ![1, 2, 80, 1024]⟩
abbrev S1x128 : Shape := ⟨2, ![1, 128]⟩
abbrev S1024x128 : Shape := ⟨2, ![1024, 128]⟩
abbrev S128x128 : Shape := ⟨2, ![128, 128]⟩
abbrev S128x1024 : Shape := ⟨2, ![128, 1024]⟩
abbrev S16x1024 : Shape := ⟨2, ![16, 1024]⟩
abbrev S64x1024 : Shape := ⟨2, ![64, 1024]⟩
abbrev S1x1x64x1024 : Shape := ⟨4, ![1, 1, 64, 1024]⟩
abbrev S1x1x16x1024 : Shape := ⟨4, ![1, 1, 16, 1024]⟩

abbrev nBuf : Space → Nat
  | .hbm => 46
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x1280, .f32⟩
  | .hbm, ⟨3, _⟩ => ⟨S64, .f32⟩
  | .hbm, ⟨4, _⟩ => ⟨S64, .f32⟩
  | .hbm, ⟨5, _⟩ => ⟨S64x16, .f32⟩
  | .hbm, ⟨6, _⟩ => ⟨S64x16, .f32⟩
  | .hbm, ⟨7, _⟩ => ⟨S64x16, .f32⟩
  | .hbm, ⟨8, _⟩ => ⟨S64x16, .f32⟩
  | .hbm, ⟨9, _⟩ => ⟨S32768x1024, .f32⟩
  | .hbm, ⟨10, _⟩ => ⟨S1024x1, .f32⟩
  | .hbm, ⟨11, _⟩ => ⟨S1024x1280, .f32⟩
  | .hbm, ⟨12, _⟩ => ⟨S1024x1280, .f32⟩
  | .hbm, ⟨13, _⟩ => ⟨S1024x1280, .bf16⟩
  | .hbm, ⟨14, _⟩ => ⟨S1x64, .f32⟩
  | .hbm, ⟨15, _⟩ => ⟨S8x64, .f32⟩
  | .hbm, ⟨16, _⟩ => ⟨S512, .f32⟩
  | .hbm, ⟨17, _⟩ => ⟨S1x64, .f32⟩
  | .hbm, ⟨18, _⟩ => ⟨S2x64, .f32⟩
  | .hbm, ⟨19, _⟩ => ⟨S128, .f32⟩
  | .hbm, ⟨20, _⟩ => ⟨S640, .f32⟩
  | .hbm, ⟨21, _⟩ => ⟨S1x640, .f32⟩
  | .hbm, ⟨22, _⟩ => ⟨S4x64, .i32⟩
  | .hbm, ⟨23, _⟩ => ⟨S256, .i32⟩
  | .hbm, ⟨24, _⟩ => ⟨S256x1, .i32⟩
  | .hbm, ⟨25, _⟩ => ⟨S1x256, .i32⟩
  | .hbm, ⟨26, _⟩ => ⟨S256x256, .i32⟩
  | .hbm, ⟨27, _⟩ => ⟨S256x256, .i32⟩
  | .hbm, ⟨28, _⟩ => ⟨S256x256, .i1⟩
  | .hbm, ⟨29, _⟩ => ⟨S256x256, .bf16⟩
  | .hbm, ⟨30, _⟩ => ⟨S_, .f32⟩
  | .hbm, ⟨31, _⟩ => ⟨S64x32, .f32⟩
  | .hbm, ⟨32, _⟩ => ⟨S64x64, .f32⟩
  | .hbm, ⟨33, _⟩ => ⟨S64x16, .f32⟩
  | .hbm, ⟨34, _⟩ => ⟨S64x64, .f32⟩
  | .hbm, ⟨35, _⟩ => ⟨S64x64, .f32⟩
  | .hbm, ⟨36, _⟩ => ⟨S64x16, .f32⟩
  | .hbm, ⟨37, _⟩ => ⟨S64x64, .f32⟩
  | .hbm, ⟨38, _⟩ => ⟨S64x128, .f32⟩
  | .hbm, ⟨39, _⟩ => ⟨S64x128, .f32⟩
  | .hbm, ⟨40, _⟩ => ⟨S64x128, .f32⟩
  | .hbm, ⟨41, _⟩ => ⟨S64x128, .f32⟩
  | .hbm, ⟨42, _⟩ => ⟨S32768x512, .f32⟩
  | .hbm, ⟨43, _⟩ => ⟨S32768x256, .bf16⟩
  | .hbm, ⟨44, _⟩ => ⟨S8x2x80x4096, .bf16⟩
  | .hbm, ⟨45, _⟩ => ⟨S32768x512, .f32⟩
  | .local _ .vmem, ⟨0, _⟩ => ⟨S1024x1024, .f32⟩
  | .local _ .vmem, ⟨1, _⟩ => ⟨S1024x1024, .f32⟩
  | .local _ .vmem, ⟨2, _⟩ => ⟨S1024x1280, .bf16⟩
  | .local _ .vmem, ⟨3, _⟩ => ⟨S1x640, .f32⟩
  | .local _ .vmem, ⟨4, _⟩ => ⟨S256x256, .bf16⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S64x128, .f32⟩
  | .local _ .vmem, ⟨10, _⟩ => ⟨S64x128, .f32⟩
  | .local _ .vmem, ⟨11, _⟩ => ⟨S1024x512, .f32⟩
  | .local _ .vmem, ⟨12, _⟩ => ⟨S1024x512, .f32⟩
  | .local _ .vmem, ⟨13, _⟩ => ⟨S1024x256, .bf16⟩
  | .local _ .vmem, ⟨14, _⟩ => ⟨S1024x256, .bf16⟩
  | .local _ .vmem, ⟨15, _⟩ => ⟨S1x2x80x1024, .bf16⟩
  | .local _ .vmem, ⟨16, _⟩ => ⟨S1x2x80x1024, .bf16⟩
  | .local _ .vmem, ⟨17, _⟩ => ⟨S1024x512, .f32⟩
  | .local _ .vmem, ⟨18, _⟩ => ⟨S1024x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32_0 : Ref sig .tc := ⟨.hbm, 42, rfl⟩
abbrev main_v32_1 : Ref sig .tc := ⟨.hbm, 43, rfl⟩
abbrev main_v32_2 : Ref sig .tc := ⟨.hbm, 44, rfl⟩
abbrev main_v32_3 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x80x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjRefIdeal.lean ====
abbrev S8x4096x1024 : Shape := ⟨3, ![8, 4096, 1024]⟩
abbrev S1024 : Shape := ⟨1, ![1024]⟩
abbrev S1024x1280 : Shape := ⟨2, ![1024, 1280]⟩
abbrev S64 : Shape := ⟨1, ![64]⟩
abbrev S64x16 : Shape := ⟨2, ![64, 16]⟩
abbrev S64x1x16 : Shape := ⟨3, ![64, 1, 16]⟩
abbrev S64x64x16 : Shape := ⟨3, ![64, 64, 16]⟩
abbrev S4096x16 : Shape := ⟨2, ![4096, 16]⟩
abbrev S1x64x16 : Shape := ⟨3, ![1, 64, 16]⟩
abbrev S4096x1x16 : Shape := ⟨3, ![4096, 1, 16]⟩
abbrev S4096x2x16 : Shape := ⟨3, ![4096, 2, 16]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x1280 : Shape := ⟨3, ![8, 4096, 1280]⟩
abbrev S8x4096x512 : Shape := ⟨3, ![8, 4096, 512]⟩
abbrev S8x4096x8x64 : Shape := ⟨4, ![8, 4096, 8, 64]⟩
abbrev S8x4096x128 : Shape := ⟨3, ![8, 4096, 128]⟩
abbrev S8x4096x2x64 : Shape := ⟨4, ![8, 4096, 2, 64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S8x4096x8x2x2x16 : Shape := ⟨6, ![8, 4096, 8, 2, 2, 16]⟩
abbrev S8x4096x8x2x1x16 : Shape := ⟨6, ![8, 4096, 8, 2, 1, 16]⟩
abbrev S8x4096x8x2x16 : Shape := ⟨5, ![8, 4096, 8, 2, 16]⟩
abbrev S1x4096x1x2x16 : Shape := ⟨5, ![1, 4096, 1, 2, 16]⟩
abbrev S8x4096x2 : Shape := ⟨3, ![8, 4096, 2]⟩
abbrev S8x4096x2x1 : Shape := ⟨4, ![8, 4096, 2, 1]⟩
abbrev S8x4096x2x2x2x16 : Shape := ⟨6, ![8, 4096, 2, 2, 2, 16]⟩
abbrev S8x4096x2x2x1x16 : Shape := ⟨6, ![8, 4096, 2, 2, 1, 16]⟩
abbrev S8x4096x2x2x16 : Shape := ⟨5, ![8, 4096, 2, 2, 16]⟩
abbrev S8x4096x1x64 : Shape := ⟨4, ![8, 4096, 1, 64]⟩
abbrev S8x4096x4x64 : Shape := ⟨4, ![8, 4096, 4, 64]⟩
abbrev S8x2x64x4096 : Shape := ⟨4, ![8, 2, 64, 4096]⟩
abbrev S8x2x16x4096 : Shape := ⟨4, ![8, 2, 16, 4096]⟩
abbrev S8x2x80x4096 : Shape := ⟨4, ![8, 2, 80, 4096]⟩
abbrev S32768x512 : Shape := ⟨2, ![32768, 512]⟩
abbrev S32768x256 : Shape := ⟨2, ![32768, 256]⟩

abbrev nBuf : Space → Nat
  | .hbm => 137
  | .vmem => 0
  | .smem => 0
  | _ => 0

abbrev hbmTy0_0 (i : Nat) : BufTy := match i % 128 with
  | 0 => ⟨S8x4096x1024, .f32⟩
  | 1 => ⟨S1024, .f32⟩
  | 2 => ⟨S1024x1280, .f32⟩
  | 3 => ⟨S64, .f32⟩
  | 4 => ⟨S64, .f32⟩
  | 5 => ⟨S64x16, .f32⟩
  | 6 => ⟨S64x16, .f32⟩
  | 7 => ⟨S64x16, .f32⟩
  | 8 => ⟨S64x16, .f32⟩
  | 9 => ⟨S64x1x16, .f32⟩
  | 10 => ⟨S64x64x16, .f32⟩
  | 11 => ⟨S4096x16, .f32⟩
  | 12 => ⟨S1x64x16, .f32⟩
  | 13 => ⟨S64x64x16, .f32⟩
  | 14 => ⟨S4096x16, .f32⟩
  | 15 => ⟨S4096x1x16, .f32⟩
  | 16 => ⟨S4096x1x16, .f32⟩
  | 17 => ⟨S4096x2x16, .f32⟩
  | 18 => ⟨S64x1x16, .f32⟩
  | 19 => ⟨S64x64x16, .f32⟩
  | 20 => ⟨S4096x16, .f32⟩
  | 21 => ⟨S1x64x16, .f32⟩
  | 22 => ⟨S64x64x16, .f32⟩
  | 23 => ⟨S4096x16, .f32⟩
  | 24 => ⟨S4096x1x16, .f32⟩
  | 25 => ⟨S4096x1x16, .f32⟩
  | 26 => ⟨S4096x2x16, .f32⟩
  | 27 => ⟨S8x4096x1024, .f32⟩
  | 28 => ⟨S_, .f32⟩
  | 29 => ⟨S8x4096, .f32⟩
  | 30 => ⟨S8x4096x1, .f32⟩
  | 31 => ⟨S_, .f32⟩
  | 32 => ⟨S8x4096x1, .f32⟩
  | 33 => ⟨S8x4096x1, .f32⟩
  | 34 => ⟨S_, .f32⟩
  | 35 => ⟨S8x4096x1, .f32⟩
  | 36 => ⟨S8x4096x1, .f32⟩
  | 37 => ⟨S8x4096x1, .f32⟩
  | 38 => ⟨S8x4096x1024, .f32⟩
  | 39 => ⟨S8x4096x1024, .f32⟩
  | 40 => ⟨S1x1x1024, .f32⟩
  | 41 => ⟨S8x4096x1024, .f32⟩
  | 42 => ⟨S8x4096x1024, .f32⟩
  | 43 => ⟨S8x4096x1280, .f32⟩
  | 44 => ⟨S8x4096x512, .f32⟩
  | 45 => ⟨S8x4096x8x64, .f32⟩
  | 46 => ⟨S8x4096x128, .f32⟩
  | 47 => ⟨S8x4096x2x64, .f32⟩
  | 48 => ⟨S8x4096x128, .f32⟩
  | 49 => ⟨S8x4096x2x64, .f32⟩
  | 50 => ⟨S8x4096x512, .f32⟩
  | 51 => ⟨S8x4096x8x64, .f32⟩
  | 52 => ⟨S_, .f32⟩
  | 53 => ⟨S8x4096x8, .f32⟩
  | 54 => ⟨S8x4096x8x1, .f32⟩
  | 55 => ⟨S_, .f32⟩
  | 56 => ⟨S8x4096x8x1, .f32⟩
  | 57 => ⟨S8x4096x8x1, .f32⟩
  | 58 => ⟨S_, .f32⟩
  | 59 => ⟨S8x4096x8x1, .f32⟩
  | 60 => ⟨S8x4096x8x1, .f32⟩
  | 61 => ⟨S8x4096x8x1, .f32⟩
  | 62 => ⟨S8x4096x8x64, .f32⟩
  | 63 => ⟨S8x4096x8x64, .f32⟩
  | 64 => ⟨S1x1x1x64, .f32⟩
  | 65 => ⟨S8x4096x8x64, .f32⟩
  | 66 => ⟨S8x4096x8x64, .f32⟩
  | 67 => ⟨S8x4096x8x2x2x16, .f32⟩
  | 68 => ⟨S8x4096x8x2x1x16, .f32⟩
  | 69 => ⟨S8x4096x8x2x16, .f32⟩
  | 70 => ⟨S8x4096x8x2x1x16, .f32⟩
  | 71 => ⟨S8x4096x8x2x16, .f32⟩
  | 72 => ⟨S1x4096x1x2x16, .f32⟩
  | 73 => ⟨S1x4096x1x2x16, .f32⟩
  | 74 => ⟨S8x4096x8x2x16, .f32⟩
  | 75 => ⟨S8x4096x8x2x16, .f32⟩
  | 76 => ⟨S8x4096x8x2x16, .f32⟩
  | 77 => ⟨S8x4096x8x2x16, .f32⟩
  | 78 => ⟨S8x4096x8x2x16, .f32⟩
  | 79 => ⟨S8x4096x8x2x16, .f32⟩
  | 80 => ⟨S8x4096x8x2x16, .f32⟩
  | 81 => ⟨S8x4096x8x2x16, .f32⟩
  | 82 => ⟨S8x4096x8x2x16, .f32⟩
  | 83 => ⟨S8x4096x8x2x16, .f32⟩
  | 84 => ⟨S8x4096x8x2x1x16, .f32⟩
  | 85 => ⟨S8x4096x8x2x1x16, .f32⟩
  | 86 => ⟨S8x4096x8x2x2x16, .f32⟩
  | 87 => ⟨S8x4096x8x64, .f32⟩
  | 88 => ⟨S8x4096x2x64, .f32⟩
  | 89 => ⟨S_, .f32⟩
  | 90 => ⟨S8x4096x2, .f32⟩
  | 91 => ⟨S8x4096x2x1, .f32⟩
  | 92 => ⟨S_, .f32⟩
  | 93 => ⟨S8x4096x2x1, .f32⟩
  | 94 => ⟨S8x4096x2x1, .f32⟩
  | 95 => ⟨S_, .f32⟩
  | 96 => ⟨S8x4096x2x1, .f32⟩
  | 97 => ⟨S8x4096x2x1, .f32⟩
  | 98 => ⟨S8x4096x2x1, .f32⟩
  | 99 => ⟨S8x4096x2x64, .f32⟩
  | 100 => ⟨S8x4096x2x64, .f32⟩
  | 101 => ⟨S1x1x1x64, .f32⟩
  | 102 => ⟨S8x4096x2x64, .f32⟩
  | 103 => ⟨S8x4096x2x64, .f32⟩
  | 104 => ⟨S8x4096x2x2x2x16, .f32⟩
  | 105 => ⟨S8x4096x2x2x1x16, .f32⟩
  | 106 => ⟨S8x4096x2x2x16, .f32⟩
  | 107 => ⟨S8x4096x2x2x1x16, .f32⟩
  | 108 => ⟨S8x4096x2x2x16, .f32⟩
  | 109 => ⟨S1x4096x1x2x16, .f32⟩
  | 110 => ⟨S1x4096x1x2x16, .f32⟩
  | 111 => ⟨S8x4096x2x2x16, .f32⟩
  | 112 => ⟨S8x4096x2x2x16, .f32⟩
  | 113 => ⟨S8x4096x2x2x16, .f32⟩
  | 114 => ⟨S8x4096x2x2x16, .f32⟩
  | 115 => ⟨S8x4096x2x2x16, .f32⟩
  | 116 => ⟨S8x4096x2x2x16, .f32⟩
  | 117 => ⟨S8x4096x2x2x16, .f32⟩
  | 118 => ⟨S8x4096x2x2x16, .f32⟩
  | 119 => ⟨S8x4096x2x2x16, .f32⟩
  | 120 => ⟨S8x4096x2x2x16, .f32⟩
  | 121 => ⟨S8x4096x2x2x1x16, .f32⟩
  | 122 => ⟨S8x4096x2x2x1x16, .f32⟩
  | 123 => ⟨S8x4096x2x2x2x16, .f32⟩
  | 124 => ⟨S8x4096x2x64, .f32⟩
  | 125 => ⟨S8x4096x1x64, .f32⟩
  | 126 => ⟨S8x4096x1x64, .f32⟩
  | 127 => ⟨S8x4096x4x64, .f32⟩
  | _ => ⟨S8x4096x1024, .f32⟩

abbrev hbmTy0_1 (i : Nat) : BufTy := match i % 128 with
  | 0 => ⟨S8x2x64x4096, .f32⟩
  | 1 => ⟨S_, .f32⟩
  | 2 => ⟨S8x2x16x4096, .f32⟩
  | 3 => ⟨S8x2x80x4096, .f32⟩
  | 4 => ⟨S32768x512, .f32⟩
  | 5 => ⟨S32768x256, .f32⟩
  | 6 => ⟨S32768x256, .bf16⟩
  | 7 => ⟨S8x2x80x4096, .bf16⟩
  | 8 => ⟨S32768x512, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_5 : Ref sig .tc := ⟨.hbm, 89, rfl⟩
abbrev main_v74 : Ref sig .tc := ⟨.hbm, 90, rfl⟩
abbrev main_v75 : Ref sig .tc := ⟨.hbm, 91, rfl⟩
abbrev main_cst_6 : Ref sig .tc := ⟨.hbm, 92, rfl⟩
abbrev main_v76 : Ref sig .tc := ⟨.hbm, 93, rfl⟩
abbrev main_v77 : Ref sig .tc := ⟨.hbm, 94, rfl⟩
abbrev main_cst_7 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_8 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩

abbrev nD : Nat := 1
abbrev τ : Topo := Topo.v7x

variable {F : FTy → Type} [FloatOps F]
-- ==== Proof.Stage.lean ====
/-
  The attention kernel's body written once, over its own loops: a chunk of scores, a chunk of values, a stage of
  sixteen chunks, a tile of two stages. The two printed programs (rounded and ideal) are this program, each at
  its own scale constant.
-/
module

public import Idealize.ShloMosaic.Lib.Tactic

@[expose] public section

noncomputable section

namespace Cert.Proof.Stage

open Idealize.ShloMosaic Idealize.SL Idealize.SL.Sem

/-! ## Shapes and their side conditions -/

abbrev SQ : Shape := ⟨2, ![4096, 256]⟩
abbrev SK : Shape := ⟨2, ![4096, 128]⟩
abbrev SV : Shape := ⟨4, ![1, 1, 80, 4096]⟩
abbrev SKx : Shape := ⟨2, ![272, 128]⟩
abbrev SVx : Shape := ⟨2, ![80, 384]⟩
abbrev SS : Shape := ⟨3, ![2, 4112, 512]⟩
abbrev STile : Shape := ⟨2, ![256, 128]⟩
abbrev STileT : Shape := ⟨2, ![128, 256]⟩
abbrev SHalf : Shape := ⟨2, ![64, 256]⟩
abbrev SW : Shape := ⟨2, ![128, 512]⟩
abbrev SRow : Shape := ⟨2, ![1, 512]⟩
abbrev SVec : Shape := ⟨1, ![512]⟩
abbrev SAcc : Shape := ⟨2, ![80, 512]⟩
abbrev SNum : Shape := ⟨2, ![64, 512]⟩
abbrev SCh : Shape := ⟨2, ![256, 512]⟩
abbrev SCh1 : Shape := ⟨3, ![1, 256, 512]⟩
abbrev SChL : Shape := ⟨2, ![272, 512]⟩
abbrev SChL1 : Shape := ⟨3, ![1, 272, 512]⟩
abbrev SPad : Shape := ⟨2, ![112, 512]⟩
abbrev SChP : Shape := ⟨2, ![384, 512]⟩
abbrev SVc : Shape := ⟨2, ![80, 256]⟩
abbrev SVc1 : Shape := ⟨4, ![1, 1, 80, 256]⟩
abbrev SKm : Shape := ⟨2, ![16, 128]⟩
abbrev SVm : Shape := ⟨4, ![1, 1, 80, 128]⟩
abbrev SVm2 : Shape := ⟨2, ![80, 128]⟩
abbrev SG : Shape := ⟨2, ![64, 1]⟩
abbrev SWo : Shape := ⟨2, ![64, 1024]⟩
abbrev SWf : Shape := ⟨2, ![64, 5632]⟩
abbrev SWd : Shape := ⟨2, ![176, 1024]⟩

/-- Rows times columns, contracted over the left's second and the right's first axis. -/
abbrev dotScore : DotDims STile SW SCh where
  lhsContracting := [1]
  rhsContracting := [0]
  lhsNonContracting := [0]
  rhsNonContracting := [1]
  lhsBatch := []
  rhsBatch := []
  wf := by decide
abbrev dotScoreL : DotDims SKx SW SChL where
  lhsContracting := [1]
  rhsContracting := [0]
  lhsNonContracting := [0]
  rhsNonContracting := [1]
  lhsBatch := []
  rhsBatch := []
  wf := by decide
abbrev dotVal : DotDims SVc SCh SAcc where
  lhsContracting := [1]
  rhsContracting := [0]
  lhsNonContracting := [0]
  rhsNonContracting := [1]
  lhsBatch := []
  rhsBatch := []
  wf := by decide
abbrev dotValL : DotDims SVx SChP SAcc where
  lhsContracting := [1]
  rhsContracting := [0]
  lhsNonContracting := [0]
  rhsNonContracting := [1]
  lhsBatch := []
  rhsBatch := []
  wf := by decide

theorem posTile : 0 < STile.numel := by decide
theorem posKx : 0 < SKx.numel := by decide
theorem posVx : 0 < SVx.numel := by decide
theorem posCh1 : 0 < SCh1.numel := by decide
theorem posChL1 : 0 < SChL1.numel := by decide
theorem posVc1 : 0 < SVc1.numel := by decide
theorem posKm : 0 < SKm.numel := by decide
theorem posVm : 0 < SVm.numel := by decide
theorem posVm2 : 0 < SVm2.numel := by decide
theorem posVc : 0 < SVc.numel := by decide
theorem posG : 0 < SG.numel := by decide
theorem posWo : 0 < SWo.numel := by decide
theorem posWf : 0 < SWf.numel := by decide
theorem posWd : 0 < SWd.numel := by decide
theorem catHalf : Shape.Concatenates [SHalf, SHalf] STileT 0 := by decide
theorem catW : Shape.Concatenates [STileT, STileT] SW 1 := by decide
theorem catP : Shape.Concatenates [SChL, SPad] SChP 0 := by decide

/-! ## The values a stage computes -/

section Values
variable {F : FTy → Type} [FloatOps F]

/-- A tile of queries scaled, rounded and transposed, its two heads side by side over rows of zeros. -/
def weights (sc : F .f32) (q : Vec F STile .f32) : FVec F SW .bf16 :=
  have qs : FVec F STile .bf16 := truncf .bf16 (mulf (shapeCast STile q (by decide)) (broadcast STile sc)) (by decide)
  have qt : FVec F STileT .bf16 := truncf .bf16 (transpose STileT [1, 0] (extf .f32 qs (by decide)) (by decide)) (by decide)
  have z : FVec F SHalf .bf16 := broadcast SHalf (Scalar.ofBits .bf16 0x0000#16)
  concatenate SW 1
    [⟨STileT, concatenate STileT 0 [⟨SHalf, extractStridedSlice SHalf ![0, 0] qt (by decide)⟩, ⟨SHalf, z⟩] catHalf⟩,
     ⟨STileT, concatenate STileT 0 [⟨SHalf, extractStridedSlice SHalf ![64, 0] qt (by decide)⟩, ⟨SHalf, z⟩] catHalf⟩]
    catW

/-- The scores of 256 keys. -/
def score (w : FVec F SW .bf16) (k : Vec F STile .bf16) : FVec F SCh .f32 :=
  matmul dotScore none (shapeCast STile k (by decide)) w (constant SCh .f32 0x00000000#32)
/-- The scores of the last 256 keys and the 16 meta keys. -/
def scoreL (w : FVec F SW .bf16) (k : Vec F SKx .bf16) : FVec F SChL .f32 :=
  matmul dotScoreL none k w (constant SChL .f32 0x00000000#32)

/-- A column maximum carried on over 256 more rows. -/
def maxStep (mx : FVec F SRow .f32) (s : FVec F SCh .f32) : FVec F SRow .f32 :=
  maximumf mx (shapeCast SRow (multiReduction .maximumf [0] SVec s 0xFF800000#32 (by decide) (.inl rfl) rfl) (by decide))
def maxStepL (mx : FVec F SRow .f32) (s : FVec F SChL .f32) : FVec F SRow .f32 :=
  maximumf mx (shapeCast SRow (multiReduction .maximumf [0] SVec s 0xFF800000#32 (by decide) (.inl rfl) rfl) (by decide))

/-- The weighted values of 256 keys added on. -/
def accStep (m : FVec F SRow .f32) (acc : FVec F SAcc .f32) (s : Vec F SCh1 .f32) (v : Vec F SVc1 .bf16) : FVec F SAcc .f32 :=
  have p : FVec F SCh .bf16 := truncf .bf16 (exp2 (subf (shapeCast SCh s (by decide)) (broadcastTo SCh m (by decide)))) (by decide)
  addf acc (matmul dotVal none (shapeCast SVc v (by decide)) p (constant SAcc .f32 0x00000000#32))
def accStepL (m : FVec F SRow .f32) (acc : FVec F SAcc .f32) (s : Vec F SChL1 .f32) (v : Vec F SVx .bf16) : FVec F SAcc .f32 :=
  have p : FVec F SChL .bf16 := truncf .bf16 (exp2 (subf (shapeCast SChL s (by decide)) (broadcastTo SChL m (by decide)))) (by decide)
  have pp : FVec F SChP .bf16 := concatenate SChP 0 [⟨SChL, p⟩, ⟨SPad, broadcast SPad (Scalar.ofBits .bf16 0x0000#16)⟩] catP
  addf acc (matmul dotValL none v pp (constant SAcc .f32 0x00000000#32))

def max0 : FVec F SRow .f32 := broadcast SRow (Scalar.ofBits .f32 0xFF800000#32)
def acc0 : FVec F SAcc .f32 := broadcast SAcc (Scalar.ofBits .f32 0x00000000#32)

/-- The output tile: the weighted values over the weights' sum, the two heads' columns stacked, transposed. -/
def outTile (acc : FVec F SAcc .f32) : FVec F STile .f32 :=
  have o : FVec F SNum .f32 := mulf (extractStridedSlice SNum ![0, 0] acc (by decide))
    (broadcastTo SNum (divf (broadcast SRow (Scalar.ofBits .f32 0x3F800000#32)) (extractStridedSlice SRow ![64, 0] acc (by decide))) (by decide))
  transpose STile [1, 0]
    (concatenate STileT 0 [⟨SHalf, extractStridedSlice SHalf ![0, 0] o (by decide)⟩, ⟨SHalf, extractStridedSlice SHalf ![0, 256] o (by decide)⟩] catHalf : FVec F STileT .f32)
    (by decide)

/-- A weight's rows scaled by a gain and rounded. -/
def foldWo (w : Vec F SWo .f32) (g : Vec F SG .f32) : FVec F SWo .bf16 :=
  truncf .bf16 (mulf w (broadcastTo SWo (shapeCast SG g (by decide) : FVec F SG .f32) (by decide))) (by decide)
def foldWf (w : Vec F SWf .f32) (g : Vec F SG .f32) : FVec F SWf .bf16 :=
  truncf .bf16 (mulf w (broadcastTo SWf (shapeCast SG g (by decide) : FVec F SG .f32) (by decide))) (by decide)
def foldWd (w : Vec F SWd .f32) : FVec F SWd .bf16 := truncf .bf16 w (by decide)

end Values

/-! ## The rectangles -/

abbrev rK (c : Fin 15) : Rect SK := Rect.unit (s := SK) ![256 * c.val, 0] STile.size
  (by intro a; have := c.isLt; fin_cases a <;> simp <;> omega)
abbrev rV (c : Fin 15) : Rect SV := Rect.unit (s := SV) ![0, 0, 0, 256 * c.val] SVc1.size
  (by intro a; have := c.isLt; fin_cases a <;> simp <;> omega)
abbrev rS (slot : Fin 2) (c : Fin 15) : Rect SS := Rect.unit (s := SS) ![slot.val, 256 * c.val, 0] SCh1.size
  (by intro a; have := c.isLt; have := slot.isLt; fin_cases a <;> simp <;> omega)
abbrev rSL (slot : Fin 2) : Rect SS := Rect.unit (s := SS) ![slot.val, 3840, 0] SChL1.size
  (by intro a; have := slot.isLt; fin_cases a <;> simp <;> omega)
abbrev rKx : Rect SKx := Rect.unit (s := SKx) ![0, 0] SKx.size (by intro a; fin_cases a <;> simp)
abbrev rVx : Rect SVx := Rect.unit (s := SVx) ![0, 0] SVx.size (by intro a; fin_cases a <;> simp)
abbrev rT (o : Fin 2 → ℕ) (h : ∀ a, o a + STile.size a ≤ SQ.size a) : Rect SQ := Rect.unit (s := SQ) o STile.size h

abbrev rAll2 (m n : ℕ) : Rect ⟨2, ![m, n]⟩ := Rect.unit (s := ⟨2, ![m, n]⟩) ![0, 0] ![m, n] (by intro a; fin_cases a <;> simp)
abbrev rKl : Rect SK := Rect.unit (s := SK) ![3840, 0] STile.size (by intro a; fin_cases a <;> simp)
abbrev rVl : Rect SV := Rect.unit (s := SV) ![0, 0, 0, 3840] SVc1.size (by intro a; fin_cases a <;> simp)
abbrev rVm : Rect SVm := Rect.unit (s := SVm) ![0, 0, 0, 0] SVm.size (by intro a; fin_cases a <;> simp)
abbrev rKx0 : Rect SKx := Rect.unit (s := SKx) ![0, 0] STile.size (by intro a; fin_cases a <;> simp)
abbrev rKx1 : Rect SKx := Rect.unit (s := SKx) ![256, 0] SKm.size (by intro a; fin_cases a <;> simp)
abbrev rVx0 : Rect SVx := Rect.unit (s := SVx) ![0, 0] SVc.size (by intro a; fin_cases a <;> simp)
abbrev rVx1 : Rect SVx := Rect.unit (s := SVx) ![0, 256] SVm2.size (by intro a; fin_cases a <;> simp)

theorem packWo : (rAll2 64 1024).PackedRows (EltTy.packing .bf16) := by decide
theorem packWf : (rAll2 64 5632).PackedRows (EltTy.packing .bf16) := by decide
theorem packWd : (rAll2 176 1024).PackedRows (EltTy.packing .bf16) := by decide
theorem packKx0 : rKx0.PackedRows (EltTy.packing .bf16) := by decide
theorem packKx1 : rKx1.PackedRows (EltTy.packing .bf16) := by decide
theorem packVx0 : rVx0.PackedRows (EltTy.packing .bf16) := by decide
theorem packVx1 : rVx1.PackedRows (EltTy.packing .bf16) := by decide

/-! ## The program -/

section Program
variable {nD : ℕ} {τ : Topo} {sig : RefSig} {Λ : Labels} {F : FTy → Type} [FloatOps F]

/-- The buffers a stage works on. -/
structure Bufs (sig : RefSig) where
  q : Memref sig .tc .vmem SQ .f32
  k : Memref sig .tc .vmem SK .bf16
  v : Memref sig .tc .vmem SV .bf16
  o : Memref sig .tc .vmem SQ .f32
  kx : Memref sig .tc .vmem SKx .bf16
  vx : Memref sig .tc .vmem SVx .bf16
  s : Memref sig .tc .vmem SS .f32

variable (B : Bufs sig) {α : Type}

/-- One chunk of the next tile's scores, stored and its maximum taken. -/
def scoreChunk (w : FVec F SW .bf16) (slot : Fin 2) (c : Fin 15) (mx : FVec F SRow .f32) (k : FVec F SRow .f32 → Prog (TpuEff nD τ sig (Elt F) Λ .tc) α) : Prog (TpuEff nD τ sig (Elt F) Λ .tc) α :=
  .op (.load B.k (rK c).toLoadRect (View.loadsAt_vmem posTile)) fun (x : Vec F STile .bf16) =>
  .op (.load B.s (rS slot c).toLoadRect (View.loadsAt_vmem posCh1)) fun _ =>
  .op (.store B.s (rS slot c) (shapeCast SCh1 (score w x) (by decide)) Finset.univ (View.stores_vmem_bits_univ posCh1 rfl) (.inl rfl)) fun _ =>
  k (maxStep mx (score w x))
def scoreChunkL (w : FVec F SW .bf16) (slot : Fin 2) (mx : FVec F SRow .f32) (k : FVec F SRow .f32 → Prog (TpuEff nD τ sig (Elt F) Λ .tc) α) : Prog (TpuEff nD τ sig (Elt F) Λ .tc) α :=
  .op (.load B.kx rKx.toLoadRect (View.loadsAt_vmem posKx)) fun (x : Vec F SKx .bf16) =>
  .op (.load B.s (rSL slot).toLoadRect (View.loadsAt_vmem posChL1)) fun _ =>
  .op (.store B.s (rSL slot) (shapeCast SChL1 (scoreL w x) (by decide)) Finset.univ (View.stores_vmem_bits_univ posChL1 rfl) (.inl rfl)) fun _ =>
  k (maxStepL mx (scoreL w x))

/-- One chunk of the current tile's weighted values. -/
def valChunk (m : FVec F SRow .f32) (slot : Fin 2) (c : Fin 15) (acc : FVec F SAcc .f32) (k : FVec F SAcc .f32 → Prog (TpuEff nD τ sig (Elt F) Λ .tc) α) : Prog (TpuEff nD τ sig (Elt F) Λ .tc) α :=
  .op (.load B.s (rS slot c).toLoadRect (View.loadsAt_vmem posCh1)) fun (s : Vec F SCh1 .f32) =>
  .op (.load B.v (rV c).toLoadRect (View.loadsAt_vmem posVc1)) fun (v : Vec F SVc1 .bf16) =>
  k (accStep m acc s v)
def valChunkL (m : FVec F SRow .f32) (slot : Fin 2) (acc : FVec F SAcc .f32) (k : FVec F SAcc .f32 → Prog (TpuEff nD τ sig (Elt F) Λ .tc) α) : Prog (TpuEff nD τ sig (Elt F) Λ .tc) α :=
  .op (.load B.s (rSL slot).toLoadRect (View.loadsAt_vmem posChL1)) fun (s : Vec F SChL1 .f32) =>
  .op (.load B.vx rVx.toLoadRect (View.loadsAt_vmem posVx)) fun (v : Vec F SVx .bf16) =>
  k (accStepL m acc s v)

/-- The first tile's scores from chunk `c` on, then the last 272 rows. -/
def firstChunks (w : FVec F SW .bf16) (k : FVec F SRow .f32 → Prog (TpuEff nD τ sig (Elt F) Λ .tc) α) : (n c : ℕ) → c + n = 15 → FVec F SRow .f32 → Prog (TpuEff nD τ sig (Elt F) Λ .tc) α
  | 0, _, _, mx => scoreChunkL B w 0 mx k
  | n + 1, c, h, mx => scoreChunk B w 0 ⟨c, by omega⟩ mx fun mx => firstChunks w k n (c + 1) (by omega) mx

/-- A stage from chunk `c` on: the next tile's scores into `nx`, the current tile's values from `cu`. -/
def stageChunks (w : FVec F SW .bf16) (nx cu : Fin 2) (m : FVec F SRow .f32) (k : FVec F SRow .f32 → FVec F SAcc .f32 → Prog (TpuEff nD τ sig (Elt F) Λ .tc) α) :
    (n c : ℕ) → c + n = 15 → FVec F SRow .f32 → FVec F SAcc .f32 → Prog (TpuEff nD τ sig (Elt F) Λ .tc) α
  | 0, _, _, mx, acc => scoreChunkL B w nx mx fun mx => valChunkL B m cu acc fun acc => k mx acc
  | n + 1, c, h, mx, acc => scoreChunk B w nx ⟨c, by omega⟩ mx fun mx => valChunk B m cu ⟨c, by omega⟩ acc fun acc =>
      stageChunks w nx cu m k n (c + 1) (by omega) mx acc

/-- One half of a tile: the queries at `oq` scored into slot `nx` while slot `cu`'s output is written at `oo`. -/
def halfTile (sc : F .f32) (nx cu : Fin 2) (oq oo : Fin 2 → ℕ) (hq : ∀ a, oq a + STile.size a ≤ SQ.size a)
    (ho : ∀ a, oo a + STile.size a ≤ SQ.size a) (m : FVec F SRow .f32) (k : FVec F SRow .f32 → Prog (TpuEff nD τ sig (Elt F) Λ .tc) α) : Prog (TpuEff nD τ sig (Elt F) Λ .tc) α :=
  .op (.load B.q (rT oq hq).toLoadRect (View.loadsAt_vmem posTile)) fun (q : Vec F STile .f32) =>
  stageChunks B (weights sc q) nx cu m (fun mx acc =>
    .op (.load B.o (rT oo ho).toLoadRect (View.loadsAt_vmem posTile)) fun _ =>
    .op (.store B.o (rT oo ho) (outTile acc) Finset.univ (View.stores_vmem_bits_univ posTile rfl) (.inl rfl)) fun _ =>
    k mx) 15 0 rfl max0 acc0

/-- One tile: its two halves, the second scoring the next tile's first. -/
def tile (sc : F .f32) (o0 o1 o2 : Fin 2 → ℕ) (h0 : ∀ a, o0 a + STile.size a ≤ SQ.size a)
    (h1 : ∀ a, o1 a + STile.size a ≤ SQ.size a) (h2 : ∀ a, o2 a + STile.size a ≤ SQ.size a) (m : FVec F SRow .f32) (k : FVec F SRow .f32 → Prog (TpuEff nD τ sig (Elt F) Λ .tc) α) : Prog (TpuEff nD τ sig (Elt F) Λ .tc) α :=
  halfTile B sc 1 0 o1 o0 h1 h0 m fun m' => halfTile B sc 0 1 o2 o1 h2 h1 m' k

/-- One trip: four tiles. -/
def trip (sc : F .f32) (o0 o1 o2 : Fin 4 → Fin 2 → ℕ) (h0 : ∀ r a, o0 r a + STile.size a ≤ SQ.size a)
    (h1 : ∀ r a, o1 r a + STile.size a ≤ SQ.size a) (h2 : ∀ r a, o2 r a + STile.size a ≤ SQ.size a) (m : FVec F SRow .f32) : Prog (TpuEff nD τ sig (Elt F) Λ .tc) (FVec F SRow .f32) :=
  tile B sc (o0 0) (o1 0) (o2 0) (h0 0) (h1 0) (h2 0) m fun m =>
    tile B sc (o0 1) (o1 1) (o2 1) (h0 1) (h1 1) (h2 1) m fun m =>
      tile B sc (o0 2) (o1 2) (o2 2) (h0 2) (h1 2) (h2 2) m fun m =>
        tile B sc (o0 3) (o1 3) (o2 3) (h0 3) (h1 3) (h2 3) m .ret

/-- The first tile's scores into slot 0. -/
def first (sc : F .f32) (k : FVec F SRow .f32 → Prog (TpuEff nD τ sig (Elt F) Λ .tc) α) : Prog (TpuEff nD τ sig (Elt F) Λ .tc) α :=
  .op (.load B.q (rT ![0, 0] (by intro a; fin_cases a <;> simp)).toLoadRect (View.loadsAt_vmem posTile)) fun (q : Vec F STile .f32) =>
  firstChunks B (weights sc q) k 15 0 rfl max0

/-- All the kernel's buffers: a stage's, the meta keys and values, the weights to fold and the folded ones. -/
structure Args (sig : RefSig) extends Bufs sig where
  km : Memref sig .tc .vmem SKm .bf16
  vm : Memref sig .tc .vmem SVm .bf16
  wo : Memref sig .tc .vmem SWo .f32
  go : Memref sig .tc .vmem SG .f32
  wf : Memref sig .tc .vmem SWf .f32
  gf : Memref sig .tc .vmem SG .f32
  wd : Memref sig .tc .vmem SWd .f32
  wo' : Memref sig .tc .vmem SWo .bf16
  wf' : Memref sig .tc .vmem SWf .bf16
  wd' : Memref sig .tc .vmem SWd .bf16
  hkx : kx.IsWhole
  hvx : vx.IsWhole
  hwo' : wo'.IsWhole
  hwf' : wf'.IsWhole
  hwd' : wd'.IsWhole

/-- The weights folded. -/
def fold (A : Args sig) (k : Prog (TpuEff nD τ sig (Elt F) Λ .tc) α) : Prog (TpuEff nD τ sig (Elt F) Λ .tc) α :=
  .op (.load A.wo (rAll2 64 1024).toLoadRect (View.loadsAt_vmem posWo)) fun (w : Vec F SWo .f32) =>
  .op (.load A.go (rAll2 64 1).toLoadRect (View.loadsAt_vmem posG)) fun (g : Vec F SG .f32) =>
  .op (.load A.wo' (rAll2 64 1024).toLoadRect (View.loadsAt_vmem posWo)) fun _ =>
  .op (.store A.wo' (rAll2 64 1024) (foldWo w g) Finset.univ (View.stores_vmem posWo (A.hwo'.storeExact_slice rfl _ packWo) (fun _ => rfl)) (.inl rfl)) fun _ =>
  .op (.load A.wf (rAll2 64 5632).toLoadRect (View.loadsAt_vmem posWf)) fun (w : Vec F SWf .f32) =>
  .op (.load A.gf (rAll2 64 1).toLoadRect (View.loadsAt_vmem posG)) fun (g : Vec F SG .f32) =>
  .op (.load A.wf' (rAll2 64 5632).toLoadRect (View.loadsAt_vmem posWf)) fun _ =>
  .op (.store A.wf' (rAll2 64 5632) (foldWf w g) Finset.univ (View.stores_vmem posWf (A.hwf'.storeExact_slice rfl _ packWf) (fun _ => rfl)) (.inl rfl)) fun _ =>
  .op (.load A.wd (rAll2 176 1024).toLoadRect (View.loadsAt_vmem posWd)) fun (w : Vec F SWd .f32) =>
  .op (.load A.wd' (rAll2 176 1024).toLoadRect (View.loadsAt_vmem posWd)) fun _ =>
  .op (.store A.wd' (rAll2 176 1024) (foldWd w) Finset.univ (View.stores_vmem posWd (A.hwd'.storeExact_slice rfl _ packWd) (fun _ => rfl)) (.inl rfl)) fun _ => k

/-- The last keys and the meta keys side by side, and their values. -/
def fill (A : Args sig) (k : Prog (TpuEff nD τ sig (Elt F) Λ .tc) α) : Prog (TpuEff nD τ sig (Elt F) Λ .tc) α :=
  .op (.load A.k rKl.toLoadRect (View.loadsAt_vmem posTile)) fun (x : Vec F STile .bf16) =>
  .op (.load A.kx rKx0.toLoadRect (View.loadsAt_vmem posTile)) fun _ =>
  .op (.store A.kx rKx0 (shapeCast STile (shapeCast STile x (by decide) : FVec F STile .bf16) (by decide)) Finset.univ (View.stores_vmem posTile (A.hkx.storeExact_slice rfl _ packKx0) (fun _ => rfl)) (.inl rfl)) fun _ =>
  .op (.load A.km (rAll2 16 128).toLoadRect (View.loadsAt_vmem posKm)) fun (x : Vec F SKm .bf16) =>
  .op (.load A.kx rKx1.toLoadRect (View.loadsAt_vmem posKm)) fun _ =>
  .op (.store A.kx rKx1 (shapeCast SKm (shapeCast SKm x (by decide) : FVec F SKm .bf16) (by decide)) Finset.univ (View.stores_vmem posKm (A.hkx.storeExact_slice rfl _ packKx1) (fun _ => rfl)) (.inl rfl)) fun _ =>
  .op (.load A.v rVl.toLoadRect (View.loadsAt_vmem posVc1)) fun (x : Vec F SVc1 .bf16) =>
  .op (.load A.vx rVx0.toLoadRect (View.loadsAt_vmem posVc)) fun _ =>
  .op (.store A.vx rVx0 (shapeCast SVc (shapeCast SVc x (by decide) : FVec F SVc .bf16) (by decide)) Finset.univ (View.stores_vmem posVc (A.hvx.storeExact_slice rfl _ packVx0) (fun _ => rfl)) (.inl rfl)) fun _ =>
  .op (.load A.vm rVm.toLoadRect (View.loadsAt_vmem posVm)) fun (x : Vec F SVm .bf16) =>
  .op (.load A.vx rVx1.toLoadRect (View.loadsAt_vmem posVm2)) fun _ =>
  .op (.store A.vx rVx1 (shapeCast SVm2 (shapeCast SVm2 x (by decide) : FVec F SVm2 .bf16) (by decide)) Finset.univ (View.stores_vmem posVm2 (A.hvx.storeExact_slice rfl _ packVx1) (fun _ => rfl)) (.inl rfl)) fun _ => k

/-- The whole body up to its loop. -/
def attn (A : Args sig) (sc : F .f32) (k : FVec F SRow .f32 → Prog (TpuEff nD τ sig (Elt F) Λ .tc) α) : Prog (TpuEff nD τ sig (Elt F) Λ .tc) α :=
  fold A (fill A (first A.toBufs sc k))

/-- A loop of the same region, bound alike, is the same program. -/
theorem loop_congr {β : Type} {L : Scf.Loop 32} {hL : L.OK} {m : FVec F SRow .f32} {b b' : Fin L.trips → FVec F SRow .f32 → Prog (TpuEff nD τ sig (Elt F) Λ .tc) (FVec F SRow .f32)}
    {k : FVec F SRow .f32 → Prog (TpuEff nD τ sig (Elt F) Λ .tc) β} (h : ∀ t m, b t m = b' t m) :
    (Scf.Loop.for L hL m b >>= k) = (Scf.Loop.for L hL m b' >>= k) := by
  obtain rfl : b = b' := funext fun t => funext fun m => h t m
  rfl

/-- Two programs that ask for the same effect and go on alike are the same. -/
theorem op_congr {β : Type} {e e' : TpuEff nD τ sig (Elt F) Λ .tc β} {k k' : β → Prog (TpuEff nD τ sig (Elt F) Λ .tc) α} (he : e = e') (h : ∀ x, k x = k' x) :
    Prog.op e k = Prog.op e' k' := by
  subst he; exact congrArg (Prog.op e) (funext h)

end Program

end Cert.Proof.Stage
end
-- ==== Proof.BodyBits.lean ====
/-
  The printed loop body is `Stage.trip`.
-/
module

public import proofs.«01_k».proof.Proof.Gen.Attn.Skeleton
public import proofs.«01_k».proof.Proof.Stage

@[expose] public section

set_option maxRecDepth 65536

noncomputable section

namespace Cert.Proof.BodyBits

open Cert.Attn Cert.Attn.Gen Cert.Proof.Stage
open Idealize.ShloMosaic Idealize.SL Idealize.SL.Sem

variable {F : FTy → Type} [FloatOps F]

/-- The kernel's operands, by their part in it. -/
def args (arg2 : Memref sig .tc .vmem S4096x256 .f32) (arg3 : Memref sig .tc .vmem S4096x128 .bf16) (arg4 : Memref sig .tc .vmem S1x1x80x4096 .bf16)
    (arg5 : Memref sig .tc .vmem S16x128 .bf16) (arg6 : Memref sig .tc .vmem S1x1x80x128 .bf16) (arg7 : Memref sig .tc .vmem S64x1024 .f32) (arg8 : Memref sig .tc .vmem S64x1 .f32)
    (arg9 : Memref sig .tc .vmem S64x5632 .f32) (arg10 : Memref sig .tc .vmem S64x1 .f32) (arg11 : Memref sig .tc .vmem S176x1024 .f32) (arg12 : Memref sig .tc .vmem S4096x256 .f32)
    (arg13 : Memref sig .tc .vmem S64x1024 .bf16) (harg13 : arg13.IsWhole) (arg14 : Memref sig .tc .vmem S64x5632 .bf16) (harg14 : arg14.IsWhole) (arg15 : Memref sig .tc .vmem S176x1024 .bf16) (harg15 : arg15.IsWhole)
    (arg16 : Memref sig .tc .vmem S272x128 .bf16) (harg16 : arg16.IsWhole) (arg17 : Memref sig .tc .vmem S80x384 .bf16) (harg17 : arg17.IsWhole) (arg18 : Memref sig .tc .vmem S2x4112x512 .f32) : Args sig where
  q := arg2
  k := arg3
  v := arg4
  o := arg12
  kx := arg16
  vx := arg17
  s := arg18
  km := arg5
  vm := arg6
  wo := arg7
  go := arg8
  wf := arg9
  gf := arg10
  wd := arg11
  wo' := arg13
  wf' := arg14
  wd' := arg15
  hkx := harg16
  hvx := harg17
  hwo' := harg13
  hwf' := harg14
  hwd' := harg15

set_option maxHeartbeats 0 in
theorem body_eq (i : grid0.Coords) (arg2 : Memref sig .tc .vmem S4096x256 .f32) (harg2 : arg2.IsWhole) (arg3 : Memref sig .tc .vmem S4096x128 .bf16) (harg3 : arg3.IsWhole) (arg4 : Memref sig .tc .vmem S1x1x80x4096 .bf16) (harg4 : arg4.IsWhole) (arg5 : Memref sig .tc .vmem S16x128 .bf16) (harg5 : arg5.IsWhole) (arg6 : Memref sig .tc .vmem S1x1x80x128 .bf16) (harg6 : arg6.IsWhole) (arg7 : Memref sig .tc .vmem S64x1024 .f32) (harg7 : arg7.IsWhole) (arg8 : Memref sig .tc .vmem S64x1 .f32) (harg8 : arg8.IsWhole) (arg9 : Memref sig .tc .vmem S64x5632 .f32) (harg9 : arg9.IsWhole) (arg10 : Memref sig .tc .vmem S64x1 .f32) (harg10 : arg10.IsWhole) (arg11 : Memref sig .tc .vmem S176x1024 .f32) (harg11 : arg11.IsWhole) (arg12 : Memref sig .tc .vmem S4096x256 .f32) (harg12 : arg12.IsWhole) (arg13 : Memref sig .tc .vmem S64x1024 .bf16) (harg13 : arg13.IsWhole) (arg14 : Memref sig .tc .vmem S64x5632 .bf16) (harg14 : arg14.IsWhole) (arg15 : Memref sig .tc .vmem S176x1024 .bf16) (harg15 : arg15.IsWhole) (arg16 : Memref sig .tc .vmem S272x128 .bf16) (harg16 : arg16.IsWhole) (arg17 : Memref sig .tc .vmem S80x384 .bf16) (harg17 : arg17.IsWhole) (arg18 : Memref sig .tc .vmem S2x4112x512 .f32) (harg18 : arg18.IsWhole) (t : Fin k0_t1_loop.trips) (m : FVec F S1x512 .f32) :
    k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 t m
      = trip (nD := nD) (τ := τ) (Λ := Λ₀) ⟨arg2, arg3, arg4, arg12, arg16, arg17, arg18⟩ (Scalar.ofBits .f32 0x3E38AA3B#32)
          (fun r => k0_off2 t (BitVec.ofNat 32 r.val)) (fun r => k0_off1 t (BitVec.ofNat 32 r.val)) (fun r => k0_off3 t (BitVec.ofNat 32 r.val))
          (Facts₀.k0_off2_inb t) (Facts₀.k0_off1_inb t) (Facts₀.k0_off3_inb t) m := by
  iterate 664
    refine op_congr ?_ (fun _ => ?_)
    · rfl
  rfl

set_option maxHeartbeats 0 in
theorem whole_eq (i : grid0.Coords) (arg2 : Memref sig .tc .vmem S4096x256 .f32) (harg2 : arg2.IsWhole) (arg3 : Memref sig .tc .vmem S4096x128 .bf16) (harg3 : arg3.IsWhole) (arg4 : Memref sig .tc .vmem S1x1x80x4096 .bf16) (harg4 : arg4.IsWhole) (arg5 : Memref sig .tc .vmem S16x128 .bf16) (harg5 : arg5.IsWhole) (arg6 : Memref sig .tc .vmem S1x1x80x128 .bf16) (harg6 : arg6.IsWhole) (arg7 : Memref sig .tc .vmem S64x1024 .f32) (harg7 : arg7.IsWhole) (arg8 : Memref sig .tc .vmem S64x1 .f32) (harg8 : arg8.IsWhole) (arg9 : Memref sig .tc .vmem S64x5632 .f32) (harg9 : arg9.IsWhole) (arg10 : Memref sig .tc .vmem S64x1 .f32) (harg10 : arg10.IsWhole) (arg11 : Memref sig .tc .vmem S176x1024 .f32) (harg11 : arg11.IsWhole) (arg12 : Memref sig .tc .vmem S4096x256 .f32) (harg12 : arg12.IsWhole) (arg13 : Memref sig .tc .vmem S64x1024 .bf16) (harg13 : arg13.IsWhole) (arg14 : Memref sig .tc .vmem S64x5632 .bf16) (harg14 : arg14.IsWhole) (arg15 : Memref sig .tc .vmem S176x1024 .bf16) (harg15 : arg15.IsWhole) (arg16 : Memref sig .tc .vmem S272x128 .bf16) (harg16 : arg16.IsWhole) (arg17 : Memref sig .tc .vmem S80x384 .bf16) (harg17 : arg17.IsWhole) (arg18 : Memref sig .tc .vmem S2x4112x512 .f32) (harg18 : arg18.IsWhole) :
    cc0_attention_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      = attn (nD := nD) (τ := τ) (Λ := Λ₀) (args arg2 arg3 arg4 arg5 arg6 arg7 arg8 arg9 arg10 arg11 arg12 arg13 harg13 arg14 harg14 arg15 harg15 arg16 harg16 arg17 harg17 arg18) (Scalar.ofBits .f32 0x3E38AA3B#32) (fun m => Scf.Loop.for k0_t1_loop k0_t1_ok m (fun t m =>
        trip (nD := nD) (τ := τ) (Λ := Λ₀) ⟨arg2, arg3, arg4, arg12, arg16, arg17, arg18⟩ (Scalar.ofBits .f32 0x3E38AA3B#32)
          (fun r => k0_off2 t (BitVec.ofNat 32 r.val)) (fun r => k0_off1 t (BitVec.ofNat 32 r.val)) (fun r => k0_off3 t (BitVec.ofNat 32 r.val))
          (Facts₀.k0_off2_inb t) (Facts₀.k0_off1_inb t) (Facts₀.k0_off3_inb t) m) >>= fun _ => .ret ⟨⟩) := by
  iterate 72
    refine op_congr ?_ (fun _ => ?_)
    · rfl
  exact loop_congr fun t m => body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 t m

end Cert.Proof.BodyBits
end
-- ==== Proof.StageRun.lean ====
/-
  What a stage leaves: the scores of the next tile's queries in one slot of the score buffer, and the running sum of the
  current tile's weighted values, each as a function of the contents of the buffers read.
-/
module

public import Idealize.ShloMosaic.Lib.Tactic
public import Idealize.ShloMosaic.Lib.ViewIndex
public import proofs.«01_k».proof.Proof.Stage

@[expose] public section

noncomputable section

namespace Cert.Proof.Stage

open Idealize.ShloMosaic Idealize.ShloMosaic.TcCoe Idealize.ShloMosaic.Tactic
open Idealize.SL
open Idealize.SL.BI (sProp)
open scoped Idealize.SL.BI
open Idealize.SL.BI.BIBase Idealize.SL.BI.Laws Idealize.SL.Sem Idealize.SL.ProofMode
open Idealize.SL.RA

/-! ## The rectangles of the score buffer are apart -/

theorem rS_rS (i j : Fin 2) (c d : Fin 15) (h : i ≠ j ∨ c ≠ d) : Disjoint (rS i c).set (rS j d).set := by
  rcases h with h | h
  · refine Rect.disjoint_of_separated _ _ (0 : Fin 3) ?_
    have : i.val ≠ j.val := fun e => h (Fin.ext e)
    show (1 = 0 ∨ i.val + 1 * (1 - 1) < j.val) ∨ (1 = 0 ∨ j.val + 1 * (1 - 1) < i.val)
    omega
  · refine Rect.disjoint_of_separated _ _ (1 : Fin 3) ?_
    have : c.val ≠ d.val := fun e => h (Fin.ext e)
    show (256 = 0 ∨ 256 * c.val + 1 * (256 - 1) < 256 * d.val) ∨ (256 = 0 ∨ 256 * d.val + 1 * (256 - 1) < 256 * c.val)
    omega

theorem rS_rSL (i j : Fin 2) (c : Fin 15) : Disjoint (rS i c).set (rSL j).set := by
  refine Rect.disjoint_of_separated _ _ (1 : Fin 3) ?_
  have := c.isLt
  show (256 = 0 ∨ 256 * c.val + 1 * (256 - 1) < 3840) ∨ (272 = 0 ∨ 3840 + 1 * (272 - 1) < 256 * c.val)
  omega

theorem rSL_rSL (i j : Fin 2) (h : i ≠ j) : Disjoint (rSL i).set (rSL j).set := by
  refine Rect.disjoint_of_separated _ _ (0 : Fin 3) ?_
  have : i.val ≠ j.val := fun e => h (Fin.ext e)
  show (1 = 0 ∨ i.val + 1 * (1 - 1) < j.val) ∨ (1 = 0 ∨ j.val + 1 * (1 - 1) < i.val)
  omega

section Read
variable {sig : RefSig} {F : FTy → Type} [FloatOps F]

/-- Reading one rectangle after another, apart from it, was written. -/
theorem read_write_apart {κ : Kind} {sp : Space} {sh : Shape} {e : EltTy} (v : View sig κ sp sh e) {r r' : Rect sh} (h : Disjoint r.set r'.set)
    (f : v.ty.Contents (Elt F)) (w : r'.shape.Idx → Elt F e) :
    (v.slice r).read (Elt F) ((v.slice r').write (Elt F) f w Finset.univ) = (v.slice r).read (Elt F) f :=
  View.read_slice_write_slice_of_disjoint _ _ _ _ _ (View.disjoint_slice h)
end Read

/-! ## The values, from the blocks read -/

section Blocks
variable {F : FTy → Type} [FloatOps F]
variable (K : Vec F SK .bf16) (V : Vec F SV .bf16) (KX : Vec F SKx .bf16) (VX : Vec F SVx .bf16)

/-- The scores of chunk `c`, and of the last rows. -/
def sc (w : FVec F SW .bf16) (c : Fin 15) : FVec F SCh .f32 := score w (fun x => K ((rK c).emb x))
def scL (w : FVec F SW .bf16) : FVec F SChL .f32 := scoreL w (fun x => KX (rKx.emb x))

/-- The column maximum over the first `n` chunks, and over all rows. -/
def mxTo (w : FVec F SW .bf16) : (n : ℕ) → n ≤ 15 → FVec F SRow .f32
  | 0, _ => max0
  | n + 1, h => maxStep (mxTo w n (Nat.le_of_succ_le h)) (sc K w ⟨n, h⟩)
def mxAll (w : FVec F SW .bf16) : FVec F SRow .f32 := maxStepL (mxTo K w 15 (le_refl 15)) (scL KX w)

/-- The weighted values over the first `n` chunks, and over all rows. -/
def acTo (w : FVec F SW .bf16) (m : FVec F SRow .f32) : (n : ℕ) → n ≤ 15 → FVec F SAcc .f32
  | 0, _ => acc0
  | n + 1, h => accStep m (acTo w m n (Nat.le_of_succ_le h)) (shapeCast SCh1 (sc K w ⟨n, h⟩) (by decide)) (fun x => V ((rV ⟨n, h⟩).emb x))
def acAll (w : FVec F SW .bf16) (m : FVec F SRow .f32) : FVec F SAcc .f32 :=
  accStepL m (acTo K V w m 15 (le_refl 15)) (shapeCast SChL1 (scL KX w) (by decide)) (fun x => VX (rVx.emb x))

end Blocks

/-! ## The contents of the score buffer -/

/-- What a memref reads of its buffer's contents. -/
abbrev rd {sig : RefSig} {F : FTy → Type} {sp : Space} {sh : Shape} {e : EltTy} (m : Memref sig .tc sp sh e) (f : m.view.ty.Contents (Elt F)) : Vec F sh e :=
  m.view.read (Elt F) f

section Values
variable {sig : RefSig} {F : FTy → Type} [FloatOps F] (B : Bufs sig)
variable (K : Vec F SK .bf16) (KX : Vec F SKx .bf16)

/-- Slot `i` of the score buffer's contents `f` holds the first `n` chunks of the scores of `w`; all of them. -/
def HoldsTo (w : FVec F SW .bf16) (i : Fin 2) (n : ℕ) (f : B.s.view.ty.Contents (Elt F)) : Prop :=
  ∀ c : Fin 15, c.val < n → (B.s.access (rS i c)).read (Elt F) f = shapeCast SCh1 (sc K w c) (by decide)
def Holds (w : FVec F SW .bf16) (i : Fin 2) (f : B.s.view.ty.Contents (Elt F)) : Prop :=
  HoldsTo B K w i 15 f ∧ (B.s.access (rSL i)).read (Elt F) f = shapeCast SChL1 (scL KX w) (by decide)

variable {B K KX} in
theorem HoldsTo.store {w : FVec F SW .bf16} {i : Fin 2} {n : ℕ} {f : B.s.view.ty.Contents (Elt F)} (H : HoldsTo B K w i n f) (h : n < 15) :
    HoldsTo B K w i (n + 1) ((B.s.access (rS i ⟨n, h⟩)).write (Elt F) f (shapeCast SCh1 (sc K w ⟨n, h⟩) (by decide)) Finset.univ) := by
  intro c hc
  by_cases e : c = ⟨n, h⟩
  · subst e; exact View.read_write_univ _ _
  · rw [read_write_apart B.s.view (rS_rS i i c ⟨n, h⟩ (.inr e))]
    exact H c (lt_of_le_of_ne (Nat.lt_succ_iff.mp hc) fun h' => e (Fin.ext h'))

variable {B K KX} in
theorem Holds.store_other {w : FVec F SW .bf16} {i j : Fin 2} {f : B.s.view.ty.Contents (Elt F)} (H : Holds B K KX w i f) (hij : i ≠ j) (d : Fin 15) (x) :
    Holds B K KX w i ((B.s.access (rS j d)).write (Elt F) f x Finset.univ) := by
  refine ⟨fun c hc => ?_, ?_⟩
  · rw [read_write_apart B.s.view (rS_rS i j c d (.inl hij))]; exact H.1 c hc
  · rw [read_write_apart B.s.view (rS_rSL j i d).symm]; exact H.2

variable {B K KX} in
theorem Holds.storeL_other {w : FVec F SW .bf16} {i j : Fin 2} {f : B.s.view.ty.Contents (Elt F)} (H : Holds B K KX w i f) (hij : i ≠ j) (x) :
    Holds B K KX w i ((B.s.access (rSL j)).write (Elt F) f x Finset.univ) := by
  refine ⟨fun c hc => ?_, ?_⟩
  · rw [read_write_apart B.s.view (rS_rSL i j c)]; exact H.1 c hc
  · rw [read_write_apart B.s.view (rSL_rSL i j hij)]; exact H.2

variable {B K KX} in
theorem HoldsTo.storeL {w : FVec F SW .bf16} {i : Fin 2} {f : B.s.view.ty.Contents (Elt F)} (H : HoldsTo B K w i 15 f) :
    Holds B K KX w i ((B.s.access (rSL i)).write (Elt F) f (shapeCast SChL1 (scL KX w) (by decide)) Finset.univ) := by
  refine ⟨fun c hc => ?_, View.read_write_univ _ _⟩
  rw [read_write_apart B.s.view (rS_rSL i i c)]; exact H c hc

end Values

/-! ## The run -/

section Run
variable {nD : ℕ} {τ : Topo} {sig : RefSig} {Λ : Labels} {F : FTy → Type} [FloatOps F] {U : Type} [URA U]
variable {defs : Defs nD τ sig (Elt F) Λ} (𝒱 : Variants) (c : Dev nD)
variable (B : Bufs sig) {α : Type}
variable (fq : B.q.view.ty.Contents (Elt F)) (fk : B.k.view.ty.Contents (Elt F)) (fv : B.v.view.ty.Contents (Elt F))
variable (fkx : B.kx.view.ty.Contents (Elt F)) (fvx : B.vx.view.ty.Contents (Elt F))

/-- The buffers a stage reads, at the contents `fq`, `fk`, `fv`, `fkx`, `fvx`. -/
def ins : sProp (MT nD τ sig Unit (Elt F) ℕ U ℕ) :=
  iprop((B.q.view.loc (c : Thread nD τ) ↦[B.q.view.set]{fullShare} fq) ∗ (B.k.view.loc (c : Thread nD τ) ↦[B.k.view.set]{fullShare} fk)
    ∗ (B.v.view.loc (c : Thread nD τ) ↦[B.v.view.set]{fullShare} fv) ∗ (B.kx.view.loc (c : Thread nD τ) ↦[B.kx.view.set]{fullShare} fkx)
    ∗ (B.vx.view.loc (c : Thread nD τ) ↦[B.vx.view.set]{fullShare} fvx))

/-- The score buffer at contents `f`. -/
abbrev atS (f : B.s.view.ty.Contents (Elt F)) : sProp (MT nD τ sig Unit (Elt F) ℕ U ℕ) :=
  (B.s.view.loc (c : Thread nD τ) ↦[B.s.view.set]{fullShare} f)
/-- The output buffer at contents `f`. -/
abbrev atO (f : B.o.view.ty.Contents (Elt F)) : sProp (MT nD τ sig Unit (Elt F) ℕ U ℕ) :=
  (B.o.view.loc (c : Thread nD τ) ↦[B.o.view.set]{fullShare} f)

variable {Q : α → sProp (MT nD τ sig Unit (Elt F) ℕ U ℕ)}

theorem wp_scoreChunk (w : FVec F SW .bf16) (slot : Fin 2) (d : Fin 15) (mx : FVec F SRow .f32)
    (k : FVec F SRow .f32 → Prog (TpuEff nD τ sig (Elt F) Λ .tc) α) (f : B.s.view.ty.Contents (Elt F)) :
    iprop(ins c B fq fk fv fkx fvx ∗ atS c B f) ⊢ iprop((ins c B fq fk fv fkx fvx
        ∗ atS c B ((B.s.access (rS slot d)).write (Elt F) f (shapeCast SCh1 (sc (rd B.k fk) w d) (by decide)) Finset.univ)
          -∗ wp frame (wpE defs 𝒱 (c : Thread nD τ) none) Set.univ (k (maxStep mx (sc (rd B.k fk) w d))) Q)
      -∗ wp frame (wpE defs 𝒱 (c : Thread nD τ) none) Set.univ (scoreChunk B w slot d mx k) Q) := by
  unfold ins scoreChunk
  iintro ⟨⟨Hq, Hk, Hv, Hkx, Hvx⟩, Hs⟩ K
  iapply (wp_load_rect (m := B.k) (r := rK d) 𝒱 (c : Thread nD τ) none Set.univ (View.set_slice_subset _ _)) $$ Hk
  iintro Hk
  iapply (wp_load_rect (m := B.s) (r := rS slot d) 𝒱 (c : Thread nD τ) none Set.univ (View.set_slice_subset _ _)) $$ Hs
  iintro Hs
  iapply (wp_store (m := B.s) (r := rS slot d) 𝒱 (c : Thread nD τ) none Set.univ (View.set_slice_subset _ _)) $$ Hs
  iintro Hs
  iapply K
  isplitl [Hq Hk Hv Hkx Hvx]
  · isplitl [Hq]; · iexact Hq
    isplitl [Hk]; · iexact Hk
    isplitl [Hv]; · iexact Hv
    isplitl [Hkx]; · iexact Hkx
    iexact Hvx
  iexact Hs

theorem wp_scoreChunkL (w : FVec F SW .bf16) (slot : Fin 2) (mx : FVec F SRow .f32)
    (k : FVec F SRow .f32 → Prog (TpuEff nD τ sig (Elt F) Λ .tc) α) (f : B.s.view.ty.Contents (Elt F)) :
    iprop(ins c B fq fk fv fkx fvx ∗ atS c B f) ⊢ iprop((ins c B fq fk fv fkx fvx
        ∗ atS c B ((B.s.access (rSL slot)).write (Elt F) f (shapeCast SChL1 (scL (rd B.kx fkx) w) (by decide)) Finset.univ)
          -∗ wp frame (wpE defs 𝒱 (c : Thread nD τ) none) Set.univ (k (maxStepL mx (scL (rd B.kx fkx) w))) Q)
      -∗ wp frame (wpE defs 𝒱 (c : Thread nD τ) none) Set.univ (scoreChunkL B w slot mx k) Q) := by
  unfold ins scoreChunkL
  iintro ⟨⟨Hq, Hk, Hv, Hkx, Hvx⟩, Hs⟩ K
  iapply (wp_load_rect (m := B.kx) (r := rKx) 𝒱 (c : Thread nD τ) none Set.univ (View.set_slice_subset _ _)) $$ Hkx
  iintro Hkx
  iapply (wp_load_rect (m := B.s) (r := rSL slot) 𝒱 (c : Thread nD τ) none Set.univ (View.set_slice_subset _ _)) $$ Hs
  iintro Hs
  iapply (wp_store (m := B.s) (r := rSL slot) 𝒱 (c : Thread nD τ) none Set.univ (View.set_slice_subset _ _)) $$ Hs
  iintro Hs
  iapply K
  isplitl [Hq Hk Hv Hkx Hvx]
  · isplitl [Hq]; · iexact Hq
    isplitl [Hk]; · iexact Hk
    isplitl [Hv]; · iexact Hv
    isplitl [Hkx]; · iexact Hkx
    iexact Hvx
  iexact Hs

theorem wp_valChunk (m : FVec F SRow .f32) (slot : Fin 2) (d : Fin 15) (acc : FVec F SAcc .f32)
    (k : FVec F SAcc .f32 → Prog (TpuEff nD τ sig (Elt F) Λ .tc) α) (f : B.s.view.ty.Contents (Elt F))
    (x : Vec F SCh1 .f32) (hx : (B.s.access (rS slot d)).read (Elt F) f = x) :
    iprop(ins c B fq fk fv fkx fvx ∗ atS c B f) ⊢ iprop((ins c B fq fk fv fkx fvx ∗ atS c B f
          -∗ wp frame (wpE defs 𝒱 (c : Thread nD τ) none) Set.univ (k (accStep m acc x (fun x => rd B.v fv ((rV d).emb x)))) Q)
      -∗ wp frame (wpE defs 𝒱 (c : Thread nD τ) none) Set.univ (valChunk B m slot d acc k) Q) := by
  subst hx
  unfold ins valChunk
  iintro ⟨⟨Hq, Hk, Hv, Hkx, Hvx⟩, Hs⟩ K
  iapply (wp_load_rect (m := B.s) (r := rS slot d) 𝒱 (c : Thread nD τ) none Set.univ (View.set_slice_subset _ _)) $$ Hs
  iintro Hs
  iapply (wp_load_rect (m := B.v) (r := rV d) 𝒱 (c : Thread nD τ) none Set.univ (View.set_slice_subset _ _)) $$ Hv
  iintro Hv
  iapply K
  isplitl [Hq Hk Hv Hkx Hvx]
  · isplitl [Hq]; · iexact Hq
    isplitl [Hk]; · iexact Hk
    isplitl [Hv]; · iexact Hv
    isplitl [Hkx]; · iexact Hkx
    iexact Hvx
  iexact Hs

theorem wp_valChunkL (m : FVec F SRow .f32) (slot : Fin 2) (acc : FVec F SAcc .f32)
    (k : FVec F SAcc .f32 → Prog (TpuEff nD τ sig (Elt F) Λ .tc) α) (f : B.s.view.ty.Contents (Elt F))
    (x : Vec F SChL1 .f32) (hx : (B.s.access (rSL slot)).read (Elt F) f = x) :
    iprop(ins c B fq fk fv fkx fvx ∗ atS c B f) ⊢ iprop((ins c B fq fk fv fkx fvx ∗ atS c B f
          -∗ wp frame (wpE defs 𝒱 (c : Thread nD τ) none) Set.univ (k (accStepL m acc x (fun x => rd B.vx fvx (rVx.emb x)))) Q)
      -∗ wp frame (wpE defs 𝒱 (c : Thread nD τ) none) Set.univ (valChunkL B m slot acc k) Q) := by
  subst hx
  unfold ins valChunkL
  iintro ⟨⟨Hq, Hk, Hv, Hkx, Hvx⟩, Hs⟩ K
  iapply (wp_load_rect (m := B.s) (r := rSL slot) 𝒱 (c : Thread nD τ) none Set.univ (View.set_slice_subset _ _)) $$ Hs
  iintro Hs
  iapply (wp_load_rect (m := B.vx) (r := rVx) 𝒱 (c : Thread nD τ) none Set.univ (View.set_slice_subset _ _)) $$ Hvx
  iintro Hvx
  iapply K
  isplitl [Hq Hk Hv Hkx Hvx]
  · isplitl [Hq]; · iexact Hq
    isplitl [Hk]; · iexact Hk
    isplitl [Hv]; · iexact Hv
    isplitl [Hkx]; · iexact Hkx
    iexact Hvx
  iexact Hs

theorem wp_firstChunks (w : FVec F SW .bf16) (k : FVec F SRow .f32 → Prog (TpuEff nD τ sig (Elt F) Λ .tc) α) :
    ∀ (n d : ℕ) (h : d + n = 15) (f : B.s.view.ty.Contents (Elt F)), HoldsTo B (rd B.k fk) w 0 d f →
    iprop(ins c B fq fk fv fkx fvx ∗ atS c B f) ⊢ iprop((∀ f', ⌜Holds B (rd B.k fk) (rd B.kx fkx) w 0 f'⌝ -∗ (ins c B fq fk fv fkx fvx ∗ atS c B f')
          -∗ wp frame (wpE defs 𝒱 (c : Thread nD τ) none) Set.univ (k (mxAll (rd B.k fk) (rd B.kx fkx) w)) Q)
      -∗ wp frame (wpE defs 𝒱 (c : Thread nD τ) none) Set.univ (firstChunks B w k n d h (mxTo (rd B.k fk) w d (by omega))) Q)
  | 0, d, h, f, H => by
    obtain rfl : d = 15 := by omega
    unfold firstChunks
    iintro HI K
    iapply (wp_scoreChunkL 𝒱 c B fq fk fv fkx fvx w 0 _ k f) $$ HI
    iintro HI
    iapply K $$ [] HI
    ipureintro; exact H.storeL
  | n + 1, d, h, f, H => by
    unfold firstChunks
    iintro HI K
    iapply (wp_scoreChunk 𝒱 c B fq fk fv fkx fvx w 0 _ _ _ f) $$ HI
    iintro HI
    iapply (wp_firstChunks w k n (d + 1) (by omega) _ (H.store (by omega))) $$ HI
    iexact K

theorem wp_stageChunks (w wc : FVec F SW .bf16) (nx cu : Fin 2) (hn : nx ≠ cu) (m : FVec F SRow .f32)
    (k : FVec F SRow .f32 → FVec F SAcc .f32 → Prog (TpuEff nD τ sig (Elt F) Λ .tc) α) :
    ∀ (n d : ℕ) (h : d + n = 15) (f : B.s.view.ty.Contents (Elt F)), HoldsTo B (rd B.k fk) w nx d f → Holds B (rd B.k fk) (rd B.kx fkx) wc cu f →
    iprop(ins c B fq fk fv fkx fvx ∗ atS c B f) ⊢ iprop((∀ f', ⌜Holds B (rd B.k fk) (rd B.kx fkx) w nx f'⌝ -∗ (ins c B fq fk fv fkx fvx ∗ atS c B f')
          -∗ wp frame (wpE defs 𝒱 (c : Thread nD τ) none) Set.univ (k (mxAll (rd B.k fk) (rd B.kx fkx) w) (acAll (rd B.k fk) (rd B.v fv) (rd B.kx fkx) (rd B.vx fvx) wc m)) Q)
      -∗ wp frame (wpE defs 𝒱 (c : Thread nD τ) none) Set.univ
        (stageChunks B w nx cu m k n d h (mxTo (rd B.k fk) w d (by omega)) (acTo (rd B.k fk) (rd B.v fv) wc m d (by omega))) Q)
  | 0, d, h, f, H, H' => by
    obtain rfl : d = 15 := by omega
    unfold stageChunks
    iintro HI K
    iapply (wp_scoreChunkL 𝒱 c B fq fk fv fkx fvx w nx _ _ f) $$ HI
    iintro HI
    iapply (wp_valChunkL 𝒱 c B fq fk fv fkx fvx m cu _ _ _ _ (H'.storeL_other hn.symm _).2) $$ HI
    iintro HI
    iapply K $$ [] HI
    ipureintro; exact H.storeL
  | n + 1, d, h, f, H, H' => by
    unfold stageChunks
    iintro HI K
    iapply (wp_scoreChunk 𝒱 c B fq fk fv fkx fvx w nx _ _ _ f) $$ HI
    iintro HI
    iapply (wp_valChunk 𝒱 c B fq fk fv fkx fvx m cu _ _ _ _ _ ((H'.store_other hn.symm _ _).1 ⟨d, by omega⟩ (by show d < 15; omega))) $$ HI
    iintro HI
    iapply (wp_stageChunks w wc nx cu hn m k n (d + 1) (by omega) _ (H.store (by omega)) (H'.store_other hn.symm _ _)) $$ HI
    iexact K

/-- One half of a tile: with `cu` holding the scores of `wc`, the queries at `oq` are scored into `nx`, and the output
    tile of `wc` under the maximum `m` is written at `oo`. -/
theorem wp_halfTile (scale : F .f32) (wc : FVec F SW .bf16) (nx cu : Fin 2) (hn : nx ≠ cu) (oq oo : Fin 2 → ℕ) (hq : ∀ a, oq a + STile.size a ≤ SQ.size a)
    (ho : ∀ a, oo a + STile.size a ≤ SQ.size a) (m : FVec F SRow .f32) (k : FVec F SRow .f32 → Prog (TpuEff nD τ sig (Elt F) Λ .tc) α)
    (f : B.s.view.ty.Contents (Elt F)) (g : B.o.view.ty.Contents (Elt F)) (H : Holds B (rd B.k fk) (rd B.kx fkx) wc cu f) :
    iprop(ins c B fq fk fv fkx fvx ∗ atS c B f ∗ atO c B g) ⊢ iprop((∀ f', ⌜Holds B (rd B.k fk) (rd B.kx fkx) (weights scale (fun x => rd B.q fq ((rT oq hq).emb x))) nx f'⌝
          -∗ (ins c B fq fk fv fkx fvx ∗ atS c B f' ∗ atO c B ((B.o.access (rT oo ho)).write (Elt F) g (outTile (acAll (rd B.k fk) (rd B.v fv) (rd B.kx fkx) (rd B.vx fvx) wc m)) Finset.univ))
          -∗ wp frame (wpE defs 𝒱 (c : Thread nD τ) none) Set.univ (k (mxAll (rd B.k fk) (rd B.kx fkx) (weights scale (fun x => rd B.q fq ((rT oq hq).emb x))))) Q)
      -∗ wp frame (wpE defs 𝒱 (c : Thread nD τ) none) Set.univ (halfTile B scale nx cu oq oo hq ho m k) Q) := by
  unfold halfTile
  iintro ⟨HI, Hs, Ho⟩ K
  unfold ins
  icases HI with ⟨Hq, HI⟩
  iapply (wp_load_rect (m := B.q) (r := rT oq hq) 𝒱 (c : Thread nD τ) none Set.univ (View.set_slice_subset _ _)) $$ Hq
  iintro Hq
  ihave HI := (show iprop((B.q.view.loc (c : Thread nD τ) ↦[B.q.view.set]{fullShare} fq) ∗ (B.k.view.loc (c : Thread nD τ) ↦[B.k.view.set]{fullShare} fk)
    ∗ (B.v.view.loc (c : Thread nD τ) ↦[B.v.view.set]{fullShare} fv) ∗ (B.kx.view.loc (c : Thread nD τ) ↦[B.kx.view.set]{fullShare} fkx)
    ∗ (B.vx.view.loc (c : Thread nD τ) ↦[B.vx.view.set]{fullShare} fvx)) ⊢ ins (U := U) c B fq fk fv fkx fvx from .rfl) $$ [Hq HI]
  · isplitl [Hq]; · iexact Hq
    iexact HI
  iapply (wp_stageChunks 𝒱 c B fq fk fv fkx fvx (weights scale (fun x => rd B.q fq ((rT oq hq).emb x))) wc nx cu hn m _ 15 0 rfl f
    (fun _ h => absurd h (Nat.not_lt_zero _)) H) $$ [HI Hs]
  · isplitl [HI]; · iexact HI
    iexact Hs
  iintro %f' %hf ⟨HI, Hs⟩
  iapply (wp_load_rect (m := B.o) (r := rT oo ho) 𝒱 (c : Thread nD τ) none Set.univ (View.set_slice_subset _ _)) $$ Ho
  iintro Ho
  iapply (wp_store (m := B.o) (r := rT oo ho) 𝒱 (c : Thread nD τ) none Set.univ (View.set_slice_subset _ _)) $$ Ho
  iintro Ho
  iapply K $$ [] [HI Hs Ho]
  · ipureintro; exact hf
  isplitl [HI]; · unfold ins; iexact HI
  isplitl [Hs]; · iexact Hs
  iexact Ho

end Run

end Cert.Proof.Stage
end
-- ==== Proof.StageLoop.lean ====
/-
  The loop over a block's tiles, and the whole body: from the blocks of queries, keys, values, meta keys and values, and
  weights, to the block of attention outputs and the folded weights.
-/
module

public import Idealize.ShloMosaic.Lib.Memref
public import Idealize.ShloMosaic.Lib.Scf
public import Idealize.ShloMosaic.Lib.ValueIdxCore
public import proofs.«01_k».proof.Proof.StageRun

@[expose] public section

noncomputable section

namespace Cert.Proof.Stage

open Idealize.ShloMosaic Idealize.ShloMosaic.TcCoe Idealize.ShloMosaic.Tactic Idealize.ShloMosaic.ValueIdx
open Idealize.SL
open Idealize.SL.BI (sProp)
open scoped Idealize.SL.BI
open Idealize.SL.BI.BIBase Idealize.SL.BI.Laws Idealize.SL.Sem Idealize.SL.ProofMode
open Idealize.SL.RA

/-! ## The 32 half tiles in the order they are written -/

/-- Half tile `h`'s corner: tile `h / 2`, heads `h % 2`. -/
def tOff (h : Fin 32) : Fin 2 → ℕ := ![256 * (h.val / 2), 128 * (h.val % 2)]
theorem tOff_inb (h : Fin 32) : ∀ a, tOff h a + STile.size a ≤ SQ.size a := by
  have := h.isLt
  intro a; fin_cases a
  · show 256 * (h.val / 2) + 256 ≤ 4096; omega
  · show 128 * (h.val % 2) + 128 ≤ 256; omega
abbrev rO (h : Fin 32) : Rect SQ := rT (tOff h) (tOff_inb h)
theorem rO_rO (h h' : Fin 32) (e : h ≠ h') : Disjoint (rO h).set (rO h').set := by
  have e' : h.val ≠ h'.val := fun x => e (Fin.ext x)
  by_cases q : h.val / 2 = h'.val / 2
  · refine Rect.unit_disjoint (1 : Fin 2) ?_
    show 128 * (h.val % 2) + 128 ≤ 128 * (h'.val % 2) ∨ 128 * (h'.val % 2) + 128 ≤ 128 * (h.val % 2)
    omega
  · refine Rect.unit_disjoint (0 : Fin 2) ?_
    show 256 * (h.val / 2) + 256 ≤ 256 * (h'.val / 2) ∨ 256 * (h'.val / 2) + 256 ≤ 256 * (h.val / 2)
    omega

/-- The half tile scored before half tile `n` is written: `n` itself; past the last, the last tile's first again. -/
def nq (n : ℕ) : Fin 32 := if h : n < 32 then ⟨n, h⟩ else 30

/-- The slot half tile `n`'s scores are in. -/
def slotOf (n : ℕ) : Fin 2 := ⟨n % 2, Nat.mod_lt _ (by decide)⟩
theorem slotOf_ne (n : ℕ) : slotOf (n + 1) ≠ slotOf n := fun h => by
  have : (n + 1) % 2 = n % 2 := congrArg Fin.val h
  omega

/-- The half tile an element of the block is in, and its place there. -/
def hOf (i : SQ.Idx) : Fin 32 := ⟨2 * ((i 0).val / 256) + (i 1).val / 128, by
  have h0 : (i 0).val < 4096 := (i 0).isLt
  have h1 : (i 1).val < 256 := (i 1).isLt
  omega⟩
def lOf (i : SQ.Idx) : STile.Idx := ix2 (⟨(i 0).val % 256, Nat.mod_lt _ (by decide)⟩ : Fin 256) (⟨(i 1).val % 128, Nat.mod_lt _ (by decide)⟩ : Fin 128)
theorem emb_hOf (i : SQ.Idx) : (rO (hOf i)).emb (lOf i) = i := by
  have h0 : (i 0).val < 4096 := (i 0).isLt
  have h1 : (i 1).val < 256 := (i 1).isLt
  funext a; apply Fin.ext
  fin_cases a
  · show 256 * ((2 * ((i 0).val / 256) + (i 1).val / 128) / 2) + 1 * ((i 0).val % 256) = (i 0).val; omega
  · show 128 * ((2 * ((i 0).val / 256) + (i 1).val / 128) % 2) + 1 * ((i 1).val % 128) = (i 1).val; omega

section Blocks
variable {F : FTy → Type} [FloatOps F] (scale : F .f32)
variable (Q : Vec F SQ .f32) (K : Vec F SK .bf16) (V : Vec F SV .bf16) (KX : Vec F SKx .bf16) (VX : Vec F SVx .bf16)

/-- Half tile `h`'s queries as the score product takes them, -/
def wOf (h : Fin 32) : FVec F SW .bf16 := weights scale (fun x => Q ((rO h).emb x))
/-- its maximum, -/
def mOf (h : Fin 32) : FVec F SRow .f32 := mxAll K KX (wOf scale Q h)
/-- and its output. -/
def tileOut (h : Fin 32) : FVec F STile .f32 := outTile (acAll K V KX VX (wOf scale Q h) (mOf scale Q K KX h))
/-- The block of outputs. -/
def blockOut : Vec F SQ .f32 := fun i => tileOut scale Q K V KX VX (hOf i) (lOf i)

end Blocks

/-! ## The loop -/

section Run
variable {nD : ℕ} {τ : Topo} {sig : RefSig} {Λ : Labels} {F : FTy → Type} [FloatOps F] {U : Type} [URA U]
variable {defs : Defs nD τ sig (Elt F) Λ} (𝒱 : Variants) (c : Dev nD)
variable (B : Bufs sig) {α : Type} (scale : F .f32)
variable (fq : B.q.view.ty.Contents (Elt F)) (fk : B.k.view.ty.Contents (Elt F)) (fv : B.v.view.ty.Contents (Elt F))
variable (fkx : B.kx.view.ty.Contents (Elt F)) (fvx : B.vx.view.ty.Contents (Elt F))

/-- Before half tile `n` is written: its scores are in its slot, their maximum carried, the ones before it written. -/
def Inv (n : ℕ) (m : FVec F SRow .f32) : sProp (MT nD τ sig Unit (Elt F) ℕ U ℕ) :=
  iprop(∃ f g, ⌜m = mOf scale (rd B.q fq) (rd B.k fk) (rd B.kx fkx) (nq n)
      ∧ Holds B (rd B.k fk) (rd B.kx fkx) (wOf scale (rd B.q fq) (nq n)) (slotOf n) f
      ∧ ∀ h : Fin 32, h.val < n → (B.o.access (rO h)).read (Elt F) g = tileOut scale (rd B.q fq) (rd B.k fk) (rd B.v fv) (rd B.kx fkx) (rd B.vx fvx) h⌝
    ∗ ins c B fq fk fv fkx fvx ∗ atS c B f ∗ atO c B g)

variable {Q : α → sProp (MT nD τ sig Unit (Elt F) ℕ U ℕ)}

theorem wp_half (n : ℕ) (hn : n < 32) (nx cu : Fin 2) (hnx : nx = slotOf (n + 1)) (hcu : cu = slotOf n)
    (oq oo : Fin 2 → ℕ) (hq : ∀ a, oq a + STile.size a ≤ SQ.size a) (ho : ∀ a, oo a + STile.size a ≤ SQ.size a)
    (eq : oq = tOff (nq (n + 1))) (eo : oo = tOff ⟨n, hn⟩) (m : FVec F SRow .f32) (k : FVec F SRow .f32 → Prog (TpuEff nD τ sig (Elt F) Λ .tc) α) :
    Inv c B scale fq fk fv fkx fvx n m ⊢ iprop((∀ m', Inv c B scale fq fk fv fkx fvx (n + 1) m'
          -∗ wp frame (wpE defs 𝒱 (c : Thread nD τ) none) Set.univ (k m') Q)
      -∗ wp frame (wpE defs 𝒱 (c : Thread nD τ) none) Set.univ (halfTile B scale nx cu oq oo hq ho m k) Q) := by
  subst hnx hcu eq eo
  have hnq : nq n = ⟨n, hn⟩ := by unfold nq; rw [dif_pos hn]
  unfold Inv
  iintro ⟨%f, %g, %H, HI⟩ K
  obtain ⟨rfl, Hf, Hg⟩ := H
  rw [hnq] at Hf ⊢
  iapply (wp_halfTile 𝒱 c B fq fk fv fkx fvx scale _ (slotOf (n + 1)) (slotOf n) (slotOf_ne n) (tOff (nq (n + 1))) (tOff ⟨n, hn⟩) hq ho _ k f g Hf) $$ HI
  iintro %f' %Hf' HI
  iapply K
  iexists f', _
  isplitr; swap; · iexact HI
  ipureintro
  refine ⟨rfl, Hf', fun h hh => ?_⟩
  by_cases e : h = ⟨n, hn⟩
  · subst e; exact View.read_write_univ _ _
  · exact (read_write_apart B.o.view (rO_rO h ⟨n, hn⟩ e) g _).trans (Hg h (lt_of_le_of_ne (Nat.lt_succ_iff.mp hh) fun x => e (Fin.ext x)))

theorem wp_tile (j : ℕ) (hj : j < 16) (o0 o1 o2 : Fin 2 → ℕ) (h0 : ∀ a, o0 a + STile.size a ≤ SQ.size a)
    (h1 : ∀ a, o1 a + STile.size a ≤ SQ.size a) (h2 : ∀ a, o2 a + STile.size a ≤ SQ.size a)
    (e0 : o0 = tOff ⟨2 * j, by omega⟩) (e1 : o1 = tOff ⟨2 * j + 1, by omega⟩) (e2 : o2 = tOff (nq (2 * j + 2)))
    (m : FVec F SRow .f32) (k : FVec F SRow .f32 → Prog (TpuEff nD τ sig (Elt F) Λ .tc) α) :
    Inv c B scale fq fk fv fkx fvx (2 * j) m ⊢ iprop((∀ m', Inv c B scale fq fk fv fkx fvx (2 * (j + 1)) m'
          -∗ wp frame (wpE defs 𝒱 (c : Thread nD τ) none) Set.univ (k m') Q)
      -∗ wp frame (wpE defs 𝒱 (c : Thread nD τ) none) Set.univ (tile B scale o0 o1 o2 h0 h1 h2 m k) Q) := by
  unfold tile
  iintro HI K
  iapply (wp_half 𝒱 c B scale fq fk fv fkx fvx (2 * j) (by omega) 1 0 (Fin.ext (by show 1 = (2 * j + 1) % 2; omega)) (Fin.ext (by show 0 = (2 * j) % 2; omega))
    o1 o0 h1 h0 (e1.trans (congrArg tOff (by unfold nq; rw [dif_pos (by omega)]))) e0 m _) $$ HI
  iintro %m' HI
  iapply (wp_half 𝒱 c B scale fq fk fv fkx fvx (2 * j + 1) (by omega) 0 1 (Fin.ext (by show 0 = (2 * j + 1 + 1) % 2; omega)) (Fin.ext (by show 1 = (2 * j + 1) % 2; omega))
    o2 o1 h2 h1 e2 e1 m' _) $$ HI
  iexact K

theorem wp_trip (t : ℕ) (ht : t < 4) (o0 o1 o2 : Fin 4 → Fin 2 → ℕ) (h0 : ∀ r a, o0 r a + STile.size a ≤ SQ.size a)
    (h1 : ∀ r a, o1 r a + STile.size a ≤ SQ.size a) (h2 : ∀ r a, o2 r a + STile.size a ≤ SQ.size a)
    (e0 : ∀ r : Fin 4, o0 r = tOff ⟨2 * (4 * t + r.val), by omega⟩) (e1 : ∀ r : Fin 4, o1 r = tOff ⟨2 * (4 * t + r.val) + 1, by omega⟩)
    (e2 : ∀ r : Fin 4, o2 r = tOff (nq (2 * (4 * t + r.val) + 2))) (m : FVec F SRow .f32) :
    Inv (U := U) c B scale fq fk fv fkx fvx (2 * (4 * t)) m
      ⊢ wp frame (wpE defs 𝒱 (c : Thread nD τ) none) Set.univ (trip B scale o0 o1 o2 h0 h1 h2 m) (Inv (U := U) c B scale fq fk fv fkx fvx (2 * (4 * (t + 1)))) := by
  unfold trip
  iintro HI
  iapply (wp_tile 𝒱 c B scale fq fk fv fkx fvx (4 * t) (by omega) _ _ _ _ _ _ (e0 0) (e1 0) (e2 0) m _) $$ HI
  iintro %m HI
  iapply (wp_tile 𝒱 c B scale fq fk fv fkx fvx (4 * t + 1) (by omega) _ _ _ _ _ _ (e0 1) (e1 1) (e2 1) m _) $$ HI
  iintro %m HI
  iapply (wp_tile 𝒱 c B scale fq fk fv fkx fvx (4 * t + 2) (by omega) _ _ _ _ _ _ (e0 2) (e1 2) (e2 2) m _) $$ HI
  iintro %m HI
  iapply (wp_tile 𝒱 c B scale fq fk fv fkx fvx (4 * t + 3) (by omega) _ _ _ _ _ _ (e0 3) (e1 3) (e2 3) m _) $$ HI
  iintro %m HI
  iapply (le_wp_ret _ _ _ m _)
  iexact HI

end Run

end Cert.Proof.Stage
end
-- ==== Proof.StageBody.lean ====
/-
  The whole body: the folded weights, the last keys and values beside the meta ones, the first half tile's scores, and the
  loop, from blocks owned at any contents to blocks owned at their values.
-/
module

public import proofs.«01_k».proof.Proof.StageLoop

@[expose] public section

set_option maxRecDepth 16384

noncomputable section

namespace Cert.Proof.Stage

open Idealize.ShloMosaic Idealize.ShloMosaic.TcCoe Idealize.ShloMosaic.Tactic Idealize.ShloMosaic.ValueIdx
open Idealize.SL
open Idealize.SL.BI (sProp)
open scoped Idealize.SL.BI
open Idealize.SL.BI.BIBase Idealize.SL.BI.Laws Idealize.SL.Sem Idealize.SL.ProofMode
open Idealize.SL.RA

/-! ## The last keys and the meta keys, side by side -/

section Blocks
variable {F : FTy → Type}

/-- The last 256 keys, and under them the 16 meta keys. -/
def kxOf (K : Vec F SK .bf16) (KM : Vec F SKm .bf16) : Vec F SKx .bf16 := fun i =>
  if h : (i 0).val < 256 then
    shapeCast STile (shapeCast STile (fun x => K (rKl.emb x) : Vec F STile .bf16) (by decide) : Vec F STile .bf16) (by decide)
      (ix2 (⟨(i 0).val, h⟩ : Fin 256) (i 1 : Fin 128))
  else
    shapeCast SKm (shapeCast SKm KM (by decide) : Vec F SKm .bf16) (by decide)
      (ix2 (⟨(i 0).val - 256, by have : (i 0).val < 272 := (i 0).isLt; omega⟩ : Fin 16) (i 1 : Fin 128))

/-- The last 256 values' columns, and beside them the padded meta values'. -/
def vxOf (V : Vec F SV .bf16) (VM : Vec F SVm .bf16) : Vec F SVx .bf16 := fun i =>
  if h : (i 1).val < 256 then
    shapeCast SVc (shapeCast SVc (fun x => V (rVl.emb x) : Vec F SVc1 .bf16) (by decide) : Vec F SVc .bf16) (by decide)
      (ix2 (i 0 : Fin 80) (⟨(i 1).val, h⟩ : Fin 256))
  else
    shapeCast SVm2 (shapeCast SVm2 VM (by decide) : Vec F SVm2 .bf16) (by decide)
      (ix2 (i 0 : Fin 80) (⟨(i 1).val - 256, by have : (i 1).val < 384 := (i 1).isLt; omega⟩ : Fin 128))

theorem rKx0_rKx1 : Disjoint rKx0.set rKx1.set := Rect.unit_disjoint (0 : Fin 2) (.inl (by decide))
theorem rVx0_rVx1 : Disjoint rVx0.set rVx1.set := Rect.unit_disjoint (1 : Fin 2) (.inl (by decide))

/-- The whole of a matrix holds every element in its own place. -/
theorem emb_all {m n : ℕ} (x : (rAll2 m n).shape.Idx) : (rAll2 m n).emb x = x := by
  funext a; apply Fin.ext
  fin_cases a
  · show 0 + 1 * (x 0).val = (x 0).val; omega
  · show 0 + 1 * (x 1).val = (x 1).val; omega
theorem emb_vm (x : rVm.shape.Idx) : rVm.emb x = x := by
  funext a; apply Fin.ext
  fin_cases a
  · show 0 + 1 * (x 0).val = (x 0).val; omega
  · show 0 + 1 * (x 1).val = (x 1).val; omega
  · show 0 + 1 * (x 2).val = (x 2).val; omega
  · show 0 + 1 * (x 3).val = (x 3).val; omega

/-- Reading the whole of a matrix. -/
theorem read_all {sig : RefSig} {m n : ℕ} {e : EltTy} (v : View sig .tc .vmem ⟨2, ![m, n]⟩ e) (f : v.ty.Contents (Elt F)) :
    (v.slice (rAll2 m n)).read (Elt F) f = v.read (Elt F) f :=
  funext fun x => congrArg (v.read (Elt F) f) (emb_all x)
theorem read_vm {sig : RefSig} {e : EltTy} (v : View sig .tc .vmem SVm e) (f : v.ty.Contents (Elt F)) :
    (v.slice rVm).read (Elt F) f = v.read (Elt F) f :=
  funext fun x => congrArg (v.read (Elt F) f) (emb_vm x)

/-- Writing the whole of one. -/
theorem read_write_all {sig : RefSig} {m n : ℕ} {e : EltTy} (v : View sig .tc .vmem ⟨2, ![m, n]⟩ e) (f : v.ty.Contents (Elt F))
    (w : (rAll2 m n).shape.Idx → Elt F e) : v.read (Elt F) ((v.slice (rAll2 m n)).write (Elt F) f w Finset.univ) = w := by
  rw [← read_all v]; exact View.read_write_univ _ _

theorem read_kx [FloatOps F] {sig : RefSig} (v : View sig .tc .vmem SKx .bf16) (f : v.ty.Contents (Elt F)) (K : Vec F SK .bf16) (KM : Vec F SKm .bf16) :
    v.read (Elt F) ((v.slice rKx1).write (Elt F) ((v.slice rKx0).write (Elt F) f
      (shapeCast STile (shapeCast STile (fun x => K (rKl.emb x) : Vec F STile .bf16) (by decide) : Vec F STile .bf16) (by decide)) Finset.univ)
      (shapeCast SKm (shapeCast SKm KM (by decide) : Vec F SKm .bf16) (by decide)) Finset.univ) = kxOf K KM := by
  funext i
  have hi : (i 0).val < 272 := (i 0).isLt
  by_cases h : (i 0).val < 256
  · have e : rKx0.emb (ix2 (⟨(i 0).val, h⟩ : Fin 256) (i 1 : Fin 128)) = i := by
      funext a; apply Fin.ext; fin_cases a
      · show 0 + 1 * (i 0).val = (i 0).val; omega
      · show 0 + 1 * (i 1).val = (i 1).val; omega
    have := congrFun ((read_write_apart v rKx0_rKx1 ((v.slice rKx0).write (Elt F) f
      (shapeCast STile (shapeCast STile (fun x => K (rKl.emb x) : Vec F STile .bf16) (by decide) : Vec F STile .bf16) (by decide)) Finset.univ)
      (shapeCast SKm (shapeCast SKm KM (by decide) : Vec F SKm .bf16) (by decide))).trans (View.read_write_univ _ _)) (ix2 (⟨(i 0).val, h⟩ : Fin 256) (i 1 : Fin 128))
    unfold kxOf; rw [dif_pos h, ← this]
    exact congrArg _ e.symm
  · have e : rKx1.emb (ix2 (⟨(i 0).val - 256, by omega⟩ : Fin 16) (i 1 : Fin 128)) = i := by
      funext a; apply Fin.ext; fin_cases a
      · show 256 + 1 * ((i 0).val - 256) = (i 0).val; omega
      · show 0 + 1 * (i 1).val = (i 1).val; omega
    have := congrFun (View.read_write_univ (v := v.slice rKx1) ((v.slice rKx0).write (Elt F) f
      (shapeCast STile (shapeCast STile (fun x => K (rKl.emb x) : Vec F STile .bf16) (by decide) : Vec F STile .bf16) (by decide)) Finset.univ)
      (shapeCast SKm (shapeCast SKm KM (by decide) : Vec F SKm .bf16) (by decide))) (ix2 (⟨(i 0).val - 256, by omega⟩ : Fin 16) (i 1 : Fin 128))
    unfold kxOf; rw [dif_neg h, ← this]
    exact congrArg _ e.symm

theorem read_vx [FloatOps F] {sig : RefSig} (v : View sig .tc .vmem SVx .bf16) (f : v.ty.Contents (Elt F)) (V : Vec F SV .bf16) (VM : Vec F SVm .bf16) :
    v.read (Elt F) ((v.slice rVx1).write (Elt F) ((v.slice rVx0).write (Elt F) f
      (shapeCast SVc (shapeCast SVc (fun x => V (rVl.emb x) : Vec F SVc1 .bf16) (by decide) : Vec F SVc .bf16) (by decide)) Finset.univ)
      (shapeCast SVm2 (shapeCast SVm2 VM (by decide) : Vec F SVm2 .bf16) (by decide)) Finset.univ) = vxOf V VM := by
  funext i
  have hi : (i 1).val < 384 := (i 1).isLt
  by_cases h : (i 1).val < 256
  · have e : rVx0.emb (ix2 (i 0 : Fin 80) (⟨(i 1).val, h⟩ : Fin 256)) = i := by
      funext a; apply Fin.ext; fin_cases a
      · show 0 + 1 * (i 0).val = (i 0).val; omega
      · show 0 + 1 * (i 1).val = (i 1).val; omega
    have := congrFun ((read_write_apart v rVx0_rVx1 ((v.slice rVx0).write (Elt F) f
      (shapeCast SVc (shapeCast SVc (fun x => V (rVl.emb x) : Vec F SVc1 .bf16) (by decide) : Vec F SVc .bf16) (by decide)) Finset.univ)
      (shapeCast SVm2 (shapeCast SVm2 VM (by decide) : Vec F SVm2 .bf16) (by decide))).trans (View.read_write_univ _ _)) (ix2 (i 0 : Fin 80) (⟨(i 1).val, h⟩ : Fin 256))
    unfold vxOf; rw [dif_pos h, ← this]
    exact congrArg _ e.symm
  · have e : rVx1.emb (ix2 (i 0 : Fin 80) (⟨(i 1).val - 256, by omega⟩ : Fin 128)) = i := by
      funext a; apply Fin.ext; fin_cases a
      · show 0 + 1 * (i 0).val = (i 0).val; omega
      · show 256 + 1 * ((i 1).val - 256) = (i 1).val; omega
    have := congrFun (View.read_write_univ (v := v.slice rVx1) ((v.slice rVx0).write (Elt F) f
      (shapeCast SVc (shapeCast SVc (fun x => V (rVl.emb x) : Vec F SVc1 .bf16) (by decide) : Vec F SVc .bf16) (by decide)) Finset.univ)
      (shapeCast SVm2 (shapeCast SVm2 VM (by decide) : Vec F SVm2 .bf16) (by decide))) (ix2 (i 0 : Fin 80) (⟨(i 1).val - 256, by omega⟩ : Fin 128))
    unfold vxOf; rw [dif_neg h, ← this]
    exact congrArg _ e.symm

end Blocks

section Run
variable {nD : ℕ} {τ : Topo} {sig : RefSig} {Λ : Labels} {F : FTy → Type} [FloatOps F] {U : Type} [URA U]
variable {defs : Defs nD τ sig (Elt F) Λ} (𝒱 : Variants) (c : Dev nD)
variable (A : Args sig) {α : Type} (scale : F .f32)

/-- A buffer owned whole at `X`. -/
abbrev own {sh : Shape} {e : EltTy} (m : Memref sig .tc .vmem sh e) (X : sh.Idx → Elt F e) : sProp (MT nD τ sig Unit (Elt F) ℕ U ℕ) :=
  owns (c : Thread nD τ) m fullShare X
/-- A buffer owned whole at contents of any kind. -/
abbrev ownAny {sh : Shape} {e : EltTy} (m : Memref sig .tc .vmem sh e) : sProp (MT nD τ sig Unit (Elt F) ℕ U ℕ) :=
  iprop(∃ X, own c m X)

variable {Q : α → sProp (MT nD τ sig Unit (Elt F) ℕ U ℕ)}

/-- The folded weights. -/
theorem wp_fold (wo : Vec F SWo .f32) (go : Vec F SG .f32) (wf : Vec F SWf .f32) (gf : Vec F SG .f32) (wd : Vec F SWd .f32)
    (k : Prog (TpuEff nD τ sig (Elt F) Λ .tc) α) :
    iprop(own c A.wo wo ∗ own c A.go go ∗ own c A.wf wf ∗ own c A.gf gf ∗ own c A.wd wd ∗ ownAny c A.wo' ∗ ownAny c A.wf' ∗ ownAny c A.wd')
    ⊢ iprop((own c A.wo wo ∗ own c A.go go ∗ own c A.wf wf ∗ own c A.gf gf ∗ own c A.wd wd ∗ own c A.wo' (foldWo wo go) ∗ own c A.wf' (foldWf wf gf) ∗ own c A.wd' (foldWd wd)
        -∗ wp frame (wpE defs 𝒱 (c : Thread nD τ) none) Set.univ k Q)
      -∗ wp frame (wpE defs 𝒱 (c : Thread nD τ) none) Set.univ (fold A k) Q) := by
  unfold fold ownAny own owns
  iintro ⟨⟨%f1, %e1, H1⟩, ⟨%f2, %e2, H2⟩, ⟨%f3, %e3, H3⟩, ⟨%f4, %e4, H4⟩, ⟨%f5, %e5, H5⟩, ⟨%x6, %f6, %e6, H6⟩, ⟨%x7, %f7, %e7, H7⟩, %x8, %f8, %e8, H8⟩ K
  iapply (wp_load_rect (m := A.wo) (r := rAll2 64 1024) 𝒱 (c : Thread nD τ) none Set.univ (View.set_slice_subset _ _)) $$ H1; iintro H1
  iapply (wp_load_rect (m := A.go) (r := rAll2 64 1) 𝒱 (c : Thread nD τ) none Set.univ (View.set_slice_subset _ _)) $$ H2; iintro H2
  iapply (wp_load_rect (m := A.wo') (r := rAll2 64 1024) 𝒱 (c : Thread nD τ) none Set.univ (View.set_slice_subset _ _)) $$ H6; iintro H6
  iapply (wp_store (m := A.wo') (r := rAll2 64 1024) 𝒱 (c : Thread nD τ) none Set.univ (View.set_slice_subset _ _)) $$ H6; iintro H6
  iapply (wp_load_rect (m := A.wf) (r := rAll2 64 5632) 𝒱 (c : Thread nD τ) none Set.univ (View.set_slice_subset _ _)) $$ H3; iintro H3
  iapply (wp_load_rect (m := A.gf) (r := rAll2 64 1) 𝒱 (c : Thread nD τ) none Set.univ (View.set_slice_subset _ _)) $$ H4; iintro H4
  iapply (wp_load_rect (m := A.wf') (r := rAll2 64 5632) 𝒱 (c : Thread nD τ) none Set.univ (View.set_slice_subset _ _)) $$ H7; iintro H7
  iapply (wp_store (m := A.wf') (r := rAll2 64 5632) 𝒱 (c : Thread nD τ) none Set.univ (View.set_slice_subset _ _)) $$ H7; iintro H7
  iapply (wp_load_rect (m := A.wd) (r := rAll2 176 1024) 𝒱 (c : Thread nD τ) none Set.univ (View.set_slice_subset _ _)) $$ H5; iintro H5
  iapply (wp_load_rect (m := A.wd') (r := rAll2 176 1024) 𝒱 (c : Thread nD τ) none Set.univ (View.set_slice_subset _ _)) $$ H8; iintro H8
  iapply (wp_store (m := A.wd') (r := rAll2 176 1024) 𝒱 (c : Thread nD τ) none Set.univ (View.set_slice_subset _ _)) $$ H8; iintro H8
  iapply K
  isplitl [H1]; · iexists _; isplitr; swap; · iexact H1
                  ipureintro; exact e1
  isplitl [H2]; · iexists _; isplitr; swap; · iexact H2
                  ipureintro; exact e2
  isplitl [H3]; · iexists _; isplitr; swap; · iexact H3
                  ipureintro; exact e3
  isplitl [H4]; · iexists _; isplitr; swap; · iexact H4
                  ipureintro; exact e4
  isplitl [H5]; · iexists _; isplitr; swap; · iexact H5
                  ipureintro; exact e5
  isplitl [H6]
  · iexists _; isplitr; swap; · iexact H6
    ipureintro; exact (read_write_all A.wo'.view _ _).trans (congrArg₂ foldWo ((read_all A.wo.view f1).trans e1) ((read_all A.go.view f2).trans e2))
  isplitl [H7]
  · iexists _; isplitr; swap; · iexact H7
    ipureintro; exact (read_write_all A.wf'.view _ _).trans (congrArg₂ foldWf ((read_all A.wf.view f3).trans e3) ((read_all A.gf.view f4).trans e4))
  · iexists _; isplitr; swap; · iexact H8
    ipureintro; exact (read_write_all A.wd'.view _ _).trans (congrArg foldWd ((read_all A.wd.view f5).trans e5))

/-- The last keys and values beside the meta ones. -/
theorem wp_fill (K : Vec F SK .bf16) (KM : Vec F SKm .bf16) (V : Vec F SV .bf16) (VM : Vec F SVm .bf16)
    (k : Prog (TpuEff nD τ sig (Elt F) Λ .tc) α) :
    iprop(own c A.k K ∗ own c A.km KM ∗ own c A.v V ∗ own c A.vm VM ∗ ownAny c A.kx ∗ ownAny c A.vx)
    ⊢ iprop((own c A.k K ∗ own c A.km KM ∗ own c A.v V ∗ own c A.vm VM ∗ own c A.kx (kxOf K KM) ∗ own c A.vx (vxOf V VM)
        -∗ wp frame (wpE defs 𝒱 (c : Thread nD τ) none) Set.univ k Q)
      -∗ wp frame (wpE defs 𝒱 (c : Thread nD τ) none) Set.univ (fill A k) Q) := by
  unfold fill ownAny own owns
  iintro ⟨⟨%f1, %e1, H1⟩, ⟨%f2, %e2, H2⟩, ⟨%f3, %e3, H3⟩, ⟨%f4, %e4, H4⟩, ⟨%x5, %f5, %e5, H5⟩, %x6, %f6, %e6, H6⟩ K
  iapply (wp_load_rect (m := A.k) (r := rKl) 𝒱 (c : Thread nD τ) none Set.univ (View.set_slice_subset _ _)) $$ H1; iintro H1
  iapply (wp_load_rect (m := A.kx) (r := rKx0) 𝒱 (c : Thread nD τ) none Set.univ (View.set_slice_subset _ _)) $$ H5; iintro H5
  iapply (wp_store (m := A.kx) (r := rKx0) 𝒱 (c : Thread nD τ) none Set.univ (View.set_slice_subset _ _)) $$ H5; iintro H5
  iapply (wp_load_rect (m := A.km) (r := rAll2 16 128) 𝒱 (c : Thread nD τ) none Set.univ (View.set_slice_subset _ _)) $$ H2; iintro H2
  iapply (wp_load_rect (m := A.kx) (r := rKx1) 𝒱 (c : Thread nD τ) none Set.univ (View.set_slice_subset _ _)) $$ H5; iintro H5
  iapply (wp_store (m := A.kx) (r := rKx1) 𝒱 (c : Thread nD τ) none Set.univ (View.set_slice_subset _ _)) $$ H5; iintro H5
  iapply (wp_load_rect (m := A.v) (r := rVl) 𝒱 (c : Thread nD τ) none Set.univ (View.set_slice_subset _ _)) $$ H3; iintro H3
  iapply (wp_load_rect (m := A.vx) (r := rVx0) 𝒱 (c : Thread nD τ) none Set.univ (View.set_slice_subset _ _)) $$ H6; iintro H6
  iapply (wp_store (m := A.vx) (r := rVx0) 𝒱 (c : Thread nD τ) none Set.univ (View.set_slice_subset _ _)) $$ H6; iintro H6
  iapply (wp_load_rect (m := A.vm) (r := rVm) 𝒱 (c : Thread nD τ) none Set.univ (View.set_slice_subset _ _)) $$ H4; iintro H4
  iapply (wp_load_rect (m := A.vx) (r := rVx1) 𝒱 (c : Thread nD τ) none Set.univ (View.set_slice_subset _ _)) $$ H6; iintro H6
  iapply (wp_store (m := A.vx) (r := rVx1) 𝒱 (c : Thread nD τ) none Set.univ (View.set_slice_subset _ _)) $$ H6; iintro H6
  iapply K
  subst e1 e2 e3 e4
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]
  · iexists _; isplitr; swap; · iexact H5
    ipureintro
    rw [← read_kx A.kx.view f5 (A.k.view.read (Elt F) f1), ← read_all A.km.view]; rfl
  · iexists _; isplitr; swap; · iexact H6
    ipureintro
    rw [← read_vx A.vx.view f6 (A.v.view.read (Elt F) f3), ← read_vm A.vm.view]; rfl

/-- The first half tile's scores: the invariant before anything is written. -/
theorem wp_first (B : Bufs sig) (fq : B.q.view.ty.Contents (Elt F)) (fk : B.k.view.ty.Contents (Elt F)) (fv : B.v.view.ty.Contents (Elt F))
    (fkx : B.kx.view.ty.Contents (Elt F)) (fvx : B.vx.view.ty.Contents (Elt F)) (f : B.s.view.ty.Contents (Elt F)) (g : B.o.view.ty.Contents (Elt F))
    (k : FVec F SRow .f32 → Prog (TpuEff nD τ sig (Elt F) Λ .tc) α) :
    iprop(ins c B fq fk fv fkx fvx ∗ atS c B f ∗ atO c B g) ⊢ iprop((∀ m, Inv c B scale fq fk fv fkx fvx 0 m
          -∗ wp frame (wpE defs 𝒱 (c : Thread nD τ) none) Set.univ (k m) Q)
      -∗ wp frame (wpE defs 𝒱 (c : Thread nD τ) none) Set.univ (first B scale k) Q) := by
  unfold first
  iintro ⟨HI, Hs, Ho⟩ K
  unfold ins
  icases HI with ⟨Hq, Hk, Hv, Hkx, Hvx⟩
  iapply (wp_load_rect (m := B.q) (r := rO 0) 𝒱 (c : Thread nD τ) none Set.univ (View.set_slice_subset _ _)) $$ Hq
  iintro Hq
  iapply (wp_firstChunks 𝒱 c B fq fk fv fkx fvx (wOf scale (rd B.q fq) 0) _ 15 0 rfl f (fun _ h => absurd h (Nat.not_lt_zero _))) $$ [Hq Hk Hv Hkx Hvx Hs]
  · unfold ins
    isplitr [Hs]; swap; · iexact Hs
    isplitl [Hq]; · iexact Hq
    isplitl [Hk]; · iexact Hk
    isplitl [Hv]; · iexact Hv
    isplitl [Hkx]; · iexact Hkx
    iexact Hvx
  iintro %f' %Hf ⟨HI, Hs⟩
  iapply K
  unfold Inv
  iexists f', g
  isplitr
  · ipureintro; exact ⟨rfl, Hf, fun h hh => absurd hh (Nat.not_lt_zero _)⟩
  isplitl [HI]; · iexact HI
  isplitl [Hs]; · iexact Hs
  iexact Ho

variable (L : Scf.Loop 32) (hL : L.OK) (o0 o1 o2 : Fin L.trips → Fin 4 → Fin 2 → ℕ)
  (h0 : ∀ t r a, o0 t r a + STile.size a ≤ SQ.size a) (h1 : ∀ t r a, o1 t r a + STile.size a ≤ SQ.size a) (h2 : ∀ t r a, o2 t r a + STile.size a ≤ SQ.size a)

/-- The body from its loop on. -/
def loopBody (B : Bufs sig) (m : FVec F SRow .f32) : Prog (TpuEff nD τ sig (Elt F) Λ .tc) PUnit :=
  Scf.Loop.for L hL m (fun t m => trip B scale (o0 t) (o1 t) (o2 t) (h0 t) (h1 t) (h2 t) m) >>= fun _ => .ret ⟨⟩

theorem wp_loop (hT : L.trips = 4) (e0 : ∀ t (r : Fin 4), o0 t r = tOff (nq (2 * (4 * t.val + r.val)))) (e1 : ∀ t (r : Fin 4), o1 t r = tOff (nq (2 * (4 * t.val + r.val) + 1)))
    (e2 : ∀ t (r : Fin 4), o2 t r = tOff (nq (2 * (4 * t.val + r.val) + 2)))
    (B : Bufs sig) (fq : B.q.view.ty.Contents (Elt F)) (fk : B.k.view.ty.Contents (Elt F)) (fv : B.v.view.ty.Contents (Elt F))
    (fkx : B.kx.view.ty.Contents (Elt F)) (fvx : B.vx.view.ty.Contents (Elt F)) (m : FVec F SRow .f32)
    {Q : PUnit → sProp (MT nD τ sig Unit (Elt F) ℕ U ℕ)} :
    Inv c B scale fq fk fv fkx fvx 0 m ⊢ iprop((∀ m', Inv c B scale fq fk fv fkx fvx 32 m' -∗ Q ⟨⟩)
      -∗ wp frame (wpE defs 𝒱 (c : Thread nD τ) none) Set.univ (loopBody scale L hL o0 o1 o2 h0 h1 h2 B m) Q) := by
  unfold loopBody
  iintro HI K
  iapply (Scf.wp_for_bind frame (wpE defs 𝒱 (c : Thread nD τ) none) Set.univ L.lb L.ub L.st hL m _
    (fun n m => Inv c B scale fq fk fv fkx fvx (2 * (4 * n)) m) fun t m => by
      have ht : t.val < 4 := lt_of_lt_of_eq t.isLt hT
      exact wp_trip 𝒱 c B scale fq fk fv fkx fvx t.val ht (o0 t) (o1 t) (o2 t) (h0 t) (h1 t) (h2 t)
        (fun r => (e0 t r).trans (congrArg tOff (by unfold nq; rw [dif_pos (by omega)])))
        (fun r => (e1 t r).trans (congrArg tOff (by unfold nq; rw [dif_pos (by omega)]))) (e2 t) m) $$ HI
  iintro %m' HI
  iapply (le_wp_ret _ _ _ _ _)
  iapply K
  rw [show 2 * (4 * Scf.trips L.lb L.ub L.st) = 32 from by rw [show Scf.trips L.lb L.ub L.st = 4 from hT]]
  iexact HI

/-- The whole body. -/
theorem wp_attn (hT : L.trips = 4) (e0 : ∀ t (r : Fin 4), o0 t r = tOff (nq (2 * (4 * t.val + r.val)))) (e1 : ∀ t (r : Fin 4), o1 t r = tOff (nq (2 * (4 * t.val + r.val) + 1)))
    (e2 : ∀ t (r : Fin 4), o2 t r = tOff (nq (2 * (4 * t.val + r.val) + 2)))
    (xq : Vec F SQ .f32) (K : Vec F SK .bf16) (V : Vec F SV .bf16) (KM : Vec F SKm .bf16) (VM : Vec F SVm .bf16)
    (wo : Vec F SWo .f32) (go : Vec F SG .f32) (wf : Vec F SWf .f32) (gf : Vec F SG .f32) (wd : Vec F SWd .f32)
    {Q : PUnit → sProp (MT nD τ sig Unit (Elt F) ℕ U ℕ)} :
    iprop((own c A.q xq ∗ own c A.k K ∗ own c A.v V ∗ own c A.km KM ∗ own c A.vm VM
        ∗ own c A.wo wo ∗ own c A.go go ∗ own c A.wf wf ∗ own c A.gf gf ∗ own c A.wd wd)
      ∗ (ownAny c A.o ∗ ownAny c A.wo' ∗ ownAny c A.wf' ∗ ownAny c A.wd') ∗ ownAny c A.kx ∗ ownAny c A.vx ∗ ownAny c A.s)
    ⊢ iprop(((own c A.q xq ∗ own c A.k K ∗ own c A.v V ∗ own c A.km KM ∗ own c A.vm VM
        ∗ own c A.wo wo ∗ own c A.go go ∗ own c A.wf wf ∗ own c A.gf gf ∗ own c A.wd wd)
      ∗ (own c A.o (blockOut scale xq K V (kxOf K KM) (vxOf V VM)) ∗ own c A.wo' (foldWo wo go) ∗ own c A.wf' (foldWf wf gf) ∗ own c A.wd' (foldWd wd))
      ∗ ownAny c A.kx ∗ ownAny c A.vx ∗ ownAny c A.s -∗ Q ⟨⟩)
      -∗ wp frame (wpE defs 𝒱 (c : Thread nD τ) none) Set.univ (attn A scale (loopBody scale L hL o0 o1 o2 h0 h1 h2 A.toBufs)) Q) := by
  unfold attn
  iintro ⟨⟨Hq, Hk, Hv, Hkm, Hvm, Hwo, Hgo, Hwf, Hgf, Hwd⟩, ⟨Ho, Hwo', Hwf', Hwd'⟩, Hkx, Hvx, Hs⟩ Hend
  iapply (wp_fold 𝒱 c A wo go wf gf wd _) $$ [Hwo Hgo Hwf Hgf Hwd Hwo' Hwf' Hwd']
  · isplitl [Hwo]; · iexact Hwo
    isplitl [Hgo]; · iexact Hgo
    isplitl [Hwf]; · iexact Hwf
    isplitl [Hgf]; · iexact Hgf
    isplitl [Hwd]; · iexact Hwd
    isplitl [Hwo']; · iexact Hwo'
    isplitl [Hwf']; · iexact Hwf'
    iexact Hwd'
  iintro ⟨Hwo, Hgo, Hwf, Hgf, Hwd, Hwo', Hwf', Hwd'⟩
  iapply (wp_fill 𝒱 c A K KM V VM _) $$ [Hk Hkm Hv Hvm Hkx Hvx]
  · isplitl [Hk]; · iexact Hk
    isplitl [Hkm]; · iexact Hkm
    isplitl [Hv]; · iexact Hv
    isplitl [Hvm]; · iexact Hvm
    isplitl [Hkx]; · iexact Hkx
    iexact Hvx
  iintro ⟨Hk, Hkm, Hv, Hvm, Hkx, Hvx⟩
  unfold ownAny own owns
  icases Hq with ⟨%fq, %eq, Hq⟩
  icases Hk with ⟨%fk, %ek, Hk⟩
  icases Hv with ⟨%fv, %ev, Hv⟩
  icases Hkx with ⟨%fkx, %ekx, Hkx⟩
  icases Hvx with ⟨%fvx, %evx, Hvx⟩
  icases Hs with ⟨%xs, %fs, %es, Hs⟩
  icases Ho with ⟨%xo, %fo, %eo, Ho⟩
  iapply (wp_first 𝒱 c scale A.toBufs fq fk fv fkx fvx fs fo _) $$ [Hq Hk Hv Hkx Hvx Hs Ho]
  · unfold ins
    isplitr [Hs Ho]
    · isplitl [Hq]; · iexact Hq
      isplitl [Hk]; · iexact Hk
      isplitl [Hv]; · iexact Hv
      isplitl [Hkx]; · iexact Hkx
      iexact Hvx
    isplitl [Hs]; · iexact Hs
    iexact Ho
  iintro %m HI
  iapply (wp_loop 𝒱 c scale L hL o0 o1 o2 h0 h1 h2 hT e0 e1 e2 A.toBufs fq fk fv fkx fvx m) $$ HI
  iintro %m' HI
  iapply Hend
  unfold Inv ins
  icases HI with ⟨%f, %g, %H, ⟨Hq, Hk, Hv, Hkx, Hvx⟩, Hs, Ho⟩
  isplitl [Hq Hk Hv Hkm Hvm Hwo Hgo Hwf Hgf Hwd]
  · isplitl [Hq]; · iexists fq; isplitr; swap; · iexact Hq
                    ipureintro; exact eq
    isplitl [Hk]; · iexists fk; isplitr; swap; · iexact Hk
                    ipureintro; exact ek
    isplitl [Hv]; · iexists fv; isplitr; swap; · iexact Hv
                    ipureintro; exact ev
    isplitl [Hkm]; · iexact Hkm
    isplitl [Hvm]; · iexact Hvm
    isplitl [Hwo]; · iexact Hwo
    isplitl [Hgo]; · iexact Hgo
    isplitl [Hwf]; · iexact Hwf
    isplitl [Hgf]; · iexact Hgf
    iexact Hwd
  isplitl [Ho Hwo' Hwf' Hwd']
  · isplitl [Ho]
    · iexists g; isplitr; swap; · iexact Ho
      ipureintro
      funext i
      subst eq ek ev
      have := congrFun (H.2.2 (hOf i) (hOf i).isLt) (lOf i)
      unfold blockOut
      rw [← ekx, ← evx, ← this]
      exact congrArg _ (emb_hOf i).symm
    isplitl [Hwo']; · iexact Hwo'
    isplitl [Hwf']; · iexact Hwf'
    iexact Hwd'
  isplitl [Hkx]
  · iexists _, fkx; isplitr; swap; · iexact Hkx
    ipureintro; rfl
  isplitl [Hvx]
  · iexists _, fvx; isplitr; swap; · iexact Hvx
    ipureintro; rfl
  · iexists _, f; isplitr; swap; · iexact Hs
    ipureintro; rfl

end Run

end Cert.Proof.Stage
end
-- ==== Proof.BodyIdeal.lean ====
/-
  The printed loop body is `Stage.trip`.
-/
module

public import proofs.«01_k».proof.Proof.Gen.AttnIdeal.Skeleton
public import proofs.«01_k».proof.Proof.Stage

@[expose] public section

set_option maxRecDepth 65536

noncomputable section

namespace Cert.Proof.BodyIdeal

open Cert.AttnIdeal Cert.AttnIdeal.Gen Cert.Proof.Stage
open Idealize.ShloMosaic Idealize.SL Idealize.SL.Sem

variable {F : FTy → Type} [FloatOps F] [Named F]

/-- The kernel's operands, by their part in it. -/
def args (arg2 : Memref sig .tc .vmem S4096x256 .f32) (arg3 : Memref sig .tc .vmem S4096x128 .bf16) (arg4 : Memref sig .tc .vmem S1x1x80x4096 .bf16)
    (arg5 : Memref sig .tc .vmem S16x128 .bf16) (arg6 : Memref sig .tc .vmem S1x1x80x128 .bf16) (arg7 : Memref sig .tc .vmem S64x1024 .f32) (arg8 : Memref sig .tc .vmem S64x1 .f32)
    (arg9 : Memref sig .tc .vmem S64x5632 .f32) (arg10 : Memref sig .tc .vmem S64x1 .f32) (arg11 : Memref sig .tc .vmem S176x1024 .f32) (arg12 : Memref sig .tc .vmem S4096x256 .f32)
    (arg13 : Memref sig .tc .vmem S64x1024 .bf16) (harg13 : arg13.IsWhole) (arg14 : Memref sig .tc .vmem S64x5632 .bf16) (harg14 : arg14.IsWhole) (arg15 : Memref sig .tc .vmem S176x1024 .bf16) (harg15 : arg15.IsWhole)
    (arg16 : Memref sig .tc .vmem S272x128 .bf16) (harg16 : arg16.IsWhole) (arg17 : Memref sig .tc .vmem S80x384 .bf16) (harg17 : arg17.IsWhole) (arg18 : Memref sig .tc .vmem S2x4112x512 .f32) : Args sig where
  q := arg2
  k := arg3
  v := arg4
  o := arg12
  kx := arg16
  vx := arg17
  s := arg18
  km := arg5
  vm := arg6
  wo := arg7
  go := arg8
  wf := arg9
  gf := arg10
  wd := arg11
  wo' := arg13
  wf' := arg14
  wd' := arg15
  hkx := harg16
  hvx := harg17
  hwo' := harg13
  hwf' := harg14
  hwd' := harg15

set_option maxHeartbeats 0 in
theorem body_eq (i : grid0.Coords) (arg2 : Memref sig .tc .vmem S4096x256 .f32) (harg2 : arg2.IsWhole) (arg3 : Memref sig .tc .vmem S4096x128 .bf16) (harg3 : arg3.IsWhole) (arg4 : Memref sig .tc .vmem S1x1x80x4096 .bf16) (harg4 : arg4.IsWhole) (arg5 : Memref sig .tc .vmem S16x128 .bf16) (harg5 : arg5.IsWhole) (arg6 : Memref sig .tc .vmem S1x1x80x128 .bf16) (harg6 : arg6.IsWhole) (arg7 : Memref sig .tc .vmem S64x1024 .f32) (harg7 : arg7.IsWhole) (arg8 : Memref sig .tc .vmem S64x1 .f32) (harg8 : arg8.IsWhole) (arg9 : Memref sig .tc .vmem S64x5632 .f32) (harg9 : arg9.IsWhole) (arg10 : Memref sig .tc .vmem S64x1 .f32) (harg10 : arg10.IsWhole) (arg11 : Memref sig .tc .vmem S176x1024 .f32) (harg11 : arg11.IsWhole) (arg12 : Memref sig .tc .vmem S4096x256 .f32) (harg12 : arg12.IsWhole) (arg13 : Memref sig .tc .vmem S64x1024 .bf16) (harg13 : arg13.IsWhole) (arg14 : Memref sig .tc .vmem S64x5632 .bf16) (harg14 : arg14.IsWhole) (arg15 : Memref sig .tc .vmem S176x1024 .bf16) (harg15 : arg15.IsWhole) (arg16 : Memref sig .tc .vmem S272x128 .bf16) (harg16 : arg16.IsWhole) (arg17 : Memref sig .tc .vmem S80x384 .bf16) (harg17 : arg17.IsWhole) (arg18 : Memref sig .tc .vmem S2x4112x512 .f32) (harg18 : arg18.IsWhole) (t : Fin k0_t1_loop.trips) (m : FVec F S1x512 .f32) :
    k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 t m
      = trip (nD := nD) (τ := τ) (Λ := Λ₀) ⟨arg2, arg3, arg4, arg12, arg16, arg17, arg18⟩ (Named.named κ "scale" 0x3E38AA3B#32)
          (fun r => k0_off2 t (BitVec.ofNat 32 r.val)) (fun r => k0_off1 t (BitVec.ofNat 32 r.val)) (fun r => k0_off3 t (BitVec.ofNat 32 r.val))
          (Facts₀.k0_off2_inb t) (Facts₀.k0_off1_inb t) (Facts₀.k0_off3_inb t) m := by
  iterate 664
    refine op_congr ?_ (fun _ => ?_)
    · rfl
  rfl

set_option maxHeartbeats 0 in
theorem whole_eq (i : grid0.Coords) (arg2 : Memref sig .tc .vmem S4096x256 .f32) (harg2 : arg2.IsWhole) (arg3 : Memref sig .tc .vmem S4096x128 .bf16) (harg3 : arg3.IsWhole) (arg4 : Memref sig .tc .vmem S1x1x80x4096 .bf16) (harg4 : arg4.IsWhole) (arg5 : Memref sig .tc .vmem S16x128 .bf16) (harg5 : arg5.IsWhole) (arg6 : Memref sig .tc .vmem S1x1x80x128 .bf16) (harg6 : arg6.IsWhole) (arg7 : Memref sig .tc .vmem S64x1024 .f32) (harg7 : arg7.IsWhole) (arg8 : Memref sig .tc .vmem S64x1 .f32) (harg8 : arg8.IsWhole) (arg9 : Memref sig .tc .vmem S64x5632 .f32) (harg9 : arg9.IsWhole) (arg10 : Memref sig .tc .vmem S64x1 .f32) (harg10 : arg10.IsWhole) (arg11 : Memref sig .tc .vmem S176x1024 .f32) (harg11 : arg11.IsWhole) (arg12 : Memref sig .tc .vmem S4096x256 .f32) (harg12 : arg12.IsWhole) (arg13 : Memref sig .tc .vmem S64x1024 .bf16) (harg13 : arg13.IsWhole) (arg14 : Memref sig .tc .vmem S64x5632 .bf16) (harg14 : arg14.IsWhole) (arg15 : Memref sig .tc .vmem S176x1024 .bf16) (harg15 : arg15.IsWhole) (arg16 : Memref sig .tc .vmem S272x128 .bf16) (harg16 : arg16.IsWhole) (arg17 : Memref sig .tc .vmem S80x384 .bf16) (harg17 : arg17.IsWhole) (arg18 : Memref sig .tc .vmem S2x4112x512 .f32) (harg18 : arg18.IsWhole) :
    cc0_attention_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      = attn (nD := nD) (τ := τ) (Λ := Λ₀) (args arg2 arg3 arg4 arg5 arg6 arg7 arg8 arg9 arg10 arg11 arg12 arg13 harg13 arg14 harg14 arg15 harg15 arg16 harg16 arg17 harg17 arg18) (Named.named κ "scale" 0x3E38AA3B#32) (fun m => Scf.Loop.for k0_t1_loop k0_t1_ok m (fun t m =>
        trip (nD := nD) (τ := τ) (Λ := Λ₀) ⟨arg2, arg3, arg4, arg12, arg16, arg17, arg18⟩ (Named.named κ "scale" 0x3E38AA3B#32)
          (fun r => k0_off2 t (BitVec.ofNat 32 r.val)) (fun r => k0_off1 t (BitVec.ofNat 32 r.val)) (fun r => k0_off3 t (BitVec.ofNat 32 r.val))
          (Facts₀.k0_off2_inb t) (Facts₀.k0_off1_inb t) (Facts₀.k0_off3_inb t) m) >>= fun _ => .ret ⟨⟩) := by
  iterate 72
    refine op_congr ?_ (fun _ => ?_)
    · rfl
  exact loop_congr fun t m => body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 t m

end Cert.Proof.BodyIdeal
end
-- ==== Proof.RunIdeal.lean ====
/-
  The attention call's frame and what its windows end at: the body's triple at a grid point, the pipeline run, the launch.
-/
module

public import proofs.«01_k».proof.Proof.Gen.AttnIdeal.Frame
public import proofs.«01_k».proof.Proof.BodyIdeal
public import proofs.«01_k».proof.Proof.StageBody

@[expose] public section

set_option maxRecDepth 16384

noncomputable section

namespace Cert.Proof.RunIdeal

open Cert.AttnIdeal Cert.AttnIdeal.Gen Cert.Proof.Stage Cert.Proof.BodyIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

/-- The scores' factor. -/
abbrev scaleOf : F .f32 := Named.named κ "scale" 0x3E38AA3B#32

/-! ## The body at a point is the generic one -/

abbrev argsAt (t : Fin cfg0.N) : Args sig :=
  args (st0_0 t) (st0_1 t) (st0_2 t) (st0_3 t) (st0_4 t) (st0_5 t) (st0_6 t) (st0_7 t) (st0_8 t) (st0_9 t) (st0_10 t)
    (st0_11 t) (hstage0_11 ((cfg0.slots t 11).cast nbuf0_11)) (st0_12 t) (hstage0_12 ((cfg0.slots t 12).cast nbuf0_12)) (st0_13 t) (hstage0_13 ((cfg0.slots t 13).cast nbuf0_13))
    (Memref.whole cc0_scratch0) (Memref.isWhole_whole _) (Memref.whole cc0_scratch1) (Memref.isWhole_whole _) (Memref.whole cc0_scratch2)

theorem trips_four : k0_t1_loop.trips = 4 := by decide +kernel
theorem off2_eq : ∀ (t : Fin k0_t1_loop.trips) (r : Fin 4), k0_off2 t (BitVec.ofNat 32 r.val) = tOff (nq (2 * (4 * t.val + r.val))) := by decide +kernel
theorem off1_eq : ∀ (t : Fin k0_t1_loop.trips) (r : Fin 4), k0_off1 t (BitVec.ofNat 32 r.val) = tOff (nq (2 * (4 * t.val + r.val) + 1)) := by decide +kernel
theorem off3_eq : ∀ (t : Fin k0_t1_loop.trips) (r : Fin 4), k0_off3 t (BitVec.ofNat 32 r.val) = tOff (nq (2 * (4 * t.val + r.val) + 2)) := by decide +kernel

/-- The body from its loop on, at a point. -/
abbrev loopAt (t : Fin cfg0.N) : FVec F SRow .f32 → Prog (TpuEff nD τ sig (Elt F) Λ₀ .tc) PUnit :=
  loopBody (scaleOf (F := F)) k0_t1_loop k0_t1_ok (fun t r => k0_off2 t (BitVec.ofNat 32 r.val)) (fun t r => k0_off1 t (BitVec.ofNat 32 r.val)) (fun t r => k0_off3 t (BitVec.ofNat 32 r.val))
    Facts₀.k0_off2_inb Facts₀.k0_off1_inb Facts₀.k0_off3_inb (argsAt t).toBufs

theorem bodyAt_eq (t : Fin cfg0.N) : bodyAt0 (F := F) t = attn (argsAt t) scaleOf (loopAt t) := by
  unfold bodyAt0; rw [cc0_attention_eq_skeleton]
  exact whole_eq _ _ _ _ _ _ _ _ _ _ _ _ _ _ _ _ _ _ _ _ _ _ _ _ _ _ _ _ _ _ _ _ _ _ _

/-! ## The proof data -/

/-- The block of outputs at a point, of the blocks of operands there. -/
def outAt (c : Dev nD) (t : Fin cfg0.N) : Vec F SQ .f32 :=
  blockOut scaleOf (iblk m c 0 t : Vec F SQ .f32) (iblk m c 1 t : Vec F SK .bf16) (iblk m c 2 t : Vec F SV .bf16)
    (kxOf (iblk m c 1 t : Vec F SK .bf16) (iblk m c 3 t : Vec F SKm .bf16)) (vxOf (iblk m c 2 t : Vec F SV .bf16) (iblk m c 4 t : Vec F SVm .bf16))
def woAt (c : Dev nD) (t : Fin cfg0.N) : Vec F SWo .bf16 := foldWo (iblk m c 5 t : Vec F SWo .f32) (iblk m c 6 t : Vec F SG .f32)
def wfAt (c : Dev nD) (t : Fin cfg0.N) : Vec F SWf .bf16 := foldWf (iblk m c 7 t : Vec F SWf .f32) (iblk m c 8 t : Vec F SG .f32)
def wdAt (c : Dev nD) (t : Fin cfg0.N) : Vec F SWd .bf16 := foldWd (iblk m c 9 t : Vec F SWd .f32)

/-- Inputs stay, outputs end at their values, the scratch and the register are at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
    | ⟨11, _⟩ => woAt m c t
    | ⟨12, _⟩ => wfAt m c t
    | ⟨13, _⟩ => wdAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t := before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t := before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t := before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t := before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t := before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t := before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t := before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t := before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t := before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t := before0_9_of m (dats m 0 c) (A_eq m c 9) (after_9 m c) t d
theorem after_10 (c : Dev nD) (t : Fin cfg0.N) : (dats m 0 c).after 10 t = outAt m c t := by dsimp only [dats]
theorem after_11 (c : Dev nD) (t : Fin cfg0.N) : (dats m 0 c).after 11 t = woAt m c t := by dsimp only [dats]
theorem after_12 (c : Dev nD) (t : Fin cfg0.N) : (dats m 0 c).after 12 t = wfAt m c t := by dsimp only [dats]
theorem after_13 (c : Dev nD) (t : Fin cfg0.N) : (dats m 0 c).after 13 t = wdAt m c t := by dsimp only [dats]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- A whole buffer at some contents is its memref owned at some. -/
theorem whole_any (c : Dev nD) (b : Ref sig .tc) :
    (iprop(∃ f : Buf (Elt F) ((c : Thread nD τ).loc b), ((c : Thread nD τ).loc b) ↦{fullShare} f) : sProp 𝕄) ⊢ iprop(∃ X, owns (c : Thread nD τ) (Memref.whole b) fullShare X) := by
  iintro ⟨%f, H⟩; iexists f
  rw [owns_whole_eq (c : Thread nD τ) b fullShare f]
  iexists f; isplitr; swap; · iexact H
  ipureintro; rfl
theorem any_whole (c : Dev nD) (b : Ref sig .tc) :
    iprop(∃ X, owns (c : Thread nD τ) (Memref.whole b) fullShare X) ⊢ (iprop(∃ f : Buf (Elt F) ((c : Thread nD τ).loc b), ((c : Thread nD τ).loc b) ↦{fullShare} f) : sProp 𝕄) := by
  refine exists_elim fun x => ?_
  rw [owns_whole_eq (c : Thread nD τ) b fullShare x]
  iintro ⟨%f, -, H⟩
  iexists f; iexact H

theorem sound_body (c : Dev nD) (t : Fin cfg0.N) :
    bodyPre m c t ⊢ wp frame (wpE (defs₀ (F := F)) Variants.none c none) Set.univ (bodyAt0 t) (fun _ => bodyPost m c t) := by
  rw [bodyAt_eq]
  unfold bodyPre bodyPost
  simp only [before_0, before_1, before_2, before_3, before_4, before_5, before_6, before_7, before_8, before_9]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  simp only [after_0, after_1, after_2, after_3, after_4, after_5, after_6, after_7, after_8, after_9, after_10, after_11, after_12, after_13]
  unfold Pipeline.ΦA
  rw [scopedRest0_eq]
  iintro ⟨⟨⟨HS0, HS1, HS2⟩, Hg⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (wp_attn Variants.none c (argsAt t) scaleOf k0_t1_loop k0_t1_ok _ _ _ Facts₀.k0_off2_inb Facts₀.k0_off1_inb Facts₀.k0_off3_inb trips_four off2_eq off1_eq off3_eq
    (iblk m c 0 t) (iblk m c 1 t) (iblk m c 2 t) (iblk m c 3 t) (iblk m c 4 t) (iblk m c 5 t) (iblk m c 6 t) (iblk m c 7 t) (iblk m c 8 t) (iblk m c 9 t)) $$ [H0 H1 H2 H3 H4 H5 H6 H7 H8 H9 H10 H11 H12 H13 HS0 HS1 HS2]
  · isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10 H11 H12 H13]
    · isplitl [H10]; · iexists _; iexact H10
      isplitl [H11]; · iexists _; iexact H11
      isplitl [H12]; · iexists _; iexact H12
      iexists _; iexact H13
    isplitl [HS0]; · iapply (whole_any c cc0_scratch0); iexact HS0
    isplitl [HS1]; · iapply (whole_any c cc0_scratch1); iexact HS1
    iapply (whole_any c cc0_scratch2); iexact HS2
  iintro ⟨⟨H0, H1, H2, H3, H4, H5, H6, H7, H8, H9⟩, ⟨H10, H11, H12, H13⟩, HS0, HS1, HS2⟩
  isplitl [HS0 HS1 HS2 Hg]
  · isplitl [HS0 HS1 HS2]
    · isplitl [HS0]; · iapply (any_whole c cc0_scratch0); iexact HS0
      isplitl [HS1]; · iapply (any_whole c cc0_scratch1); iexact HS1
      iapply (any_whole c cc0_scratch2); iexact HS2
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments at the end of a run are as at its start. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).1 5).trans (((dats m 0 c).arrAt_in 5 rfl _).trans ((A_eq m c 5).trans (V_main_arg5 m c))),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).1 7).trans (((dats m 0 c).arrAt_in 7 rfl _).trans ((A_eq m c 7).trans (V_main_arg8 m c))),
    ((h c).2 main_arg9 (Pipeline.mem_restRefs_of main_arg9 (by decide) (by decide))).trans (V_main_arg9 m c),
    ((h c).1 9).trans (((dats m 0 c).arrAt_in 9 rfl _).trans ((A_eq m c 9).trans (V_main_arg10 m c)))⟩

/-- The frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨args_kept m r h.1, h.2⟩) (run_main m ρ)

end Cert.Proof.RunIdeal
end
-- ==== Proof.Finite.lean ====
/-
  What the precondition says over the extended reals: the queries, the keys and the meta keys are real numbers.
-/
module

public import proofs.«01_k».proof.Defs
public import Idealize.ShloMosaic.Lib.Pointwise
public import Idealize.ShloMosaic.Lib.Affine

@[expose] public section

set_option maxRecDepth 16384

noncomputable section

namespace Cert.Proof.Finite

open Idealize.ShloMosaic

theorem facts : Cert.Pre_finite_scores.Facts where
  bcast_S_S8x4096x8x64 := by decide
  reducesTo_S8x4096x8x64_S_d0_1_2_3 := by decide
  h_S_ := by decide
  bcast_S_S8x4096x2x64 := by decide
  reducesTo_S8x4096x2x64_S_d0_1_2_3 := by decide
  bcast_S_S16x2x64 := by decide
  reducesTo_S16x2x64_S_d0_1_2 := by decide

/-- A conjunction over a list holds at each of its members. -/
theorem foldl_andi {α : Type} (f : α → BitVec 1) (l : List α) : ∀ a : BitVec 1, l.foldl (fun r n => IntOp.andi r (f n)) a = 1#1 → a = 1#1 ∧ ∀ n ∈ l, f n = 1#1 := by
  induction l with
  | nil => intro a h; exact ⟨h, fun _ hn => absurd hn (List.not_mem_nil)⟩
  | cons x l ih =>
    intro a h
    obtain ⟨h1, h2⟩ := ih _ h
    obtain ⟨ha, hx⟩ := IntOp.andi_eq_one.mp h1
    refine ⟨ha, fun n hn => ?_⟩
    rcases List.mem_cons.mp hn with rfl | hn
    · exact hx
    · exact h2 n hn

/-- A conjunction over all of an array holds at each of its elements. -/
theorem reduce_andi {s u : Shape} {axes : List (Fin s.rank)} (x : s.Idx → BitVec 1) (v : u.Idx → BitVec 1)
    (h : s.ReducesTo axes ⟨0, ![]⟩) (hu : 0 < u.numel) (j : Shape.Idx ⟨0, ![]⟩) (e : Host.reduce IntOp.andi x v h hu j = 1#1) (i : s.Idx) : x i = 1#1 := by
  have := (foldl_andi (fun n => x (s.rowMajor.symm n)) _ _ e).2 (s.rowMajor i)
    (List.mem_filter.mpr ⟨List.mem_finRange _, decide_eq_true (funext fun a => a.elim0)⟩)
  rwa [Equiv.symm_apply_apply] at this

/-- A magnitude below infinity is a real number's. -/
theorem real_of_lt (x : Ideal .f32) (h : Scalar.cmpf .olt (Scalar.absf x) (Scalar.ofBits .f32 0x7F800000#32) = 1#1) : ∃ r : ℝ, x = (r : EReal) := by
  rw [Ideal.scalar_cmpf_def] at h
  have hb : max x (-x) < (FloatOps.ofBits .f32 0x7F800000#32 : Ideal .f32) := by
    by_contra hn
    have e : Ideal.cmp CmpFPredicate.olt (max x (-x)) (FloatOps.ofBits .f32 0x7F800000#32 : Ideal .f32) = 0#1 := by
      unfold Ideal.cmp; simp only [hn, decide_false]; rfl
    exact absurd (h.symm.trans e) (by decide)
  have ht : max x (-x) < (⊤ : EReal) := lt_of_lt_of_le hb le_top
  have h1 : x ≠ (⊤ : EReal) := fun e => by rw [e] at ht; exact absurd (lt_of_le_of_lt (le_max_left _ _) ht) (lt_irrefl _)
  have h2 : x ≠ (⊥ : EReal) := fun e => by rw [e] at ht; exact absurd (lt_of_le_of_lt (le_max_right _ _) ht) (lt_irrefl _)
  exact ⟨EReal.toReal x, (EReal.coe_toReal h1 h2).symm⟩

/-- An array of the extended reals is an array of reals. -/
def AllReal {s : Shape} (x : FVec Ideal s .f32) : Prop := ∀ i, ∃ r : ℝ, x i = (r : EReal)

theorem real_of_pre [hP : Cert.Pre_finite_scores.Facts] (a0 : FVec Ideal ⟨4, ![8, 4096, 8, 64]⟩ .f32) (a1 a2 : FVec Ideal ⟨4, ![8, 4096, 2, 64]⟩ .f32) (a3 a4 : FVec Ideal ⟨3, ![16, 2, 64]⟩ .f32)
    (a5 a6 a7 a8 a9 a10) (h : Cert.Pre_finite_scores.fn (F := Ideal) a0 a1 a2 a3 a4 a5 a6 a7 a8 a9 a10 = fun _ => 1#1) : AllReal a0 ∧ AllReal a1 ∧ AllReal a3 := by
  have h' := congrFun h (fun a => a.elim0)
  obtain ⟨h01, h3⟩ := IntOp.andi_eq_one.mp h'
  obtain ⟨h0, h1⟩ := IntOp.andi_eq_one.mp h01
  exact ⟨fun i => real_of_lt _ (reduce_andi _ _ _ _ _ h0 i), fun i => real_of_lt _ (reduce_andi _ _ _ _ _ h1 i), fun i => real_of_lt _ (reduce_andi _ _ _ _ _ h3 i)⟩

end Cert.Proof.Finite

end
-- ==== Proof.HostValue.lean ====
/-
  The arrays that the attention call's windows run over, as the host code before the call lays them out.
-/
module

public import proofs.«01_k».proof.Proof.Gen.AttnIdeal.Frame
public import Idealize.ShloMosaic.Lib.Pointwise
public import Idealize.ShloMosaic.Lib.StableHlo.Run

@[expose] public section

set_option maxRecDepth 16384

noncomputable section

namespace Cert.Proof.HostValue

open Cert.AttnIdeal Cert.AttnIdeal.Gen Idealize.ShloMosaic Idealize.ShloMosaic.TcCoe Idealize.SL.Sem Idealize.ShloMosaic.StableHlo

variable (m : (ℓ : Loc nD τ sig) → Buf (Elt Ideal) ℓ) (c : Dev nD)

/-- Three blocks of columns side by side, rounded. -/
def cat3 (x : FVec Ideal S32768x128 .f32) (y z : FVec Ideal S32768x64 .f32) : FVec Ideal S32768x256 .bf16 :=
  truncf .bf16 (concatenate S32768x256 1 [⟨S32768x128, x⟩, ⟨S32768x64, y⟩, ⟨S32768x64, z⟩] concatenates_S32768x128_S32768x64_S32768x64_S32768x256_d1) bitsLt_bf16_f32
def cat3m (x : FVec Ideal S16x128 .f32) (y z : FVec Ideal S16x64 .f32) : FVec Ideal S16x256 .bf16 :=
  truncf .bf16 (concatenate S16x256 1 [⟨S16x128, x⟩, ⟨S16x64, y⟩, ⟨S16x64, z⟩] concatenates_S16x128_S16x64_S16x64_S16x256_d1) bitsLt_bf16_f32
/-- The keys' two heads, then the second and the first again. -/
def keys (k : FVec Ideal S8x4096x2x64 .f32) : FVec Ideal S32768x256 .bf16 :=
  have x : FVec Ideal S32768x128 .f32 := shapeCast S32768x128 k shapeCasts_S8x4096x2x64_S32768x128
  cat3 x (extractStridedSlice S32768x64 ![0, 64] x slices_S32768x128_S32768x64_0_64) (extractStridedSlice S32768x64 ![0, 0] x slices_S32768x128_S32768x64_0_0)
def metaKeys (k : FVec Ideal S16x2x64 .f32) : FVec Ideal S16x256 .bf16 :=
  have x : FVec Ideal S16x128 .f32 := shapeCast S16x128 k shapeCasts_S16x2x64_S16x128
  cat3m x (extractStridedSlice S16x64 ![0, 64] x slices_S16x128_S16x64_0_64) (extractStridedSlice S16x64 ![0, 0] x slices_S16x128_S16x64_0_0)
/-- The values transposed, over rows of ones. -/
def vals (v : FVec Ideal S8x4096x2x64 .f32) : FVec Ideal S8x2x80x4096 .bf16 :=
  truncf .bf16 (concatenate S8x2x80x4096 2 [⟨S8x2x64x4096, transpose S8x2x64x4096 [0, 2, 3, 1] v transposes_S8x4096x2x64_S8x2x64x4096_0_2_3_1⟩,
    ⟨S8x2x16x4096, broadcastInDim S8x2x16x4096 ![] bcast_S_S8x2x16x4096 (constant (F := Ideal) S_ .f32 0x3F800000#32)⟩] concatenates_S8x2x64x4096_S8x2x16x4096_S8x2x80x4096_d2 : FVec Ideal S8x2x80x4096 .f32) bitsLt_bf16_f32
def metaVals (v : FVec Ideal S16x2x64 .f32) : FVec Ideal S1x2x80x128 .bf16 :=
  truncf .bf16 (concatenate S1x2x80x128 2 [⟨S1x2x64x128, transpose S1x2x64x128 [0, 2, 3, 1]
      (pad S1x128x2x64 ![0, 0, 0, 0] ![0, 112, 0, 0] ![0, 0, 0, 0] (broadcastInDim S1x16x2x64 ![1, 2, 3] bcast_S16x2x64_S1x16x2x64_1_2_3 v : FVec Ideal S1x16x2x64 .f32) (sitofp .f32 (constantI S_ 32 0#32) : FVec Ideal S_ .f32)
        pads_S1x16x2x64_S1x128x2x64_000_01120_000_000 h_S_) transposes_S1x128x2x64_S1x2x64x128_0_2_3_1⟩,
    ⟨S1x2x16x128, broadcastInDim S1x2x16x128 ![] bcast_S_S1x2x16x128 (constant (F := Ideal) S_ .f32 0x3F800000#32)⟩] concatenates_S1x2x64x128_S1x2x16x128_S1x2x80x128_d2 : FVec Ideal S1x2x80x128 .f32) bitsLt_bf16_f32

theorem V_v0 : V m c main_v0 = (shapeCast S32768x512 (m ((c : Thread nD τ).loc main_arg0)) shapeCasts_S8x4096x8x64_S32768x512 : FVec Ideal S32768x512 .f32) := by
  unfold V; simp only [hostOps0, hostOps0_1, hostOps0_2, List.flatten_cons, List.flatten_nil, List.append_nil, List.cons_append, List.nil_append]
  after_results
  rfl
theorem V_v4 : V m c main_v4 = (shapeCast S1024x1 (concatenate S1024 0 [⟨S512, m ((c : Thread nD τ).loc main_arg6)⟩, ⟨S512, m ((c : Thread nD τ).loc main_arg7)⟩] concatenates_S512_S512_S1024_d0 : FVec Ideal S1024 .f32) shapeCasts_S1024_S1024x1 : FVec Ideal S1024x1 .f32) := by
  unfold V; simp only [hostOps0, hostOps0_1, hostOps0_2, List.flatten_cons, List.flatten_nil, List.append_nil, List.cons_append, List.nil_append]
  after_results
  rfl
theorem V_v23 : V m c main_v23 = (shapeCast S1024x1 (m ((c : Thread nD τ).loc main_arg9)) shapeCasts_S1024_S1024x1 : FVec Ideal S1024x1 .f32) := by
  unfold V; simp only [hostOps0, hostOps0_1, hostOps0_2, List.flatten_cons, List.flatten_nil, List.append_nil, List.cons_append, List.nil_append]
  after_results
  rfl
theorem V_v13 : V m c main_v13 = vals (m ((c : Thread nD τ).loc main_arg2)) := by
  unfold V; simp only [hostOps0, hostOps0_1, hostOps0_2, List.flatten_cons, List.flatten_nil, List.append_nil, List.cons_append, List.nil_append]
  after_results
  rfl
theorem V_v22 : V m c main_v22 = metaVals (m ((c : Thread nD τ).loc main_arg4)) := by
  unfold V; simp only [hostOps0, hostOps0_1, hostOps0_2, List.flatten_cons, List.flatten_nil, List.append_nil, List.cons_append, List.nil_append]
  after_results
  rfl
theorem V_v9 : V m c main_v9 = keys (m ((c : Thread nD τ).loc main_arg1)) := by
  unfold V; simp only [hostOps0, hostOps0_1, hostOps0_2, List.flatten_cons, List.flatten_nil, List.append_nil, List.cons_append, List.nil_append]
  after_results
  refine (show _ = cat3 _ _ _ from rfl).trans ?_
  unfold keys
  congr 1
  all_goals
    show (HloOp.result _ _) _ = _
    repeat (first | rw [unary_result] | rw [reshape_result] | (rw [unary_result_ne]; rotate_left; decide) | (rw [reshape_result_ne]; rotate_left; decide) | (rw [binary_result_ne]; rotate_left; decide) | (rw [nullary_result_ne]; rotate_left; decide) )
    rfl
theorem V_v18 : V m c main_v18 = metaKeys (m ((c : Thread nD τ).loc main_arg3)) := by
  unfold V; simp only [hostOps0, hostOps0_1, hostOps0_2, List.flatten_cons, List.flatten_nil, List.append_nil, List.cons_append, List.nil_append]
  after_results
  refine (show _ = cat3m _ _ _ from rfl).trans ?_
  unfold metaKeys
  congr 1
  all_goals
    show (HloOp.result _ _) _ = _
    repeat (first | rw [unary_result] | rw [reshape_result] | (rw [unary_result_ne]; rotate_left; decide) | (rw [reshape_result_ne]; rotate_left; decide) | (rw [binary_result_ne]; rotate_left; decide) | (rw [nullary_result_ne]; rotate_left; decide) | (rw [nary_result_ne]; rotate_left; decide))
    rfl

/-! ## Read at an index -/

theorem queries_apply (q : FVec Ideal S8x4096x8x64 .f32) (r : Fin 32768) (d : Fin 512) :
    (shapeCast S32768x512 q shapeCasts_S8x4096x8x64_S32768x512 : FVec Ideal S32768x512 .f32) (ix2 r d)
      = q (ix4 (⟨r.val / 4096, by omega⟩ : Fin 8) (⟨r.val % 4096, by omega⟩ : Fin 4096) (⟨d.val / 64, by omega⟩ : Fin 8) (⟨d.val % 64, by omega⟩ : Fin 64)) := by
  pointwise
theorem keys_apply (k : FVec Ideal S8x4096x2x64 .f32) (r : Fin 32768) (g : Fin 2) (d : Fin 64) (e : Fin 256) (he : e.val = 128 * g.val + d.val) :
    keys k (ix2 r e) = k (ix4 (⟨r.val / 4096, by omega⟩ : Fin 8) (⟨r.val % 4096, by omega⟩ : Fin 4096) g d) := by
  pointwise [keys, cat3]
  by_cases h1 : e.val < 128
  · rw [dif_pos h1]; exact congrArg₂ (fun x y => k (ix4 _ _ x y)) (Fin.ext (by show e.val / 64 = g.val; omega)) (Fin.ext (by show e.val % 64 = d.val; omega))
  · rw [dif_neg h1, dif_pos (show e.val - 128 < 64 by omega)]; exact congrArg₂ (fun x y => k (ix4 _ _ x y)) (Fin.ext (by show (64 + (e.val - 128)) / 64 = g.val; omega)) (Fin.ext (by show (64 + (e.val - 128)) % 64 = d.val; omega))
theorem metaKeys_apply (k : FVec Ideal S16x2x64 .f32) (r : Fin 16) (g : Fin 2) (d : Fin 64) (e : Fin 256) (he : e.val = 128 * g.val + d.val) :
    metaKeys k (ix2 r e) = k (ix3 r g d) := by
  pointwise [metaKeys, cat3m]
  by_cases h1 : e.val < 128
  · rw [dif_pos h1]; exact congrArg₂ (fun x y => k (ix3 _ x y)) (Fin.ext (by show e.val / 64 = g.val; omega)) (Fin.ext (by show e.val % 64 = d.val; omega))
  · rw [dif_neg h1, dif_pos (show e.val - 128 < 64 by omega)]; exact congrArg₂ (fun x y => k (ix3 _ x y)) (Fin.ext (by show (64 + (e.val - 128)) / 64 = g.val; omega)) (Fin.ext (by show (64 + (e.val - 128)) % 64 = d.val; omega))
theorem vals_apply (v : FVec Ideal S8x4096x2x64 .f32) (b : Fin 8) (g : Fin 2) (a : Fin 80) (s : Fin 4096) :
    vals v (ix4 b g a s) = if h : a.val < 64 then v (ix4 b s g (⟨a.val, h⟩ : Fin 64)) else 1 := by
  pointwise [vals]
theorem metaVals_apply (v : FVec Ideal S16x2x64 .f32) (b : Fin 1) (g : Fin 2) (a : Fin 80) (s : Fin 128) (hs : s.val < 16) :
    metaVals v (ix4 b g a s) = if h : a.val < 64 then v (ix3 (⟨s.val, hs⟩ : Fin 16) g (⟨a.val, h⟩ : Fin 64)) else 1 := by
  pointwise [metaVals]
  by_cases h : a.val < 64
  · simp only [h, hs, and_self, dite_true]
  · simp only [h, dite_false]
theorem gains_apply (g p : FVec Ideal S512 .f32) (r : Fin 1024) (d : Fin 1) :
    (shapeCast S1024x1 (concatenate S1024 0 [⟨S512, g⟩, ⟨S512, p⟩] concatenates_S512_S512_S1024_d0 : FVec Ideal S1024 .f32) shapeCasts_S1024_S1024x1 : FVec Ideal S1024x1 .f32) (ix2 r d)
      = (concatenate S1024 0 [⟨S512, g⟩, ⟨S512, p⟩] concatenates_S512_S512_S1024_d0 : FVec Ideal S1024 .f32) (ix1 r) := by
  pointwise
theorem gain_apply (g : FVec Ideal S1024 .f32) (r : Fin 1024) (d : Fin 1) :
    (shapeCast S1024x1 g shapeCasts_S1024_S1024x1 : FVec Ideal S1024x1 .f32) (ix2 r d) = g (ix1 r) := by
  pointwise

end Cert.Proof.HostValue

end
-- ==== Proof.SoftmaxMath.lean ====
/-
  The softmax's arithmetic on the extended reals: a power of two at scaled scores is the exponential at the plain ones, and a
  weighted sum over its weights' sum is the sum at the normalised weights.
-/
module

public import Idealize.ShloMosaic.PureOps.Ideal.Laws

@[expose] public section

noncomputable section

namespace Cert.Proof.SoftmaxMath

open Idealize.ShloMosaic

theorem exp_coe (x : ℝ) : Ideal.exp (x : EReal) = ((Real.exp x : ℝ) : EReal) := rfl

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A nonnegative real factor moves into a sum of extended reals. -/
theorem sum_mul_coe {ι : Type*} (s : Finset ι) (f : ι → EReal) (r : ℝ) (h : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast h) (EReal.coe_ne_top r), ih]

/-- The supremum of finitely many reals, in the extended reals, is the greatest. -/
theorem sup_coe {ι : Type*} (s : Finset ι) (f : ι → ℝ) (a : ι) (ha : a ∈ s) (h : ∀ i ∈ s, f i ≤ f a) :
    s.sup (fun i => ((f i : ℝ) : EReal)) = ((f a : ℝ) : EReal) :=
  le_antisymm (Finset.sup_le fun i hi => by exact_mod_cast h i hi) (Finset.le_sup (f := fun i => ((f i : ℝ) : EReal)) ha)

/-- The power of two at the scaled score is the exponential at an eighth of it. -/
theorem exp2_scale (p : ℝ) : Real.exp (p * (8 * Real.log 2)⁻¹ * Real.log 2) = Real.exp (p / 8) := by
  have : Real.log 2 ≠ 0 := (Real.log_pos (by norm_num)).ne'
  congr 1; field_simp

section
variable {ι : Type*} (s : Finset ι) (P : ι → ℝ) (V : ι → EReal)

/-- The softmax as the call computes it, of scores scaled for powers of two: the weighted sum times the reciprocal of the
    weights' sum. -/
def byPowers : EReal :=
  (∑ i ∈ s, V i * Ideal.exp2 (((P i * (8 * Real.log 2)⁻¹ : ℝ) : EReal) - s.sup fun i => ((P i * (8 * Real.log 2)⁻¹ : ℝ) : EReal)))
    * Ideal.div 1 (∑ i ∈ s, 1 * Ideal.exp2 (((P i * (8 * Real.log 2)⁻¹ : ℝ) : EReal) - s.sup fun i => ((P i * (8 * Real.log 2)⁻¹ : ℝ) : EReal)))

/-- The softmax as it is written. -/
def plain : EReal :=
  ∑ i ∈ s, V i * Ideal.div (Ideal.exp (((P i / 8 : ℝ) : EReal) - s.sup fun i => ((P i / 8 : ℝ) : EReal)))
    (∑ i ∈ s, Ideal.exp (((P i / 8 : ℝ) : EReal) - s.sup fun i => ((P i / 8 : ℝ) : EReal)))

theorem byPowers_eq (hs : s.Nonempty) : byPowers s P V = plain s P V := by
  obtain ⟨a, ha, hmax⟩ := s.exists_max_image P hs
  have hl : 0 < Real.log 2 := Real.log_pos (by norm_num)
  have hc : (0:ℝ) < (8 * Real.log 2)⁻¹ := by positivity
  have e1 : (s.sup fun i => ((P i * (8 * Real.log 2)⁻¹ : ℝ) : EReal)) = ((P a * (8 * Real.log 2)⁻¹ : ℝ) : EReal) :=
    sup_coe s (fun i => P i * (8 * Real.log 2)⁻¹) a ha fun i hi => mul_le_mul_of_nonneg_right (hmax i hi) hc.le
  have e2 : (s.sup fun i => ((P i / 8 : ℝ) : EReal)) = ((P a / 8 : ℝ) : EReal) :=
    sup_coe s (fun i => P i / 8) a ha fun i hi => div_le_div_of_nonneg_right (hmax i hi) (by norm_num)
  have E1 : ∀ i, Ideal.exp2 (((P i * (8 * Real.log 2)⁻¹ : ℝ) : EReal) - ((P a * (8 * Real.log 2)⁻¹ : ℝ) : EReal))
      = ((Real.exp ((P i - P a) / 8) : ℝ) : EReal) := fun i => by
    rw [← EReal.coe_sub, Ideal.exp2_coe, ← sub_mul]
    congr 1
    rw [← exp2_scale]
    rw [Real.rpow_eq_pow, Real.rpow_def_of_pos (by norm_num), mul_comm]
  have E2 : ∀ i, Ideal.exp (((P i / 8 : ℝ) : EReal) - ((P a / 8 : ℝ) : EReal)) = ((Real.exp ((P i - P a) / 8) : ℝ) : EReal) := fun i => by
    rw [← EReal.coe_sub, exp_coe, sub_div]
  have hD : 0 < ∑ i ∈ s, Real.exp ((P i - P a) / 8) := Finset.sum_pos (fun i _ => Real.exp_pos _) hs
  unfold byPowers plain
  simp only [e1, e2, E1, E2, one_mul]
  rw [← coe_sum]
  simp only [Ideal.div_coe hD.ne']
  rw [one_mul, sum_mul_coe _ _ _ (by positivity)]
  exact Finset.sum_congr rfl fun i _ => mul_assoc _ _ _

end

/-! ## Ranges in blocks -/

theorem sup_range_add (f : ℕ → EReal) (n k : ℕ) :
    (Finset.range (n + k)).sup f = max ((Finset.range n).sup f) ((Finset.range k).sup fun x => f (n + x)) := by
  refine le_antisymm (Finset.sup_le fun i hi => ?_) (max_le (Finset.sup_mono fun i hi => ?_) (Finset.sup_le fun i hi => ?_))
  · rw [Finset.mem_range] at hi
    by_cases h : i < n
    · exact le_max_of_le_left (Finset.le_sup (f := f) (Finset.mem_range.2 h))
    · refine le_max_of_le_right ?_
      have := Finset.le_sup (f := fun x => f (n + x)) (Finset.mem_range.2 (show i - n < k by omega))
      rwa [show n + (i - n) = i by omega] at this
  · rw [Finset.mem_range] at *; omega
  · rw [Finset.mem_range] at hi
    exact Finset.le_sup (f := f) (Finset.mem_range.2 (by omega))

theorem sup_fin (n : ℕ) (f : ℕ → EReal) : (Finset.univ.sup fun k : Fin n => f k.val) = (Finset.range n).sup f := by
  refine le_antisymm (Finset.sup_le fun i _ => Finset.le_sup (f := f) (Finset.mem_range.2 i.isLt)) (Finset.sup_le fun i hi => ?_)
  exact Finset.le_sup (f := fun k : Fin n => f k.val) (Finset.mem_univ (⟨i, Finset.mem_range.1 hi⟩ : Fin n))

theorem fold_max_eq_sup {ι : Type*} (s : Finset ι) (f : ι → EReal) : s.fold max ⊥ f = s.sup f := rfl

/-! ## The order of the keys does not matter -/

theorem sup_equiv {ι κ : Type*} [Fintype ι] [Fintype κ] (e : ι ≃ κ) (f : κ → EReal) :
    (Finset.univ.sup fun i => f (e i)) = Finset.univ.sup f := by
  refine le_antisymm (Finset.sup_le fun i _ => Finset.le_sup (f := f) (Finset.mem_univ _)) (Finset.sup_le fun i _ => ?_)
  have := Finset.le_sup (f := fun i => f (e i)) (Finset.mem_univ (e.symm i))
  simpa using this

theorem plain_equiv {ι κ : Type*} [Fintype ι] [Fintype κ] (e : ι ≃ κ) (P : κ → ℝ) (V : κ → EReal) :
    plain Finset.univ (fun i => P (e i)) (fun i => V (e i)) = plain Finset.univ P V := by
  unfold plain
  rw [sup_equiv e fun i => ((P i / 8 : ℝ) : EReal)]
  rw [Equiv.sum_comp e fun i => Ideal.exp (((P i / 8 : ℝ) : EReal) - Finset.univ.sup fun i => ((P i / 8 : ℝ) : EReal))]
  exact Equiv.sum_comp e fun i => V i * Ideal.div (Ideal.exp (((P i / 8 : ℝ) : EReal) - Finset.univ.sup fun i => ((P i / 8 : ℝ) : EReal))) _

/-- The keys with the 16 meta keys first, in the order that has them last. -/
def metaLast : Fin 4112 ≃ Fin 4112 where
  toFun n := ⟨(n.val + 4096) % 4112, Nat.mod_lt _ (by decide)⟩
  invFun n := ⟨(n.val + 16) % 4112, Nat.mod_lt _ (by decide)⟩
  left_inv n := by
    apply Fin.ext
    have := n.isLt
    show ((n.val + 4096) % 4112 + 16) % 4112 = n.val
    omega
  right_inv n := by
    apply Fin.ext
    have := n.isLt
    show ((n.val + 16) % 4112 + 4096) % 4112 = n.val
    omega

theorem byPowers_range (P : ℕ → ℝ) (V : ℕ → EReal) (n : ℕ) :
    byPowers (Finset.range n) P V = byPowers (Finset.univ : Finset (Fin n)) (fun k => P k.val) (fun k => V k.val) := by
  unfold byPowers
  rw [← sup_fin n fun i => ((P i * (8 * Real.log 2)⁻¹ : ℝ) : EReal), Finset.sum_range, Finset.sum_range]

end Cert.Proof.SoftmaxMath

end
-- ==== Proof.StageValue.lean ====
/-
  What a stage computes, element by element, over the extended reals.
-/
module

public import proofs.«01_k».proof.Proof.StageLoop
public import proofs.«01_k».proof.Proof.SoftmaxMath
public import Idealize.ShloMosaic.Lib.Pointwise

@[expose] public section

set_option maxRecDepth 16384

noncomputable section

namespace Cert.Proof.Stage

open Idealize.ShloMosaic

/-- A chunk's score is the inner product of the key's row and the weights' column. -/
theorem score_apply (w : FVec Ideal SW .bf16) (k : Vec Ideal STile .bf16) (r : Fin 256) (c : Fin 512) :
    score w k (ix2 r c) = ∑ l : Fin 128, k (ix2 r l) * w (ix2 l c) := by
  pointwise [score]

theorem scoreL_apply (w : FVec Ideal SW .bf16) (k : Vec Ideal SKx .bf16) (r : Fin 272) (c : Fin 512) :
    scoreL w k (ix2 r c) = ∑ l : Fin 128, k (ix2 r l) * w (ix2 l c) := by
  pointwise [scoreL]

theorem ofBits_neg_inf : Ideal.ofBits .f32 0xFF800000#32 = ⊥ := by
  simp [Ideal.ofBits, Ideal.ieee]

theorem maxStep_apply (mx : FVec Ideal SRow .f32) (s : FVec Ideal SCh .f32) (c : Fin 512) :
    maxStep mx s (ix2 0 c) = max (mx (ix2 0 c)) (Finset.univ.sup fun r : Fin 256 => s (ix2 r c)) := by
  pointwise [maxStep, ofBits_neg_inf]
  rfl

theorem maxStepL_apply (mx : FVec Ideal SRow .f32) (s : FVec Ideal SChL .f32) (c : Fin 512) :
    maxStepL mx s (ix2 0 c) = max (mx (ix2 0 c)) (Finset.univ.sup fun r : Fin 272 => s (ix2 r c)) := by
  pointwise [maxStepL, ofBits_neg_inf]
  rfl

theorem accStep_apply (m : FVec Ideal SRow .f32) (acc : FVec Ideal SAcc .f32) (s : FVec Ideal SCh .f32) (v : Vec Ideal SVc1 .bf16)
    (a : Fin 80) (c : Fin 512) :
    accStep m acc (shapeCast SCh1 s (by decide)) v (ix2 a c)
      = acc (ix2 a c) + ∑ r : Fin 256, v (ix4 0 0 a r) * Ideal.exp2 (s (ix2 r c) - m (ix2 0 c)) := by
  pointwise [accStep]
  rfl

theorem accStepL_apply (m : FVec Ideal SRow .f32) (acc : FVec Ideal SAcc .f32) (s : FVec Ideal SChL .f32) (v : Vec Ideal SVx .bf16)
    (a : Fin 80) (c : Fin 512) :
    accStepL m acc (shapeCast SChL1 s (by decide)) v (ix2 a c)
      = acc (ix2 a c) + ∑ r : Fin 272, v (ix2 a ⟨r.val, by omega⟩) * Ideal.exp2 (s (ix2 r c) - m (ix2 0 c)) := by
  pointwise [accStepL]
  simp only [mul_zero, Finset.sum_const_zero, add_zero]
  rfl

theorem weights_apply (sc : Ideal .f32) (q : Vec Ideal STile .f32) (l : Fin 128) (c : Fin 512) :
    weights sc q (ix2 l c) = if h : l.val < 64 then q (ix2 (⟨c.val % 256, Nat.mod_lt _ (by decide)⟩ : Fin 256) (⟨64 * (c.val / 256) + l.val, by omega⟩ : Fin 128)) * sc else 0 := by
  pointwise [weights]
  have hc := c.isLt
  by_cases h : c.val < 256
  · rw [dif_pos h]
    have e1 : c.val % 256 = c.val := by omega
    have e2 : 64 * (c.val / 256) + l.val = l.val := by omega
    simp only [e1, e2]
  · rw [dif_neg h]
    have e1 : c.val % 256 = c.val - 256 := by omega
    have e2 : 64 * (c.val / 256) + l.val = 64 + l.val := by omega
    simp only [e1, e2]

theorem outTile_apply (acc : FVec Ideal SAcc .f32) (r : Fin 256) (c : Fin 128) :
    outTile acc (ix2 r c) = acc (ix2 (⟨c.val % 64, by omega⟩ : Fin 80) (⟨256 * (c.val / 64) + r.val, by omega⟩ : Fin 512))
      * Ideal.div 1 (acc (ix2 (64 : Fin 80) (⟨256 * (c.val / 64) + r.val, by omega⟩ : Fin 512))) := by
  pointwise [outTile]
  have hc := c.isLt
  by_cases h : c.val < 64
  · rw [dif_pos h]
    have e1 : c.val % 64 = c.val := by omega
    have e2 : 256 * (c.val / 64) + r.val = r.val := by omega
    simp only [e1, e2]
  · rw [dif_neg h]
    have e1 : c.val % 64 = c.val - 64 := by omega
    have e2 : 256 * (c.val / 64) + r.val = 256 + r.val := by omega
    simp only [e1, e2]

/-! ## All the keys -/

section Keys
variable (K : Vec Ideal SK .bf16) (V : Vec Ideal SV .bf16) (KX : Vec Ideal SKx .bf16) (VX : Vec Ideal SVx .bf16)
variable (w : FVec Ideal SW .bf16) (c : Fin 512) (T : ℕ → EReal)
variable (hT : ∀ (d : Fin 15) (r : Fin 256), sc K w d (ix2 r c) = T (256 * d.val + r.val))
variable (hL : ∀ r : Fin 272, scL KX w (ix2 r c) = T (3840 + r.val))
include hT

theorem mxTo_apply (n : ℕ) (h : n ≤ 15) : mxTo K w n h (ix2 0 c) = (Finset.range (256 * n)).sup T := by
  induction n with
  | zero => show Ideal.ofBits .f32 0xFF800000#32 = _; rw [ofBits_neg_inf]; rfl
  | succ n ih =>
    show maxStep (mxTo K w n (Nat.le_of_succ_le h)) (sc K w ⟨n, h⟩) (ix2 0 c) = _
    rw [maxStep_apply, ih, Nat.mul_succ, SoftmaxMath.sup_range_add, ← SoftmaxMath.sup_fin 256 fun x => T (256 * n + x)]
    simp only [hT]

include hL in
theorem mxAll_apply : mxAll K KX w (ix2 0 c) = (Finset.range 4112).sup T := by
  show maxStepL (mxTo K w 15 (le_refl 15)) (scL KX w) (ix2 0 c) = _
  rw [maxStepL_apply, mxTo_apply K w c T hT, show (4112 : ℕ) = 256 * 15 + 272 from rfl, SoftmaxMath.sup_range_add,
    ← SoftmaxMath.sup_fin 272 fun x => T (256 * 15 + x)]
  simp only [hL]

variable (a : Fin 80) (W : ℕ → EReal)
variable (hW : ∀ (d : Fin 15) (r : Fin 256), V ((rV d).emb (ix4 0 0 a r)) = W (256 * d.val + r.val))
variable (hX : ∀ r : Fin 272, VX (rVx.emb (ix2 a (⟨r.val, by omega⟩ : Fin 384))) = W (3840 + r.val))
include hW

theorem acTo_apply (m : FVec Ideal SRow .f32) (n : ℕ) (h : n ≤ 15) :
    acTo K V w m n h (ix2 a c) = ∑ k ∈ Finset.range (256 * n), W k * Ideal.exp2 (T k - m (ix2 0 c)) := by
  induction n with
  | zero => show Ideal.ofBits .f32 0x00000000#32 = _; rw [Ideal.ofBits_zero_f32]; rfl
  | succ n ih =>
    show accStep m (acTo K V w m n (Nat.le_of_succ_le h)) (shapeCast SCh1 (sc K w ⟨n, h⟩) (by decide)) (fun x => V ((rV ⟨n, h⟩).emb x)) (ix2 a c) = _
    rw [accStep_apply, ih, Nat.mul_succ, Finset.sum_range_add, ← Fin.sum_univ_eq_sum_range (fun x => W (256 * n + x) * Ideal.exp2 (T (256 * n + x) - m (ix2 0 c))) 256]
    simp only [hT, hW]

include hL hX in
theorem acAll_apply (m : FVec Ideal SRow .f32) :
    acAll K V KX VX w m (ix2 a c) = ∑ k ∈ Finset.range 4112, W k * Ideal.exp2 (T k - m (ix2 0 c)) := by
  show accStepL m (acTo K V w m 15 (le_refl 15)) (shapeCast SChL1 (scL KX w) (by decide)) (fun x => VX (rVx.emb x)) (ix2 a c) = _
  rw [accStepL_apply, acTo_apply K V w c T hT a W hW, show (4112 : ℕ) = 256 * 15 + 272 from rfl, Finset.sum_range_add,
    ← Fin.sum_univ_eq_sum_range (fun x => W (256 * 15 + x) * Ideal.exp2 (T (256 * 15 + x) - m (ix2 0 c))) 272]
  simp only [hL, hX]

end Keys

end Cert.Proof.Stage

end
-- ==== Proof.TileValue.lean ====
/-
  A tile's outputs over the extended reals: each is a softmax over all the keys.
-/
module

public import proofs.«01_k».proof.Proof.StageValue

@[expose] public section

set_option maxRecDepth 16384

noncomputable section

namespace Cert.Proof.Stage

open Idealize.ShloMosaic

/-- An inner product with the weights' column: the lower lanes' products, scaled. -/
theorem lanes_sum (f : Fin 128 → EReal) (g : Fin 128 → EReal) (kr qr : Fin 64 → ℝ) (s : ℝ)
    (hf : ∀ d : Fin 64, f (Fin.castAdd 64 d) = kr d) (hg : ∀ l : Fin 128, g l = if h : l.val < 64 then ((qr ⟨l.val, h⟩ : ℝ) : EReal) * (s : EReal) else 0) :
    ∑ l : Fin 128, f l * g l = (((∑ d, kr d * qr d) * s : ℝ) : EReal) := by
  rw [show (∑ l : Fin 128, f l * g l) = ∑ l : Fin (64 + 64), f l * g l from rfl, Fin.sum_univ_add]
  have e2 : (∑ d : Fin 64, f (Fin.natAdd 64 d) * g (Fin.natAdd 64 d)) = 0 := Finset.sum_eq_zero fun d _ => by
    rw [hg, dif_neg (by show ¬ 64 + d.val < 64; omega), mul_zero]
  rw [e2, add_zero, Finset.sum_mul, SoftmaxMath.coe_sum]
  refine Finset.sum_congr rfl fun d _ => ?_
  rw [hf, hg, dif_pos (show (Fin.castAdd 64 d : Fin 128).val < 64 from d.isLt), ← EReal.coe_mul, ← EReal.coe_mul, ← mul_assoc]
  rfl

theorem lane_lt (c : Fin 128) (d : Fin 64) : 64 * (c.val / 64) + d.val < 128 := by omega
theorem row_lt (c : Fin 128) : c.val % 64 < 80 := by omega
theorem col_lt (x : Fin 272) : x.val < 384 := by omega

section Tile
variable (scale : Ideal .f32) (hs : scale = (((8 * Real.log 2)⁻¹ : ℝ) : EReal))
variable (Q : Vec Ideal SQ .f32) (K : Vec Ideal SK .bf16) (V : Vec Ideal SV .bf16) (KX : Vec Ideal SKx .bf16) (VX : Vec Ideal SVx .bf16)
variable (h : Fin 32) (r : Fin 256) (c : Fin 128)
variable (qr : Fin 64 → ℝ) (kr : ℕ → Fin 64 → ℝ) (W : ℕ → EReal)
variable (hq : ∀ d : Fin 64, Q ((rO h).emb (ix2 r (⟨64 * (c.val / 64) + d.val, lane_lt c d⟩ : Fin 128))) = ((qr d : ℝ) : EReal))
variable (hk : ∀ (j : Fin 15) (x : Fin 256) (d : Fin 64), K ((rK j).emb (ix2 x (Fin.castAdd 64 d))) = ((kr (256 * j.val + x.val) d : ℝ) : EReal))
variable (hkx : ∀ (x : Fin 272) (d : Fin 64), KX (rKx.emb (ix2 x (Fin.castAdd 64 d))) = ((kr (3840 + x.val) d : ℝ) : EReal))

/-- The column of the pair's half that an output's head is in. -/
def colOf : Fin 512 := ⟨256 * (c.val / 64) + r.val, by omega⟩

include hs hq

theorem wOf_apply (l : Fin 128) :
    wOf scale Q h (ix2 l (colOf r c)) = if hl : l.val < 64 then ((qr ⟨l.val, hl⟩ : ℝ) : EReal) * (((8 * Real.log 2)⁻¹ : ℝ) : EReal) else 0 := by
  unfold wOf
  rw [weights_apply]
  by_cases hl : l.val < 64
  · rw [dif_pos hl, dif_pos hl, ← hq ⟨l.val, hl⟩, hs]
    have e1 : (colOf r c).val % 256 = r.val := by show (256 * (c.val / 64) + r.val) % 256 = r.val; omega
    have e2 : 64 * ((colOf r c).val / 256) + l.val = 64 * (c.val / 64) + l.val := by show 64 * ((256 * (c.val / 64) + r.val) / 256) + l.val = _; omega
    simp only [e1, e2]
  · rw [dif_neg hl, dif_neg hl]

include hk in
theorem sc_apply (j : Fin 15) (x : Fin 256) :
    sc K (wOf scale Q h) j (ix2 x (colOf r c)) = (((∑ d, kr (256 * j.val + x.val) d * qr d) * (8 * Real.log 2)⁻¹ : ℝ) : EReal) := by
  unfold sc
  rw [score_apply]
  exact lanes_sum _ _ _ _ _ (fun d => hk j x d) (wOf_apply scale hs Q h r c qr hq)

include hkx in
theorem scL_apply (x : Fin 272) :
    scL KX (wOf scale Q h) (ix2 x (colOf r c)) = (((∑ d, kr (3840 + x.val) d * qr d) * (8 * Real.log 2)⁻¹ : ℝ) : EReal) := by
  unfold scL
  rw [scoreL_apply]
  exact lanes_sum _ _ _ _ _ (fun d => hkx x d) (wOf_apply scale hs Q h r c qr hq)

variable (hv : ∀ (j : Fin 15) (x : Fin 256), V ((rV j).emb (ix4 0 0 (⟨c.val % 64, row_lt c⟩ : Fin 80) x)) = W (256 * j.val + x.val))
variable (hvx : ∀ x : Fin 272, VX (rVx.emb (ix2 (⟨c.val % 64, row_lt c⟩ : Fin 80) (⟨x.val, col_lt x⟩ : Fin 384))) = W (3840 + x.val))
variable (hv1 : ∀ (j : Fin 15) (x : Fin 256), V ((rV j).emb (ix4 0 0 (64 : Fin 80) x)) = 1)
variable (hvx1 : ∀ x : Fin 272, VX (rVx.emb (ix2 (64 : Fin 80) (⟨x.val, col_lt x⟩ : Fin 384))) = 1)
include hk hkx hv hvx hv1 hvx1

/-- An output is the softmax of its query's scores, with the keys' values. -/
theorem tileOut_apply : tileOut scale Q K V KX VX h (ix2 r c) = SoftmaxMath.byPowers (Finset.range 4112) (fun k => ∑ d, kr k d * qr d) W := by
  have hS := sc_apply scale hs Q K h r c qr kr hq hk
  have hSL := scL_apply scale hs Q KX h r c qr kr hq hkx
  have hm : mOf scale Q K KX h (ix2 0 (colOf r c)) = (Finset.range 4112).sup fun k => (((∑ d, kr k d * qr d) * (8 * Real.log 2)⁻¹ : ℝ) : EReal) :=
    mxAll_apply K KX _ _ (fun k => (((∑ d, kr k d * qr d) * (8 * Real.log 2)⁻¹ : ℝ) : EReal)) hS hSL
  unfold tileOut
  rw [outTile_apply]
  show acAll K V KX VX _ _ (ix2 _ (colOf r c)) * Ideal.div 1 (acAll K V KX VX _ _ (ix2 _ (colOf r c))) = _
  rw [acAll_apply K V KX VX _ _ (fun k => (((∑ d, kr k d * qr d) * (8 * Real.log 2)⁻¹ : ℝ) : EReal)) hS hSL _ W hv hvx,
    acAll_apply K V KX VX _ _ (fun k => (((∑ d, kr k d * qr d) * (8 * Real.log 2)⁻¹ : ℝ) : EReal)) hS hSL _ (fun _ => 1) hv1 hvx1, hm]
  rfl

end Tile

end Cert.Proof.Stage

end
-- ==== Proof.BlockValue.lean ====
/-
  The blocks a grid point computes with, read off the arrays they are blocks of.
-/
module

public import proofs.«01_k».proof.Proof.RunIdeal
public import proofs.«01_k».proof.Proof.HostValue
public import proofs.«01_k».proof.Proof.TileValue

@[expose] public section

set_option maxRecDepth 16384

noncomputable section

namespace Cert.Proof.BlockValue

open Cert.AttnIdeal Cert.AttnIdeal.Gen Cert.Proof.Stage Idealize.ShloMosaic Idealize.ShloMosaic.TcCoe Idealize.SL.Sem

/-- A point's batch and its group of heads. -/
def bOf (t : Fin cfg0.N) : Fin 8 := ⟨t.val / 2, by have : t.val < 16 := t.isLt; omega⟩
def gOf (t : Fin cfg0.N) : Fin 2 := ⟨t.val % 2, Nat.mod_lt _ (by decide)⟩

theorem ix_0 : ∀ t : Fin cfg0.N, cc0_transform_0 (grid0.coords t) = ![(bOf t).val, (gOf t).val] := by decide +kernel
theorem ix_1 : ∀ t : Fin cfg0.N, cc0_transform_1 (grid0.coords t) = ![(bOf t).val, (gOf t).val] := by decide +kernel
theorem ix_2 : ∀ t : Fin cfg0.N, cc0_transform_2 (grid0.coords t) = ![(bOf t).val, (gOf t).val, 0, 0] := by decide +kernel
theorem ix_3 : ∀ t : Fin cfg0.N, cc0_transform_3 (grid0.coords t) = ![0, (gOf t).val] := by decide +kernel
theorem ix_4 : ∀ t : Fin cfg0.N, cc0_transform_4 (grid0.coords t) = ![0, (gOf t).val, 0, 0] := by decide +kernel
theorem ix_5 : ∀ t : Fin cfg0.N, cc0_transform_5 (grid0.coords t) = ![t.val, 0] := by decide +kernel
theorem ix_6 : ∀ t : Fin cfg0.N, cc0_transform_6 (grid0.coords t) = ![t.val, 0] := by decide +kernel
theorem ix_7 : ∀ t : Fin cfg0.N, cc0_transform_7 (grid0.coords t) = ![t.val, 0] := by decide +kernel
theorem ix_8 : ∀ t : Fin cfg0.N, cc0_transform_8 (grid0.coords t) = ![t.val, 0] := by decide +kernel
theorem ix_9 : ∀ t : Fin cfg0.N, cc0_transform_9 (grid0.coords t) = ![t.val, 0] := by decide +kernel
theorem ix_10 : ∀ t : Fin cfg0.N, cc0_transform_10 (grid0.coords t) = ![(bOf t).val, (gOf t).val] := by decide +kernel
theorem ix_11 : ∀ t : Fin cfg0.N, cc0_transform_11 (grid0.coords t) = ![t.val, 0] := by decide +kernel
theorem ix_12 : ∀ t : Fin cfg0.N, cc0_transform_12 (grid0.coords t) = ![t.val, 0] := by decide +kernel
theorem ix_13 : ∀ t : Fin cfg0.N, cc0_transform_13 (grid0.coords t) = ![t.val, 0] := by decide +kernel

variable (m : (ℓ : Loc nD τ sig) → Buf (Elt Ideal) ℓ) (c : Dev nD) (t : Fin cfg0.N)

/-- Two indices of a matrix with the same coordinates. -/
theorem at2 {α : Type} {A B : ℕ} (f : Shape.Idx ⟨2, ![A, B]⟩ → α) (i j : Shape.Idx ⟨2, ![A, B]⟩) (h0 : (i 0).val = (j 0).val) (h1 : (i 1).val = (j 1).val) : f i = f j := by
  congr 1; funext a; apply Fin.ext
  fin_cases a
  · exact h0
  · exact h1
theorem at4 {α : Type} {A B C D : ℕ} (f : Shape.Idx ⟨4, ![A, B, C, D]⟩ → α) (i j : Shape.Idx ⟨4, ![A, B, C, D]⟩) (h0 : (i 0).val = (j 0).val) (h1 : (i 1).val = (j 1).val)
    (h2 : (i 2).val = (j 2).val) (h3 : (i 3).val = (j 3).val) : f i = f j := by
  congr 1; funext a; apply Fin.ext
  fin_cases a
  · exact h0
  · exact h1
  · exact h2
  · exact h3

theorem iblk_0 (x : Fin 4096) (y : Fin 256) : (iblk m c 0 t : Vec Ideal SQ .f32) (ix2 x y) = (V m c main_v0 : FVec Ideal S32768x512 .f32)
    (ix2 (⟨4096 * (bOf t).val + x.val, by omega⟩ : Fin 32768) (⟨256 * (gOf t).val + y.val, by omega⟩ : Fin 512)) := by
  refine at2 (V m c main_v0 : FVec Ideal S32768x512 .f32) _ _ ?_ ?_
  · show cc0_transform_0 (grid0.coords t) 0 * 4096 + 1 * x.val = 4096 * (bOf t).val + x.val
    rw [ix_0]; show (bOf t).val * 4096 + _ = _; omega
  · show cc0_transform_0 (grid0.coords t) 1 * 256 + 1 * y.val = 256 * (gOf t).val + y.val
    rw [ix_0]; show (gOf t).val * 256 + _ = _; omega
theorem iblk_1 (x : Fin 4096) (y : Fin 128) : (iblk m c 1 t : Vec Ideal SK .bf16) (ix2 x y) = (V m c main_v9 : FVec Ideal S32768x256 .bf16)
    (ix2 (⟨4096 * (bOf t).val + x.val, by omega⟩ : Fin 32768) (⟨128 * (gOf t).val + y.val, by omega⟩ : Fin 256)) := by
  refine at2 (V m c main_v9 : FVec Ideal S32768x256 .bf16) _ _ ?_ ?_
  · show cc0_transform_1 (grid0.coords t) 0 * 4096 + 1 * x.val = 4096 * (bOf t).val + x.val
    rw [ix_1]; show (bOf t).val * 4096 + _ = _; omega
  · show cc0_transform_1 (grid0.coords t) 1 * 128 + 1 * y.val = 128 * (gOf t).val + y.val
    rw [ix_1]; show (gOf t).val * 128 + _ = _; omega
theorem iblk_2 (z w : Fin 1) (x : Fin 80) (y : Fin 4096) : (iblk m c 2 t : Vec Ideal SV .bf16) (ix4 z w x y) = (V m c main_v13 : FVec Ideal S8x2x80x4096 .bf16) (ix4 (bOf t) (gOf t) x y) := by
  refine at4 (V m c main_v13 : FVec Ideal S8x2x80x4096 .bf16) _ _ ?_ ?_ ?_ ?_
  · show cc0_transform_2 (grid0.coords t) 0 * 1 + 1 * z.val = (bOf t).val
    rw [ix_2]; show (bOf t).val * 1 + _ = _; omega
  · show cc0_transform_2 (grid0.coords t) 1 * 1 + 1 * w.val = (gOf t).val
    rw [ix_2]; show (gOf t).val * 1 + _ = _; omega
  · show cc0_transform_2 (grid0.coords t) 2 * 80 + 1 * x.val = x.val
    rw [ix_2]; show 0 * 80 + _ = _; omega
  · show cc0_transform_2 (grid0.coords t) 3 * 4096 + 1 * y.val = y.val
    rw [ix_2]; show 0 * 4096 + _ = _; omega
theorem iblk_3 (x : Fin 16) (y : Fin 128) : (iblk m c 3 t : Vec Ideal SKm .bf16) (ix2 x y) = (V m c main_v18 : FVec Ideal S16x256 .bf16)
    (ix2 x (⟨128 * (gOf t).val + y.val, by omega⟩ : Fin 256)) := by
  refine at2 (V m c main_v18 : FVec Ideal S16x256 .bf16) _ _ ?_ ?_
  · show cc0_transform_3 (grid0.coords t) 0 * 16 + 1 * x.val = x.val
    rw [ix_3]; show 0 * 16 + _ = _; omega
  · show cc0_transform_3 (grid0.coords t) 1 * 128 + 1 * y.val = 128 * (gOf t).val + y.val
    rw [ix_3]; show (gOf t).val * 128 + _ = _; omega
theorem iblk_4 (z w : Fin 1) (x : Fin 80) (y : Fin 128) : (iblk m c 4 t : Vec Ideal SVm .bf16) (ix4 z w x y) = (V m c main_v22 : FVec Ideal S1x2x80x128 .bf16) (ix4 (0 : Fin 1) (gOf t) x y) := by
  refine at4 (V m c main_v22 : FVec Ideal S1x2x80x128 .bf16) _ _ ?_ ?_ ?_ ?_
  · show cc0_transform_4 (grid0.coords t) 0 * 1 + 1 * z.val = 0
    rw [ix_4]; show 0 * 1 + _ = _; omega
  · show cc0_transform_4 (grid0.coords t) 1 * 1 + 1 * w.val = (gOf t).val
    rw [ix_4]; show (gOf t).val * 1 + _ = _; omega
  · show cc0_transform_4 (grid0.coords t) 2 * 80 + 1 * x.val = x.val
    rw [ix_4]; show 0 * 80 + _ = _; omega
  · show cc0_transform_4 (grid0.coords t) 3 * 128 + 1 * y.val = y.val
    rw [ix_4]; show 0 * 128 + _ = _; omega
/-- A point is below sixteen, and its row of a weight's slab is the weight's. -/
theorem t_lt : t.val < 16 := t.isLt
theorem iblk_5 (x : Fin 64) (y : Fin 1024) : (iblk m c 5 t : Vec Ideal SWo .f32) (ix2 x y) = (m ((c : Thread nD τ).loc main_arg5) : FVec Ideal S1024x1024 .f32)
    (ix2 (⟨64 * t.val + x.val, by have := t_lt t; omega⟩ : Fin 1024) y) := by
  rw [← V_main_arg5 m c]
  refine at2 (V m c main_arg5 : FVec Ideal S1024x1024 .f32) _ _ ?_ ?_
  · show cc0_transform_5 (grid0.coords t) 0 * 64 + 1 * x.val = 64 * t.val + x.val
    rw [ix_5]; show t.val * 64 + _ = _; omega
  · show cc0_transform_5 (grid0.coords t) 1 * 1024 + 1 * y.val = y.val
    rw [ix_5]; show 0 * 1024 + _ = _; omega
theorem iblk_6 (x : Fin 64) (y : Fin 1) : (iblk m c 6 t : Vec Ideal SG .f32) (ix2 x y) = (V m c main_v4 : FVec Ideal S1024x1 .f32)
    (ix2 (⟨64 * t.val + x.val, by have := t_lt t; omega⟩ : Fin 1024) y) := by
  refine at2 (V m c main_v4 : FVec Ideal S1024x1 .f32) _ _ ?_ ?_
  · show cc0_transform_6 (grid0.coords t) 0 * 64 + 1 * x.val = 64 * t.val + x.val
    rw [ix_6]; show t.val * 64 + _ = _; omega
  · show cc0_transform_6 (grid0.coords t) 1 * 1 + 1 * y.val = y.val
    rw [ix_6]; show 0 * 1 + _ = _; omega
theorem iblk_7 (x : Fin 64) (y : Fin 5632) : (iblk m c 7 t : Vec Ideal SWf .f32) (ix2 x y) = (m ((c : Thread nD τ).loc main_arg8) : FVec Ideal S1024x5632 .f32)
    (ix2 (⟨64 * t.val + x.val, by have := t_lt t; omega⟩ : Fin 1024) y) := by
  rw [← V_main_arg8 m c]
  refine at2 (V m c main_arg8 : FVec Ideal S1024x5632 .f32) _ _ ?_ ?_
  · show cc0_transform_7 (grid0.coords t) 0 * 64 + 1 * x.val = 64 * t.val + x.val
    rw [ix_7]; show t.val * 64 + _ = _; omega
  · show cc0_transform_7 (grid0.coords t) 1 * 5632 + 1 * y.val = y.val
    rw [ix_7]; show 0 * 5632 + _ = _; omega
theorem iblk_8 (x : Fin 64) (y : Fin 1) : (iblk m c 8 t : Vec Ideal SG .f32) (ix2 x y) = (V m c main_v23 : FVec Ideal S1024x1 .f32)
    (ix2 (⟨64 * t.val + x.val, by have := t_lt t; omega⟩ : Fin 1024) y) := by
  refine at2 (V m c main_v23 : FVec Ideal S1024x1 .f32) _ _ ?_ ?_
  · show cc0_transform_8 (grid0.coords t) 0 * 64 + 1 * x.val = 64 * t.val + x.val
    rw [ix_8]; show t.val * 64 + _ = _; omega
  · show cc0_transform_8 (grid0.coords t) 1 * 1 + 1 * y.val = y.val
    rw [ix_8]; show 0 * 1 + _ = _; omega
theorem iblk_9 (x : Fin 176) (y : Fin 1024) : (iblk m c 9 t : Vec Ideal SWd .f32) (ix2 x y) = (m ((c : Thread nD τ).loc main_arg10) : FVec Ideal S2816x1024 .f32)
    (ix2 (⟨176 * t.val + x.val, by have := t_lt t; omega⟩ : Fin 2816) y) := by
  rw [← V_main_arg10 m c]
  refine at2 (V m c main_arg10 : FVec Ideal S2816x1024 .f32) _ _ ?_ ?_
  · show cc0_transform_9 (grid0.coords t) 0 * 176 + 1 * x.val = 176 * t.val + x.val
    rw [ix_9]; show t.val * 176 + _ = _; omega
  · show cc0_transform_9 (grid0.coords t) 1 * 1024 + 1 * y.val = y.val
    rw [ix_9]; show 0 * 1024 + _ = _; omega

/-! ## In the arguments' elements -/

section Elements
variable (x : Fin 4096)

abbrev qA : FVec Ideal S8x4096x8x64 .f32 := m ((c : Thread nD τ).loc main_arg0)
abbrev kA : FVec Ideal S8x4096x2x64 .f32 := m ((c : Thread nD τ).loc main_arg1)
abbrev vA : FVec Ideal S8x4096x2x64 .f32 := m ((c : Thread nD τ).loc main_arg2)
abbrev kmA : FVec Ideal S16x2x64 .f32 := m ((c : Thread nD τ).loc main_arg3)
abbrev vmA : FVec Ideal S16x2x64 .f32 := m ((c : Thread nD τ).loc main_arg4)

theorem blk_q (h : Fin 4) (d : Fin 64) (y : Fin 256) (hy : y.val = 64 * h.val + d.val) :
    (iblk m c 0 t : Vec Ideal SQ .f32) (ix2 x y) = qA m c (ix4 (bOf t) x (⟨4 * (gOf t).val + h.val, by omega⟩ : Fin 8) d) := by
  rw [iblk_0, HostValue.V_v0, HostValue.queries_apply]
  refine at4 (qA m c) _ _ ?_ ?_ ?_ ?_
  · show (4096 * (bOf t).val + x.val) / 4096 = (bOf t).val; omega
  · show (4096 * (bOf t).val + x.val) % 4096 = x.val; omega
  · show (256 * (gOf t).val + y.val) / 64 = 4 * (gOf t).val + h.val; omega
  · show (256 * (gOf t).val + y.val) % 64 = d.val; omega
theorem blk_k (d : Fin 64) (y : Fin 128) (hy : y.val = d.val) :
    (iblk m c 1 t : Vec Ideal SK .bf16) (ix2 x y) = kA m c (ix4 (bOf t) x (gOf t) d) := by
  rw [iblk_1, HostValue.V_v9, HostValue.keys_apply _ _ (gOf t) d _ (by show 128 * (gOf t).val + y.val = _; omega)]
  refine at4 (kA m c) _ _ ?_ ?_ rfl rfl
  · show (4096 * (bOf t).val + x.val) / 4096 = (bOf t).val; omega
  · show (4096 * (bOf t).val + x.val) % 4096 = x.val; omega
theorem blk_km (x : Fin 16) (d : Fin 64) (y : Fin 128) (hy : y.val = d.val) :
    (iblk m c 3 t : Vec Ideal SKm .bf16) (ix2 x y) = kmA m c (ix3 x (gOf t) d) := by
  rw [iblk_3, HostValue.V_v18, HostValue.metaKeys_apply _ _ (gOf t) d _ (by show 128 * (gOf t).val + y.val = _; omega)]
theorem blk_v (z w : Fin 1) (a : Fin 80) :
    (iblk m c 2 t : Vec Ideal SV .bf16) (ix4 z w a x) = if h : a.val < 64 then vA m c (ix4 (bOf t) x (gOf t) (⟨a.val, h⟩ : Fin 64)) else 1 := by
  rw [iblk_2, HostValue.V_v13, HostValue.vals_apply]
theorem blk_vm (z w : Fin 1) (a : Fin 80) (x : Fin 128) (hx : x.val < 16) :
    (iblk m c 4 t : Vec Ideal SVm .bf16) (ix4 z w a x) = if h : a.val < 64 then vmA m c (ix3 (⟨x.val, hx⟩ : Fin 16) (gOf t) (⟨a.val, h⟩ : Fin 64)) else 1 := by
  rw [iblk_4, HostValue.V_v22, HostValue.metaVals_apply _ _ _ _ _ hx]
end Elements

/-! ## The last keys and values with the meta ones -/

theorem kxOf_keys (K : Vec Ideal SK .bf16) (KM : Vec Ideal SKm .bf16) (x : Fin 272) (y : Fin 128) (h : x.val < 256) :
    kxOf K KM (ix2 x y) = K (ix2 (⟨3840 + x.val, by omega⟩ : Fin 4096) y) := by
  refine (dif_pos h).trans ?_
  rw [shapeCast_self, shapeCast_self]
  refine at2 K _ _ ?_ ?_
  · show 3840 + 1 * x.val = 3840 + x.val; omega
  · show 0 + 1 * y.val = y.val; omega
theorem kxOf_meta (K : Vec Ideal SK .bf16) (KM : Vec Ideal SKm .bf16) (x : Fin 272) (y : Fin 128) (h : ¬ x.val < 256) :
    kxOf K KM (ix2 x y) = KM (ix2 (⟨x.val - 256, by omega⟩ : Fin 16) y) := by
  refine (dif_neg h).trans ?_
  rw [shapeCast_self, shapeCast_self]
  rfl
theorem vxOf_vals (V : Vec Ideal SV .bf16) (VM : Vec Ideal SVm .bf16) (a : Fin 80) (x : Fin 384) (h : x.val < 256) :
    vxOf V VM (ix2 a x) = V (ix4 (0 : Fin 1) (0 : Fin 1) a (⟨3840 + x.val, by omega⟩ : Fin 4096)) := by
  refine (dif_pos h).trans ?_
  rw [shapeCast_self]
  pointwise
  refine at4 V _ _ rfl rfl ?_ ?_
  · show 0 + 1 * a.val = a.val; omega
  · show 3840 + 1 * x.val = 3840 + x.val; omega
theorem vxOf_meta (V : Vec Ideal SV .bf16) (VM : Vec Ideal SVm .bf16) (a : Fin 80) (x : Fin 384) (h : ¬ x.val < 256) :
    vxOf V VM (ix2 a x) = VM (ix4 (0 : Fin 1) (0 : Fin 1) a (⟨x.val - 256, by omega⟩ : Fin 128)) := by
  refine (dif_neg h).trans ?_
  rw [shapeCast_self]
  pointwise

/-! ## Blocks' chunks -/

theorem rO_at (Q : Vec Ideal SQ .f32) (x : Fin 4096) (y : Fin 256) (e : Fin 128) (u : Fin 256) (h : u.val = 128 * (y.val / 128) + e.val) :
    Q ((rO (hOf (ix2 x y))).emb (ix2 (⟨x.val % 256, by omega⟩ : Fin 256) e)) = Q (ix2 x u) := by
  refine at2 Q _ _ ?_ ?_
  · show 256 * ((2 * (x.val / 256) + y.val / 128) / 2) + 1 * (x.val % 256) = x.val; omega
  · show 128 * ((2 * (x.val / 256) + y.val / 128) % 2) + 1 * e.val = u.val; omega
theorem rK_at (K : Vec Ideal SK .bf16) (j : Fin 15) (z : Fin 256) (e : Fin 128) : K ((rK j).emb (ix2 z e)) = K (ix2 (⟨256 * j.val + z.val, by omega⟩ : Fin 4096) e) := by
  refine at2 K _ _ ?_ ?_
  · show 256 * j.val + 1 * z.val = 256 * j.val + z.val; omega
  · show 0 + 1 * e.val = e.val; omega
theorem rV_at (V : Vec Ideal SV .bf16) (j : Fin 15) (a : Fin 80) (z : Fin 256) : V ((rV j).emb (ix4 (0 : Fin 1) (0 : Fin 1) a z)) = V (ix4 (0 : Fin 1) (0 : Fin 1) a (⟨256 * j.val + z.val, by omega⟩ : Fin 4096)) := by
  refine at4 V _ _ rfl rfl ?_ ?_
  · show 0 + 1 * a.val = a.val; omega
  · show 256 * j.val + 1 * z.val = 256 * j.val + z.val; omega
theorem rKx_at (K : Vec Ideal SKx .bf16) (z : Fin 272) (e : Fin 128) : K (rKx.emb (ix2 z e)) = K (ix2 z e) := by
  refine at2 K _ _ ?_ ?_
  · show 0 + 1 * z.val = z.val; omega
  · show 0 + 1 * e.val = e.val; omega
theorem rVx_at (V : Vec Ideal SVx .bf16) (a : Fin 80) (z : Fin 384) : V (rVx.emb (ix2 a z)) = V (ix2 a z) := by
  refine at2 V _ _ ?_ ?_
  · show 0 + 1 * a.val = a.val; omega
  · show 0 + 1 * z.val = z.val; omega

/-! ## A point's outputs -/

section Out
variable (qf : Shape.Idx S8x4096x8x64 → ℝ) (kf : Shape.Idx S8x4096x2x64 → ℝ) (kmf : Shape.Idx S16x2x64 → ℝ)
variable (hqf : ∀ i, qA m c i = ((qf i : ℝ) : EReal)) (hkf : ∀ i, kA m c i = ((kf i : ℝ) : EReal)) (hkmf : ∀ i, kmA m c i = ((kmf i : ℝ) : EReal))

/-- The sequence's element, and after those the meta one. -/
def pick {α : Type} (f : Fin 4096 → α) (g : Fin 16 → α) (z : α) (n : ℕ) : α :=
  if h : n < 4096 then f ⟨n, h⟩ else if h' : n - 4096 < 16 then g ⟨n - 4096, h'⟩ else z

theorem pick_seq {α : Type} (f : Fin 4096 → α) (g : Fin 16 → α) (z : α) (n : ℕ) (x : Fin 4096) (h : n = x.val) : pick f g z n = f x := by
  subst h; exact dif_pos x.isLt
theorem pick_meta {α : Type} (f : Fin 4096 → α) (g : Fin 16 → α) (z : α) (n : ℕ) (x : Fin 16) (hn : ¬ n < 4096) (h : n - 4096 = x.val) : pick f g z n = g x := by
  unfold pick
  rw [dif_neg hn, dif_pos (h ▸ x.isLt)]
  exact congrArg g (Fin.ext h)
/-- The meta element first, and after those the sequence's. -/
theorem pick_last {α : Type} (f : Fin 4096 → α) (g : Fin 16 → α) (z : α) (n : Fin 4112) :
    (if h : n.val < 16 then g ⟨n.val, h⟩ else f ⟨n.val - 16, by omega⟩) = pick f g z (SoftmaxMath.metaLast n).val := by
  have e : (SoftmaxMath.metaLast n).val = (n.val + 4096) % 4112 := rfl
  split_ifs with h
  · exact (pick_meta f g z _ ⟨n.val, h⟩ (by rw [e]; omega) (by rw [e]; show _ = n.val; omega)).symm
  · exact (pick_seq f g z _ ⟨n.val - 16, by omega⟩ (by rw [e]; show _ = n.val - 16; omega)).symm

def keyOf (b : Fin 8) (g : Fin 2) (n : ℕ) (e : Fin 64) : ℝ := pick (fun x => kf (ix4 b x g e)) (fun x => kmf (ix3 x g e)) 0 n
def valOf (b : Fin 8) (g : Fin 2) (d : Fin 64) (n : ℕ) : EReal := pick (fun x => vA m c (ix4 b x g d)) (fun x => vmA m c (ix3 x g d)) 0 n

theorem keyOf_seq (b : Fin 8) (g : Fin 2) (e : Fin 64) (n : ℕ) (x : Fin 4096) (h : n = x.val) : keyOf kf kmf b g n e = kf (ix4 b x g e) :=
  pick_seq (fun x => kf (ix4 b x g e)) (fun x => kmf (ix3 x g e)) 0 n x h
theorem keyOf_meta (b : Fin 8) (g : Fin 2) (e : Fin 64) (n : ℕ) (x : Fin 16) (hn : ¬ n < 4096) (h : n - 4096 = x.val) : keyOf kf kmf b g n e = kmf (ix3 x g e) :=
  pick_meta (fun x => kf (ix4 b x g e)) (fun x => kmf (ix3 x g e)) 0 n x hn h
theorem valOf_seq (b : Fin 8) (g : Fin 2) (d : Fin 64) (n : ℕ) (x : Fin 4096) (h : n = x.val) : valOf m c b g d n = vA m c (ix4 b x g d) :=
  pick_seq (fun x => vA m c (ix4 b x g d)) (fun x => vmA m c (ix3 x g d)) 0 n x h
theorem valOf_meta (b : Fin 8) (g : Fin 2) (d : Fin 64) (n : ℕ) (x : Fin 16) (hn : ¬ n < 4096) (h : n - 4096 = x.val) : valOf m c b g d n = vmA m c (ix3 x g d) :=
  pick_meta (fun x => vA m c (ix4 b x g d)) (fun x => vmA m c (ix3 x g d)) 0 n x hn h

include hkf hkmf in
theorem kx_eq (x : Fin 272) (d : Fin 64) (y : Fin 128) (hy : y.val = d.val) :
    kxOf (iblk m c 1 t : Vec Ideal SK .bf16) (iblk m c 3 t : Vec Ideal SKm .bf16) (ix2 x y) = ((keyOf kf kmf (bOf t) (gOf t) (3840 + x.val) d : ℝ) : EReal) := by
  by_cases h : x.val < 256
  · rw [kxOf_keys _ _ _ _ h, blk_k m c t _ d y hy, hkf, keyOf_seq kf kmf _ _ _ _ (⟨3840 + x.val, by omega⟩ : Fin 4096) rfl]
  · rw [kxOf_meta _ _ _ _ h, blk_km m c t _ d y hy, hkmf, keyOf_meta kf kmf _ _ _ _ (⟨x.val - 256, by omega⟩ : Fin 16) (by omega) (by show 3840 + x.val - 4096 = x.val - 256; omega)]

theorem vx_eq (a : Fin 80) (x : Fin 384) (hx : x.val < 272) :
    vxOf (iblk m c 2 t : Vec Ideal SV .bf16) (iblk m c 4 t : Vec Ideal SVm .bf16) (ix2 a x)
      = if h : a.val < 64 then valOf m c (bOf t) (gOf t) ⟨a.val, h⟩ (3840 + x.val) else 1 := by
  by_cases h : x.val < 256
  · rw [vxOf_vals _ _ _ _ h, blk_v]
    split_ifs with ha
    · rw [valOf_seq m c _ _ _ _ (⟨3840 + x.val, by omega⟩ : Fin 4096) rfl]
    · rfl
  · rw [vxOf_meta _ _ _ _ h, blk_vm m c t _ _ a _ (by show x.val - 256 < 16; omega)]
    split_ifs with ha
    · rw [valOf_meta m c _ _ _ _ (⟨x.val - 256, by omega⟩ : Fin 16) (by omega) (by show 3840 + x.val - 4096 = x.val - 256; omega)]
    · rfl

include hqf hkf hkmf in
theorem outAt_apply (x : Fin 4096) (h : Fin 4) (d : Fin 64) (y : Fin 256) (hy : y.val = 64 * h.val + d.val) (hs : RunIdeal.scaleOf (F := Ideal) = (((8 * Real.log 2)⁻¹ : ℝ) : EReal)) :
    RunIdeal.outAt m c t (ix2 x y) = SoftmaxMath.byPowers (Finset.range 4112)
      (fun n => ∑ e, keyOf kf kmf (bOf t) (gOf t) n e * qf (ix4 (bOf t) x (⟨4 * (gOf t).val + h.val, by omega⟩ : Fin 8) e)) (valOf m c (bOf t) (gOf t) d) := by
  refine (tileOut_apply (RunIdeal.scaleOf (F := Ideal)) hs _ _ _ _ _ (hOf (ix2 x y)) (⟨x.val % 256, by omega⟩ : Fin 256) (⟨y.val % 128, by omega⟩ : Fin 128)
    (fun e => qf (ix4 (bOf t) x (⟨4 * (gOf t).val + h.val, by omega⟩ : Fin 8) e)) (keyOf kf kmf (bOf t) (gOf t)) (valOf m c (bOf t) (gOf t) d) ?_ ?_ ?_ ?_ ?_ ?_ ?_)
  · intro e
    rw [← hqf, ← blk_q m c t x h e (⟨64 * h.val + e.val, by omega⟩ : Fin 256) rfl]
    exact rO_at _ x y _ _ (by show 64 * h.val + e.val = 128 * (y.val / 128) + (64 * (y.val % 128 / 64) + e.val); omega)
  · intro j z e
    refine (rK_at _ j z _).trans ?_
    rw [blk_k m c t _ e _ rfl, hkf, keyOf_seq kf kmf _ _ _ _ (⟨256 * j.val + z.val, by omega⟩ : Fin 4096) rfl]
  · intro z e
    exact (rKx_at _ z _).trans (kx_eq m c t kf kmf hkf hkmf z e _ rfl)
  · intro j z
    refine (rV_at _ j _ z).trans ?_
    rw [blk_v, dif_pos (by show y.val % 128 % 64 < 64; omega), valOf_seq m c _ _ _ _ (⟨256 * j.val + z.val, by omega⟩ : Fin 4096) rfl]
    exact congrArg (fun d => vA m c (ix4 (bOf t) _ (gOf t) d)) (Fin.ext (by show y.val % 128 % 64 = d.val; omega))
  · intro z
    refine (rVx_at _ _ _).trans ?_
    rw [vx_eq m c t _ _ z.isLt, dif_pos (by show y.val % 128 % 64 < 64; omega)]
    exact congrArg (fun d => valOf m c (bOf t) (gOf t) d _) (Fin.ext (by show y.val % 128 % 64 = d.val; omega))
  · intro j z
    refine (rV_at _ j _ z).trans ?_
    rw [blk_v, dif_neg (by decide)]
  · intro z
    refine (rVx_at _ _ _).trans ?_
    rw [vx_eq m c t _ _ z.isLt, dif_neg (by decide)]
end Out

end Cert.Proof.BlockValue

end
-- ==== Proof.RefValue.lean ====
/-
  What the reference computes, element by element, over the extended reals.
-/
module

public import proofs.«01_k».proof.Proof.Gen.AttnRefIdeal.Run
public import proofs.«01_k».proof.Proof.SoftmaxMath
public import Idealize.ShloMosaic.Lib.Pointwise
public import Idealize.ShloMosaic.Lib.KernelVsHost

@[expose] public section

set_option maxRecDepth 16384

noncomputable section

namespace Cert.Proof.RefValue

open Cert.AttnRefIdeal Cert.AttnRefIdeal.Gen Cert.AttnRefIdeal.Value Idealize.ShloMosaic Idealize.ShloMosaic.TcCoe

variable (m : (ℓ : Loc nD τ sig) → Buf (Elt Ideal) ℓ) (c : Dev nD)

/-- The meta rows before the sequence's. -/
def withMeta (a : FVec Ideal S16x2x64 .f32) (x : FVec Ideal S8x4096x2x64 .f32) : FVec Ideal S8x4112x2x64 .f32 :=
  concatenate S8x4112x2x64 1 [⟨S8x16x2x64, (broadcastInDim S8x16x2x64 ![0, 1, 2, 3] bcast_S1x16x2x64_S8x16x2x64_0_1_2_3 (broadcastInDim S1x16x2x64 ![1, 2, 3] bcast_S16x2x64_S1x16x2x64_1_2_3 a))⟩, ⟨S8x4096x2x64, x⟩] concatenates_S8x16x2x64_S8x4096x2x64_S8x4112x2x64_d1
/-- The scaled scores. -/
def scores (kk : FVec Ideal S8x4112x2x64 .f32) (q : FVec Ideal S8x4096x8x64 .f32) : FVec Ideal S8x2x4x4096x4112 .f32 :=
  mulf (transpose S8x2x4x4096x4112 [0, 1, 4, 3, 2] (Host.dotGeneral dot_S8x4112x2x64_S8x4096x2x4x64_S8x2x4112x4096x4_3_4_1_13_02_02 none kk (shapeCast S8x4096x2x4x64 q shapeCasts_S8x4096x8x64_S8x4096x2x4x64) : FVec Ideal S8x2x4112x4096x4 .f32) transposes_S8x2x4112x4096x4_S8x2x4x4096x4112_0_1_4_3_2)
    (broadcastInDim S8x2x4x4096x4112 ![] bcast_S_S8x2x4x4096x4112 (constant S_ .f32 0x3E000000#32))
/-- A row's greatest score. -/
def rowMax (x : FVec Ideal S8x2x4x4096x4112 .f32) : FVec Ideal S8x2x4x4096 .f32 :=
  maximumf (broadcastInDim S8x2x4x4096 ![] bcast_S_S8x2x4x4096 (constant S_ .f32 0xFF800000#32)) (Host.reduce FloatOps.maximumf x (constant S_ .f32 0xFF800000#32) reducesTo_S8x2x4x4096x4112_S8x2x4x4096_d4 h_S_)
/-- A row's entry, repeated over the keys. -/
def spread (x : FVec Ideal S8x2x4x4096 .f32) : FVec Ideal S8x2x4x4096x4112 .f32 :=
  broadcastInDim S8x2x4x4096x4112 ![0, 1, 2, 3, 4] bcast_S8x2x4x4096x1_S8x2x4x4096x4112_0_1_2_3_4 (broadcastInDim S8x2x4x4096x1 ![0, 1, 2, 3] bcast_S8x2x4x4096_S8x2x4x4096x1_0_1_2_3 x)
/-- The exponentials, the greatest score taken off. -/
def expo (x : FVec Ideal S8x2x4x4096x4112 .f32) : FVec Ideal S8x2x4x4096x4112 .f32 := Host.exp (subf x (spread (rowMax x)))
/-- The normalised weights. -/
def soft (x : FVec Ideal S8x2x4x4096x4112 .f32) : FVec Ideal S8x2x4x4096x4112 .f32 :=
  Host.divf (expo x) (spread (Host.reduceAdd (expo x) (constant S_ .f32 0x00000000#32) reducesTo_S8x2x4x4096x4112_S8x2x4x4096_d4 h_S_))
/-- The weighted values. -/
def mixed (vv : FVec Ideal S8x4112x2x64 .f32) (p : FVec Ideal S8x2x4x4096x4112 .f32) : FVec Ideal S32768x512 .f32 :=
  shapeCast S32768x512 (transpose S8x4096x2x4x64 [0, 4, 1, 3, 2] (Host.dotGeneral dot_S8x4112x2x64_S8x2x4x4096x4112_S8x2x64x4x4096_1_4_3_23_02_01 none vv p : FVec Ideal S8x2x64x4x4096 .f32) transposes_S8x2x64x4x4096_S8x4096x2x4x64_0_4_1_3_2) shapeCasts_S8x4096x2x4x64_S32768x512

theorem out_eq : res_out0 m c = mixed (withMeta (m ((c.tc : Thread nD τ).loc main_arg4)) (m ((c.tc : Thread nD τ).loc main_arg2)))
    (soft (scores (withMeta (m ((c.tc : Thread nD τ).loc main_arg3)) (m ((c.tc : Thread nD τ).loc main_arg1))) (m ((c.tc : Thread nD τ).loc main_arg0)))) := by
  unfold res_out0 res_main_v25
  rfl

theorem withMeta_apply (a : FVec Ideal S16x2x64 .f32) (x : FVec Ideal S8x4096x2x64 .f32) (b : Fin 8) (n : Fin 4112) (g : Fin 2) (d : Fin 64) :
    withMeta a x (ix4 b n g d) = if h : n.val < 16 then a (ix3 (⟨n.val, h⟩ : Fin 16) g d) else x (ix4 b (⟨n.val - 16, by omega⟩ : Fin 4096) g d) := by
  pointwise [withMeta]

theorem scores_apply (kk : FVec Ideal S8x4112x2x64 .f32) (q : FVec Ideal S8x4096x8x64 .f32) (b : Fin 8) (g : Fin 2) (h : Fin 4) (s : Fin 4096) (n : Fin 4112) :
    scores kk q (ix5 b g h s n) = (∑ d : Fin 64, kk (ix4 b n g d) * q (ix4 b s (⟨4 * g.val + h.val, by omega⟩ : Fin 8) d)) * Ideal.ofBits .f32 0x3E000000#32 := by
  pointwise [scores]
  simp only [Nat.mul_comm]

theorem ofBits_neg_inf : Ideal.ofBits .f32 0xFF800000#32 = ⊥ := by
  simp [Ideal.ofBits, Ideal.ieee]

theorem reduces_keys : S8x2x4x4096x4112.Reduces [4] S8x2x4x4096 := by decide

theorem lift_keys (b : Fin 8) (g : Fin 2) (h : Fin 4) (s : Fin 4096) (n : Fin 4112) :
    reduces_keys.lift (ix4 b g h s) n = ix5 b g h s n := by
  funext a; apply Fin.ext
  match a with
  | ⟨0, _⟩ => rfl
  | ⟨1, _⟩ => rfl
  | ⟨2, _⟩ => rfl
  | ⟨3, _⟩ => rfl
  | ⟨4, _⟩ => rfl

/-- The host's maximum from −∞ over one axis is the supremum over it. -/
theorem hostMax_apply {s t u : Shape} {a : Fin s.rank} (x : FVec Ideal s .f32) (h' : s.ReducesTo [a] t) (hu : 0 < u.numel) (h : s.Reduces [a] t) (j : t.Idx) :
    Host.reduce FloatOps.maximumf x (constant u .f32 0xFF800000#32) h' hu j = Finset.univ.sup fun k : Fin (s.size a) => x (h.lift j k) := by
  have e := (congrFun (hostReduce_maximumf_eq_multiReduction (φ := .f32) x 0xFF800000#32 h' hu h (.inl rfl) rfl) j).trans
      (Ideal.multiReduction_maximumf_single x 0xFF800000#32 h (.inl rfl) rfl j)
  have e0 : (FloatOps.ofBits .f32 0xFF800000#32 : Ideal .f32) = (⊥ : EReal) := ofBits_neg_inf
  rw [e0] at e
  exact e

theorem maximumf_bot {s : Shape} (y z : FVec Ideal s .f32) (j : s.Idx) (h : y j = (⊥ : EReal)) : maximumf y z j = z j := by
  show max (y j) (z j) = z j
  rw [h]; exact max_eq_right bot_le

theorem rowMax_apply (x : FVec Ideal S8x2x4x4096x4112 .f32) (b : Fin 8) (g : Fin 2) (h : Fin 4) (s : Fin 4096) :
    rowMax x (ix4 b g h s) = Finset.univ.sup fun n : Fin 4112 => x (ix5 b g h s n) := by
  unfold rowMax
  rw [maximumf_bot _ _ _ (show _ = _ from ofBits_neg_inf), hostMax_apply x _ _ reduces_keys]
  exact congrArg (Finset.sup (Finset.univ : Finset (Fin 4112))) (funext fun n => congrArg x (lift_keys b g h s n))

theorem spread_apply (x : FVec Ideal S8x2x4x4096 .f32) (b : Fin 8) (g : Fin 2) (h : Fin 4) (s : Fin 4096) (n : Fin 4112) :
    spread x (ix5 b g h s n) = x (ix4 b g h s) := by
  pointwise [spread]

theorem expo_apply (x : FVec Ideal S8x2x4x4096x4112 .f32) (b : Fin 8) (g : Fin 2) (h : Fin 4) (s : Fin 4096) (n : Fin 4112) :
    expo x (ix5 b g h s n) = Ideal.exp (x (ix5 b g h s n) - Finset.univ.sup fun n : Fin 4112 => x (ix5 b g h s n)) := by
  pointwise [expo, spread_apply, rowMax_apply]

theorem soft_apply (x : FVec Ideal S8x2x4x4096x4112 .f32) (b : Fin 8) (g : Fin 2) (h : Fin 4) (s : Fin 4096) (n : Fin 4112) :
    soft x (ix5 b g h s n) = Ideal.div (expo x (ix5 b g h s n)) (∑ n : Fin 4112, expo x (ix5 b g h s n)) := by
  pointwise [soft, spread_apply]

theorem mixed_apply (vv : FVec Ideal S8x4112x2x64 .f32) (p : FVec Ideal S8x2x4x4096x4112 .f32) (b : Fin 8) (s : Fin 4096) (g : Fin 2) (h : Fin 4) (d : Fin 64) :
    mixed vv p (ix2 (⟨4096 * b.val + s.val, by omega⟩ : Fin 32768) (⟨256 * g.val + 64 * h.val + d.val, by omega⟩ : Fin 512))
      = ∑ n : Fin 4112, vv (ix4 b n g d) * p (ix5 b g h s n) := by
  unfold mixed
  rw [shapeCast_apply _ _ _ (ix5 b s g h d) (by
    rw [Shape.rowMajor_val_five, Shape.rowMajor_val_two]
    show (((b.val * 4096 + s.val) * 2 + g.val) * 4 + h.val) * 64 + d.val = (4096 * b.val + s.val) * 512 + (256 * g.val + 64 * h.val + d.val)
    omega)]
  pointwise

theorem ofBits_eighth : Ideal.ofBits .f32 0x3E000000#32 = ((1 / 8 : ℝ) : EReal) := by
  simp [Ideal.ofBits, Ideal.ieee]
  rw [← EReal.coe_mul]
  norm_num

/-- An output is the plain softmax of its query's scores, when the queries and keys are real. -/
theorem out_apply (kk vv : FVec Ideal S8x4112x2x64 .f32) (q : FVec Ideal S8x4096x8x64 .f32)
    (b : Fin 8) (s : Fin 4096) (g : Fin 2) (h : Fin 4) (d : Fin 64) (kr : Fin 4112 → Fin 64 → ℝ) (qr : Fin 64 → ℝ)
    (hk : ∀ (n : Fin 4112) (e : Fin 64), kk (ix4 b n g e) = ((kr n e : ℝ) : EReal))
    (hq : ∀ e : Fin 64, q (ix4 b s (⟨4 * g.val + h.val, by omega⟩ : Fin 8) e) = ((qr e : ℝ) : EReal)) :
    mixed vv (soft (scores kk q)) (ix2 (⟨4096 * b.val + s.val, by omega⟩ : Fin 32768) (⟨256 * g.val + 64 * h.val + d.val, by omega⟩ : Fin 512))
      = SoftmaxMath.plain Finset.univ (fun n => ∑ e, kr n e * qr e) (fun n => vv (ix4 b n g d)) := by
  have hs : ∀ n : Fin 4112, scores kk q (ix5 b g h s n) = (((∑ e, kr n e * qr e) / 8 : ℝ) : EReal) := fun n => by
    rw [scores_apply, ofBits_eighth, show (∑ e, kr n e * qr e) / 8 = (∑ e, kr n e * qr e) * (1 / 8 : ℝ) by ring, EReal.coe_mul, SoftmaxMath.coe_sum]
    simp only [hk, hq, EReal.coe_mul]
  rw [mixed_apply]
  simp only [soft_apply, expo_apply, hs]
  rfl

end Cert.Proof.RefValue

end
-- ==== Proof.Results.lean ====
/-
  What the call leaves in its four results, against the reference's.
-/
module

public import proofs.«01_k».proof.Proof.BlockValue
public import proofs.«01_k».proof.Proof.RefValue

@[expose] public section

set_option maxRecDepth 16384

noncomputable section

namespace Cert.Proof.Results

open Cert.AttnIdeal Cert.AttnIdeal.Gen Cert.Proof.Stage Cert.Proof.RunIdeal Cert.Proof.BlockValue Idealize.ShloMosaic Idealize.ShloMosaic.TcCoe Idealize.SL.Sem
open Idealize.ShloMosaic.Pipeline (Dat Cfg Window)

theorem idx2 {A B : ℕ} (i : Shape.Idx ⟨2, ![A, B]⟩) : i = ix2 (i 0 : Fin A) (i 1 : Fin B) := by
  funext a; fin_cases a <;> rfl

variable (m : (ℓ : Loc nD τ sig) → Buf (Elt Ideal) ℓ) (c : Dev nD)

theorem scaleOf_eq : scaleOf (F := Ideal) = (((8 * Real.log 2)⁻¹ : ℝ) : EReal) := rfl

/-- The reference's attention of the call's arguments. -/
def outRef : FVec Ideal S32768x512 .f32 :=
  RefValue.mixed (RefValue.withMeta (vmA m c) (vA m c)) (RefValue.soft (RefValue.scores (RefValue.withMeta (kmA m c) (kA m c)) (qA m c)))

section Reals
variable (qf : Shape.Idx S8x4096x8x64 → ℝ) (kf : Shape.Idx S8x4096x2x64 → ℝ) (kmf : Shape.Idx S16x2x64 → ℝ)
variable (hqf : ∀ i, qA m c i = ((qf i : ℝ) : EReal)) (hkf : ∀ i, kA m c i = ((kf i : ℝ) : EReal)) (hkmf : ∀ i, kmA m c i = ((kmf i : ℝ) : EReal))
include hqf hkf hkmf

theorem outRef_apply (b : Fin 8) (s : Fin 4096) (g : Fin 2) (h : Fin 4) (d : Fin 64) :
    outRef m c (ix2 (⟨4096 * b.val + s.val, by omega⟩ : Fin 32768) (⟨256 * g.val + 64 * h.val + d.val, by omega⟩ : Fin 512))
      = SoftmaxMath.byPowers (Finset.range 4112) (fun n => ∑ e, keyOf kf kmf b g n e * qf (ix4 b s (⟨4 * g.val + h.val, by omega⟩ : Fin 8) e)) (valOf m c b g d) := by
  rw [SoftmaxMath.byPowers_range, SoftmaxMath.byPowers_eq _ _ _ ⟨0, Finset.mem_univ _⟩, ← SoftmaxMath.plain_equiv SoftmaxMath.metaLast]
  refine (RefValue.out_apply _ _ (qA m c) b s g h d (fun n e => keyOf kf kmf b g (SoftmaxMath.metaLast n).val e) (fun e => qf (ix4 b s (⟨4 * g.val + h.val, by omega⟩ : Fin 8) e))
    ?_ (fun e => hqf _)).trans ?_
  · intro n e
    rw [RefValue.withMeta_apply]
    have := pick_last (fun x => kf (ix4 b x g e)) (fun x => kmf (ix3 x g e)) 0 n
    show _ = ((pick (fun x => kf (ix4 b x g e)) (fun x => kmf (ix3 x g e)) 0 (SoftmaxMath.metaLast n).val : ℝ) : EReal)
    rw [← this]
    split_ifs with hn
    · exact hkmf _
    · exact hkf _
  · congr 1
    funext n
    rw [RefValue.withMeta_apply]
    exact pick_last (fun x => vA m c (ix4 b x g d)) (fun x => vmA m c (ix3 x g d)) 0 n

theorem out_block (t : Fin cfg0.N) (x : Fin 4096) (y : Fin 256) : outAt m c t (ix2 x y)
    = outRef m c (ix2 (⟨4096 * (bOf t).val + x.val, by omega⟩ : Fin 32768) (⟨256 * (gOf t).val + y.val, by omega⟩ : Fin 512)) := by
  rw [outAt_apply m c t qf kf kmf hqf hkf hkmf x (⟨y.val / 64, by omega⟩ : Fin 4) (⟨y.val % 64, by omega⟩ : Fin 64) y (by show y.val = 64 * (y.val / 64) + y.val % 64; omega) scaleOf_eq,
    ← outRef_apply m c qf kf kmf hqf hkf hkmf (bOf t) x (gOf t)]
  refine at2 (outRef m c) _ _ rfl ?_
  show 256 * (gOf t).val + 64 * (y.val / 64) + y.val % 64 = 256 * (gOf t).val + y.val; omega

/-- The attention's array. -/
theorem out_arr : (dats m 0 c).arrAt 10 cfg0.N = outRef m c := by
  refine (dats m 0 c).arrAt_eq_of_cover 10 (outRef m c) ?_ ?_
  · intro t _
    show outAt m c t = _
    funext i
    rw [idx2 i]
    refine (out_block m c qf kf kmf hqf hkf hkmf t _ _).trans (at2 (outRef m c) _ _ ?_ ?_)
    · show 4096 * (bOf t).val + (i 0).val = cc0_transform_10 (grid0.coords t) 0 * 4096 + 1 * (i 0).val
      rw [ix_10]; show _ = (bOf t).val * 4096 + _; omega
    · show 256 * (gOf t).val + (i 1).val = cc0_transform_10 (grid0.coords t) 1 * 256 + 1 * (i 1).val
      rw [ix_10]; show _ = (gOf t).val * 256 + _; omega
  · intro i
    have h0 : (i 0).val < 32768 := (i 0).isLt
    have h1 : (i 1).val < 512 := (i 1).isLt
    obtain ⟨t, ht⟩ : ∃ t : Fin cfg0.N, t.val = 2 * ((i 0).val / 4096) + (i 1).val / 256 := ⟨⟨2 * ((i 0).val / 4096) + (i 1).val / 256, by show _ < 16; omega⟩, rfl⟩
    refine ⟨t, flush0_10 t, ?_⟩
    rw [View.set_slice_whole, Rect.mem_set_unit]
    intro a
    fin_cases a
    · show cc0_transform_10 (grid0.coords t) 0 * 4096 ≤ (i 0).val ∧ (i 0).val < cc0_transform_10 (grid0.coords t) 0 * 4096 + 4096
      rw [ix_10]
      show t.val / 2 * 4096 ≤ (i 0).val ∧ (i 0).val < t.val / 2 * 4096 + 4096; omega
    · show cc0_transform_10 (grid0.coords t) 1 * 256 ≤ (i 1).val ∧ (i 1).val < cc0_transform_10 (grid0.coords t) 1 * 256 + 256
      rw [ix_10]
      show t.val % 2 * 256 ≤ (i 1).val ∧ (i 1).val < t.val % 2 * 256 + 256; omega
end Reals

/-! ## The weights -/

abbrev woA : FVec Ideal S1024x1024 .f32 := m ((c : Thread nD τ).loc main_arg5)
abbrev wfA : FVec Ideal S1024x5632 .f32 := m ((c : Thread nD τ).loc main_arg8)
abbrev wdA : FVec Ideal S2816x1024 .f32 := m ((c : Thread nD τ).loc main_arg10)
/-- The two gains, one after the other. -/
abbrev gainsA : FVec Ideal S1024 .f32 :=
  concatenate S1024 0 [⟨S512, m ((c : Thread nD τ).loc main_arg6)⟩, ⟨S512, m ((c : Thread nD τ).loc main_arg7)⟩] concatenates_S512_S512_S1024_d0
abbrev gainA : FVec Ideal S1024 .f32 := m ((c : Thread nD τ).loc main_arg9)

def woOf (w : FVec Ideal S1024x1024 .f32) (g : FVec Ideal S1024 .f32) : FVec Ideal S1024x1024 .bf16 :=
  truncf .bf16 (mulf w (broadcastInDim S1024x1024 ![0, 1] Cert.AttnRefIdeal.Gen.facts.bcast_S1024x1_S1024x1024_0_1 (broadcastInDim S1024x1 ![0] Cert.AttnRefIdeal.Gen.facts.bcast_S1024_S1024x1_0 g))) bitsLt_bf16_f32
def wfOf (w : FVec Ideal S1024x5632 .f32) (g : FVec Ideal S1024 .f32) : FVec Ideal S1024x5632 .bf16 :=
  truncf .bf16 (mulf w (broadcastInDim S1024x5632 ![0, 1] Cert.AttnRefIdeal.Gen.facts.bcast_S1024x1_S1024x5632_0_1 (broadcastInDim S1024x1 ![0] Cert.AttnRefIdeal.Gen.facts.bcast_S1024_S1024x1_0 g))) bitsLt_bf16_f32
def wdOf (w : FVec Ideal S2816x1024 .f32) : FVec Ideal S2816x1024 .bf16 := truncf .bf16 w bitsLt_bf16_f32
theorem woOf_apply (w g) (x : Fin 1024) (y : Fin 1024) : woOf w g (ix2 x y) = w (ix2 x y) * g (ix1 x) := by pointwise [woOf]
theorem wfOf_apply (w g) (x : Fin 1024) (y : Fin 5632) : wfOf w g (ix2 x y) = w (ix2 x y) * g (ix1 x) := by pointwise [wfOf]

abbrev woRef : FVec Ideal S1024x1024 .bf16 := woOf (woA m c) (gainsA m c)
abbrev wfRef : FVec Ideal S1024x5632 .bf16 := wfOf (wfA m c) (gainA m c)
abbrev wdRef : FVec Ideal S2816x1024 .bf16 := wdOf (wdA m c)

theorem foldWo_apply (w : Vec Ideal SWo .f32) (g : Vec Ideal SG .f32) (x : Fin 64) (y : Fin 1024) : foldWo w g (ix2 x y) = w (ix2 x y) * g (ix2 x (0 : Fin 1)) := by pointwise [foldWo]
theorem foldWf_apply (w : Vec Ideal SWf .f32) (g : Vec Ideal SG .f32) (x : Fin 64) (y : Fin 5632) : foldWf w g (ix2 x y) = w (ix2 x y) * g (ix2 x (0 : Fin 1)) := by pointwise [foldWf]
theorem woAt_apply (t : Fin cfg0.N) (x : Fin 64) (y : Fin 1024) : woAt m c t (ix2 x y) = woRef m c (ix2 (⟨64 * t.val + x.val, by have := t_lt t; omega⟩ : Fin 1024) y) := by
  unfold woAt
  show _ = woOf (woA m c) (gainsA m c) _
  rw [foldWo_apply, woOf_apply, iblk_5, iblk_6, HostValue.V_v4, HostValue.gains_apply]
theorem wfAt_apply (t : Fin cfg0.N) (x : Fin 64) (y : Fin 5632) : wfAt m c t (ix2 x y) = wfRef m c (ix2 (⟨64 * t.val + x.val, by have := t_lt t; omega⟩ : Fin 1024) y) := by
  unfold wfAt
  show _ = wfOf (wfA m c) (gainA m c) _
  rw [foldWf_apply, wfOf_apply, iblk_7, iblk_8, HostValue.V_v23, HostValue.gain_apply]
theorem wdAt_apply (t : Fin cfg0.N) (x : Fin 176) (y : Fin 1024) : wdAt m c t (ix2 x y) = wdRef m c (ix2 (⟨176 * t.val + x.val, by have := t_lt t; omega⟩ : Fin 2816) y) :=
  iblk_9 m c t x y

theorem wo_arr : (dats m 0 c).arrAt 11 cfg0.N = woRef m c := by
  refine (dats m 0 c).arrAt_eq_of_cover 11 (woRef m c) ?_ ?_
  · intro t _
    show woAt m c t = _
    funext i
    rw [idx2 i]
    refine (woAt_apply m c t _ _).trans (at2 (woRef m c) _ _ ?_ ?_)
    · show 64 * t.val + (i 0).val = cc0_transform_11 (grid0.coords t) 0 * 64 + 1 * (i 0).val
      rw [ix_11]; show _ = t.val * 64 + _; omega
    · show (i 1).val = cc0_transform_11 (grid0.coords t) 1 * 1024 + 1 * (i 1).val
      rw [ix_11]; show _ = 0 * 1024 + _; omega
  · intro i
    have h0 : (i 0).val < 1024 := (i 0).isLt
    have h1 : (i 1).val < 1024 := (i 1).isLt
    obtain ⟨t, ht⟩ : ∃ t : Fin cfg0.N, t.val = (i 0).val / 64 := ⟨⟨(i 0).val / 64, by show _ < 16; omega⟩, rfl⟩
    refine ⟨t, flush0_11 t, ?_⟩
    rw [View.set_slice_whole, Rect.mem_set_unit]
    intro a
    fin_cases a
    · show cc0_transform_11 (grid0.coords t) 0 * 64 ≤ (i 0).val ∧ (i 0).val < cc0_transform_11 (grid0.coords t) 0 * 64 + 64
      rw [ix_11]
      show t.val * 64 ≤ (i 0).val ∧ (i 0).val < t.val * 64 + 64; omega
    · show cc0_transform_11 (grid0.coords t) 1 * 1024 ≤ (i 1).val ∧ (i 1).val < cc0_transform_11 (grid0.coords t) 1 * 1024 + 1024
      rw [ix_11]
      show 0 * 1024 ≤ (i 1).val ∧ (i 1).val < 0 * 1024 + 1024; omega

theorem wf_arr : (dats m 0 c).arrAt 12 cfg0.N = wfRef m c := by
  refine (dats m 0 c).arrAt_eq_of_cover 12 (wfRef m c) ?_ ?_
  · intro t _
    show wfAt m c t = _
    funext i
    rw [idx2 i]
    refine (wfAt_apply m c t _ _).trans (at2 (wfRef m c) _ _ ?_ ?_)
    · show 64 * t.val + (i 0).val = cc0_transform_12 (grid0.coords t) 0 * 64 + 1 * (i 0).val
      rw [ix_12]; show _ = t.val * 64 + _; omega
    · show (i 1).val = cc0_transform_12 (grid0.coords t) 1 * 5632 + 1 * (i 1).val
      rw [ix_12]; show _ = 0 * 5632 + _; omega
  · intro i
    have h0 : (i 0).val < 1024 := (i 0).isLt
    have h1 : (i 1).val < 5632 := (i 1).isLt
    obtain ⟨t, ht⟩ : ∃ t : Fin cfg0.N, t.val = (i 0).val / 64 := ⟨⟨(i 0).val / 64, by show _ < 16; omega⟩, rfl⟩
    refine ⟨t, flush0_12 t, ?_⟩
    rw [View.set_slice_whole, Rect.mem_set_unit]
    intro a
    fin_cases a
    · show cc0_transform_12 (grid0.coords t) 0 * 64 ≤ (i 0).val ∧ (i 0).val < cc0_transform_12 (grid0.coords t) 0 * 64 + 64
      rw [ix_12]
      show t.val * 64 ≤ (i 0).val ∧ (i 0).val < t.val * 64 + 64; omega
    · show cc0_transform_12 (grid0.coords t) 1 * 5632 ≤ (i 1).val ∧ (i 1).val < cc0_transform_12 (grid0.coords t) 1 * 5632 + 5632
      rw [ix_12]
      show 0 * 5632 ≤ (i 1).val ∧ (i 1).val < 0 * 5632 + 5632; omega

theorem wd_arr : (dats m 0 c).arrAt 13 cfg0.N = wdRef m c := by
  refine (dats m 0 c).arrAt_eq_of_cover 13 (wdRef m c) ?_ ?_
  · intro t _
    show wdAt m c t = _
    funext i
    rw [idx2 i]
    refine (wdAt_apply m c t _ _).trans (at2 (wdRef m c) _ _ ?_ ?_)
    · show 176 * t.val + (i 0).val = cc0_transform_13 (grid0.coords t) 0 * 176 + 1 * (i 0).val
      rw [ix_13]; show _ = t.val * 176 + _; omega
    · show (i 1).val = cc0_transform_13 (grid0.coords t) 1 * 1024 + 1 * (i 1).val
      rw [ix_13]; show _ = 0 * 1024 + _; omega
  · intro i
    have h0 : (i 0).val < 2816 := (i 0).isLt
    have h1 : (i 1).val < 1024 := (i 1).isLt
    obtain ⟨t, ht⟩ : ∃ t : Fin cfg0.N, t.val = (i 0).val / 176 := ⟨⟨(i 0).val / 176, by show _ < 16; omega⟩, rfl⟩
    refine ⟨t, flush0_13 t, ?_⟩
    rw [View.set_slice_whole, Rect.mem_set_unit]
    intro a
    fin_cases a
    · show cc0_transform_13 (grid0.coords t) 0 * 176 ≤ (i 0).val ∧ (i 0).val < cc0_transform_13 (grid0.coords t) 0 * 176 + 176
      rw [ix_13]
      show t.val * 176 ≤ (i 0).val ∧ (i 0).val < t.val * 176 + 176; omega
    · show cc0_transform_13 (grid0.coords t) 1 * 1024 ≤ (i 1).val ∧ (i 1).val < cc0_transform_13 (grid0.coords t) 1 * 1024 + 1024
      rw [ix_13]
      show 0 * 1024 ≤ (i 1).val ∧ (i 1).val < 0 * 1024 + 1024; omega

end Cert.Proof.Results

end
-- ==== Proof.FinitePooled.lean ====
/-
  What the mixing call's precondition says over the extended reals: the stream to be pooled and its meta rows are real numbers.
-/
module

public import proofs.«01_k».proof.Proof.Finite

@[expose] public section

set_option maxRecDepth 16384

noncomputable section

namespace Cert.Proof.FinitePooled

open Idealize.ShloMosaic Cert.Proof.Finite

theorem facts : Cert.Pre_finite_pooled.Facts where
  bcast_S_S8x4096x512 := by decide
  reducesTo_S8x4096x512_S_d0_1_2 := by decide
  h_S_ := by decide
  bcast_S_S16x512 := by decide
  reducesTo_S16x512_S_d0_1 := by decide

theorem real_of_pre [hP : Cert.Pre_finite_pooled.Facts] (a0 a1) (a2 : FVec Ideal ⟨3, ![8, 4096, 512]⟩ .f32) (a3 : FVec Ideal ⟨2, ![16, 512]⟩ .f32)
    (a4 a5 a6 a7 a8 a9 a10 a11) (h : Cert.Pre_finite_pooled.fn (F := Ideal) a0 a1 a2 a3 a4 a5 a6 a7 a8 a9 a10 a11 = fun _ => 1#1) : AllReal a2 ∧ AllReal a3 := by
  have h' := congrFun h (fun a => a.elim0)
  obtain ⟨h0, h1⟩ := IntOp.andi_eq_one.mp h'
  exact ⟨fun i => real_of_lt _ (reduce_andi _ _ _ _ _ h0 i), fun i => real_of_lt _ (reduce_andi _ _ _ _ _ h1 i)⟩

end Cert.Proof.FinitePooled

end
-- ==== Proof.MixTile.lean ====
/-
  What one grid point of the mixer and feed-forward call leaves in its result block, as one term of the blocks that it reads.
-/
module

public import proofs.«01_k».proof.Proof.Gen.MixIdeal.Value

@[expose] public section

set_option maxRecDepth 16384

noncomputable section

namespace Cert.Proof.MixTile

open Cert.MixIdeal Cert.MixIdeal.Gen Cert.MixIdeal.Value Idealize.ShloMosaic Idealize.ShloMosaic.TcCoe Idealize.SL.Sem

variable {F : FTy → Type} [FloatOps F]

/-- The grid point's place within its batch entry. -/
def place (i : grid0.Coords) : BitVec 32 :=
  Scalar.select (Scalar.andi (Scalar.xori (Scalar.cmpi .slt (Scalar.remsi (BitVec.ofNat 32 (i 0).val) 8#32) 0#32) 0#1)
      (Scalar.cmpi .ne (Scalar.remsi (BitVec.ofNat 32 (i 0).val) 8#32) 0#32))
    (Scalar.addi (Scalar.remsi (BitVec.ofNat 32 (i 0).val) 8#32) 8#32) (Scalar.remsi (BitVec.ofNat 32 (i 0).val) 8#32)

/-- The rows' stream with the eight rows before and after them. -/
def ext (i : grid0.Coords) (x2 : Vec F S512x512 .f32) (x3 x4 : Vec F S8x512 .f32) (x5 : Vec F S16x512 .f32) : Vec F S544x512 .f32 :=
  View.canon [⟨Rect.unit ![528, 0] S16x512.size inb_S544x512_S16x512_528_0, k0_pay7⟩,
    ⟨Rect.unit ![520, 0] S8x512.size inb_S544x512_S8x512_520_0, k0_pay6 (place i) x4⟩,
    ⟨Rect.unit ![0, 0] S8x512.size inb_S544x512_S8x512_0_0, k0_pay5 (k0_pay4 i (View.ld x5 (Rect.unit ![8, 0] S8x512.size inb_S16x512_S8x512_8_0)) x3)⟩,
    ⟨Rect.unit ![8, 0] S512x512.size inb_S544x512_S512x512_8_0, k0_pay3 x2⟩]

/-- The four groups' pooled rows, each less the row itself. -/
def diff0 (w : BitVec 32) (e : Vec F S544x128 .f32) : FVec F S512x128 .f32 := k0_pay14 (k0_pay10 e) (k0_pay11 w) (k0_pay12 e) (k0_pay13 e)
def diff1 (w : BitVec 32) (e : Vec F S544x128 .f32) : FVec F S512x128 .f32 := k0_pay15 (k0_pay8 w) e
def diff2 (w : BitVec 32) (e : Vec F S544x128 .f32) : FVec F S512x128 .f32 := k0_pay19 (k0_pay8 w) (k0_pay16 e) (k0_pay17 e) (k0_pay18 (k0_pay8 w)) 4112#32
def diff3 (w : BitVec 32) (e : Vec F S544x128 .f32) : FVec F S512x128 .f32 :=
  concatenate S512x128 0 [⟨S504x128, k0_pay22 e⟩, ⟨S8x128, subf (k0_pay23 (k0_pay8 w) e) (k0_pay24 e)⟩] concatenates_S504x128_S8x128_S512x128_d0

/-- The pooled rows through their weights, two groups at a time. -/
def pooled (d0 d1 d2 d3 : FVec F S512x128 .f32) (p q : Vec F S1x256x256 .bf16) : FVec F S512x512 .f32 :=
  concatenate S512x512 1 [
    ⟨S512x256, (matmul dot_S512x256_S256x256_S512x256_1_0_0_1_n_n none (truncf .bf16 (concatenate S512x256 1 [⟨S512x128, d0⟩, ⟨S512x128, d1⟩] concatenates_S512x128_S512x128_S512x256_d1) bitsLt_bf16_f32)
      (shapeCast S256x256 p shapeCasts_S1x256x256_S256x256) (constant S512x256 .f32 0x00000000#32) : FVec F S512x256 .f32)⟩,
    ⟨S512x256, (matmul dot_S512x256_S256x256_S512x256_1_0_0_1_n_n none (truncf .bf16 (concatenate S512x256 1 [⟨S512x128, d2⟩, ⟨S512x128, d3⟩] concatenates_S512x128_S512x128_S512x256_d1) bitsLt_bf16_f32)
      (shapeCast S256x256 q shapeCasts_S1x256x256_S256x256) (constant S512x256 .f32 0x00000000#32) : FVec F S512x256 .f32)⟩] concatenates_S512x256_S512x256_S512x512_d1

/-- The rows after the mixer. -/
def mixed (i : grid0.Coords) (x0 : Vec F S512x1024 .f32) (x1 x2 : Vec F S512x512 .f32) (x3 x4 : Vec F S8x512 .f32) (x5 : Vec F S16x512 .f32) (x6 : Vec F S2x256x256 .bf16)
    (x7 : Vec F S1024x1024 .bf16) : FVec F S512x1024 .f32 :=
  addf (addf (shapeCast S512x1024 x0 shapeCasts_S512x1024_S512x1024) (k0_pay2 x1 (View.ld x7 (Rect.unit ![0, 0] S512x1024.size inb_S1024x1024_S512x1024_0_0))))
    (k0_pay2 (pooled (diff0 (place i) (View.ld (ext i x2 x3 x4 x5) (Rect.unit ![0, 0] S544x128.size inb_S544x512_S544x128_0_0)))
        (diff1 (place i) (View.ld (ext i x2 x3 x4 x5) (Rect.unit ![0, 128] S544x128.size inb_S544x512_S544x128_0_128)))
        (diff2 (place i) (View.ld (ext i x2 x3 x4 x5) (Rect.unit ![0, 256] S544x128.size inb_S544x512_S544x128_0_256)))
        (diff3 (place i) (View.ld (ext i x2 x3 x4 x5) (Rect.unit ![0, 384] S544x128.size inb_S544x512_S544x128_0_384)))
        (View.ld x6 (Rect.unit ![0, 0, 0] S1x256x256.size inb_S2x256x256_S1x256x256_0_0_0))
        (View.ld x6 (Rect.unit ![1, 0, 0] S1x256x256.size inb_S2x256x256_S1x256x256_1_0_0)))
      (View.ld x7 (Rect.unit ![512, 0] S512x1024.size inb_S1024x1024_S512x1024_512_0)))

/-- The reciprocal root of the mean of the squares, row by row. -/
def recip (h : FVec F S512x1024 .f32) : FVec F S512x1 .f32 :=
  rsqrt (addf (divf (shapeCast S512x1 (multiReduction .add [1] S512 (mulf h h) 0x00000000#32 reduces_S512x1024_S512 (.inl rfl) rfl : FVec F S512 .f32) shapeCasts_S512_S512x1)
    (broadcast S512x1 (Scalar.ofBits .f32 0x44800000#32))) (broadcast S512x1 (Scalar.ofBits .f32 0x358637BD#32)))

/-- A chunk of the gated columns. -/
abbrev chunk (h : FVec F S512x1024 .f32) (a b : Vec F S1024x256 .bf16) : FVec F S512x256 .bf16 := k0_pay28 (truncf .bf16 h bitsLt_bf16_f32) (recip h) a b

/-- The gated columns. -/
def gated (h : FVec F S512x1024 .f32) (x8 : Vec F S1024x5632 .bf16) : Vec F S512x2816 .bf16 :=
  View.canon [
    ⟨Rect.unit ![0, 2560] S512x256.size inb_S512x2816_S512x256_0_2560, chunk h (View.ld x8 (Rect.unit ![0, 2560] S1024x256.size inb_S1024x5632_S1024x256_0_2560)) (View.ld x8 (Rect.unit ![0, 5376] S1024x256.size inb_S1024x5632_S1024x256_0_5376))⟩,
    ⟨Rect.unit ![0, 2304] S512x256.size inb_S512x2816_S512x256_0_2304, chunk h (View.ld x8 (Rect.unit ![0, 2304] S1024x256.size inb_S1024x5632_S1024x256_0_2304)) (View.ld x8 (Rect.unit ![0, 5120] S1024x256.size inb_S1024x5632_S1024x256_0_5120))⟩,
    ⟨Rect.unit ![0, 2048] S512x256.size inb_S512x2816_S512x256_0_2048, chunk h (View.ld x8 (Rect.unit ![0, 2048] S1024x256.size inb_S1024x5632_S1024x256_0_2048)) (View.ld x8 (Rect.unit ![0, 4864] S1024x256.size inb_S1024x5632_S1024x256_0_4864))⟩,
    ⟨Rect.unit ![0, 1792] S512x256.size inb_S512x2816_S512x256_0_1792, chunk h (View.ld x8 (Rect.unit ![0, 1792] S1024x256.size inb_S1024x5632_S1024x256_0_1792)) (View.ld x8 (Rect.unit ![0, 4608] S1024x256.size inb_S1024x5632_S1024x256_0_4608))⟩,
    ⟨Rect.unit ![0, 1536] S512x256.size inb_S512x2816_S512x256_0_1536, chunk h (View.ld x8 (Rect.unit ![0, 1536] S1024x256.size inb_S1024x5632_S1024x256_0_1536)) (View.ld x8 (Rect.unit ![0, 4352] S1024x256.size inb_S1024x5632_S1024x256_0_4352))⟩,
    ⟨Rect.unit ![0, 1280] S512x256.size inb_S512x2816_S512x256_0_1280, chunk h (View.ld x8 (Rect.unit ![0, 1280] S1024x256.size inb_S1024x5632_S1024x256_0_1280)) (View.ld x8 (Rect.unit ![0, 4096] S1024x256.size inb_S1024x5632_S1024x256_0_4096))⟩,
    ⟨Rect.unit ![0, 1024] S512x256.size inb_S512x2816_S512x256_0_1024, chunk h (View.ld x8 (Rect.unit ![0, 1024] S1024x256.size inb_S1024x5632_S1024x256_0_1024)) (View.ld x8 (Rect.unit ![0, 3840] S1024x256.size inb_S1024x5632_S1024x256_0_3840))⟩,
    ⟨Rect.unit ![0, 768] S512x256.size inb_S512x2816_S512x256_0_768, chunk h (View.ld x8 (Rect.unit ![0, 768] S1024x256.size inb_S1024x5632_S1024x256_0_768)) (View.ld x8 (Rect.unit ![0, 3584] S1024x256.size inb_S1024x5632_S1024x256_0_3584))⟩,
    ⟨Rect.unit ![0, 512] S512x256.size inb_S512x2816_S512x256_0_512, chunk h (View.ld x8 (Rect.unit ![0, 512] S1024x256.size inb_S1024x5632_S1024x256_0_512)) (View.ld x8 (Rect.unit ![0, 3328] S1024x256.size inb_S1024x5632_S1024x256_0_3328))⟩,
    ⟨Rect.unit ![0, 256] S512x256.size inb_S512x2816_S512x256_0_256, chunk h (View.ld x8 (Rect.unit ![0, 256] S1024x256.size inb_S1024x5632_S1024x256_0_256)) (View.ld x8 (Rect.unit ![0, 3072] S1024x256.size inb_S1024x5632_S1024x256_0_3072))⟩,
    ⟨Rect.unit ![0, 0] S512x256.size inb_S512x2816_S512x256_0_0, chunk h (View.ld x8 (Rect.unit ![0, 0] S1024x256.size inb_S1024x5632_S1024x256_0_0)) (View.ld x8 (Rect.unit ![0, 2816] S1024x256.size inb_S1024x5632_S1024x256_0_2816))⟩]

/-- The rows after the feed-forward part, then the result. -/
def fed (h : FVec F S512x1024 .f32) (x8 : Vec F S1024x5632 .bf16) (x9 : Vec F S2816x1024 .bf16) : FVec F S512x1024 .f32 := k0_pay45 h (gated h x8) x9
def result (h : FVec F S512x1024 .f32) (x10 : Vec F S1x1024 .f32) : FVec F S512x1024 .f32 :=
  mulf (mulf h (broadcastTo S512x1024 (recip h) broadcasts_S512x1_S512x1024)) (broadcastTo S512x1024 (shapeCast S1x1024 x10 shapeCasts_S1x1024_S1x1024 : FVec F S1x1024 .f32) broadcasts_S1x1024_S512x1024)

/-- The columns' chunks are one function, at whatever points they are cut. -/
theorem same29 (h : FVec F S512x1024 .bf16) (r : FVec F S512x1 .f32) (a b : Vec F S1024x256 .bf16) : k0_pay29 h r a b = k0_pay28 h r a b := rfl
theorem same32 (h : FVec F S512x1024 .bf16) (r : FVec F S512x1 .f32) (a b : Vec F S1024x256 .bf16) : k0_pay32 h r a b = k0_pay28 h r a b := rfl
theorem same37 (h : FVec F S512x1024 .bf16) (r : FVec F S512x1 .f32) (a b : Vec F S1024x256 .bf16) : k0_pay37 h r a b = k0_pay28 h r a b := rfl
theorem same38 (h : FVec F S512x1024 .bf16) (r : FVec F S512x1 .f32) (a b : Vec F S1024x256 .bf16) : k0_pay38 h r a b = k0_pay28 h r a b := rfl
theorem same39 (h : FVec F S512x1024 .bf16) (r : FVec F S512x1 .f32) (a b : Vec F S1024x256 .bf16) : k0_pay39 h r a b = k0_pay28 h r a b := rfl
theorem same40 (h : FVec F S512x1024 .bf16) (r : FVec F S512x1 .f32) (a b : Vec F S1024x256 .bf16) : k0_pay40 h r a b = k0_pay28 h r a b := rfl
theorem same44 (h : FVec F S512x1024 .bf16) (r : FVec F S512x1 .f32) (a b : Vec F S1024x256 .bf16) : k0_pay44 h r a b = k0_pay28 h r a b := rfl
theorem same31 (h : FVec F S512x1024 .bf16) (r : FVec F S512x1 .f32) (a b : Vec F S1024x256 .bf16) : k0_pay31 h r (k0_pay30 h r a) b = k0_pay28 h r a b := rfl
theorem same36 (h : FVec F S512x1024 .bf16) (r : FVec F S512x1 .f32) (a b : Vec F S1024x256 .bf16) : k0_pay36 (k0_pay33 h r a) (k0_pay34 h r b) (k0_pay35 h r a) = k0_pay28 h r a b := rfl
theorem same43 (h : FVec F S512x1024 .bf16) (r : FVec F S512x1 .f32) (a b : Vec F S1024x256 .bf16) : k0_pay43 h r (k0_pay41 h a) (k0_pay42 r) b = k0_pay28 h r a b := rfl
theorem same25 (a : FVec F S512x1024 .f32) (w : BitVec 32) (d0 d1 d2 : FVec F S512x128 .f32) (e : Vec F S544x128 .f32) (p q : Vec F S1x256x256 .bf16) (b : Vec F S512x1024 .bf16) (x : Vec F S512x1024 .f32) :
    k0_pay25 a d0 d1 d2 (k0_pay22 e) (k0_pay23 (k0_pay8 w) e) (k0_pay24 e) p q b x
      = addf (addf (shapeCast S512x1024 x shapeCasts_S512x1024_S512x1024) a) (k0_pay2 (pooled d0 d1 d2 (diff3 w e) p q) b) := rfl
theorem same26 (a : FVec F S512x1024 .f32) (d0 d1 d2 : FVec F S512x128 .f32) (u : FVec F S504x128 .f32) (v w : FVec F S8x128 .f32) (p q : Vec F S1x256x256 .bf16) (b : Vec F S512x1024 .bf16) (x : Vec F S512x1024 .f32) :
    k0_pay26 a d0 d1 d2 u v w p q b x = truncf .bf16 (k0_pay25 a d0 d1 d2 u v w p q b x) bitsLt_bf16_f32 := rfl
theorem same27 (a : FVec F S512x1024 .f32) (d0 d1 d2 : FVec F S512x128 .f32) (u : FVec F S504x128 .f32) (v w : FVec F S8x128 .f32) (p q : Vec F S1x256x256 .bf16) (b : Vec F S512x1024 .bf16) (x : Vec F S512x1024 .f32) :
    k0_pay27 a d0 d1 d2 u v w p q b x = recip (k0_pay25 a d0 d1 d2 u v w p q b x) := rfl
theorem same1 (h : FVec F S512x1024 .f32) (g : Vec F S512x2816 .bf16) (d : Vec F S2816x1024 .bf16) (x : Vec F S1x1024 .f32) :
    k0_pay1 (k0_pay45 h g d) (k0_pay46 h g d) (Scalar.ofBits .f32 0x44800000#32) x = result (k0_pay45 h g d) x := rfl

/-- A load of an array that pieces were stored to is the load of what they leave. -/
theorem readCov_ld {Val : EltTy → Type} [∀ e, Nonempty (Val e)] {sig : RefSig} {κ : Kind} {sp : _} {s : Shape} {e : EltTy} (v : View sig κ sp s e) (L : List (View.Piece Val s e)) (B : Rect s) :
    v.readCov L B.toLoadRect = View.ld (View.canon L) B := (View.readCov_eq_canon' v L _).trans rfl

theorem hz2 : (![0, 0] : Fin 2 → Nat) = fun _ => 0 := funext fun a => by fin_cases a <;> rfl

set_option maxHeartbeats 1600000 in
theorem out_eq (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S16x512 .f32) (harg6 : arg6.IsWhole) (arg7 : Memref sig .tc .vmem S2x256x256 .bf16) (harg7 : arg7.IsWhole) (arg8 : Memref sig .tc .vmem S1024x1024 .bf16) (harg8 : arg8.IsWhole) (arg9 : Memref sig .tc .vmem S1024x5632 .bf16) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S544x512 .f32) (harg13 : arg13.IsWhole) (arg14 : Memref sig .tc .vmem S512x2816 .bf16) (harg14 : arg14.IsWhole)
    (x0 : Vec F S512x1024 .f32) (x1 : Vec F S512x512 .f32) (x2 : Vec F S512x512 .f32) (x3 : Vec F S8x512 .f32) (x4 : Vec F S8x512 .f32) (x5 : Vec F S16x512 .f32) (x6 : Vec F S2x256x256 .bf16) (x7 : Vec F S1024x1024 .bf16) (x8 : Vec F S1024x5632 .bf16) (x9 : Vec F S2816x1024 .bf16) (x10 : Vec F S1x1024 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = result (fed (mixed i x0 x1 x2 x3 x4 x5 x6 x7) x8 x9) x10 := by
  unfold out0_A_11
  rw [View.read_writes_junk_eq_canon]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x512) hz2, View.ld_unit_zero (S := S8x512) hz2,
    View.ld_unit_zero (S := S2816x1024) hz2, View.ld_unit_zero (S := S1x1024) hz2, readCov_ld, View.ld_unit_zero (S := S512x2816) hz2, same26, same27, same25, same29, same31, same32, same36, same37, same38, same39, same40, same43, same44, same1]
  unfold fed gated mixed ext diff0 diff1 diff2 place

  rfl

end Cert.Proof.MixTile

end
-- ==== Proof.MixMath.lean ====
/-
  The mathematics of the mixer and feed-forward call: a row's scale, products of scaled rows, and the pooled stream.
-/
module

public import proofs.«01_k».proof.Proof.SoftmaxMath

@[expose] public section

set_option maxRecDepth 16384

noncomputable section

namespace Cert.Proof.MixMath

open Idealize.ShloMosaic

/-- A row's scale: the reciprocal root of the mean of its squares, a small constant added. -/
def rms {n : ℕ} (w : BitVec 32) (v : Fin n → EReal) : EReal :=
  Ideal.rsqrt (Ideal.div (∑ k, v k * v k) (Ideal.ofBits .f32 w) + Ideal.ofBits .f32 0x358637BD#32)

theorem ofBits_512 : Ideal.ofBits .f32 0x44000000#32 = ((512 : ℝ) : EReal) := by
  simp [Ideal.ofBits, Ideal.ieee]
  rw [← EReal.coe_mul]
  norm_num
theorem ofBits_1024 : Ideal.ofBits .f32 0x44800000#32 = ((1024 : ℝ) : EReal) := by
  simp [Ideal.ofBits, Ideal.ieee]
  rw [← EReal.coe_mul]
  norm_num
theorem ofBits_eps : ∃ e : ℝ, 0 < e ∧ Ideal.ofBits .f32 0x358637BD#32 = ((e : ℝ) : EReal) := by
  refine ⟨(8796093 : ℝ) * (2 ^ 43)⁻¹, by positivity, ?_⟩
  simp [Ideal.ofBits, Ideal.ieee]

theorem mul_self_nonneg' (x : EReal) : 0 ≤ x * x := by
  rcases le_total 0 x with h | h
  · exact mul_nonneg h h
  · exact EReal.mul_nonneg_iff.2 (Or.inr ⟨h, h⟩)

theorem rsqrt_real (x : EReal) (e : ℝ) (he : 0 < e) (hx : 0 ≤ x) : ∃ r : ℝ, 0 ≤ r ∧ Ideal.rsqrt (x + (e : EReal)) = (r : EReal) := by
  induction x with
  | bot => exact absurd hx (by simp)
  | top => exact ⟨0, le_rfl, by simp⟩
  | coe y =>
    have hy : 0 ≤ y := by exact_mod_cast hx
    refine ⟨(Real.sqrt (y + e))⁻¹, by positivity, ?_⟩
    rw [← EReal.coe_add, Ideal.rsqrt_coe]
    rw [if_neg (by linarith), if_neg (by linarith)]

theorem div_nonneg' (x : EReal) (w : ℝ) (hw : 0 < w) (hx : 0 ≤ x) : 0 ≤ Ideal.div x (w : EReal) := by
  induction x with
  | bot => exact absurd hx (by simp)
  | top =>
    rw [Ideal.div]; simp [hw.ne']
    rw [← EReal.coe_inv]
    exact mul_nonneg le_top (by exact_mod_cast (inv_pos.2 hw).le)
  | coe y =>
    have hy : 0 ≤ y := by exact_mod_cast hx
    rw [Ideal.div]; simp [hw.ne']; positivity

/-- A row's scale is a nonnegative real number. -/
theorem rms_real {n : ℕ} (w : BitVec 32) (c : ℝ) (hc : 0 < c) (hw : Ideal.ofBits .f32 w = ((c : ℝ) : EReal)) (v : Fin n → EReal) :
    ∃ r : ℝ, 0 ≤ r ∧ rms w v = (r : EReal) := by
  obtain ⟨e, he, h⟩ := ofBits_eps
  unfold rms
  rw [h, hw]
  exact rsqrt_real _ e he (div_nonneg' _ c hc (Finset.sum_nonneg fun k _ => mul_self_nonneg' _))

theorem sum_mul_real {n : ℕ} (f : Fin n → EReal) (r : ℝ) (hr : 0 ≤ r) : (∑ k, f k) * (r : EReal) = ∑ k, f k * (r : EReal) := by
  induction n with
  | zero => simp
  | succ n ih =>
    rw [Fin.sum_univ_succ, Fin.sum_univ_succ, EReal.right_distrib_of_nonneg_of_ne_top (by exact_mod_cast hr) (EReal.coe_ne_top r), ih]

/-- A row's scale and its gains taken into the weights. -/
theorem pull {n : ℕ} (h g w : Fin n → EReal) (r : EReal) (hr : ∃ s : ℝ, 0 ≤ s ∧ r = (s : EReal)) :
    ∑ k, (h k * r * g k) * w k = (∑ k, h k * (w k * g k)) * r := by
  obtain ⟨s, hs, rfl⟩ := hr
  rw [sum_mul_real _ s hs]
  refine Finset.sum_congr rfl fun k _ => ?_
  rw [mul_right_comm (h k) _ (g k), mul_right_comm _ _ (w k), mul_comm (w k) (g k), mul_assoc (h k)]

/-- A stream's mean over the window from `h` rows before to `h` rows after, cut at the end, less the row itself. -/
def poolDiff (g : ℕ → ℝ) (h t : ℕ) : ℝ := (∑ k ∈ Finset.range (2 * h), g (t - h + k)) / ((min (t + h) 4112 : ℕ) - (t - h : ℕ) : ℝ) - g t

theorem sum_range_add {g : ℕ → ℝ} (a n : ℕ) : ∑ k ∈ Finset.range n, g (a + k) = ∑ k ∈ Finset.range (a + n), g k - ∑ k ∈ Finset.range a, g k := by
  rw [Finset.sum_range_add]; ring

/-- Past the stream's end nothing is added. -/
theorem sum_min (g : ℕ → ℝ) (hg : ∀ k, 4112 ≤ k → g k = 0) (n : ℕ) : ∑ k ∈ Finset.range n, g k = ∑ k ∈ Finset.range (min n 4112), g k := by
  rcases le_total n 4112 with h | h
  · rw [min_eq_left h]
  · rw [min_eq_right h]
    refine (Finset.sum_subset (fun k hk => Finset.mem_range.2 (lt_of_lt_of_le (Finset.mem_range.1 hk) h)) fun k _ hk => hg k ?_).symm
    simpa using hk

/-- The window's sum as a difference of the running sums. -/
theorem poolDiff_eq (g : ℕ → ℝ) (hg : ∀ k, 4112 ≤ k → g k = 0) (h t : ℕ) (ht : h ≤ t) :
    poolDiff g h t = (∑ k ∈ Finset.range (min (t + h) 4112), g k - ∑ k ∈ Finset.range (t - h), g k) / ((min (t + h) 4112 : ℕ) - (t - h : ℕ) : ℝ) - g t := by
  unfold poolDiff
  rw [sum_range_add, show t - h + 2 * h = t + h by omega, sum_min g hg (t + h)]

end Cert.Proof.MixMath

end
-- ==== Proof.MixPool.lean ====
/-
  The four groups' pooled rows of a grid point, element by element, over real streams.
-/
module

public import proofs.«01_k».proof.Proof.MixTile
public import proofs.«01_k».proof.Proof.MixMath
public import Idealize.ShloMosaic.Lib.Pointwise

@[expose] public section

set_option maxRecDepth 16384

noncomputable section

namespace Cert.Proof.MixPool

open Cert.MixIdeal Cert.MixIdeal.Gen Cert.MixIdeal.Value Idealize.ShloMosaic Idealize.ShloMosaic.TcCoe Cert.Proof.MixTile Cert.Proof.MixMath

variable (e : Vec Ideal S544x128 .f32)

/-- The number of rows in the window of one of a batch entry's last rows. -/
theorem count1 : ∀ k x : Fin 8, (IntOp.subi (IntOp.minsi (IntOp.addi (IntOp.addi (Scalar.addi (Scalar.muli (BitVec.ofNat 32 k.val) 512#32) 520#32) (BitVec.ofNat 32 x.val)) 1#32) 4112#32)
    (IntOp.subi (IntOp.addi (Scalar.addi (Scalar.muli (BitVec.ofNat 32 k.val) 512#32) 520#32) (BitVec.ofNat 32 x.val)) 1#32)).toInt = ((min (512 * k.val + 520 + x.val + 1) 4112 : ℕ) : ℤ) - ((512 * k.val + 520 + x.val - 1 : ℕ) : ℤ) := by
  decide
theorem count2 : ∀ k x : Fin 8, (IntOp.subi (IntOp.minsi (IntOp.addi (IntOp.addi (Scalar.addi (Scalar.muli (BitVec.ofNat 32 k.val) 512#32) 520#32) (BitVec.ofNat 32 x.val)) 2#32) 4112#32)
    (IntOp.subi (IntOp.addi (Scalar.addi (Scalar.muli (BitVec.ofNat 32 k.val) 512#32) 520#32) (BitVec.ofNat 32 x.val)) 2#32)).toInt = ((min (512 * k.val + 520 + x.val + 2) 4112 : ℕ) : ℤ) - ((512 * k.val + 520 + x.val - 2 : ℕ) : ℤ) := by
  decide
theorem count4 : ∀ k x : Fin 8, (IntOp.subi (IntOp.minsi (IntOp.addi (IntOp.addi (Scalar.addi (Scalar.muli (BitVec.ofNat 32 k.val) 512#32) 520#32) (BitVec.ofNat 32 x.val)) 4#32) 4112#32)
    (IntOp.subi (IntOp.addi (Scalar.addi (Scalar.muli (BitVec.ofNat 32 k.val) 512#32) 520#32) (BitVec.ofNat 32 x.val)) 4#32)).toInt = ((min (512 * k.val + 520 + x.val + 4) 4112 : ℕ) : ℤ) - ((512 * k.val + 520 + x.val - 4 : ℕ) : ℤ) := by
  decide
theorem count8 : ∀ k x : Fin 8, (IntOp.subi (IntOp.minsi (IntOp.addi (IntOp.addi (Scalar.addi (Scalar.muli (BitVec.ofNat 32 k.val) 512#32) 520#32) (BitVec.ofNat 32 x.val)) 8#32) 4112#32)
    (IntOp.subi (IntOp.addi (Scalar.addi (Scalar.muli (BitVec.ofNat 32 k.val) 512#32) 520#32) (BitVec.ofNat 32 x.val)) 8#32)).toInt = ((min (512 * k.val + 520 + x.val + 8) 4112 : ℕ) : ℤ) - ((512 * k.val + 520 + x.val - 8 : ℕ) : ℤ) := by
  decide

theorem ofBits_half : Ideal.ofBits .f32 0x3F000000#32 = ((1 / 2 : ℝ) : EReal) := by
  simp [Ideal.ofBits, Ideal.ieee]
  rw [← EReal.coe_mul]
  norm_num
theorem ofBits_quarter : Ideal.ofBits .f32 0x3E800000#32 = ((1 / 4 : ℝ) : EReal) := by
  simp [Ideal.ofBits, Ideal.ieee]
  rw [← EReal.coe_mul]
  norm_num
theorem ofBits_eighth : Ideal.ofBits .f32 0x3E000000#32 = ((1 / 8 : ℝ) : EReal) := by
  simp [Ideal.ofBits, Ideal.ieee]
  rw [← EReal.coe_mul]
  norm_num
theorem ofBits_sixteenth : Ideal.ofBits .f32 0x3D800000#32 = ((1 / 16 : ℝ) : EReal) := by
  simp [Ideal.ofBits, Ideal.ieee]
  rw [← EReal.coe_mul]
  norm_num

/-- A row's pooled difference from its window's sum, away from the stream's end, -/
theorem body (g : ℕ → ℝ) (h t : ℕ) (hh : 0 < h) (ht : h ≤ t) (hl : t + h ≤ 4112) (s y z : EReal) (hs : s = ((∑ i ∈ Finset.range (2 * h), g (t - h + i) : ℝ) : EReal)) (hy : y = ((1 / (2 * h : ℕ) : ℝ) : EReal)) (hz : z = ((g t : ℝ) : EReal)) :
    s * y - z = ((poolDiff g h t : ℝ) : EReal) := by
  rw [hs, hy, hz, ← EReal.coe_mul, ← EReal.coe_sub]
  congr 1
  unfold poolDiff
  rw [min_eq_left hl, Nat.cast_sub ht, Nat.cast_add, Nat.cast_mul]
  congr 1
  rw [show ((t : ℝ) + h - (t - h)) = ((2 : ℕ) : ℝ) * h by push_cast; ring]
  ring
/-- and near it. -/
theorem tail (g : ℕ → ℝ) (h t : ℕ) (hh : 0 < h) (ht : h ≤ t) (hl : t ≤ 4112) (s z : EReal) (b : BitVec 32) (hs : s = ((∑ i ∈ Finset.range (2 * h), g (t - h + i) : ℝ) : EReal)) (hb : b.toInt = ((min (t + h) 4112 : ℕ) : ℤ) - ((t - h : ℕ) : ℤ)) (hz : z = ((g t : ℝ) : EReal)) :
    s * Ideal.div 1 (FloatOps.sitofp .f32 b : Ideal .f32) - z = ((poolDiff g h t : ℝ) : EReal) := by
  have e : (FloatOps.sitofp .f32 b : Ideal .f32) = (((((min (t + h) 4112 : ℕ) : ℝ) - ((t - h : ℕ) : ℝ)) : ℝ) : EReal) := by
    show ((b.toInt : ℝ) : EReal) = _
    rw [hb]; push_cast; rfl
  have hp : (0 : ℝ) < ((min (t + h) 4112 : ℕ) : ℝ) - ((t - h : ℕ) : ℝ) := by
    rw [sub_pos, Nat.cast_lt]; omega
  rw [e, hs, hz, Ideal.div]
  simp only [EReal.coe_eq_zero, hp.ne', if_false, one_mul]
  rw [← EReal.coe_inv, ← EReal.coe_mul, ← EReal.coe_sub]
  congr 1

/-- Two, four, eight and sixteen consecutive terms added in pairs. -/
theorem sum1 (g : ℕ → ℝ) (b a0 a1 : ℕ) (h0 : a0 = b + 0) (h1 : a1 = b + 1) : (g a0 + g a1) = ∑ i ∈ Finset.range (2 * 1), g (b + i) := by
  subst h0 h1
  simp only [Nat.reduceMul, Finset.sum_range_succ, Finset.sum_range_zero]
  ring_nf
theorem sum2 (g : ℕ → ℝ) (b a0 a1 a2 a3 : ℕ) (h0 : a0 = b + 0) (h1 : a1 = b + 1) (h2 : a2 = b + 2) (h3 : a3 = b + 3) : ((g a0 + g a1) + (g a2 + g a3)) = ∑ i ∈ Finset.range (2 * 2), g (b + i) := by
  subst h0 h1 h2 h3
  simp only [Nat.reduceMul, Finset.sum_range_succ, Finset.sum_range_zero]
  ring_nf
theorem sum4 (g : ℕ → ℝ) (b a0 a1 a2 a3 a4 a5 a6 a7 : ℕ) (h0 : a0 = b + 0) (h1 : a1 = b + 1) (h2 : a2 = b + 2) (h3 : a3 = b + 3) (h4 : a4 = b + 4) (h5 : a5 = b + 5) (h6 : a6 = b + 6) (h7 : a7 = b + 7) : (((g a0 + g a1) + (g a2 + g a3)) + ((g a4 + g a5) + (g a6 + g a7))) = ∑ i ∈ Finset.range (2 * 4), g (b + i) := by
  subst h0 h1 h2 h3 h4 h5 h6 h7
  simp only [Nat.reduceMul, Finset.sum_range_succ, Finset.sum_range_zero]
  ring_nf
theorem sum8 (g : ℕ → ℝ) (b a0 a1 a2 a3 a4 a5 a6 a7 a8 a9 a10 a11 a12 a13 a14 a15 : ℕ) (h0 : a0 = b + 0) (h1 : a1 = b + 1) (h2 : a2 = b + 2) (h3 : a3 = b + 3) (h4 : a4 = b + 4) (h5 : a5 = b + 5) (h6 : a6 = b + 6) (h7 : a7 = b + 7) (h8 : a8 = b + 8) (h9 : a9 = b + 9) (h10 : a10 = b + 10) (h11 : a11 = b + 11) (h12 : a12 = b + 12) (h13 : a13 = b + 13) (h14 : a14 = b + 14) (h15 : a15 = b + 15) : ((((g a0 + g a1) + (g a2 + g a3)) + ((g a4 + g a5) + (g a6 + g a7))) + (((g a8 + g a9) + (g a10 + g a11)) + ((g a12 + g a13) + (g a14 + g a15)))) = ∑ i ∈ Finset.range (2 * 8), g (b + i) := by
  subst h0 h1 h2 h3 h4 h5 h6 h7 h8 h9 h10 h11 h12 h13 h14 h15
  simp only [Nat.reduceMul, Finset.sum_range_succ, Finset.sum_range_zero]
  ring_nf

theorem diff0_apply (g : ℕ → ℝ) (k : Fin 8) (j : Fin 512) (c : Fin 128) (he : ∀ (r : ℕ) (hr : r < 544), r < 528 → e (ix2 (⟨r, hr⟩ : Fin 544) c) = ((g (512 * k.val + 8 + r) : ℝ) : EReal)) :
    diff0 (BitVec.ofNat 32 k.val) e (ix2 j c) = ((poolDiff g 1 (512 * k.val + 16 + j.val) : ℝ) : EReal) := by
  pointwise [diff0, k0_pay14, k0_pay13, k0_pay12, k0_pay11, k0_pay10, k0_pay9, k0_pay8]
  have hj := j.isLt
  have hk := k.isLt
  by_cases h : j.val < 504
  · refine (dif_pos h).trans ?_
    simp (disch := omega) only [he, ← EReal.coe_add]
    refine body g 1 _ (by omega) (by omega) (by omega) _ _ _ (congrArg _ ?_) (ofBits_half.trans (by norm_num)) (congrArg (fun i => ((g i : ℝ) : EReal)) (by omega))
    exact sum1 g _ _ _ (by omega) (by omega)
  · refine (dif_neg h).trans ?_
    simp (disch := omega) only [he, ← EReal.coe_add]
    refine tail g 1 _ (by omega) (by omega) (by omega) _ _ _ (congrArg _ ?_) ((count1 k ⟨j.val - 504, by omega⟩).trans ?_) (congrArg (fun i => ((g i : ℝ) : EReal)) (by omega))
    · exact sum1 g _ _ _ (by omega) (by omega)
    · rw [show 512 * k.val + 520 + (j.val - 504) = 512 * k.val + 16 + j.val by omega]

theorem diff1_apply (g : ℕ → ℝ) (k : Fin 8) (j : Fin 512) (c : Fin 128) (he : ∀ (r : ℕ) (hr : r < 544), r < 528 → e (ix2 (⟨r, hr⟩ : Fin 544) c) = ((g (512 * k.val + 8 + r) : ℝ) : EReal)) :
    diff1 (BitVec.ofNat 32 k.val) e (ix2 j c) = ((poolDiff g 2 (512 * k.val + 16 + j.val) : ℝ) : EReal) := by
  pointwise [diff1, k0_pay15, k0_pay8]
  have hj := j.isLt
  have hk := k.isLt
  by_cases h : j.val < 504
  · refine (dif_pos h).trans ?_
    simp (disch := omega) only [he, ← EReal.coe_add]
    refine body g 2 _ (by omega) (by omega) (by omega) _ _ _ (congrArg _ ?_) (ofBits_quarter.trans (by norm_num)) (congrArg (fun i => ((g i : ℝ) : EReal)) (by omega))
    exact sum2 g _ _ _ _ _ (by omega) (by omega) (by omega) (by omega)
  · refine (dif_neg h).trans ?_
    simp (disch := omega) only [he, ← EReal.coe_add]
    refine tail g 2 _ (by omega) (by omega) (by omega) _ _ _ (congrArg _ ?_) ((count2 k ⟨j.val - 504, by omega⟩).trans ?_) (congrArg (fun i => ((g i : ℝ) : EReal)) (by omega))
    · exact sum2 g _ _ _ _ _ (by omega) (by omega) (by omega) (by omega)
    · rw [show 512 * k.val + 520 + (j.val - 504) = 512 * k.val + 16 + j.val by omega]

theorem diff2_apply (g : ℕ → ℝ) (k : Fin 8) (j : Fin 512) (c : Fin 128) (he : ∀ (r : ℕ) (hr : r < 544), r < 528 → e (ix2 (⟨r, hr⟩ : Fin 544) c) = ((g (512 * k.val + 8 + r) : ℝ) : EReal)) :
    diff2 (BitVec.ofNat 32 k.val) e (ix2 j c) = ((poolDiff g 4 (512 * k.val + 16 + j.val) : ℝ) : EReal) := by
  pointwise [diff2, k0_pay16, k0_pay17, k0_pay18, k0_pay19, k0_pay8]
  have hj := j.isLt
  have hk := k.isLt
  by_cases h : j.val < 504
  · refine (dif_pos h).trans ?_
    simp (disch := omega) only [he, ← EReal.coe_add]
    refine body g 4 _ (by omega) (by omega) (by omega) _ _ _ (congrArg _ ?_) (ofBits_eighth.trans (by norm_num)) (congrArg (fun i => ((g i : ℝ) : EReal)) (by omega))
    exact sum4 g _ _ _ _ _ _ _ _ _ (by omega) (by omega) (by omega) (by omega) (by omega) (by omega) (by omega) (by omega)
  · refine (dif_neg h).trans ?_
    simp (disch := omega) only [he, ← EReal.coe_add]
    refine tail g 4 _ (by omega) (by omega) (by omega) _ _ _ (congrArg _ ?_) ((count4 k ⟨j.val - 504, by omega⟩).trans ?_) (congrArg (fun i => ((g i : ℝ) : EReal)) (by omega))
    · exact sum4 g _ _ _ _ _ _ _ _ _ (by omega) (by omega) (by omega) (by omega) (by omega) (by omega) (by omega) (by omega)
    · rw [show 512 * k.val + 520 + (j.val - 504) = 512 * k.val + 16 + j.val by omega]

theorem diff3_apply (g : ℕ → ℝ) (k : Fin 8) (j : Fin 512) (c : Fin 128) (he : ∀ (r : ℕ) (hr : r < 544), r < 528 → e (ix2 (⟨r, hr⟩ : Fin 544) c) = ((g (512 * k.val + 8 + r) : ℝ) : EReal)) :
    diff3 (BitVec.ofNat 32 k.val) e (ix2 j c) = ((poolDiff g 8 (512 * k.val + 16 + j.val) : ℝ) : EReal) := by
  pointwise [diff3, k0_pay22, k0_pay23, k0_pay24, k0_pay21, k0_pay20, k0_pay8]
  have hj := j.isLt
  have hk := k.isLt
  by_cases h : j.val < 504
  · refine (dif_pos h).trans ?_
    simp (disch := omega) only [he, ← EReal.coe_add]
    refine body g 8 _ (by omega) (by omega) (by omega) _ _ _ (congrArg _ ?_) (ofBits_sixteenth.trans (by norm_num)) (congrArg (fun i => ((g i : ℝ) : EReal)) (by omega))
    exact sum8 g _ _ _ _ _ _ _ _ _ _ _ _ _ _ _ _ _ (by omega) (by omega) (by omega) (by omega) (by omega) (by omega) (by omega) (by omega) (by omega) (by omega) (by omega) (by omega) (by omega) (by omega) (by omega) (by omega)
  · refine (dif_neg h).trans ?_
    simp (disch := omega) only [he, ← EReal.coe_add]
    refine tail g 8 _ (by omega) (by omega) (by omega) _ _ _ (congrArg _ ?_) ((count8 k ⟨j.val - 504, by omega⟩).trans ?_) (congrArg (fun i => ((g i : ℝ) : EReal)) (by omega))
    · exact sum8 g _ _ _ _ _ _ _ _ _ _ _ _ _ _ _ _ _ (by omega) (by omega) (by omega) (by omega) (by omega) (by omega) (by omega) (by omega) (by omega) (by omega) (by omega) (by omega) (by omega) (by omega) (by omega) (by omega)
    · rw [show 512 * k.val + 520 + (j.val - 504) = 512 * k.val + 16 + j.val by omega]

end Cert.Proof.MixPool

end
-- ==== Proof.MixBlock.lean ====
/-
  A row of the mixer and feed-forward call's result, from the blocks of its grid point.
-/
module

public import proofs.«01_k».proof.Proof.MixPool

@[expose] public section

set_option maxRecDepth 16384

noncomputable section

namespace Cert.Proof.MixBlock

open Cert.MixIdeal Cert.MixIdeal.Gen Cert.MixIdeal.Value Idealize.ShloMosaic Idealize.ShloMosaic.TcCoe Cert.Proof.MixTile Cert.Proof.MixMath Cert.Proof.MixPool

/-- Two indices of a matrix with the same coordinates. -/
theorem at2 {α : Type} {A B : ℕ} (f : Shape.Idx ⟨2, ![A, B]⟩ → α) (i j : Shape.Idx ⟨2, ![A, B]⟩) (h0 : (i 0).val = (j 0).val) (h1 : (i 1).val = (j 1).val) : f i = f j := by
  congr 1; funext a; apply Fin.ext
  fin_cases a
  · exact h0
  · exact h1
theorem at3 {α : Type} {A B C : ℕ} (f : Shape.Idx ⟨3, ![A, B, C]⟩ → α) (i j : Shape.Idx ⟨3, ![A, B, C]⟩) (h0 : (i 0).val = (j 0).val) (h1 : (i 1).val = (j 1).val) (h2 : (i 2).val = (j 2).val) : f i = f j := by
  congr 1; funext a; apply Fin.ext
  fin_cases a
  · exact h0
  · exact h1
  · exact h2
theorem idx2 {A B : ℕ} (i : Shape.Idx ⟨2, ![A, B]⟩) : i = ix2 (i 0 : Fin A) (i 1 : Fin B) := by
  funext a; fin_cases a <;> rfl

/-! ## The row functions -/

/-- The mixer's row. -/
def hRow (x : Fin 1024 → EReal) (a q : Fin 512 → EReal) (wo : Fin 1024 → Fin 1024 → EReal) (e : Fin 1024) : EReal :=
  x e + (∑ k : Fin 512, a k * wo ⟨k.val, by omega⟩ e) * rms 0x44000000#32 a + (∑ k : Fin 512, q k * wo ⟨512 + k.val, by omega⟩ e) * rms 0x44000000#32 q
/-- The gated columns. -/
def actRow (h : Fin 1024 → EReal) (wi : Fin 1024 → Fin 5632 → EReal) (y : Fin 2816) : EReal :=
  ((∑ k, h k * wi k ⟨y.val, by omega⟩) * rms 0x44800000#32 h) * Ideal.logistic ((∑ k, h k * wi k ⟨y.val, by omega⟩) * rms 0x44800000#32 h)
    * ((∑ k, h k * wi k ⟨2816 + y.val, by omega⟩) * rms 0x44800000#32 h)
/-- The row after the feed-forward part, and the result's row. -/
def fedRow (h : Fin 1024 → EReal) (act : Fin 2816 → EReal) (wd : Fin 2816 → Fin 1024 → EReal) (e : Fin 1024) : EReal := h e + ∑ y, act y * wd y e
def outRow (h : Fin 1024 → EReal) (g : Fin 1024 → EReal) (e : Fin 1024) : EReal := h e * rms 0x44800000#32 h * g e
/-- The groups' half widths, and a row of the pooled stream through its weights. -/
def half : Fin 4 → ℕ := ![1, 2, 4, 8]
def qRow (G : Fin 512 → ℕ → ℝ) (wp : Fin 4 → Fin 128 → Fin 128 → EReal) (t : ℕ) (y : Fin 512) : EReal :=
  ∑ c : Fin 128, ((poolDiff (G ⟨128 * (y.val / 128) + c.val, by omega⟩) (half ⟨y.val / 128, by omega⟩) t : ℝ) : EReal) * wp ⟨y.val / 128, by omega⟩ c ⟨y.val % 128, by omega⟩

/-! ## The parts -/

theorem pay2_apply (a : Vec Ideal S512x512 .f32) (b : Vec Ideal S512x1024 .bf16) (j : Fin 512) (e : Fin 1024) :
    k0_pay2 a b (ix2 j e) = (∑ k : Fin 512, a (ix2 j k) * b (ix2 k e)) * rms 0x44000000#32 (fun k => a (ix2 j k)) := by
  pointwise [k0_pay2]
  rfl

theorem recip_apply (h : FVec Ideal S512x1024 .f32) (j : Fin 512) : recip h (ix2 j (0 : Fin 1)) = rms 0x44800000#32 (fun k => h (ix2 j k)) := by
  pointwise [recip]
  rfl

theorem chunk_apply (h : FVec Ideal S512x1024 .f32) (a b : Vec Ideal S1024x256 .bf16) (j : Fin 512) (y : Fin 256) :
    chunk h a b (ix2 j y) = ((∑ k, h (ix2 j k) * a (ix2 k y)) * rms 0x44800000#32 (fun k => h (ix2 j k))) * Ideal.logistic ((∑ k, h (ix2 j k) * a (ix2 k y)) * rms 0x44800000#32 (fun k => h (ix2 j k)))
      * ((∑ k, h (ix2 j k) * b (ix2 k y)) * rms 0x44800000#32 (fun k => h (ix2 j k))) := by
  pointwise [chunk, k0_pay28, recip_apply]

theorem result_apply (h : FVec Ideal S512x1024 .f32) (g : Vec Ideal S1x1024 .f32) (j : Fin 512) (e : Fin 1024) :
    result h g (ix2 j e) = outRow (fun k => h (ix2 j k)) (fun k => g (ix2 (0 : Fin 1) k)) e := by
  pointwise [result, recip_apply, outRow]

/-- The gated columns' array, from the rows and the weights. -/
def gatedFn (h : FVec Ideal S512x1024 .f32) (x8 : Vec Ideal S1024x5632 .bf16) : Vec Ideal S512x2816 .bf16 :=
  fun i => actRow (fun k => h (ix2 (i 0 : Fin 512) k)) (fun k y => x8 (ix2 k y)) (i 1 : Fin 2816)

theorem cut (h : FVec Ideal S512x1024 .f32) (x8 : Vec Ideal S1024x5632 .bf16) (o o' : ℕ) (ho : o' = 2816 + o)
    (i0 : ∀ a, (![0, o] : Fin 2 → ℕ) a + S512x256.size a ≤ S512x2816.size a) (i1 : ∀ a, (![0, o] : Fin 2 → ℕ) a + S1024x256.size a ≤ S1024x5632.size a)
    (i2 : ∀ a, (![0, o'] : Fin 2 → ℕ) a + S1024x256.size a ≤ S1024x5632.size a) (x : S512x256.Idx) :
    chunk h (View.ld x8 (Rect.unit ![0, o] S1024x256.size i1)) (View.ld x8 (Rect.unit ![0, o'] S1024x256.size i2)) x = gatedFn h x8 ((Rect.unit (s := S512x2816) ![0, o] S512x256.size i0).emb x) := by
  subst ho
  rw [idx2 x]
  refine (chunk_apply h _ _ _ _).trans ?_
  have hb : o + 256 ≤ 2816 := i0 1
  have hx : (x 1).val < 256 := (x 1).isLt
  have e0 : ∀ k : Fin 1024, View.ld x8 (Rect.unit ![0, o] S1024x256.size i1) (ix2 k (x 1 : Fin 256)) = x8 (ix2 k (⟨o + (x 1).val, by omega⟩ : Fin 5632)) := fun k =>
    at2 x8 _ _ (by show 0 + 1 * k.val = k.val; omega) (by show o + 1 * (x 1).val = o + (x 1).val; omega)
  have e1 : ∀ k : Fin 1024, View.ld x8 (Rect.unit ![0, 2816 + o] S1024x256.size i2) (ix2 k (x 1 : Fin 256)) = x8 (ix2 k (⟨2816 + (o + (x 1).val), by omega⟩ : Fin 5632)) := fun k =>
    at2 x8 _ _ (by show 0 + 1 * k.val = k.val; omega) (by show 2816 + o + 1 * (x 1).val = 2816 + (o + (x 1).val); omega)
  simp only [e0, e1]
  refine (at2 (gatedFn h x8) (ix2 (x 0 : Fin 512) (⟨o + (x 1).val, by omega⟩ : Fin 2816)) _ ?_ ?_)
  · show (x 0).val = 0 + 1 * (x 0).val; omega
  · show o + (x 1).val = o + 1 * (x 1).val; omega

theorem gated_eq (h : FVec Ideal S512x1024 .f32) (x8 : Vec Ideal S1024x5632 .bf16) : gated h x8 = gatedFn h x8 := by
  funext y
  have h0 : (y 0).val < 512 := (y 0).isLt
  have h1 : (y 1).val < 2816 := (y 1).isLt
  unfold gated
  refine View.canon_apply_of_pieces (gatedFn h x8) _ ?_ y ?_
  · simp only [List.forall_mem_cons]
    exact ⟨cut h x8 _ _ rfl _ _ _, cut h x8 _ _ rfl _ _ _, cut h x8 _ _ rfl _ _ _, cut h x8 _ _ rfl _ _ _, cut h x8 _ _ rfl _ _ _, cut h x8 _ _ rfl _ _ _,
      cut h x8 _ _ rfl _ _ _, cut h x8 _ _ rfl _ _ _, cut h x8 _ _ rfl _ _ _, cut h x8 _ _ rfl _ _ _, cut h x8 _ _ rfl _ _ _, by simp⟩
  · simp only [List.exists_mem_cons_iff, Rect.mem_set_unit, Fin.forall_fin_two]
    simp only [Matrix.cons_val_zero, Matrix.cons_val_one]
    simp [h0]
    omega

theorem pay45_apply (h : FVec Ideal S512x1024 .f32) (a : Vec Ideal S512x2816 .bf16) (w : Vec Ideal S2816x1024 .bf16) (j : Fin 512) (e : Fin 1024) :
    k0_pay45 h a w (ix2 j e) = fedRow (fun k => h (ix2 j k)) (fun y => a (ix2 j y)) (fun y e => w (ix2 y e)) e := by
  pointwise [k0_pay45, fedRow]

/-! ## The stream -/

theorem pay4_eq (i : grid0.Coords) (a b : Vec Ideal S8x512 .f32) : k0_pay4 i a b = Scalar.select (Scalar.cmpi .eq (place i) 0#32) a (shapeCast S8x512 b shapeCasts_S8x512_S8x512 : Vec Ideal S8x512 .f32) := rfl

/-- The rows with the eight before and after them, -/
def extFn (k : Fin 8) (x2 : Vec Ideal S512x512 .f32) (x3 x4 : Vec Ideal S8x512 .f32) (x5 : Vec Ideal S16x512 .f32) (r : ℕ) (y : Fin 512) : EReal :=
  if h : r < 8 then (if k.val = 0 then x5 (ix2 (⟨8 + r, by omega⟩ : Fin 16) y) else x3 (ix2 (⟨r, h⟩ : Fin 8) y))
  else if h : r < 520 then x2 (ix2 (⟨r - 8, by omega⟩ : Fin 512) y)
  else if h : r < 528 then (if k.val = 7 then 0 else x4 (ix2 (⟨r - 520, by omega⟩ : Fin 8) y)) else 0

theorem is0 : ∀ k : Fin 8, Scalar.cmpi .eq (BitVec.ofNat 32 k.val) 0#32 = if k.val = 0 then 1#1 else 0#1 := by decide
theorem is7 : ∀ k : Fin 8, Scalar.cmpi .eq (BitVec.ofNat 32 k.val) 7#32 = if k.val = 7 then 1#1 else 0#1 := by decide

theorem lo_apply (i : grid0.Coords) (k : Fin 8) (hk : place i = BitVec.ofNat 32 k.val) (a b : Vec Ideal S8x512 .f32) (r : Fin 8) (y : Fin 512) :
    k0_pay5 (k0_pay4 i a b) (ix2 r y) = if k.val = 0 then a (ix2 r y) else b (ix2 r y) := by
  rw [pay4_eq, hk, is0]
  split_ifs
  · pointwise [k0_pay5, Scalar.select]
    simp
  · pointwise [k0_pay5, Scalar.select]
    simp
theorem hi_apply (k : Fin 8) (b : Vec Ideal S8x512 .f32) (r : Fin 8) (y : Fin 512) :
    k0_pay6 (BitVec.ofNat 32 k.val) b (ix2 r y) = if k.val = 7 then (0 : EReal) else b (ix2 r y) := by
  unfold k0_pay6
  rw [is7]
  split_ifs
  · pointwise [Scalar.select]
    simp [broadcast]
  · pointwise [Scalar.select]
    simp

/-- the array of them, -/
def extArr (k : Fin 8) (x2 : Vec Ideal S512x512 .f32) (x3 x4 : Vec Ideal S8x512 .f32) (x5 : Vec Ideal S16x512 .f32) : Vec Ideal S544x512 .f32 :=
  fun z => extFn k x2 x3 x4 x5 (z 0).val (z 1 : Fin 512)

/-- and each of the four stores is a part of it. -/
theorem ext_a (k : Fin 8) (x2 : Vec Ideal S512x512 .f32) (x3 x4 : Vec Ideal S8x512 .f32) (x5 : Vec Ideal S16x512 .f32) (z : S16x512.Idx) :
    (k0_pay7 : FVec Ideal S16x512 .f32) z = extArr k x2 x3 x4 x5 ((Rect.unit (s := S544x512) ![528, 0] S16x512.size inb_S544x512_S16x512_528_0).emb z) := by
  have hz : (z 0).val < 16 := (z 0).isLt
  rw [idx2 z]
  refine Eq.trans (b := (0 : EReal)) (by pointwise [k0_pay7]) ?_
  show (0 : EReal) = extFn k x2 x3 x4 x5 (528 + 1 * (z 0).val) _
  unfold extFn
  rw [dif_neg (by omega), dif_neg (by omega), dif_neg (by omega)]
theorem ext_b (k : Fin 8) (x2 : Vec Ideal S512x512 .f32) (x3 x4 : Vec Ideal S8x512 .f32) (x5 : Vec Ideal S16x512 .f32) (z : S8x512.Idx) :
    k0_pay6 (BitVec.ofNat 32 k.val) x4 z = extArr k x2 x3 x4 x5 ((Rect.unit (s := S544x512) ![520, 0] S8x512.size inb_S544x512_S8x512_520_0).emb z) := by
  have hz : (z 0).val < 8 := (z 0).isLt
  rw [idx2 z]
  refine (hi_apply k x4 _ _).trans ?_
  show _ = extFn k x2 x3 x4 x5 (520 + 1 * (z 0).val) _
  unfold extFn
  rw [dif_neg (by omega), dif_neg (by omega), dif_pos (by omega)]
  congr 1
  exact at2 x4 _ _ (by show (z 0).val = 520 + 1 * (z 0).val - 520; omega) (by show (z 1).val = 0 + 1 * (z 1).val; omega)
theorem ext_c (i : grid0.Coords) (k : Fin 8) (hk : place i = BitVec.ofNat 32 k.val) (x2 : Vec Ideal S512x512 .f32) (x3 x4 : Vec Ideal S8x512 .f32) (x5 : Vec Ideal S16x512 .f32) (z : S8x512.Idx) :
    k0_pay5 (k0_pay4 i (View.ld x5 (Rect.unit ![8, 0] S8x512.size inb_S16x512_S8x512_8_0)) x3) z
      = extArr k x2 x3 x4 x5 ((Rect.unit (s := S544x512) ![0, 0] S8x512.size inb_S544x512_S8x512_0_0).emb z) := by
  have hz : (z 0).val < 8 := (z 0).isLt
  rw [idx2 z]
  refine (lo_apply i k hk _ x3 _ _).trans ?_
  show _ = extFn k x2 x3 x4 x5 (0 + 1 * (z 0).val) _
  unfold extFn
  rw [dif_pos (by omega)]
  congr 1
  · exact at2 x5 _ _ (by show 8 + 1 * (z 0).val = 8 + (0 + 1 * (z 0).val); omega) (by show 0 + 1 * (z 1).val = 0 + 1 * (z 1).val; omega)
  · exact at2 x3 _ _ (by show (z 0).val = 0 + 1 * (z 0).val; omega) (by show (z 1).val = 0 + 1 * (z 1).val; omega)
theorem ext_d (k : Fin 8) (x2 : Vec Ideal S512x512 .f32) (x3 x4 : Vec Ideal S8x512 .f32) (x5 : Vec Ideal S16x512 .f32) (z : S512x512.Idx) :
    k0_pay3 x2 z = extArr k x2 x3 x4 x5 ((Rect.unit (s := S544x512) ![8, 0] S512x512.size inb_S544x512_S512x512_8_0).emb z) := by
  have hz : (z 0).val < 512 := (z 0).isLt
  rw [idx2 z]
  refine Eq.trans (b := x2 (ix2 (z 0 : Fin 512) (z 1 : Fin 512))) (by pointwise [k0_pay3]) ?_
  show _ = extFn k x2 x3 x4 x5 (8 + 1 * (z 0).val) _
  unfold extFn
  rw [dif_neg (by omega), dif_pos (by omega)]
  exact at2 x2 _ _ (by show (z 0).val = 8 + 1 * (z 0).val - 8; omega) (by show (z 1).val = 0 + 1 * (z 1).val; omega)

theorem ext_eq (i : grid0.Coords) (k : Fin 8) (hk : place i = BitVec.ofNat 32 k.val) (x2 : Vec Ideal S512x512 .f32) (x3 x4 : Vec Ideal S8x512 .f32) (x5 : Vec Ideal S16x512 .f32) :
    ext i x2 x3 x4 x5 = extArr k x2 x3 x4 x5 := by
  funext y
  have h0 : (y 0).val < 544 := (y 0).isLt
  have h1 : (y 1).val < 512 := (y 1).isLt
  unfold ext
  rw [hk]
  refine View.canon_apply_of_pieces (extArr k x2 x3 x4 x5) _ ?_ y ?_
  · simp only [List.forall_mem_cons]
    exact ⟨ext_a k x2 x3 x4 x5, ext_b k x2 x3 x4 x5, ext_c i k hk x2 x3 x4 x5, ext_d k x2 x3 x4 x5, by simp⟩
  · simp only [List.exists_mem_cons_iff, Rect.mem_set_unit, Fin.forall_fin_two]
    simp only [Matrix.cons_val_zero, Matrix.cons_val_one]
    simp [h1]
    omega

/-! ## The pooled rows -/

/-- Columns of the stream. -/
theorem ld_cols (x : Vec Ideal S544x512 .f32) (o : ℕ) (i0 : ∀ a, (![0, o] : Fin 2 → ℕ) a + S544x128.size a ≤ S544x512.size a) (r : Fin 544) (c : Fin 128) (h : o + c.val < 512) :
    View.ld x (Rect.unit ![0, o] S544x128.size i0) (ix2 r c) = x (ix2 r (⟨o + c.val, h⟩ : Fin 512)) :=
  at2 x _ _ (by show 0 + 1 * r.val = r.val; omega) (by show o + 1 * c.val = o + c.val; omega)

theorem pooled_apply (d0 d1 d2 d3 : FVec Ideal S512x128 .f32) (p q : Vec Ideal S1x256x256 .bf16) (j : Fin 512) (y : Fin 512) :
    pooled d0 d1 d2 d3 p q (ix2 j y) = if h : y.val < 256
      then ∑ c : Fin 128, d0 (ix2 j c) * p (ix3 (0 : Fin 1) (⟨c.val, by omega⟩ : Fin 256) (⟨y.val, h⟩ : Fin 256)) + ∑ c : Fin 128, d1 (ix2 j c) * p (ix3 (0 : Fin 1) (⟨128 + c.val, by omega⟩ : Fin 256) (⟨y.val, h⟩ : Fin 256))
      else ∑ c : Fin 128, d2 (ix2 j c) * q (ix3 (0 : Fin 1) (⟨c.val, by omega⟩ : Fin 256) (⟨y.val - 256, by omega⟩ : Fin 256)) + ∑ c : Fin 128, d3 (ix2 j c) * q (ix3 (0 : Fin 1) (⟨128 + c.val, by omega⟩ : Fin 256) (⟨y.val - 256, by omega⟩ : Fin 256)) := by
  pointwise [pooled]

theorem qRow_at (G : Fin 512 → ℕ → ℝ) (wp : Fin 4 → Fin 128 → Fin 128 → EReal) (t : ℕ) (g : Fin 4) (e : Fin 128) (y : Fin 512) (hy : y.val = 128 * g.val + e.val) :
    qRow G wp t y = ∑ c : Fin 128, ((poolDiff (G ⟨128 * g.val + c.val, by omega⟩) (half g) t : ℝ) : EReal) * wp g c e := by
  have h1 : y.val / 128 = g.val := by omega
  have h2 : y.val % 128 = e.val := by omega
  unfold qRow
  refine Finset.sum_congr rfl fun c _ => ?_
  have e1 : (⟨128 * (y.val / 128) + c.val, by omega⟩ : Fin 512) = ⟨128 * g.val + c.val, by omega⟩ := Fin.ext (by show 128 * (y.val / 128) + c.val = _; rw [h1])
  have e2 : (⟨y.val / 128, by omega⟩ : Fin 4) = g := Fin.ext h1
  have e3 : (⟨y.val % 128, by omega⟩ : Fin 128) = e := Fin.ext h2
  rw [e1, e2, e3]

/-- The weights' two squares, each with two groups' weights on its diagonal. -/
def Diagonal (W : Vec Ideal S2x256x256 .bf16) (wp : Fin 4 → Fin 128 → Fin 128 → EReal) : Prop :=
  ∀ (h a b : Fin 2) (c e : Fin 128) (k l : Fin 256), k.val = 128 * a.val + c.val → l.val = 128 * b.val + e.val →
    W (ix3 h k l) = if a = b then wp ⟨2 * h.val + a.val, by omega⟩ c e else 0

theorem ld_square (W : Vec Ideal S2x256x256 .bf16) (h : Fin 2) (i0 : ∀ a, (![h.val, 0, 0] : Fin 3 → ℕ) a + S1x256x256.size a ≤ S2x256x256.size a) (k l : Fin 256) :
    View.ld W (Rect.unit ![h.val, 0, 0] S1x256x256.size i0) (ix3 (0 : Fin 1) k l) = W (ix3 h k l) :=
  at3 W _ _ (by show h.val + 1 * 0 = h.val; omega) (by show 0 + 1 * k.val = k.val; omega) (by show 0 + 1 * l.val = l.val; omega)

theorem square_lo (W : Vec Ideal S2x256x256 .bf16) (wp : Fin 4 → Fin 128 → Fin 128 → EReal) (hW : Diagonal W wp) (h : Fin 2) (u v : Fin 128 → EReal) (e : Fin 128) (l : Fin 256) (hl : l.val = e.val) :
    ∑ c : Fin 128, u c * W (ix3 h (⟨c.val, by omega⟩ : Fin 256) l) + ∑ c : Fin 128, v c * W (ix3 h (⟨128 + c.val, by omega⟩ : Fin 256) l) = ∑ c : Fin 128, u c * wp ⟨2 * h.val, by omega⟩ c e := by
  have e0 : ∀ c : Fin 128, W (ix3 h (⟨c.val, by omega⟩ : Fin 256) l) = wp ⟨2 * h.val, by omega⟩ c e := fun c => hW h 0 0 c e _ l (by simp) (by simpa using hl)
  have e1 : ∀ c : Fin 128, W (ix3 h (⟨128 + c.val, by omega⟩ : Fin 256) l) = 0 := fun c => hW h 1 0 c e _ l (by simp) (by simpa using hl)
  simp only [e0, e1, mul_zero, Finset.sum_const_zero, add_zero]
theorem square_hi (W : Vec Ideal S2x256x256 .bf16) (wp : Fin 4 → Fin 128 → Fin 128 → EReal) (hW : Diagonal W wp) (h : Fin 2) (u v : Fin 128 → EReal) (e : Fin 128) (l : Fin 256) (hl : l.val = 128 + e.val) :
    ∑ c : Fin 128, u c * W (ix3 h (⟨c.val, by omega⟩ : Fin 256) l) + ∑ c : Fin 128, v c * W (ix3 h (⟨128 + c.val, by omega⟩ : Fin 256) l) = ∑ c : Fin 128, v c * wp ⟨2 * h.val + 1, by omega⟩ c e := by
  have e0 : ∀ c : Fin 128, W (ix3 h (⟨c.val, by omega⟩ : Fin 256) l) = 0 := fun c => hW h 0 1 c e _ l (by simp) (by simpa using hl)
  have e1 : ∀ c : Fin 128, W (ix3 h (⟨128 + c.val, by omega⟩ : Fin 256) l) = wp ⟨2 * h.val + 1, by omega⟩ c e := fun c => hW h 1 1 c e _ l (by simp) (by simpa using hl)
  simp only [e0, e1, mul_zero, Finset.sum_const_zero, zero_add]

theorem pooled_row (d0 d1 d2 d3 : FVec Ideal S512x128 .f32) (W : Vec Ideal S2x256x256 .bf16) (G : Fin 512 → ℕ → ℝ) (wp : Fin 4 → Fin 128 → Fin 128 → EReal) (hW : Diagonal W wp) (t : ℕ) (j : Fin 512)
    (h0 : ∀ c : Fin 128, d0 (ix2 j c) = ((poolDiff (G ⟨c.val, by omega⟩) 1 t : ℝ) : EReal)) (h1 : ∀ c : Fin 128, d1 (ix2 j c) = ((poolDiff (G ⟨128 + c.val, by omega⟩) 2 t : ℝ) : EReal))
    (h2 : ∀ c : Fin 128, d2 (ix2 j c) = ((poolDiff (G ⟨256 + c.val, by omega⟩) 4 t : ℝ) : EReal)) (h3 : ∀ c : Fin 128, d3 (ix2 j c) = ((poolDiff (G ⟨384 + c.val, by omega⟩) 8 t : ℝ) : EReal)) (y : Fin 512) :
    pooled d0 d1 d2 d3 (View.ld W (Rect.unit ![0, 0, 0] S1x256x256.size inb_S2x256x256_S1x256x256_0_0_0)) (View.ld W (Rect.unit ![1, 0, 0] S1x256x256.size inb_S2x256x256_S1x256x256_1_0_0)) (ix2 j y) = qRow G wp t y := by
  refine (pooled_apply _ _ _ _ _ _ j y).trans ?_
  have l0 := fun k l => ld_square W 0 inb_S2x256x256_S1x256x256_0_0_0 k l
  have l1 := fun k l => ld_square W 1 inb_S2x256x256_S1x256x256_1_0_0 k l
  by_cases hy : y.val < 256
  · refine (dif_pos hy).trans ?_
    refine (congrArg₂ (· + ·) (Finset.sum_congr rfl fun c _ => congrArg (d0 (ix2 j c) * ·) (l0 _ _)) (Finset.sum_congr rfl fun c _ => congrArg (d1 (ix2 j c) * ·) (l0 _ _))).trans ?_
    by_cases hz : y.val < 128
    · refine (square_lo W wp hW 0 _ _ ⟨y.val, hz⟩ _ rfl).trans ?_
      rw [qRow_at G wp t 0 ⟨y.val, hz⟩ y (by simp)]
      exact Finset.sum_congr rfl fun c _ => by rw [h0]; simp [half]
    · refine (square_hi W wp hW 0 _ _ ⟨y.val - 128, by omega⟩ _ (by show y.val = 128 + (y.val - 128); omega)).trans ?_
      rw [qRow_at G wp t 1 ⟨y.val - 128, by omega⟩ y (by show y.val = 128 * 1 + (y.val - 128); omega)]
      exact Finset.sum_congr rfl fun c _ => by rw [h1]; simp [half]
  · refine (dif_neg hy).trans ?_
    refine (congrArg₂ (· + ·) (Finset.sum_congr rfl fun c _ => congrArg (d2 (ix2 j c) * ·) (l1 _ _)) (Finset.sum_congr rfl fun c _ => congrArg (d3 (ix2 j c) * ·) (l1 _ _))).trans ?_
    by_cases hz : y.val < 384
    · refine (square_lo W wp hW 1 _ _ ⟨y.val - 256, by omega⟩ _ rfl).trans ?_
      rw [qRow_at G wp t 2 ⟨y.val - 256, by omega⟩ y (by show y.val = 128 * 2 + (y.val - 256); omega)]
      exact Finset.sum_congr rfl fun c _ => by rw [h2]; simp [half]
    · refine (square_hi W wp hW 1 _ _ ⟨y.val - 384, by omega⟩ _ (by show y.val - 256 = 128 + (y.val - 384); omega)).trans ?_
      rw [qRow_at G wp t 3 ⟨y.val - 384, by omega⟩ y (by show y.val = 128 * 3 + (y.val - 384); omega)]
      exact Finset.sum_congr rfl fun c _ => by rw [h3]; simp [half]

section Row
variable (i : grid0.Coords) (k : Fin 8) (hk : place i = BitVec.ofNat 32 k.val)
  (x0 : Vec Ideal S512x1024 .f32) (x1 x2 : Vec Ideal S512x512 .f32) (x3 x4 : Vec Ideal S8x512 .f32) (x5 : Vec Ideal S16x512 .f32) (x6 : Vec Ideal S2x256x256 .bf16)
  (x7 : Vec Ideal S1024x1024 .bf16) (x8 : Vec Ideal S1024x5632 .bf16) (x9 : Vec Ideal S2816x1024 .bf16) (x10 : Vec Ideal S1x1024 .f32)
  (G : Fin 512 → ℕ → ℝ) (wp : Fin 4 → Fin 128 → Fin 128 → EReal)
  (hE : ∀ (r : ℕ) (y : Fin 512), r < 528 → extFn k x2 x3 x4 x5 r y = ((G y (512 * k.val + 8 + r) : ℝ) : EReal)) (hW : Diagonal x6 wp)

include hk hE hW

theorem mixed_apply (j : Fin 512) (e : Fin 1024) :
    mixed i x0 x1 x2 x3 x4 x5 x6 x7 (ix2 j e) = hRow (fun e => x0 (ix2 j e)) (fun y => x1 (ix2 j y)) (qRow G wp (512 * k.val + 16 + j.val)) (fun a b => x7 (ix2 a b)) e := by
  have hc : ∀ (o : ℕ) (i0 : ∀ a, (![0, o] : Fin 2 → ℕ) a + S544x128.size a ≤ S544x512.size a) (c : Fin 128) (h : o + c.val < 512) (r : ℕ) (hr : r < 544), r < 528 →
      View.ld (ext i x2 x3 x4 x5) (Rect.unit ![0, o] S544x128.size i0) (ix2 (⟨r, hr⟩ : Fin 544) c) = ((G ⟨o + c.val, h⟩ (512 * k.val + 8 + r) : ℝ) : EReal) := fun o i0 c h r hr hr' => by
    rw [ext_eq i k hk]
    exact (ld_cols (extArr k x2 x3 x4 x5) o i0 ⟨r, hr⟩ c h).trans (hE r _ hr')
  have hq := pooled_row _ _ _ _ x6 G wp hW (512 * k.val + 16 + j.val) j
    (fun c => (diff0_apply _ _ k j c (hc 0 inb_S544x512_S544x128_0_0 c (by omega))).trans (by simp only [Nat.zero_add]))
    (fun c => diff1_apply _ _ k j c (hc 128 inb_S544x512_S544x128_0_128 c (by omega)))
    (fun c => diff2_apply _ _ k j c (hc 256 inb_S544x512_S544x128_0_256 c (by omega)))
    (fun c => diff3_apply _ _ k j c (hc 384 inb_S544x512_S544x128_0_384 c (by omega)))
  unfold mixed
  rw [hk]
  refine (congrArg₂ (· + ·) (congrArg₂ (· + ·) (show _ = x0 (ix2 j e) by pointwise) (pay2_apply x1 _ j e)) (pay2_apply _ _ j e)).trans ?_
  simp only [hq]
  unfold hRow
  refine congrArg₂ (· + ·) (congrArg (x0 (ix2 j e) + ·) (congrArg (· * _) (Finset.sum_congr rfl fun a _ => congrArg (x1 (ix2 j a) * ·) ?_))) (congrArg (· * _) (Finset.sum_congr rfl fun a _ => congrArg (qRow G wp _ a * ·) ?_))
  · exact at2 x7 _ _ (by show 0 + 1 * a.val = a.val; omega) (by show 0 + 1 * e.val = e.val; omega)
  · exact at2 x7 _ _ (by show 512 + 1 * a.val = 512 + a.val; omega) (by show 0 + 1 * e.val = e.val; omega)

/-- A row of the result. -/
theorem tile_apply (j : Fin 512) (e : Fin 1024) :
    result (fed (mixed i x0 x1 x2 x3 x4 x5 x6 x7) x8 x9) x10 (ix2 j e)
      = outRow (fedRow (hRow (fun e => x0 (ix2 j e)) (fun y => x1 (ix2 j y)) (qRow G wp (512 * k.val + 16 + j.val)) (fun a b => x7 (ix2 a b)))
          (actRow (hRow (fun e => x0 (ix2 j e)) (fun y => x1 (ix2 j y)) (qRow G wp (512 * k.val + 16 + j.val)) (fun a b => x7 (ix2 a b))) (fun a b => x8 (ix2 a b))) (fun a b => x9 (ix2 a b)))
        (fun a => x10 (ix2 (0 : Fin 1) a)) e := by
  have hm := mixed_apply i k hk x0 x1 x2 x3 x4 x5 x6 x7 G wp hE hW j
  refine (result_apply _ x10 j e).trans ?_
  refine congrFun (congrArg (fun h => outRow h _) (funext fun a => ?_)) e
  refine (pay45_apply _ _ x9 j a).trans ?_
  rw [gated_eq]
  show fedRow (fun k => mixed i x0 x1 x2 x3 x4 x5 x6 x7 (ix2 j k)) (actRow (fun k => mixed i x0 x1 x2 x3 x4 x5 x6 x7 (ix2 j k)) _) _ a = _
  simp only [hm]
end Row

end Cert.Proof.MixBlock

end
-- ==== Proof.MixHost.lean ====
/-
  The arrays that the mixing call's windows run over, as the host code before the call lays them out.
-/
module

public import proofs.«01_k».proof.Proof.MixBlock
public import proofs.«01_k».proof.Proof.Gen.MixIdeal.Frame
public import Idealize.ShloMosaic.Lib.Pointwise
public import Idealize.ShloMosaic.Lib.StableHlo.Run
public import Idealize.ShloMosaic.Lib.Routing.OpsSet
public import Idealize.ShloMosaic.Lib.Routing.OpsPair

@[expose] public section

set_option maxRecDepth 16384

noncomputable section

namespace Cert.Proof.MixHost

open Cert.MixIdeal Cert.MixIdeal.Gen Idealize.ShloMosaic Idealize.ShloMosaic.TcCoe Idealize.SL.Sem Idealize.ShloMosaic.StableHlo
open Cert.Proof.MixBlock (Diagonal at3)

/-! ## Writing a square into a stack of two matrices -/

/-- Three index words in a vector. -/
def words (a b c : BitVec 32) : IVec S3 32 :=
  concatenate S3 0 [⟨S1, broadcastInDim S1 ![] bcast_S_S1 (constantI S_ 32 a)⟩, ⟨S1, broadcastInDim S1 ![] bcast_S_S1 (constantI S_ 32 b)⟩,
    ⟨S1, broadcastInDim S1 ![] bcast_S_S1 (constantI S_ 32 c)⟩] concatenates_S1_S1_S1_S3_d0
/-- The stack `x` with the square `u` written at the three words. -/
def put (a b c : BitVec 32) (x : FVec Ideal S2x256x256 .f32) (u : FVec Ideal S128x128 .f32) : FVec Ideal S2x256x256 .f32 :=
  Host.scatter scatter_S2x256x256_S3_S128x128_01_0_012_0 (fun _ b => b) x (words a b c) u

theorem words_apply (a b c : BitVec 32) (i : Fin 3) : words a b c (ix1 i) = ![a, b, c] i := by
  pointwise [words]
  fin_cases i <;> rfl

theorem window_apply (p : S128x128.Idx) (a : Fin 3) :
    scatter_S2x256x256_S3_S128x128_01_0_012_0.window p a = (![0, (p 0).val, (p 1).val] : Fin 3 → ℕ) a := by
  fin_cases a <;> rfl
theorem start_apply (p : S128x128.Idx) (idx : IVec S3 32) (a : Fin 3) :
    scatter_S2x256x256_S3_S128x128_01_0_012_0.start p idx a = (idx (ix1 a)).toInt := by
  have h : ∀ q : Fin 3, scatter_S2x256x256_S3_S128x128_01_0_012_0.siIdx p ⟨q.val, q.isLt⟩ = ix1 q := fun q => by
    funext b; apply Fin.ext; match b with | ⟨0, _⟩ => rfl
  fin_cases a
  · exact congrArg (fun i => (idx i).toInt) (h 0)
  · exact congrArg (fun i => (idx i).toInt) (h 1)
  · exact congrArg (fun i => (idx i).toInt) (h 2)

/-- Inside the square the update is read. -/
theorem put_hit (a b c : BitVec 32) (x : FVec Ideal S2x256x256 .f32) (u : FVec Ideal S128x128 .f32) (h : Fin 2) (k l : Fin 256) (p q : Fin 128)
    (ha : a.toInt = h.val) (hb : b.toInt + p.val = k.val) (hc : c.toInt + q.val = l.val) :
    put a b c x u (ix3 h k l) = u (ix2 p q) := by
  refine Routing.scatter_set_hit _ x (words a b c) u (ix3 h k l) _ (fun j hj => ?_) (ix2 p q) ?_
  · rw [Routing.resultIdx?_eq_some] at hj
    have h1 := hj 1
    have h2 := hj 2
    rw [start_apply, window_apply, words_apply] at h1 h2
    have e1 : b.toInt + ((j 0).val : ℤ) = k.val := h1
    have e2 : c.toInt + ((j 1).val : ℤ) = l.val := h2
    refine congrArg u (funext fun w => Fin.ext ?_)
    match w with
    | ⟨0, _⟩ => show (j 0).val = p.val; omega
    | ⟨1, _⟩ => show (j 1).val = q.val; omega
  · rw [Routing.resultIdx?_eq_some]
    intro w
    rw [start_apply, window_apply, words_apply]
    match w with
    | ⟨0, _⟩ => show a.toInt + (0 : ℕ) = (h.val : ℤ); omega
    | ⟨1, _⟩ => exact hb
    | ⟨2, _⟩ => exact hc
/-- Outside the square the stack is as it was. -/
theorem put_miss (a b c : BitVec 32) (x : FVec Ideal S2x256x256 .f32) (u : FVec Ideal S128x128 .f32) (h : Fin 2) (k l : Fin 256)
    (hm : a.toInt ≠ h.val ∨ k.val < b.toInt ∨ b.toInt + 128 ≤ k.val ∨ l.val < c.toInt ∨ c.toInt + 128 ≤ l.val) :
    put a b c x u (ix3 h k l) = x (ix3 h k l) := by
  refine Routing.scatter_set_miss _ x (words a b c) u (ix3 h k l) (fun j hj => ?_)
  rw [Routing.resultIdx?_eq_some] at hj
  have h0 := hj 0
  have h1 := hj 1
  have h2 := hj 2
  rw [start_apply, window_apply, words_apply] at h0 h1 h2
  have e0 : a.toInt + ((0 : ℕ) : ℤ) = h.val := h0
  have e1 : b.toInt + ((j 0).val : ℤ) = k.val := h1
  have e2 : c.toInt + ((j 1).val : ℤ) = l.val := h2
  have l0 : (j 0).val < 128 := (j 0).isLt
  have l1 : (j 1).val < 128 := (j 1).isLt
  omega

/-- Matrix `g` of the four. -/
def square (w : FVec Ideal S4x128x128 .f32) (n : ℕ) (h : S4x128x128.Slices ![n, 0, 0] S1x128x128) : FVec Ideal S128x128 .f32 :=
  shapeCast S128x128 (extractStridedSlice S1x128x128 ![n, 0, 0] w h) shapeCasts_S1x128x128_S128x128
/-- Four squares written on the two diagonals. -/
def put4 (x : FVec Ideal S2x256x256 .f32) (u0 u1 u2 u3 : FVec Ideal S128x128 .f32) : FVec Ideal S2x256x256 .f32 :=
  put 1#32 128#32 128#32 (put 1#32 0#32 0#32 (put 0#32 128#32 128#32 (put 0#32 0#32 0#32 x u0) u1) u2) u3
/-- The four matrices, two by two, on the diagonals of two larger ones, rounded. -/
def squares (w : FVec Ideal S4x128x128 .f32) : FVec Ideal S2x256x256 .bf16 :=
  truncf .bf16 (put4 (broadcastInDim S2x256x256 ![] bcast_S_S2x256x256 (constant (F := Ideal) S_ .f32 0x00000000#32))
    (square w 0 slices_S4x128x128_S1x128x128_0_0_0) (square w 1 slices_S4x128x128_S1x128x128_1_0_0) (square w 2 slices_S4x128x128_S1x128x128_2_0_0)
    (square w 3 slices_S4x128x128_S1x128x128_3_0_0)) bitsLt_bf16_f32

theorem word0 : (0#32).toInt = 0 := by decide
theorem word1 : (1#32).toInt = 1 := by decide
theorem word128 : (128#32).toInt = 128 := by decide

theorem put4_apply (x : FVec Ideal S2x256x256 .f32) (u0 u1 u2 u3 : FVec Ideal S128x128 .f32) (h a b : Fin 2) (p q : Fin 128) (k l : Fin 256)
    (hk : k.val = 128 * a.val + p.val) (hl : l.val = 128 * b.val + q.val) :
    put4 x u0 u1 u2 u3 (ix3 h k l) = if a = b then (![u0, u1, u2, u3] : Fin 4 → FVec Ideal S128x128 .f32) ⟨2 * h.val + a.val, by omega⟩ (ix2 p q) else x (ix3 h k l) := by
  have hp := p.isLt
  have hq := q.isLt
  have e0 := word0
  have e1 := word1
  have e2 := word128
  unfold put4
  generalize (0#32 : BitVec 32) = w0 at *
  generalize (1#32 : BitVec 32) = w1 at *
  generalize (128#32 : BitVec 32) = w2 at *
  obtain ⟨h, hh⟩ := h
  obtain ⟨a, ha⟩ := a
  obtain ⟨b, hb⟩ := b
  simp only at hk hl
  interval_cases h <;> interval_cases a <;> interval_cases b <;>
    (repeat first
      | (rw [put_miss]
         rotate_left
         · simp only [e0, e1, e2]; omega)
      | (rw [put_hit (p := p) (q := q)]
         rotate_left
         · simp only [e0, e1, e2]; rfl
         · simp only [e0, e1, e2]; omega
         · simp only [e0, e1, e2]; omega)
     rfl)

theorem square_apply (w : FVec Ideal S4x128x128 .f32) (n : ℕ) (h : S4x128x128.Slices ![n, 0, 0] S1x128x128) (g : Fin 4) (hg : g.val = n) (p q : Fin 128) :
    square w n h (ix2 p q) = w (ix3 g p q) := by
  subst hg
  pointwise [square]
  all_goals exact at3 w _ _ rfl rfl rfl

variable (m : (ℓ : Loc nD τ sig) → Buf (Elt Ideal) ℓ) (c : Dev nD)

theorem V_v0 : V m c main_v0 = (shapeCast S32768x1024 (m ((c : Thread nD τ).loc main_arg0)) shapeCasts_S8x4096x1024_S32768x1024 : FVec Ideal S32768x1024 .f32) := by
  unfold V; simp only [hostOps0]
  after_results
  rfl
theorem V_v30 : V m c main_v30 = squares (m ((c : Thread nD τ).loc main_arg4)) := by
  unfold V; simp only [hostOps0]
  after_results
  rfl
theorem V_v33 : V m c main_v33 = (shapeCast S32768x512 (m ((c : Thread nD τ).loc main_arg2)) shapeCasts_S8x4096x512_S32768x512 : FVec Ideal S32768x512 .f32) := by
  unfold V; simp only [hostOps0]
  after_results
  rfl
/-- The output projection with the two gains of the mix on its rows. -/
def outWeights (w : FVec Ideal S1024x1024 .f32) (g p : FVec Ideal S512 .f32) : FVec Ideal S1024x1024 .bf16 :=
  truncf .bf16 (mulf w (broadcastInDim S1024x1024 ![0, 1] bcast_S1024x1_S1024x1024_0_1
    (shapeCast S1024x1 (concatenate S1024 0 [⟨S512, g⟩, ⟨S512, p⟩] concatenates_S512_S512_S1024_d0 : FVec Ideal S1024 .f32) shapeCasts_S1024_S1024x1 : FVec Ideal S1024x1 .f32))) bitsLt_bf16_f32
/-- The first feed-forward weights with the gain on their rows. -/
def inWeights (w : FVec Ideal S1024x5632 .f32) (g : FVec Ideal S1024 .f32) : FVec Ideal S1024x5632 .bf16 :=
  truncf .bf16 (mulf w (broadcastInDim S1024x5632 ![0, 1] bcast_S1024x1_S1024x5632_0_1
    (shapeCast S1024x1 g shapeCasts_S1024_S1024x1 : FVec Ideal S1024x1 .f32))) bitsLt_bf16_f32
theorem V_v36 : V m c main_v36 = outWeights (m ((c : Thread nD τ).loc main_arg7)) (m ((c : Thread nD τ).loc main_arg5)) (m ((c : Thread nD τ).loc main_arg6)) := by
  unfold V; simp only [hostOps0]
  after_results
  rfl
theorem V_v40 : V m c main_v40 = inWeights (m ((c : Thread nD τ).loc main_arg9)) (m ((c : Thread nD τ).loc main_arg8)) := by
  unfold V; simp only [hostOps0]
  after_results
  rfl
theorem V_v41 : V m c main_v41 = (truncf .bf16 (m ((c : Thread nD τ).loc main_arg10) : FVec Ideal S2816x1024 .f32) bitsLt_bf16_f32 : FVec Ideal S2816x1024 .bf16) := by
  unfold V; simp only [hostOps0]
  after_results
theorem V_v42 : V m c main_v42 = (shapeCast S1x1024 (m ((c : Thread nD τ).loc main_arg11)) shapeCasts_S1024_S1x1024 : FVec Ideal S1x1024 .f32) := by
  unfold V; simp only [hostOps0]
  after_results
  rfl

/-! ## Read at an index -/

theorem round_apply {s : Shape} (x : FVec Ideal s .f32) (i : s.Idx) : (truncf .bf16 x bitsLt_bf16_f32 : FVec Ideal s .bf16) i = x i := rfl
theorem squares_diagonal (w : FVec Ideal S4x128x128 .f32) : Diagonal (squares w) (fun g c e => w (ix3 g c e)) := by
  intro h a b p q k l hk hl
  unfold squares
  refine (round_apply _ _).trans ?_
  rw [put4_apply _ _ _ _ _ h a b p q k l hk hl]
  refine if_congr Iff.rfl ?_ ?_
  · fin_cases h <;> fin_cases a
    · exact square_apply w 0 slices_S4x128x128_S1x128x128_0_0_0 0 rfl p q
    · exact square_apply w 1 slices_S4x128x128_S1x128x128_1_0_0 1 rfl p q
    · exact square_apply w 2 slices_S4x128x128_S1x128x128_2_0_0 2 rfl p q
    · exact square_apply w 3 slices_S4x128x128_S1x128x128_3_0_0 3 rfl p q
  · pointwise

theorem rows_apply (x : FVec Ideal S8x4096x1024 .f32) (r : Fin 32768) (e : Fin 1024) (b : Fin 8) (s : Fin 4096) (h : r.val = 4096 * b.val + s.val) :
    (shapeCast S32768x1024 x shapeCasts_S8x4096x1024_S32768x1024 : FVec Ideal S32768x1024 .f32) (ix2 r e) = x (ix3 b s e) := by
  pointwise
  exact at3 x _ _ (by show r.val / 4096 = b.val; omega) (by show r.val % 4096 = s.val; omega) rfl
theorem stream_apply (x : FVec Ideal S8x4096x512 .f32) (r : Fin 32768) (e : Fin 512) (b : Fin 8) (s : Fin 4096) (h : r.val = 4096 * b.val + s.val) :
    (shapeCast S32768x512 x shapeCasts_S8x4096x512_S32768x512 : FVec Ideal S32768x512 .f32) (ix2 r e) = x (ix3 b s e) := by
  pointwise
  exact at3 x _ _ (by show r.val / 4096 = b.val; omega) (by show r.val % 4096 = s.val; omega) rfl
theorem outWeights_lo (w : FVec Ideal S1024x1024 .f32) (g p : FVec Ideal S512 .f32) (k : Fin 512) (r e : Fin 1024) (hr : r.val = k.val) :
    outWeights w g p (ix2 r e) = w (ix2 r e) * g (ix1 k) := by
  pointwise [outWeights]
  rw [dif_pos (by omega)]
  exact congrArg (fun i => w (ix2 r e) * g (ix1 i)) (Fin.ext hr)
theorem outWeights_hi (w : FVec Ideal S1024x1024 .f32) (g p : FVec Ideal S512 .f32) (k : Fin 512) (r e : Fin 1024) (hr : r.val = 512 + k.val) :
    outWeights w g p (ix2 r e) = w (ix2 r e) * p (ix1 k) := by
  pointwise [outWeights]
  rw [dif_neg (by omega)]
  exact congrArg (fun i => w (ix2 r e) * p (ix1 i)) (Fin.ext (by show r.val - 512 = k.val; omega))
theorem inWeights_apply (w : FVec Ideal S1024x5632 .f32) (g : FVec Ideal S1024 .f32) (r : Fin 1024) (y : Fin 5632) :
    inWeights w g (ix2 r y) = w (ix2 r y) * g (ix1 r) := by
  pointwise [inWeights]
theorem lastGain_apply (g : FVec Ideal S1024 .f32) (r : Fin 1) (e : Fin 1024) :
    (shapeCast S1x1024 g shapeCasts_S1024_S1x1024 : FVec Ideal S1x1024 .f32) (ix2 r e) = g (ix1 e) := by
  pointwise

end Cert.Proof.MixHost

end
-- ==== Proof.MixRefPool.lean ====
/-
  The reference's pooled stream: running sums, two rows of them taken at the window's ends, the mean and the difference.
-/
module

public import proofs.«01_k».proof.Proof.Gen.MixRefIdeal.Run
public import proofs.«01_k».proof.Proof.MixBlock
public import Idealize.ShloMosaic.Lib.Pointwise
public import Idealize.ShloMosaic.Lib.PlanTiles.Rows
public import Idealize.ShloMosaic.Lib.Routing.Words
public import Idealize.ShloMosaic.Lib.Routing.OpsPair
public import Idealize.ShloMosaic.Lib.ReduceAll

@[expose] public section

set_option maxRecDepth 16384

noncomputable section

namespace Cert.Proof.MixRefPool

open Cert.MixRefIdeal Cert.MixRefIdeal.Gen Idealize.ShloMosaic Idealize.ShloMosaic.TcCoe
open Idealize.ShloMosaic.PlanTiles (minsi_word maxsi_zero_neg)
open Cert.Proof.MixBlock (at3)
open Cert.Proof.MixMath (poolDiff poolDiff_eq)

/-! ## The window's ends -/

/-- An index held between the first row and the row past the last. -/
def clip (y : IVec S4112 32) : IVec S4112 32 :=
  minsi (broadcastInDim S4112 ![] bcast_S_S4112 (id (constantI S_ 32 4112#32))) (maxsi (broadcastInDim S4112 ![] bcast_S_S4112 (id (constantI S_ 32 0#32))) y)
/-- Where the window starts. -/
def lo (h : ℕ) : IVec S4112 32 :=
  clip (subi (iotaInDim S4112 32 0) (broadcastInDim S4112 ![] bcast_S_S4112 (constantI S_ 32 (BitVec.ofNat 32 h))))
/-- Where the window ends. -/
def hi (w h : ℕ) : IVec S4112 32 :=
  clip (subi (addi (iotaInDim S4112 32 0) (broadcastInDim S4112 ![] bcast_S_S4112 (constantI S_ 32 (BitVec.ofNat 32 w)))) (broadcastInDim S4112 ![] bcast_S_S4112 (constantI S_ 32 (BitVec.ofNat 32 h))))

theorem clip_nat (n : ℕ) (hn : n < 2 ^ 31) : IntOp.minsi 4112#32 (IntOp.maxsi 0#32 (BitVec.ofNat 32 n)) = BitVec.ofNat 32 (min n 4112) := by
  rw [Routing.maxsi_zero_left hn]
  exact minsi_word (by decide) hn
theorem sub_nat (a b : ℕ) (h : b ≤ a) (ha : a < 2 ^ 31) : BitVec.ofNat 32 a - BitVec.ofNat 32 b = BitVec.ofNat 32 (a - b) := by
  apply BitVec.eq_of_toNat_eq
  simp only [BitVec.toNat_sub, BitVec.toNat_ofNat]
  omega
theorem sub_neg (a b : ℕ) (h : a ≤ b) (hb : b < 2 ^ 31) : BitVec.ofNat 32 a - BitVec.ofNat 32 b = -BitVec.ofNat 32 (b - a) := by
  apply BitVec.eq_of_toNat_eq
  simp only [BitVec.toNat_sub, BitVec.toNat_ofNat, BitVec.toNat_neg]
  omega

theorem lo_apply (h : ℕ) (hh : h ≤ 16) (t : Fin 4112) : lo h (ix1 t) = BitVec.ofNat 32 (t.val - h) := by
  have ht := t.isLt
  refine (show _ = IntOp.minsi 4112#32 (IntOp.maxsi 0#32 (BitVec.ofNat 32 t.val - BitVec.ofNat 32 h)) from rfl).trans ?_
  rcases le_total h t.val with e | e
  · rw [sub_nat _ _ e (by omega), clip_nat _ (by omega), min_eq_left (by omega)]
  · rw [sub_neg _ _ e (by omega), maxsi_zero_neg (by omega), show t.val - h = 0 by omega]
    exact minsi_word (a := 4112) (b := 0) (by decide) (by decide)
theorem hi_apply (w h : ℕ) (hw : w = 2 * h) (hh : h ≤ 16) (t : Fin 4112) : hi w h (ix1 t) = BitVec.ofNat 32 (min (t.val + h) 4112) := by
  have ht := t.isLt
  refine (show _ = IntOp.minsi 4112#32 (IntOp.maxsi 0#32 (BitVec.ofNat 32 t.val + BitVec.ofNat 32 w - BitVec.ofNat 32 h)) from rfl).trans ?_
  rw [← BitVec.ofNat_add, sub_nat _ _ (by omega) (by omega), clip_nat _ (by omega), show t.val + w - h = t.val + h by omega]

/-! ## A row taken -/

/-- A negative index counts from the end. -/
def column (y : IVec S4112 32) : IVec S4112x1 32 :=
  broadcastInDim S4112x1 ![0] bcast_S4112_S4112x1_0 (select (cmpi .slt y (broadcastInDim S4112 ![] bcast_S_S4112 (constantI S_ 32 0#32))) (addi y (broadcastInDim S4112 ![] bcast_S_S4112 (constantI S_ 32 4113#32))) y)
/-- The rows at the indices. -/
def taken (x : FVec Ideal S8x4113x128 .f32) (k : IVec S4112x1 32) : FVec Ideal S8x4112x128 .f32 :=
  select (broadcastInDim S8x4112x128 ![1] bcast_S4112_S8x4112x128_1 (Host.reduce IntOp.andi (andi (cmpi .sge k (broadcastInDim S4112x1 ![] bcast_S_S4112x1 (constantI S_ 32 0#32))) (cmpi .sle k (broadcastInDim S4112x1 ![0, 1] bcast_S1x1_S4112x1_0_1 (broadcastInDim S1x1 ![1] bcast_S1_S1x1_1 (constantI S1 32 4112#32))))) (constantI S_ 1 1#1) reducesTo_S4112x1_S4112_d1 h_S_)) (Host.gather gather_S8x4113x128_S4112x1_S8x4112x128_02_1_n_n_1_1_81128 x k) (broadcastInDim S8x4112x128 ![] bcast_S_S8x4112x128 (constant S_ .f32 0x7FC00000#32))

theorem column_apply (y : IVec S4112 32) (n : ℕ) (hn : n ≤ 4112) (t : Fin 4112) (u : Fin 1) (h : y (ix1 t) = BitVec.ofNat 32 n) : column y (ix2 t u) = BitVec.ofNat 32 n := by
  pointwise [column]
  rw [h]
  have hlt : (BitVec.ofNat 32 n).toNat < 2 ^ 31 := by rw [BitVec.toNat_ofNat]; omega
  exact Routing.wrap_of_lt _ _ hlt

theorem gather_apply (x : FVec Ideal S8x4113x128 .f32) (k : IVec S4112x1 32) (b : Fin 8) (t : Fin 4112) (c : Fin 128) (n : Fin 4113)
    (h : k (ix2 t (0 : Fin 1)) = BitVec.ofNat 32 n.val) :
    Host.gather gather_S8x4113x128_S4112x1_S8x4112x128_02_1_n_n_1_1_81128 x k (ix3 b t c) = x (ix3 b n c) := by
  have hn := n.isLt
  have hs : gather_S8x4113x128_S4112x1_S8x4112x128_02_1_n_n_1_1_81128.siIdx (ix3 b t c) ⟨0, by decide⟩ = ix2 t (0 : Fin 1) := by
    funext a; apply Fin.ext
    match a with
    | ⟨0, _⟩ => rfl
    | ⟨1, _⟩ => rfl
  unfold Host.gather
  refine congrArg x (funext fun a => Fin.ext ?_)
  match a with
  | ⟨0, _⟩ => show 0 + 0 + b.val = b.val; omega
  | ⟨1, _⟩ =>
    show min (k (gather_S8x4113x128_S4112x1_S8x4112x128_02_1_n_n_1_1_81128.siIdx (ix3 b t c) ⟨0, by decide⟩)).toInt.toNat (4113 - 1) + 0 + 0 = n.val
    rw [hs, h, BitVec.toInt_ofNat', Int.bmod_eq_of_le (by omega) (by omega)]
    omega
  | ⟨2, _⟩ => show 0 + 0 + c.val = c.val; omega

theorem inside (n : ℕ) (hn : n ≤ 4112) : IntOp.andi (IntOp.cmpi .sge (BitVec.ofNat 32 n) 0#32) (IntOp.cmpi .sle (BitVec.ofNat 32 n) 4112#32) = 1#1 := by
  have e : (BitVec.ofNat 32 n).toInt = n := by rw [BitVec.toInt_ofNat', Int.bmod_eq_of_le (by omega) (by omega)]
  have e1 : (4112#32).toInt = 4112 := by decide
  have e0 : (0#32).toInt = 0 := by decide
  have h1 : BitVec.sle 0#32 (BitVec.ofNat 32 n) = true := by rw [BitVec.sle_iff_toInt_le, e, e0]; omega
  have h2 : BitVec.sle (BitVec.ofNat 32 n) 4112#32 = true := by rw [BitVec.sle_iff_toInt_le, e, e1]; omega
  simp only [IntOp.cmpi, h1, h2]
  decide

theorem taken_apply (x : FVec Ideal S8x4113x128 .f32) (y : IVec S4112 32) (f : ℕ → ℕ) (hf : ∀ t, f t ≤ 4112) (h : ∀ t : Fin 4112, y (ix1 t) = BitVec.ofNat 32 (f t.val))
    (b : Fin 8) (t : Fin 4112) (c : Fin 128) (n : Fin 4113) (hn : n.val = f t.val) : taken x (column y) (ix3 b t c) = x (ix3 b n c) := by
  unfold taken
  have hc : ∀ (s : Fin 4112) (u : Fin 1), column y (ix2 s u) = BitVec.ofNat 32 (f s.val) := fun s u => column_apply y _ (hf _) s u (h s)
  generalize column y = k at hc
  have hm : ∀ j, Host.reduce IntOp.andi (andi (cmpi .sge k (broadcastInDim S4112x1 ![] bcast_S_S4112x1 (constantI S_ 32 0#32))) (cmpi .sle k (broadcastInDim S4112x1 ![0, 1] bcast_S1x1_S4112x1_0_1 (broadcastInDim S1x1 ![1] bcast_S1_S1x1_1 (constantI S1 32 4112#32))))) (constantI S_ 1 1#1) reducesTo_S4112x1_S4112_d1 h_S_ j = 1#1 := fun j => by
    refine Host.reduce_andi_one _ _ _ _ _ rfl fun i => ?_
    rw [MixBlock.idx2 i]
    show IntOp.andi (IntOp.cmpi .sge (k (ix2 (i 0) (i 1))) 0#32) (IntOp.cmpi .sle (k (ix2 (i 0) (i 1))) 4112#32) = 1#1
    have e := hc (show Fin 4112 from i 0) (show Fin 1 from i 1)
    exact (congrArg (fun v => IntOp.andi (IntOp.cmpi .sge v 0#32) (IntOp.cmpi .sle v 4112#32)) e).trans (inside _ (hf _))
  generalize Host.reduce IntOp.andi (andi (cmpi .sge k (broadcastInDim S4112x1 ![] bcast_S_S4112x1 (constantI S_ 32 0#32))) (cmpi .sle k (broadcastInDim S4112x1 ![0, 1] bcast_S1x1_S4112x1_0_1 (broadcastInDim S1x1 ![1] bcast_S1_S1x1_1 (constantI S1 32 4112#32))))) (constantI S_ 1 1#1) reducesTo_S4112x1_S4112_d1 h_S_ = M at hm
  refine (show _ = Scalar.select (M _) (Host.gather gather_S8x4113x128_S4112x1_S8x4112x128_02_1_n_n_1_1_81128 x k (ix3 b t c)) _ from rfl).trans ?_
  rw [hm, gather_apply x k b t c n ((hc t 0).trans (by rw [hn]))]
  rfl

/-! ## The running sums -/

/-- A zero row before the running sums. -/
def sums (x : FVec Ideal S8x4112x128 .f32) : FVec Ideal S8x4113x128 .f32 :=
  concatenate S8x4113x128 1 [⟨S8x1x128, (broadcastInDim S8x1x128 ![] bcast_S_S8x1x128 (constant S_ .f32 0x00000000#32))⟩, ⟨S8x4112x128, (Host.reduceWindowAdd ![1, 4112, 1] ![1, 1, 1] ![0, 4111, 0] ![0, 0, 0] x (broadcastInDim S_ ![] bcast_S_S_ (constant S_ .f32 0x00000000#32)) reduceWindows_S8x4112x128_S8x4112x128_w1s1p0_0_w4112s1p4111_0_w1s1p0_0 h_S_)⟩] concatenates_S8x1x128_S8x4112x128_S8x4113x128_d1

theorem foldl_add {α : Type} (l : List α) (f : α → EReal) (r : α → ℝ) (h : ∀ n ∈ l, f n = (r n : EReal)) : ∀ a : ℝ, l.foldl (fun x n => x + f n) (a : EReal) = ((a + (l.map r).sum : ℝ) : EReal) := by
  induction l with
  | nil => intro a; simp
  | cons n l ih =>
    intro a
    rw [List.foldl_cons, h n (List.mem_cons_self), ← EReal.coe_add, ih (fun k hk => h k (List.mem_cons_of_mem _ hk)), List.map_cons, List.sum_cons, add_assoc]

theorem window_numel : (⟨3, ![1, 4112, 1]⟩ : Shape).numel = 4112 := by decide

theorem window_sum (g : ℕ → ℝ) (t : ℕ) (ht : t < 4112) : ∑ n ∈ Finset.range 4112, (if 4111 ≤ t + n then g (t + n - 4111) else 0) = ∑ k ∈ Finset.range (t + 1), g k := by
  obtain ⟨d, hd⟩ : ∃ d, 4111 = t + d := ⟨4111 - t, by omega⟩
  rw [show 4112 = d + (t + 1) by omega, Finset.sum_range_add, Finset.sum_eq_zero, zero_add]
  · refine Finset.sum_congr rfl fun k _ => ?_
    rw [if_pos (by omega)]
    exact congrArg g (by omega)
  · intro k hk
    rw [if_neg]
    have := Finset.mem_range.1 hk; omega

theorem running (x : FVec Ideal S8x4112x128 .f32) (g : ℕ → ℝ) (b : Fin 8) (t : Fin 4112) (c : Fin 128) (hx : ∀ s : Fin 4112, x (ix3 b s c) = (g s.val : EReal)) (v : EReal) (hv0 : v = ((0 : ℝ) : EReal)) :
    Ideal.hostReduceWindowAdd ![1, 4112, 1] ![1, 1, 1] ![0, 4111, 0] ![0, 0, 0] reduceWindows_S8x4112x128_S8x4112x128_w1s1p0_0_w4112s1p4111_0_w1s1p0_0 x v (ix3 b t c)
      = ((∑ k ∈ Finset.range (t.val + 1), g k : ℝ) : EReal) := by
  have ht := t.isLt
  subst hv0
  unfold Ideal.hostReduceWindowAdd Host.reduceWindow
  refine (foldl_add _ _ (fun n => if 4111 ≤ t.val + n.val then g (t.val + n.val - 4111) else 0) (fun n _ => ?_) 0).trans ?_
  · have hv := Shape.rowMajor_val_three ((⟨3, ![1, 4112, 1]⟩ : Shape).rowMajor.symm n)
    rw [Equiv.apply_symm_apply] at hv
    have h0 : ((⟨3, ![1, 4112, 1]⟩ : Shape).rowMajor.symm n 0).val < 1 := ((⟨3, ![1, 4112, 1]⟩ : Shape).rowMajor.symm n 0).isLt
    have h1 : ((⟨3, ![1, 4112, 1]⟩ : Shape).rowMajor.symm n 1).val < 4112 := ((⟨3, ![1, 4112, 1]⟩ : Shape).rowMajor.symm n 1).isLt
    have h2 : ((⟨3, ![1, 4112, 1]⟩ : Shape).rowMajor.symm n 2).val < 1 := ((⟨3, ![1, 4112, 1]⟩ : Shape).rowMajor.symm n 2).isLt
    change n.val = (((⟨3, ![1, 4112, 1]⟩ : Shape).rowMajor.symm n 0).val * 4112 + ((⟨3, ![1, 4112, 1]⟩ : Shape).rowMajor.symm n 1).val) * 1 + ((⟨3, ![1, 4112, 1]⟩ : Shape).rowMajor.symm n 2).val at hv
    by_cases hle : 4111 ≤ t.val + n.val
    · refine (dif_pos ?_).trans ?_
      · intro a
        match a with
        | ⟨0, _⟩ =>
          show 0 ≤ b.val * 1 + ((⟨3, ![1, 4112, 1]⟩ : Shape).rowMajor.symm n 0).val ∧ b.val * 1 + ((⟨3, ![1, 4112, 1]⟩ : Shape).rowMajor.symm n 0).val - 0 < 8
          omega
        | ⟨1, _⟩ =>
          show 4111 ≤ t.val * 1 + ((⟨3, ![1, 4112, 1]⟩ : Shape).rowMajor.symm n 1).val ∧ t.val * 1 + ((⟨3, ![1, 4112, 1]⟩ : Shape).rowMajor.symm n 1).val - 4111 < 4112
          omega
        | ⟨2, _⟩ =>
          show 0 ≤ c.val * 1 + ((⟨3, ![1, 4112, 1]⟩ : Shape).rowMajor.symm n 2).val ∧ c.val * 1 + ((⟨3, ![1, 4112, 1]⟩ : Shape).rowMajor.symm n 2).val - 0 < 128
          omega
      · rw [if_pos hle]
        refine (at3 x _ _ ?_ ?_ ?_).trans (hx ⟨t.val + n.val - 4111, by omega⟩)
        · show b.val * 1 + ((⟨3, ![1, 4112, 1]⟩ : Shape).rowMajor.symm n 0).val - 0 = b.val
          omega
        · show t.val * 1 + ((⟨3, ![1, 4112, 1]⟩ : Shape).rowMajor.symm n 1).val - 4111 = t.val + n.val - 4111
          omega
        · show c.val * 1 + ((⟨3, ![1, 4112, 1]⟩ : Shape).rowMajor.symm n 2).val - 0 = c.val
          omega
    · refine (dif_neg ?_).trans ?_
      · intro hin
        have h := (hin 1).1
        change 4111 ≤ t.val * 1 + ((⟨3, ![1, 4112, 1]⟩ : Shape).rowMajor.symm n 1).val at h
        omega
      · rw [if_neg hle]
  · congr 1
    rw [zero_add, ← window_sum g t.val ht]
    have e : ∀ (N : ℕ) (f : ℕ → ℝ), ((List.finRange N).map fun n => f n.val).sum = ∑ n ∈ Finset.range N, f n := fun N f => by
      rw [← List.ofFn_eq_map, List.sum_ofFn, Finset.sum_range]
    exact (e _ fun n => if 4111 ≤ t.val + n then g (t.val + n - 4111) else 0).trans (by rw [window_numel])

theorem ofBits_zero : Ideal.ofBits .f32 0x00000000#32 = ((0 : ℝ) : EReal) := by
  simp [Ideal.ofBits, Ideal.ieee]

theorem sums_apply (x : FVec Ideal S8x4112x128 .f32) (g : ℕ → ℝ) (b : Fin 8) (n : Fin 4113) (c : Fin 128) (hx : ∀ s : Fin 4112, x (ix3 b s c) = (g s.val : EReal)) :
    sums x (ix3 b n c) = ((∑ k ∈ Finset.range n.val, g k : ℝ) : EReal) := by
  have hr : ∀ t : Fin 4112, Host.reduceWindowAdd (F := Ideal) ![1, 4112, 1] ![1, 1, 1] ![0, 4111, 0] ![0, 0, 0] x (broadcastInDim S_ ![] bcast_S_S_ (constant S_ .f32 0x00000000#32)) reduceWindows_S8x4112x128_S8x4112x128_w1s1p0_0_w4112s1p4111_0_w1s1p0_0 h_S_ (ix3 b t c)
      = ((∑ k ∈ Finset.range (t.val + 1), g k : ℝ) : EReal) := fun t => by
    unfold Host.reduceWindowAdd
    rw [Ideal.hostReduceWindowAdd_def]
    exact running x g b t c hx _ ofBits_zero
  unfold sums
  generalize Host.reduceWindowAdd (F := Ideal) ![1, 4112, 1] ![1, 1, 1] ![0, 4111, 0] ![0, 0, 0] x (broadcastInDim S_ ![] bcast_S_S_ (constant S_ .f32 0x00000000#32)) reduceWindows_S8x4112x128_S8x4112x128_w1s1p0_0_w4112s1p4111_0_w1s1p0_0 h_S_ = R at hr
  pointwise
  by_cases h : n.val < 1
  · rw [dif_pos h, show n.val = 0 by omega]
    simp [ofBits_zero]
  · rw [dif_neg h, hr]
    congr 3
    show n.val - 1 + 1 = n.val
    omega

/-! ## The pooled difference -/

/-- The window's mean less the row. -/
def diff (w h : ℕ) (x : FVec Ideal S8x4112x128 .f32) : FVec Ideal S8x4112x128 .f32 :=
  subf (Host.divf (subf (taken (sums x) (column (hi w h))) (taken (sums x) (column (lo h)))) (broadcastInDim S8x4112x128 ![0, 1, 2] bcast_S1x4112x1_S8x4112x128_0_1_2 (broadcastInDim S1x4112x1 ![1] bcast_S4112_S1x4112x1_1 (sitofp .f32 (subi (hi w h) (lo h)))))) x

theorem diff_apply (w h : ℕ) (hw : w = 2 * h) (h0 : 0 < h) (hh : h ≤ 16) (x : FVec Ideal S8x4112x128 .f32) (g : ℕ → ℝ) (hg : ∀ k, 4112 ≤ k → g k = 0)
    (b : Fin 8) (t : Fin 4112) (c : Fin 128) (hx : ∀ s : Fin 4112, x (ix3 b s c) = (g s.val : EReal)) (ht : h ≤ t.val) :
    diff w h x (ix3 b t c) = ((poolDiff g h t.val : ℝ) : EReal) := by
  have htl := t.isLt
  have e1 : taken (sums x) (column (hi w h)) (ix3 b t c) = ((∑ k ∈ Finset.range (min (t.val + h) 4112), g k : ℝ) : EReal) :=
    (taken_apply (sums x) (hi w h) (fun t => min (t + h) 4112) (fun t => min_le_right _ _) (hi_apply w h hw hh) b t c ⟨min (t.val + h) 4112, by omega⟩ rfl).trans (sums_apply x g b _ c hx)
  have e2 : taken (sums x) (column (lo h)) (ix3 b t c) = ((∑ k ∈ Finset.range (t.val - h), g k : ℝ) : EReal) :=
    (taken_apply (sums x) (lo h) (fun t => min (t - h) 4112) (fun t => min_le_right _ _) (fun s => by
      rw [lo_apply h hh s, min_eq_left (by have := s.isLt; omega)]) b t c ⟨t.val - h, by omega⟩ (by show t.val - h = min (t.val - h) 4112; omega)).trans (sums_apply x g b _ c hx)
  have e3 : (FloatOps.sitofp .f32 (hi w h (ix1 t) - lo h (ix1 t)) : Ideal .f32) = ((((min (t.val + h) 4112 : ℕ) - (t.val - h : ℕ) : ℝ)) : EReal) := by
    rw [hi_apply w h hw hh, lo_apply h hh, sub_nat _ _ (by omega) (by omega)]
    show (((BitVec.ofNat 32 (min (t.val + h) 4112 - (t.val - h))).toInt : ℝ) : EReal) = _
    rw [BitVec.toInt_ofNat', Int.bmod_eq_of_le (by omega) (by omega), Int.cast_natCast, Nat.cast_sub (by omega)]
  have hne : ((min (t.val + h) 4112 : ℕ) - (t.val - h : ℕ) : ℝ) ≠ 0 := by
    rw [← Nat.cast_sub (by omega)]
    exact Nat.cast_ne_zero.2 (by omega)
  unfold diff
  generalize taken (sums x) (column (hi w h)) = A at e1
  generalize taken (sums x) (column (lo h)) = B at e2
  generalize hi w h = P at e3
  generalize lo h = Q at e3
  refine (show _ = Ideal.div (A (ix3 b t c) - B (ix3 b t c)) (FloatOps.sitofp .f32 (P (ix1 t) - Q (ix1 t)) : Ideal .f32) - x (ix3 b t c) from by pointwise <;> rfl).trans ?_
  rw [e1, e2, e3, hx, Ideal.div_coe hne, ← EReal.coe_sub, ← EReal.coe_mul, ← EReal.coe_sub, poolDiff_eq g hg h t.val ht, mul_one_div]

end Cert.Proof.MixRefPool

end
-- ==== Proof.MixRef.lean ====
/-
  What the mixing reference computes, row by row, over the extended reals.
-/
module

public import proofs.«01_k».proof.Proof.MixRefPool

@[expose] public section

set_option maxRecDepth 16384

noncomputable section

namespace Cert.Proof.MixRef

open Cert.MixRefIdeal Cert.MixRefIdeal.Gen Cert.MixRefIdeal.Value Idealize.ShloMosaic Idealize.ShloMosaic.TcCoe
open Cert.Proof.MixBlock (at3 hRow actRow fedRow outRow qRow half)
open Cert.Proof.MixMath (rms rms_real pull poolDiff ofBits_512 ofBits_1024)
open Cert.Proof.MixRefPool (diff diff_apply)

/-- The meta rows before the stream's. -/
def stream (um : FVec Ideal S16x512 .f32) (u : FVec Ideal S8x4096x512 .f32) : FVec Ideal S8x4112x512 .f32 :=
  concatenate S8x4112x512 1 [⟨S8x16x512, (broadcastInDim S8x16x512 ![0, 1, 2] bcast_S1x16x512_S8x16x512_0_1_2 (broadcastInDim S1x16x512 ![1, 2] bcast_S16x512_S1x16x512_1_2 um))⟩, ⟨S8x4096x512, u⟩] concatenates_S8x16x512_S8x4096x512_S8x4112x512_d1
/-- Four groups of columns one after another. -/
def quad (a b c d : FVec Ideal S8x4112x128 .f32) : FVec Ideal S8x4112x4x128 .f32 :=
  concatenate S8x4112x4x128 2 [⟨S8x4112x1x128, (broadcastInDim S8x4112x1x128 ![0, 1, 3] bcast_S8x4112x128_S8x4112x1x128_0_1_3 a : FVec Ideal S8x4112x1x128 .f32)⟩,
    ⟨S8x4112x1x128, (broadcastInDim S8x4112x1x128 ![0, 1, 3] bcast_S8x4112x128_S8x4112x1x128_0_1_3 b : FVec Ideal S8x4112x1x128 .f32)⟩,
    ⟨S8x4112x1x128, (broadcastInDim S8x4112x1x128 ![0, 1, 3] bcast_S8x4112x128_S8x4112x1x128_0_1_3 c : FVec Ideal S8x4112x1x128 .f32)⟩,
    ⟨S8x4112x1x128, (broadcastInDim S8x4112x1x128 ![0, 1, 3] bcast_S8x4112x128_S8x4112x1x128_0_1_3 d : FVec Ideal S8x4112x1x128 .f32)⟩] concatenates_S8x4112x1x128_S8x4112x1x128_S8x4112x1x128_S8x4112x1x128_S8x4112x4x128_d2
/-- The four groups' differences. -/
def diffs (p : FVec Ideal S8x4112x512 .f32) : FVec Ideal S8x4112x4x128 .f32 :=
  quad (diff 2 1 (extractStridedSlice S8x4112x128 ![0, 0, 0] p slices_S8x4112x512_S8x4112x128_0_0_0)) (diff 4 2 (extractStridedSlice S8x4112x128 ![0, 0, 128] p slices_S8x4112x512_S8x4112x128_0_0_128))
    (diff 8 4 (extractStridedSlice S8x4112x128 ![0, 0, 256] p slices_S8x4112x512_S8x4112x128_0_0_256)) (diff 16 8 (extractStridedSlice S8x4112x128 ![0, 0, 384] p slices_S8x4112x512_S8x4112x128_0_0_384))
/-- The groups through their weights, the meta rows left off. -/
def grouped (w : FVec Ideal S4x128x128 .f32) (q : FVec Ideal S8x4112x4x128 .f32) : FVec Ideal S8x4096x512 .f32 :=
  extractStridedSlice S8x4096x512 ![0, 16, 0] (shapeCast S8x4112x512 (transpose S8x4112x4x128 [2, 3, 0, 1] (Host.dotGeneral dot_S4x128x128_S8x4112x4x128_S4x128x8x4112_1_3_2_01_0_2 none w q : FVec Ideal S4x128x8x4112 .f32) transposes_S4x128x8x4112_S8x4112x4x128_2_3_0_1) shapeCasts_S8x4112x4x128_S8x4112x512) slices_S8x4112x512_S8x4096x512_0_16_0
/-- Rows of 512 and of 1024 scaled to unit mean square, times their gains. -/
def norm512 (x : FVec Ideal S8x4096x512 .f32) (g : FVec Ideal S512 .f32) : FVec Ideal S8x4096x512 .f32 :=
  mulf (mulf x (broadcastInDim S8x4096x512 ![0, 1, 2] bcast_S8x4096x1_S8x4096x512_0_1_2 (Host.rsqrt (addf (Host.divf (broadcastInDim S8x4096x1 ![0, 1] bcast_S8x4096_S8x4096x1_0_1 (Host.reduceAdd (mulf x x) (constant S_ .f32 0x00000000#32) reducesTo_S8x4096x512_S8x4096_d2 h_S_)) (broadcastInDim S8x4096x1 ![] bcast_S_S8x4096x1 (constant S_ .f32 0x44000000#32))) (broadcastInDim S8x4096x1 ![] bcast_S_S8x4096x1 (constant S_ .f32 0x358637BD#32)))))) (broadcastInDim S8x4096x512 ![0, 1, 2] bcast_S1x1x512_S8x4096x512_0_1_2 (broadcastInDim S1x1x512 ![2] bcast_S512_S1x1x512_2 g))
def norm1024 (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))
/-- The mixer's rows. -/
def mix (x : FVec Ideal S8x4096x1024 .f32) (a b : FVec Ideal S8x4096x512 .f32) (w : FVec Ideal S1024x1024 .f32) : FVec Ideal S8x4096x1024 .f32 :=
  addf x (Host.dotGeneral dot_S8x4096x1024_S1024x1024_S8x4096x1024_2_0_01_1_n_n none (concatenate S8x4096x1024 2 [⟨S8x4096x512, a⟩, ⟨S8x4096x512, b⟩] concatenates_S8x4096x512_S8x4096x512_S8x4096x1024_d2) w)
/-- The gated columns. -/
def gate (z : FVec Ideal S8x4096x5632 .f32) : FVec Ideal S8x4096x2816 .f32 :=
  mulf (mulf (extractStridedSlice S8x4096x2816 ![0, 0, 0] z slices_S8x4096x5632_S8x4096x2816_0_0_0) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (extractStridedSlice S8x4096x2816 ![0, 0, 0] z slices_S8x4096x5632_S8x4096x2816_0_0_0)))))) (extractStridedSlice S8x4096x2816 ![0, 0, 2816] z slices_S8x4096x5632_S8x4096x2816_0_0_2816)
/-- The feed-forward part added. -/
def feed (h : FVec Ideal S8x4096x1024 .f32) (g : FVec Ideal S1024 .f32) (wi : FVec Ideal S1024x5632 .f32) (wd : FVec Ideal S2816x1024 .f32) : FVec Ideal S8x4096x1024 .f32 :=
  addf h (Host.dotGeneral dot_S8x4096x2816_S2816x1024_S8x4096x1024_2_0_01_1_n_n none (gate (Host.dotGeneral dot_S8x4096x1024_S1024x5632_S8x4096x5632_2_0_01_1_n_n none (norm1024 h g) wi)) wd)
/-- The whole. -/
def whole (x : FVec Ideal S8x4096x1024 .f32) (a : FVec Ideal S32768x512 .f32) (u : FVec Ideal S8x4096x512 .f32) (um : FVec Ideal S16x512 .f32) (wp : FVec Ideal S4x128x128 .f32)
    (ga gp : FVec Ideal S512 .f32) (wo : FVec Ideal S1024x1024 .f32) (gf : FVec Ideal S1024 .f32) (wi : FVec Ideal S1024x5632 .f32) (wd : FVec Ideal S2816x1024 .f32) (gl : FVec Ideal S1024 .f32) : FVec Ideal S32768x1024 .f32 :=
  shapeCast S32768x1024 (norm1024 (feed (mix x (norm512 (shapeCast S8x4096x512 a shapeCasts_S32768x512_S8x4096x512) ga) (norm512 (grouped wp (diffs (stream um u))) gp) wo) gf wi wd) gl) shapeCasts_S8x4096x1024_S32768x1024

section Named
variable (V0 : Valuation τ sig (Elt Ideal))

theorem v2_eq : res_main_v2 V0 = stream (V0 (Proc.devRef .tc main_arg3)) (V0 (Proc.devRef .tc main_arg2)) := rfl
theorem v7_eq : res_main_v7 V0 = MixRefPool.sums (res_main_v4 V0) := rfl
theorem v28_eq : res_main_v28 V0 = MixRefPool.sums (res_main_v25 V0) := rfl
theorem v49_eq : res_main_v49 V0 = MixRefPool.sums (res_main_v46 V0) := rfl
theorem v70_eq : res_main_v70 V0 = MixRefPool.sums (res_main_v67 V0) := rfl
theorem lo1_eq : res_main_v10 V0 = MixRefPool.lo 1 := rfl
theorem lo2_eq : res_main_v31 V0 = MixRefPool.lo 2 := rfl
theorem lo4_eq : res_main_v52 V0 = MixRefPool.lo 4 := rfl
theorem lo8_eq : res_main_v73 V0 = MixRefPool.lo 8 := rfl
theorem hi1_eq : res_main_v15 V0 = MixRefPool.hi 2 1 := rfl
theorem hi2_eq : res_main_v36 V0 = MixRefPool.hi 4 2 := rfl
theorem hi4_eq : res_main_v57 V0 = MixRefPool.hi 8 4 := rfl
theorem hi8_eq : res_main_v78 V0 = MixRefPool.hi 16 8 := rfl
theorem c3_eq : res_main_call3_v5 V0 = MixRefPool.column (res_main_v15 V0) := rfl
theorem c4_eq : res_main_call4_v5 V0 = MixRefPool.column (res_main_v10 V0) := rfl
theorem c8_eq : res_main_call8_v5 V0 = MixRefPool.column (res_main_v36 V0) := rfl
theorem c9_eq : res_main_call9_v5 V0 = MixRefPool.column (res_main_v31 V0) := rfl
theorem c13_eq : res_main_call13_v5 V0 = MixRefPool.column (res_main_v57 V0) := rfl
theorem c14_eq : res_main_call14_v5 V0 = MixRefPool.column (res_main_v52 V0) := rfl
theorem c18_eq : res_main_call18_v5 V0 = MixRefPool.column (res_main_v78 V0) := rfl
theorem c19_eq : res_main_call19_v5 V0 = MixRefPool.column (res_main_v73 V0) := rfl
theorem v92_eq : res_main_v92 V0 = diffs (res_main_v2 V0) := by
  unfold res_main_v92
  rw [c3_eq, c4_eq, c8_eq, c9_eq, c13_eq, c14_eq, c18_eq, c19_eq, v7_eq, v28_eq, v49_eq, v70_eq, lo1_eq, lo2_eq, lo4_eq, lo8_eq, hi1_eq, hi2_eq, hi4_eq, hi8_eq]
  rfl
theorem v96_eq : res_main_v96 V0 = grouped (V0 (Proc.devRef .tc main_arg4)) (res_main_v92 V0) := rfl
theorem v97_eq : res_main_v97 V0 = (shapeCast S8x4096x512 (V0 (Proc.devRef .tc main_arg1)) shapeCasts_S32768x512_S8x4096x512 : FVec Ideal S8x4096x512 .f32) := rfl
theorem v126_eq : res_main_v126 V0 = mix (V0 (Proc.devRef .tc main_arg0)) (norm512 (res_main_v97 V0) (V0 (Proc.devRef .tc main_arg5))) (norm512 (res_main_v96 V0) (V0 (Proc.devRef .tc main_arg6))) (V0 (Proc.devRef .tc main_arg7)) := rfl
theorem v146_eq : res_main_v146 V0 = feed (res_main_v126 V0) (V0 (Proc.devRef .tc main_arg8)) (V0 (Proc.devRef .tc main_arg9)) (V0 (Proc.devRef .tc main_arg10)) := by
  unfold res_main_v146 res_main_v141 res_main_v140
  rfl
theorem whole_eq : (shapeCast S32768x1024 (norm1024 (res_main_v146 V0) (V0 (Proc.devRef .tc main_arg11))) shapeCasts_S8x4096x1024_S32768x1024 : FVec Ideal S32768x1024 .f32)
    = whole (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))
      (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  rw [v146_eq, v126_eq, v96_eq, v97_eq, v92_eq, v2_eq]
  rfl
end Named

/-! ## Read at an index -/

theorem stream_apply (um : FVec Ideal S16x512 .f32) (u : FVec Ideal S8x4096x512 .f32) (b : Fin 8) (t : Fin 4112) (y : Fin 512) :
    stream um u (ix3 b t y) = if h : t.val < 16 then um (ix2 (⟨t.val, h⟩ : Fin 16) y) else u (ix3 b (⟨t.val - 16, by omega⟩ : Fin 4096) y) := by
  pointwise [stream]

theorem quad_apply (a b c d : FVec Ideal S8x4112x128 .f32) (i : Fin 8) (t : Fin 4112) (g : Fin 4) (e : Fin 128) :
    quad a b c d (ix4 i t g e) = (![a, b, c, d] : Fin 4 → FVec Ideal S8x4112x128 .f32) g (ix3 i t e) := by
  pointwise [quad]
  fin_cases g <;> rfl

theorem diffs_apply (p : FVec Ideal S8x4112x512 .f32) (b : Fin 8) (t : Fin 4112) (g : Fin 4) (e : Fin 128) (G : Fin 512 → ℕ → ℝ) (hG : ∀ y k, 4112 ≤ k → G y k = 0)
    (hp : ∀ (s : Fin 4112) y, p (ix3 b s y) = ((G y s.val : ℝ) : EReal)) (ht : 16 ≤ t.val) :
    diffs p (ix4 b t g e) = ((poolDiff (G ⟨128 * g.val + e.val, by omega⟩) (half g) t.val : ℝ) : EReal) := by
  have key : ∀ (n w h : ℕ) (hw : w = 2 * h) (h0 : 0 < h) (hh : h ≤ 16) (hs : S8x4112x512.Slices ![0, 0, n] S8x4112x128) (y : Fin 512) (hy : y.val = n + e.val),
      diff w h (extractStridedSlice S8x4112x128 ![0, 0, n] p hs) (ix3 b t e) = ((poolDiff (G y) h t.val : ℝ) : EReal) := fun n w h hw h0 hh hs y hy => by
    refine diff_apply w h hw h0 hh _ (G y) (hG y) b t e (fun s => ?_) (by omega)
    refine Eq.trans ?_ (hp s y)
    exact at3 p _ _ (by show 0 + b.val = b.val; omega) (by show 0 + s.val = s.val; omega) hy.symm
  unfold diffs
  rw [quad_apply]
  fin_cases g
  · exact key 0 2 1 rfl (by omega) (by omega) _ _ rfl
  · exact key 128 4 2 rfl (by omega) (by omega) _ _ rfl
  · exact key 256 8 4 rfl (by omega) (by omega) _ _ rfl
  · exact key 384 16 8 rfl (by omega) (by omega) _ _ rfl

theorem grouped_apply (w : FVec Ideal S4x128x128 .f32) (q : FVec Ideal S8x4112x4x128 .f32) (b : Fin 8) (s : Fin 4096) (y : Fin 512) :
    grouped w q (ix3 b s y) = ∑ c : Fin 128, w (ix3 (⟨y.val / 128, by omega⟩ : Fin 4) c (⟨y.val % 128, by omega⟩ : Fin 128)) * q (ix4 b (⟨16 + s.val, by omega⟩ : Fin 4112) (⟨y.val / 128, by omega⟩ : Fin 4) c) := by
  pointwise [grouped]

theorem norm512_apply (x : FVec Ideal S8x4096x512 .f32) (g : FVec Ideal S512 .f32) (b : Fin 8) (s : Fin 4096) (y : Fin 512) :
    norm512 x g (ix3 b s y) = x (ix3 b s y) * rms 0x44000000#32 (fun k => x (ix3 b s k)) * g (ix1 y) := by
  pointwise [norm512]
  rfl
theorem norm1024_apply (x : FVec Ideal S8x4096x1024 .f32) (g : FVec Ideal S1024 .f32) (b : Fin 8) (s : Fin 4096) (y : Fin 1024) :
    norm1024 x g (ix3 b s y) = x (ix3 b s y) * rms 0x44800000#32 (fun k => x (ix3 b s k)) * g (ix1 y) := by
  pointwise [norm1024]
  rfl

theorem mix_apply (x : FVec Ideal S8x4096x1024 .f32) (a q : FVec Ideal S8x4096x512 .f32) (w : FVec Ideal S1024x1024 .f32) (b : Fin 8) (s : Fin 4096) (e : Fin 1024) :
    mix x a q w (ix3 b s e) = x (ix3 b s e) + ((∑ k : Fin 512, a (ix3 b s k) * w (ix2 (⟨k.val, by omega⟩ : Fin 1024) e)) + ∑ k : Fin 512, q (ix3 b s k) * w (ix2 (⟨512 + k.val, by omega⟩ : Fin 1024) e)) := by
  pointwise [mix]

theorem ofBits_one : Ideal.ofBits .f32 0x3F800000#32 = 1 := by
  simp [Ideal.ofBits, Ideal.ieee]
  rw [← EReal.coe_mul]
  norm_num

theorem gate_apply (z : FVec Ideal S8x4096x5632 .f32) (b : Fin 8) (s : Fin 4096) (y : Fin 2816) :
    gate z (ix3 b s y) = z (ix3 b s (⟨y.val, by omega⟩ : Fin 5632)) * Ideal.logistic (z (ix3 b s (⟨y.val, by omega⟩ : Fin 5632))) * z (ix3 b s (⟨2816 + y.val, by omega⟩ : Fin 5632)) := by
  pointwise [gate]
  unfold Ideal.logistic
  simp only [ofBits_one]

theorem feed_apply (h : FVec Ideal S8x4096x1024 .f32) (g : FVec Ideal S1024 .f32) (wi : FVec Ideal S1024x5632 .f32) (wd : FVec Ideal S2816x1024 .f32) (b : Fin 8) (s : Fin 4096) (e : Fin 1024) :
    feed h g wi wd (ix3 b s e) = fedRow (fun k => h (ix3 b s k)) (actRow (fun k => h (ix3 b s k)) (fun k y => wi (ix2 k y) * g (ix1 k))) (fun y k => wd (ix2 y k)) e := by
  have hz : ∀ y : Fin 5632, (Host.dotGeneral dot_S8x4096x1024_S1024x5632_S8x4096x5632_2_0_01_1_n_n none (norm1024 h g) wi : FVec Ideal S8x4096x5632 .f32) (ix3 b s y)
      = (∑ k, h (ix3 b s k) * (wi (ix2 k y) * g (ix1 k))) * rms 0x44800000#32 (fun k => h (ix3 b s k)) := fun y => by
    refine Eq.trans ?_ (pull (fun k => h (ix3 b s k)) (fun k => g (ix1 k)) (fun k => wi (ix2 k y)) _ (rms_real 0x44800000#32 1024 (by norm_num) ofBits_1024 _))
    pointwise [norm1024_apply]
  unfold feed
  generalize (Host.dotGeneral dot_S8x4096x1024_S1024x5632_S8x4096x5632_2_0_01_1_n_n none (norm1024 h g) wi : FVec Ideal S8x4096x5632 .f32) = z at hz
  pointwise [gate_apply]
  simp only [hz]
  rfl

theorem whole_apply (x : FVec Ideal S8x4096x1024 .f32) (a : FVec Ideal S32768x512 .f32) (u : FVec Ideal S8x4096x512 .f32) (um : FVec Ideal S16x512 .f32) (wp : FVec Ideal S4x128x128 .f32)
    (ga gp : FVec Ideal S512 .f32) (wo : FVec Ideal S1024x1024 .f32) (gf : FVec Ideal S1024 .f32) (wi : FVec Ideal S1024x5632 .f32) (wd : FVec Ideal S2816x1024 .f32) (gl : FVec Ideal S1024 .f32)
    (b : Fin 8) (s : Fin 4096) (r : Fin 32768) (hr : r.val = 4096 * b.val + s.val) (e : Fin 1024) (G : Fin 512 → ℕ → ℝ) (hG : ∀ y k, 4112 ≤ k → G y k = 0)
    (hp : ∀ (t : Fin 4112) y, stream um u (ix3 b t y) = ((G y t.val : ℝ) : EReal))
    (w' : Fin 1024 → Fin 1024 → EReal) (hlo : ∀ (k : Fin 512) e, w' ⟨k.val, by omega⟩ e = wo (ix2 (⟨k.val, by omega⟩ : Fin 1024) e) * ga (ix1 k))
    (hhi : ∀ (k : Fin 512) e, w' ⟨512 + k.val, by omega⟩ e = wo (ix2 (⟨512 + k.val, by omega⟩ : Fin 1024) e) * gp (ix1 k)) :
    whole x a u um wp ga gp wo gf wi wd gl (ix2 r e)
      = outRow (fedRow (hRow (fun e => x (ix3 b s e)) (fun y => a (ix2 r y)) (qRow G (fun g c e => wp (ix3 g c e)) (16 + s.val)) w')
          (actRow (hRow (fun e => x (ix3 b s e)) (fun y => a (ix2 r y)) (qRow G (fun g c e => wp (ix3 g c e)) (16 + s.val)) w') (fun k y => wi (ix2 k y) * gf (ix1 k))) (fun y k => wd (ix2 y k)))
        (fun k => gl (ix1 k)) e := by
  have ha : ∀ k : Fin 512, (shapeCast S8x4096x512 a shapeCasts_S32768x512_S8x4096x512 : FVec Ideal S8x4096x512 .f32) (ix3 b s k) = a (ix2 r k) := fun k => by
    rw [shapeCast_apply _ _ _ (ix2 r k) (by
      rw [Shape.rowMajor_val_two, Shape.rowMajor_val_three]
      show r.val * 512 + k.val = (b.val * 4096 + s.val) * 512 + k.val
      omega)]
  have hq : ∀ y : Fin 512, grouped wp (diffs (stream um u)) (ix3 b s y) = qRow G (fun g c e => wp (ix3 g c e)) (16 + s.val) y := fun y => by
    rw [grouped_apply]
    refine Finset.sum_congr rfl fun c _ => ?_
    rw [diffs_apply _ b _ _ c G hG hp (by show 16 ≤ 16 + s.val; omega), mul_comm]
  unfold whole
  generalize (shapeCast S8x4096x512 a shapeCasts_S32768x512_S8x4096x512 : FVec Ideal S8x4096x512 .f32) = A at ha
  generalize grouped wp (diffs (stream um u)) = Q at hq
  have hm : ∀ k : Fin 1024, mix x (norm512 A ga) (norm512 Q gp) wo (ix3 b s k) = hRow (fun e => x (ix3 b s e)) (fun y => a (ix2 r y)) (qRow G (fun g c e => wp (ix3 g c e)) (16 + s.val)) w' k := fun k => by
    rw [mix_apply]
    simp only [norm512_apply, ha, hq]
    rw [pull (fun k => a (ix2 r k)) (fun k => ga (ix1 k)) (fun j => wo (ix2 (⟨j.val, by omega⟩ : Fin 1024) k)) _ (rms_real 0x44000000#32 512 (by norm_num) ofBits_512 _),
      pull (fun y => qRow G (fun g c e => wp (ix3 g c e)) (16 + s.val) y) (fun k => gp (ix1 k)) (fun j => wo (ix2 (⟨512 + j.val, by omega⟩ : Fin 1024) k)) _ (rms_real 0x44000000#32 512 (by norm_num) ofBits_512 _)]
    unfold hRow
    rw [add_assoc]
    simp only [hlo, hhi]
  generalize mix x (norm512 A ga) (norm512 Q gp) wo = M at hm
  rw [shapeCast_apply _ _ _ (ix3 b s e) (by
    rw [Shape.rowMajor_val_two, Shape.rowMajor_val_three]
    show (b.val * 4096 + s.val) * 1024 + e.val = r.val * 1024 + e.val
    omega)]
  rw [norm1024_apply]
  simp only [feed_apply, hm]
  rfl

end Cert.Proof.MixRef

end
-- ==== Proof.MixResults.lean ====
/-
  What the mixing call leaves in its result, against the reference's.
-/
module

public import proofs.«01_k».proof.Proof.MixHost
public import proofs.«01_k».proof.Proof.MixRef
public import proofs.«01_k».proof.Proof.Gen.MixIdeal.Value

@[expose] public section

set_option maxRecDepth 16384

noncomputable section

namespace Cert.Proof.MixResults

open Cert.MixIdeal Cert.MixIdeal.Gen Cert.Proof.MixBlock Cert.Proof.MixTile Cert.Proof.MixHost Idealize.ShloMosaic Idealize.ShloMosaic.TcCoe Idealize.SL.Sem
open Idealize.ShloMosaic.Pipeline (Dat Cfg Window)

/-- A point is below sixty-four; its batch, and its place in the batch. -/
theorem t_lt (t : Fin cfg0.N) : t.val < 64 := t.isLt
def bOf (t : Fin cfg0.N) : Fin 8 := ⟨t.val / 8, by have : t.val < 64 := t.isLt; omega⟩
def kOf (t : Fin cfg0.N) : Fin 8 := ⟨t.val % 8, Nat.mod_lt _ (by decide)⟩

theorem place_eq : ∀ t : Fin cfg0.N, place (grid0.coords t) = BitVec.ofNat 32 (kOf t).val := by decide +kernel
theorem ix_0 : ∀ t : Fin cfg0.N, cc0_transform_0 (grid0.coords t) = ![t.val, 0] := by decide +kernel
theorem ix_1 : ∀ t : Fin cfg0.N, cc0_transform_1 (grid0.coords t) = ![t.val, 0] := by decide +kernel
theorem ix_2 : ∀ t : Fin cfg0.N, cc0_transform_2 (grid0.coords t) = ![t.val, 0] := by decide +kernel
theorem ix_3 : ∀ t : Fin cfg0.N, cc0_transform_3 (grid0.coords t) = ![64 * t.val - 1, 0] := by decide +kernel
theorem ix_4 : ∀ t : Fin cfg0.N, cc0_transform_4 (grid0.coords t) = ![min (64 * (t.val + 1)) 4095, 0] := by decide +kernel
theorem ix_5 : ∀ t : Fin cfg0.N, cc0_transform_5 (grid0.coords t) = ![0, 0] := by decide +kernel
theorem ix_6 : ∀ t : Fin cfg0.N, cc0_transform_6 (grid0.coords t) = ![0, 0, 0] := by decide +kernel
theorem ix_7 : ∀ t : Fin cfg0.N, cc0_transform_7 (grid0.coords t) = ![0, 0] := by decide +kernel
theorem ix_8 : ∀ t : Fin cfg0.N, cc0_transform_8 (grid0.coords t) = ![0, 0] := by decide +kernel
theorem ix_9 : ∀ t : Fin cfg0.N, cc0_transform_9 (grid0.coords t) = ![0, 0] := by decide +kernel
theorem ix_10 : ∀ t : Fin cfg0.N, cc0_transform_10 (grid0.coords t) = ![0, 0] := by decide +kernel
theorem ix_11 : ∀ t : Fin cfg0.N, cc0_transform_11 (grid0.coords t) = ![t.val, 0] := by decide +kernel

variable (m : (ℓ : Loc nD τ sig) → Buf (Elt Ideal) ℓ) (c : Dev nD) (t : Fin cfg0.N)

/-! ## The blocks a point computes with -/

abbrev x0 : Vec Ideal S512x1024 .f32 := iblk m c 0 t
abbrev x1 : Vec Ideal S512x512 .f32 := iblk m c 1 t
abbrev x2 : Vec Ideal S512x512 .f32 := iblk m c 2 t
abbrev x3 : Vec Ideal S8x512 .f32 := iblk m c 3 t
abbrev x4 : Vec Ideal S8x512 .f32 := iblk m c 4 t
abbrev x5 : Vec Ideal S16x512 .f32 := iblk m c 5 t
abbrev x6 : Vec Ideal S2x256x256 .bf16 := iblk m c 6 t
abbrev x7 : Vec Ideal S1024x1024 .bf16 := iblk m c 7 t
abbrev x8 : Vec Ideal S1024x5632 .bf16 := iblk m c 8 t
abbrev x9 : Vec Ideal S2816x1024 .bf16 := iblk m c 9 t
abbrev x10 : Vec Ideal S1x1024 .f32 := iblk m c 10 t

abbrev xA : FVec Ideal S8x4096x1024 .f32 := m ((c : Thread nD τ).loc main_arg0)
abbrev aA : FVec Ideal S32768x512 .f32 := m ((c : Thread nD τ).loc main_arg1)
abbrev uA : FVec Ideal S8x4096x512 .f32 := m ((c : Thread nD τ).loc main_arg2)
abbrev umA : FVec Ideal S16x512 .f32 := m ((c : Thread nD τ).loc main_arg3)
abbrev wpA : FVec Ideal S4x128x128 .f32 := m ((c : Thread nD τ).loc main_arg4)
abbrev gaA : FVec Ideal S512 .f32 := m ((c : Thread nD τ).loc main_arg5)
abbrev gpA : FVec Ideal S512 .f32 := m ((c : Thread nD τ).loc main_arg6)
abbrev woA : FVec Ideal S1024x1024 .f32 := m ((c : Thread nD τ).loc main_arg7)
abbrev gfA : FVec Ideal S1024 .f32 := m ((c : Thread nD τ).loc main_arg8)
abbrev wiA : FVec Ideal S1024x5632 .f32 := m ((c : Thread nD τ).loc main_arg9)
abbrev wdA : FVec Ideal S2816x1024 .f32 := m ((c : Thread nD τ).loc main_arg10)
abbrev glA : FVec Ideal S1024 .f32 := m ((c : Thread nD τ).loc main_arg11)

/-- The reference's result of the call's arguments. -/
def outRef : FVec Ideal S32768x1024 .f32 :=
  MixRef.whole (xA m c) (aA m c) (uA m c) (umA m c) (wpA m c) (gaA m c) (gpA m c) (woA m c) (gfA m c) (wiA m c) (wdA m c) (glA m c)

theorem x0_apply (j : Fin 512) (e : Fin 1024) (s : Fin 4096) (hs : s.val = 512 * (kOf t).val + j.val) : x0 m c t (ix2 j e) = xA m c (ix3 (bOf t) s e) := by
  have ht := t_lt t
  refine (at2 (V m c main_v0 : FVec Ideal S32768x1024 .f32) _ (ix2 (⟨512 * t.val + j.val, by omega⟩ : Fin 32768) e) ?_ ?_).trans ?_
  · show cc0_transform_0 (grid0.coords t) 0 * 512 + 1 * j.val = 512 * t.val + j.val
    rw [ix_0]; show t.val * 512 + _ = _; omega
  · show cc0_transform_0 (grid0.coords t) 1 * 1024 + 1 * e.val = e.val
    rw [ix_0]; show 0 * 1024 + _ = _; omega
  · rw [V_v0]
    exact rows_apply _ _ e (bOf t) s (by show 512 * t.val + j.val = 4096 * (t.val / 8) + s.val; rw [hs]; show _ = _ + (512 * (t.val % 8) + _); omega)
theorem x1_apply (j : Fin 512) (y : Fin 512) (r : Fin 32768) (hr : r.val = 512 * t.val + j.val) : x1 m c t (ix2 j y) = aA m c (ix2 r y) := by
  show _ = (m ((c : Thread nD τ).loc main_arg1) : FVec Ideal S32768x512 .f32) (ix2 r y)
  rw [← V_main_arg1 m c]
  refine at2 (V m c main_arg1 : FVec Ideal S32768x512 .f32) _ _ ?_ ?_
  · show cc0_transform_1 (grid0.coords t) 0 * 512 + 1 * j.val = r.val
    rw [ix_1]; show t.val * 512 + _ = _; omega
  · show cc0_transform_1 (grid0.coords t) 1 * 512 + 1 * y.val = y.val
    rw [ix_1]; show 0 * 512 + _ = _; omega
/-- The stream's array at a batch and a place. -/
theorem v33_apply (r : Fin 32768) (y : Fin 512) (b : Fin 8) (s : Fin 4096) (h : r.val = 4096 * b.val + s.val) :
    (V m c main_v33 : FVec Ideal S32768x512 .f32) (ix2 r y) = uA m c (ix3 b s y) := by
  rw [V_v33]
  exact stream_apply _ r y b s h
theorem x2_apply (j : Fin 512) (y : Fin 512) (s : Fin 4096) (hs : s.val = 512 * (kOf t).val + j.val) : x2 m c t (ix2 j y) = uA m c (ix3 (bOf t) s y) := by
  have ht := t_lt t
  refine (at2 (V m c main_v33 : FVec Ideal S32768x512 .f32) _ (ix2 (⟨512 * t.val + j.val, by omega⟩ : Fin 32768) y) ?_ ?_).trans
    (v33_apply m c _ y _ s (by show 512 * t.val + j.val = 4096 * (t.val / 8) + s.val; rw [hs]; show _ = _ + (512 * (t.val % 8) + _); omega))
  · show cc0_transform_2 (grid0.coords t) 0 * 512 + 1 * j.val = 512 * t.val + j.val
    rw [ix_2]; show t.val * 512 + _ = _; omega
  · show cc0_transform_2 (grid0.coords t) 1 * 512 + 1 * y.val = y.val
    rw [ix_2]; show 0 * 512 + _ = _; omega
theorem x3_apply (j : Fin 8) (y : Fin 512) (s : Fin 4096) (hk : (kOf t).val ≠ 0) (hs : s.val + 8 = 512 * (kOf t).val + j.val) : x3 m c t (ix2 j y) = uA m c (ix3 (bOf t) s y) := by
  have ht := t_lt t
  have hk' : t.val % 8 ≠ 0 := hk
  have hs' : s.val + 8 = 512 * (t.val % 8) + j.val := hs
  refine (at2 (V m c main_v33 : FVec Ideal S32768x512 .f32) _ (ix2 (⟨512 * t.val - 8 + j.val, by omega⟩ : Fin 32768) y) ?_ ?_).trans
    (v33_apply m c _ y _ s (by show 512 * t.val - 8 + j.val = 4096 * (t.val / 8) + s.val; omega))
  · show cc0_transform_3 (grid0.coords t) 0 * 8 + 1 * j.val = 512 * t.val - 8 + j.val
    rw [ix_3]; show (64 * t.val - 1) * 8 + _ = _; omega
  · show cc0_transform_3 (grid0.coords t) 1 * 512 + 1 * y.val = y.val
    rw [ix_3]; show 0 * 512 + _ = _; omega
theorem x4_apply (j : Fin 8) (y : Fin 512) (s : Fin 4096) (hk : (kOf t).val ≠ 7) (hs : s.val = 512 * ((kOf t).val + 1) + j.val) : x4 m c t (ix2 j y) = uA m c (ix3 (bOf t) s y) := by
  have ht := t_lt t
  have hk' : t.val % 8 ≠ 7 := hk
  have hs' : s.val = 512 * (t.val % 8 + 1) + j.val := hs
  refine (at2 (V m c main_v33 : FVec Ideal S32768x512 .f32) _ (ix2 (⟨512 * (t.val + 1) + j.val, by omega⟩ : Fin 32768) y) ?_ ?_).trans
    (v33_apply m c _ y _ s (by show 512 * (t.val + 1) + j.val = 4096 * (t.val / 8) + s.val; omega))
  · show cc0_transform_4 (grid0.coords t) 0 * 8 + 1 * j.val = 512 * (t.val + 1) + j.val
    rw [ix_4]; show min (64 * (t.val + 1)) 4095 * 8 + _ = _; omega
  · show cc0_transform_4 (grid0.coords t) 1 * 512 + 1 * y.val = y.val
    rw [ix_4]; show 0 * 512 + _ = _; omega
theorem x5_apply (j : Fin 16) (y : Fin 512) : x5 m c t (ix2 j y) = umA m c (ix2 j y) := by
  show _ = (m ((c : Thread nD τ).loc main_arg3) : FVec Ideal S16x512 .f32) (ix2 j y)
  rw [← V_main_arg3 m c]
  refine at2 (V m c main_arg3 : FVec Ideal S16x512 .f32) _ _ ?_ ?_
  · show cc0_transform_5 (grid0.coords t) 0 * 16 + 1 * j.val = j.val
    rw [ix_5]; show 0 * 16 + _ = _; omega
  · show cc0_transform_5 (grid0.coords t) 1 * 512 + 1 * y.val = y.val
    rw [ix_5]; show 0 * 512 + _ = _; omega
theorem x6_apply (h : Fin 2) (k l : Fin 256) : x6 m c t (ix3 h k l) = squares (wpA m c) (ix3 h k l) := by
  refine (at3 (V m c main_v30 : FVec Ideal S2x256x256 .bf16) _ (ix3 h k l) ?_ ?_ ?_).trans ?_
  · show cc0_transform_6 (grid0.coords t) 0 * 2 + 1 * h.val = h.val
    rw [ix_6]; show 0 * 2 + _ = _; omega
  · show cc0_transform_6 (grid0.coords t) 1 * 256 + 1 * k.val = k.val
    rw [ix_6]; show 0 * 256 + _ = _; omega
  · show cc0_transform_6 (grid0.coords t) 2 * 256 + 1 * l.val = l.val
    rw [ix_6]; show 0 * 256 + _ = _; omega
  · rw [V_v30]
theorem x7_apply (a b : Fin 1024) : x7 m c t (ix2 a b) = outWeights (woA m c) (gaA m c) (gpA m c) (ix2 a b) := by
  refine (at2 (V m c main_v36 : FVec Ideal S1024x1024 .bf16) _ (ix2 a b) ?_ ?_).trans ?_
  · show cc0_transform_7 (grid0.coords t) 0 * 1024 + 1 * a.val = a.val
    rw [ix_7]; show 0 * 1024 + _ = _; omega
  · show cc0_transform_7 (grid0.coords t) 1 * 1024 + 1 * b.val = b.val
    rw [ix_7]; show 0 * 1024 + _ = _; omega
  · rw [V_v36]
theorem x8_apply (a : Fin 1024) (b : Fin 5632) : x8 m c t (ix2 a b) = wiA m c (ix2 a b) * gfA m c (ix1 a) := by
  refine (at2 (V m c main_v40 : FVec Ideal S1024x5632 .bf16) _ (ix2 a b) ?_ ?_).trans ?_
  · show cc0_transform_8 (grid0.coords t) 0 * 1024 + 1 * a.val = a.val
    rw [ix_8]; show 0 * 1024 + _ = _; omega
  · show cc0_transform_8 (grid0.coords t) 1 * 5632 + 1 * b.val = b.val
    rw [ix_8]; show 0 * 5632 + _ = _; omega
  · rw [V_v40]
    exact inWeights_apply _ _ a b
theorem x9_apply (a : Fin 2816) (b : Fin 1024) : x9 m c t (ix2 a b) = wdA m c (ix2 a b) := by
  refine (at2 (V m c main_v41 : FVec Ideal S2816x1024 .bf16) _ (ix2 a b) ?_ ?_).trans ?_
  · show cc0_transform_9 (grid0.coords t) 0 * 2816 + 1 * a.val = a.val
    rw [ix_9]; show 0 * 2816 + _ = _; omega
  · show cc0_transform_9 (grid0.coords t) 1 * 1024 + 1 * b.val = b.val
    rw [ix_9]; show 0 * 1024 + _ = _; omega
  · rw [V_v41]
    exact round_apply _ _
theorem x10_apply (r : Fin 1) (b : Fin 1024) : x10 m c t (ix2 r b) = glA m c (ix1 b) := by
  refine (at2 (V m c main_v42 : FVec Ideal S1x1024 .f32) _ (ix2 r b) ?_ ?_).trans ?_
  · show cc0_transform_10 (grid0.coords t) 0 * 1 + 1 * r.val = r.val
    rw [ix_10]; show 0 * 1 + _ = _; omega
  · show cc0_transform_10 (grid0.coords t) 1 * 1024 + 1 * b.val = b.val
    rw [ix_10]; show 0 * 1024 + _ = _; omega
  · rw [V_v42]
    exact lastGain_apply _ r b

/-! ## The result -/

/-- What a point leaves in its block of the result. -/
def outAt : Vec Ideal S512x1024 .f32 :=
  result (fed (mixed (grid0.coords t) (x0 m c t) (x1 m c t) (x2 m c t) (x3 m c t) (x4 m c t) (x5 m c t) (x6 m c t) (x7 m c t)) (x8 m c t) (x9 m c t)) (x10 m c t)

section Reals
variable (uf : Shape.Idx S8x4096x512 → ℝ) (umf : Shape.Idx S16x512 → ℝ)

/-- The pooled stream of a batch in reals: the meta rows, the batch's rows, then zeros. -/
def streamOf (b : Fin 8) (y : Fin 512) (n : ℕ) : ℝ :=
  if h : n < 16 then umf (ix2 (⟨n, h⟩ : Fin 16) y) else if h' : n < 4112 then uf (ix3 b (⟨n - 16, by omega⟩ : Fin 4096) y) else 0
theorem streamOf_meta (b : Fin 8) (y : Fin 512) (n : ℕ) (i : Fin 16) (h : i.val = n) : streamOf uf umf b y n = umf (ix2 i y) := by
  subst h
  exact dif_pos i.isLt
theorem streamOf_own (b : Fin 8) (y : Fin 512) (n : ℕ) (s : Fin 4096) (h : 16 + s.val = n) : streamOf uf umf b y n = uf (ix3 b s y) := by
  subst h
  unfold streamOf
  rw [dif_neg (by omega), dif_pos (by omega)]
  exact at3 uf _ _ rfl (by show 16 + s.val - 16 = s.val; omega) rfl
theorem streamOf_end (b : Fin 8) (y : Fin 512) (n : ℕ) (h : 4112 ≤ n) : streamOf uf umf b y n = 0 := by
  unfold streamOf
  rw [dif_neg (by omega), dif_neg (by omega)]

variable (huf : ∀ i, uA m c i = ((uf i : ℝ) : EReal)) (humf : ∀ i, umA m c i = ((umf i : ℝ) : EReal))
include huf humf

theorem ext_real (r : ℕ) (y : Fin 512) (hr : r < 528) :
    extFn (kOf t) (x2 m c t) (x3 m c t) (x4 m c t) (x5 m c t) r y = ((streamOf uf umf (bOf t) y (512 * (kOf t).val + 8 + r) : ℝ) : EReal) := by
  have hk : (kOf t).val < 8 := (kOf t).isLt
  unfold extFn
  by_cases h8 : r < 8
  · refine (dif_pos h8).trans ?_
    by_cases h0 : (kOf t).val = 0
    · refine (if_pos h0).trans ?_
      rw [streamOf_meta uf umf (bOf t) y _ (⟨8 + r, by omega⟩ : Fin 16) (by show 8 + r = _; omega), ← humf]
      exact x5_apply m c t _ y
    · refine (if_neg h0).trans ?_
      rw [streamOf_own uf umf (bOf t) y _ (⟨512 * (kOf t).val + r - 8, by omega⟩ : Fin 4096) (by show 16 + (512 * (kOf t).val + r - 8) = _; omega), ← huf]
      exact x3_apply m c t _ y _ h0 (by show 512 * (kOf t).val + r - 8 + 8 = 512 * (kOf t).val + r; omega)
  · refine (dif_neg h8).trans ?_
    by_cases h520 : r < 520
    · refine (dif_pos h520).trans ?_
      rw [streamOf_own uf umf (bOf t) y _ (⟨512 * (kOf t).val + (r - 8), by omega⟩ : Fin 4096) (by show 16 + (512 * (kOf t).val + (r - 8)) = _; omega), ← huf]
      exact x2_apply m c t _ y _ rfl
    · refine (dif_neg h520).trans ((dif_pos hr).trans ?_)
      by_cases h7 : (kOf t).val = 7
      · refine (if_pos h7).trans ?_
        rw [streamOf_end uf umf (bOf t) y _ (by omega)]
        rfl
      · refine (if_neg h7).trans ?_
        rw [streamOf_own uf umf (bOf t) y _ (⟨512 * ((kOf t).val + 1) + (r - 520), by omega⟩ : Fin 4096) (by show 16 + (512 * ((kOf t).val + 1) + (r - 520)) = _; omega), ← huf]
        exact x4_apply m c t _ y _ h7 rfl

theorem stream_real (b : Fin 8) (n : Fin 4112) (y : Fin 512) : MixRef.stream (umA m c) (uA m c) (ix3 b n y) = ((streamOf uf umf b y n.val : ℝ) : EReal) := by
  rw [MixRef.stream_apply]
  by_cases h : n.val < 16
  · refine (dif_pos h).trans ?_
    rw [streamOf_meta uf umf b y _ (⟨n.val, h⟩ : Fin 16) rfl]
    exact humf _
  · refine (dif_neg h).trans ?_
    rw [streamOf_own uf umf b y _ (⟨n.val - 16, by omega⟩ : Fin 4096) (by show 16 + (n.val - 16) = _; omega)]
    exact huf _

theorem out_block (j : Fin 512) (e : Fin 1024) (r : Fin 32768) (hr : r.val = 512 * t.val + j.val) : outAt m c t (ix2 j e) = outRef m c (ix2 r e) := by
  have hk : (kOf t).val < 8 := (kOf t).isLt
  have ht := t_lt t
  obtain ⟨s, hs⟩ : ∃ s : Fin 4096, s.val = 512 * (kOf t).val + j.val := ⟨⟨512 * (kOf t).val + j.val, by omega⟩, rfl⟩
  have hW : Diagonal (x6 m c t) (fun g a b => wpA m c (ix3 g a b)) := by
    have : x6 m c t = squares (wpA m c) := by
      funext i
      have hi : i = ix3 (i 0 : Fin 2) (i 1 : Fin 256) (i 2 : Fin 256) := by funext a; fin_cases a <;> rfl
      rw [hi]
      exact x6_apply m c t _ _ _
    rw [this]
    exact squares_diagonal _
  refine (tile_apply (grid0.coords t) (kOf t) (place_eq t) (x0 m c t) (x1 m c t) (x2 m c t) (x3 m c t) (x4 m c t) (x5 m c t) (x6 m c t) (x7 m c t) (x8 m c t) (x9 m c t) (x10 m c t)
    (streamOf uf umf (bOf t)) (fun g a b => wpA m c (ix3 g a b)) (ext_real m c t uf umf huf humf) hW j e).trans (Eq.trans ?_
    (MixRef.whole_apply _ _ _ _ _ _ _ _ _ _ _ _ (bOf t) s r ?_ e (streamOf uf umf (bOf t)) (fun y k h => streamOf_end uf umf (bOf t) y k h) (stream_real m c uf umf huf humf (bOf t))
      (fun a b => outWeights (woA m c) (gaA m c) (gpA m c) (ix2 a b)) (fun k e => outWeights_lo _ _ _ k _ e rfl) (fun k e => outWeights_hi _ _ _ k _ e rfl)).symm)
  · have e0 : (fun e => x0 m c t (ix2 j e)) = fun e => xA m c (ix3 (bOf t) s e) := funext fun e => x0_apply m c t j e s hs
    have e1 : (fun y => x1 m c t (ix2 j y)) = fun y => aA m c (ix2 r y) := funext fun y => x1_apply m c t j y r hr
    have e7 : (fun a b => x7 m c t (ix2 a b)) = fun a b => outWeights (woA m c) (gaA m c) (gpA m c) (ix2 a b) := funext fun a => funext fun b => x7_apply m c t a b
    have e8 : (fun a b => x8 m c t (ix2 a b)) = fun a b => wiA m c (ix2 a b) * gfA m c (ix1 a) := funext fun a => funext fun b => x8_apply m c t a b
    have e9 : (fun a b => x9 m c t (ix2 a b)) = fun a b => wdA m c (ix2 a b) := funext fun a => funext fun b => x9_apply m c t a b
    have e10 : (fun a => x10 m c t (ix2 (0 : Fin 1) a)) = fun a => glA m c (ix1 a) := funext fun a => x10_apply m c t 0 a
    have et : 512 * (kOf t).val + 16 + j.val = 16 + s.val := by omega
    rw [e0, e1, e7, e8, e9, e10, et]
  · rw [hr, hs]
    show 512 * t.val + j.val = 4096 * (t.val / 8) + (512 * (t.val % 8) + j.val)
    omega

/-- The call's array is the reference's. -/
theorem out_arr : (dats m 0 c).arrAt 11 cfg0.N = outRef m c := by
  refine (dats m 0 c).arrAt_eq_of_cover 11 (outRef m c) ?_ ?_
  · intro t _
    rw [Cert.MixIdeal.Value.flushed11_A, MixTile.out_eq]
    show outAt m c t = _
    funext i
    rw [idx2 i]
    have hi : (i 0).val < 512 := (i 0).isLt
    have ht := t_lt t
    refine (out_block m c t uf umf huf humf _ _ (⟨512 * t.val + (i 0).val, by omega⟩ : Fin 32768) rfl).trans (at2 (outRef m c) _ _ ?_ ?_)
    · show 512 * t.val + (i 0).val = cc0_transform_11 (grid0.coords t) 0 * 512 + 1 * (i 0).val
      rw [ix_11]; show _ = t.val * 512 + _; omega
    · show (i 1).val = cc0_transform_11 (grid0.coords t) 1 * 1024 + 1 * (i 1).val
      rw [ix_11]; show _ = 0 * 1024 + _; omega
  · intro i
    have h0 : (i 0).val < 32768 := (i 0).isLt
    have h1 : (i 1).val < 1024 := (i 1).isLt
    obtain ⟨t, ht⟩ : ∃ t : Fin cfg0.N, t.val = (i 0).val / 512 := ⟨⟨(i 0).val / 512, by show _ < 64; omega⟩, rfl⟩
    refine ⟨t, flush0_11 t, ?_⟩
    rw [View.set_slice_whole, Rect.mem_set_unit]
    intro a
    fin_cases a
    · show cc0_transform_11 (grid0.coords t) 0 * 512 ≤ (i 0).val ∧ (i 0).val < cc0_transform_11 (grid0.coords t) 0 * 512 + 512
      rw [ix_11]
      show t.val * 512 ≤ (i 0).val ∧ (i 0).val < t.val * 512 + 512; omega
    · show cc0_transform_11 (grid0.coords t) 1 * 1024 ≤ (i 1).val ∧ (i 1).val < cc0_transform_11 (grid0.coords t) 1 * 1024 + 1024
      rw [ix_11]
      show 0 * 1024 ≤ (i 1).val ∧ (i 1).val < 0 * 1024 + 1024; omega
end Reals

end Cert.Proof.MixResults

end
-- ==== Proof.ProjTile.lean ====
/-
  What one grid point of the input projection's call leaves in its four result blocks, as terms of the blocks that it reads.
-/
module

public import proofs.«01_k».proof.Proof.MixTile
public import proofs.«01_k».proof.Proof.Gen.ProjIdeal.Value

@[expose] public section

set_option maxRecDepth 16384

noncomputable section

namespace Cert.Proof.ProjTile

open Cert.ProjIdeal Cert.ProjIdeal.Gen Cert.ProjIdeal.Value Idealize.ShloMosaic Idealize.ShloMosaic.TcCoe Idealize.SL.Sem
open Cert.Proof.MixTile (hz2)

variable {F : FTy → Type} [FloatOps F]

/-- The rows through a part of the weights, times the rows' scales. -/
def proj (x : Vec F S1024x1024 .f32) (w : Vec F S1024x256 .bf16) : FVec F S1024x256 .f32 := k0_pay39 (k0_pay5 x) (k0_pay6 x) w

/-- One row of a table for rows of the picture. -/
def rowOf (x : Vec F S16x128 .f32) (g : Fin 16) : Vec F S1x128 .f32 :=
  View.ld x (Rect.unit ![g.val, 0] S1x128.size (fun a => by fin_cases a <;> simp [S1x128, S16x128] <;> omega))
/-- One such row added to the table for columns of the picture. -/
def addRow (col : Vec F S64x128 .f32) (row : Vec F S1x128 .f32) : FVec F S64x128 .f32 :=
  addf (broadcastTo S64x128 (shapeCast S1x128 row shapeCasts_S1x128_S1x128 : FVec F S1x128 .f32) broadcasts_S1x128_S64x128) (shapeCast S64x128 col shapeCasts_S64x128_S64x128)
/-- Sixteen blocks of rows one under another. -/
def stack (f : Fin 16 → FVec F S64x128 .f32) : FVec F S1024x128 .f32 :=
  concatenate S1024x128 0 [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩, ⟨S64x128, f 8⟩, ⟨S64x128, f 9⟩, ⟨S64x128, f 10⟩, ⟨S64x128, f 11⟩, ⟨S64x128, f 12⟩, ⟨S64x128, f 13⟩, ⟨S64x128, f 14⟩, ⟨S64x128, f 15⟩] concatenates_S64x128_S64x128_S64x128_S64x128_S64x128_S64x128_S64x128_S64x128_S64x128_S64x128_S64x128_S64x128_S64x128_S64x128_S64x128_S64x128_S1024x128_d0
/-- The table of a block's positions. -/
def table (x : Vec F S16x128 .f32) (col : Vec F S64x128 .f32) : FVec F S1024x128 .f32 := stack fun g => addRow col (rowOf x g)

/-- The heads' lanes scaled to unit mean square, times their gains. -/
def headed (e : Vec F S256x256 .bf16) (p : FVec F S1024x256 .f32) (g : Vec F S1x256 .f32) : FVec F S1024x256 .f32 := k0_pay41 (k0_pay7 e) p g
/-- The same of the keys' half of the lanes. -/
def headedK (e : Vec F S256x256 .bf16) (kv : FVec F S1024x256 .f32) (g : Vec F S1x128 .f32) : FVec F S1024x128 .f32 :=
  mulf (mulf (k0_pay50 kv) (rsqrt (addf (mulf (k0_pay51 (k0_pay7 e) kv) (broadcast S1024x128 (Scalar.ofBits .f32 0x3C800000#32))) (broadcast S1024x128 (Scalar.ofBits .f32 0x358637BD#32)))))
    (broadcastTo S1024x128 (shapeCast S1x128 g shapeCasts_S1x128_S1x128 : FVec F S1x128 .f32) broadcasts_S1x128_S1024x128)
/-- The lanes turned by their positions. -/
def roped (x cos sin : FVec F S1024x128 .f32) : FVec F S1024x128 .f32 :=
  addf (mulf x cos) (mulf (select k0_pay38 (dynamicRotate 1 112#32 none x rotates_S1024x128_d1) (dynamicRotate 1 16#32 none x rotates_S1024x128_d1)) sin)

/-- The four results' blocks. -/
def qOut (x : Vec F S1024x1024 .f32) (w : Vec F S1024x1280 .bf16) (hg : Vec F S1x640 .f32) (e : Vec F S256x256 .bf16) (cos sin : FVec F S1024x128 .f32) : Vec F S1024x512 .f32 :=
  View.canon [
    ⟨Rect.unit ![0, 384] S1024x128.size inb_S1024x512_S1024x128_0_384, roped (extractStridedSlice S1024x128 ![0, 128] (headed e (proj x (View.ld w (Rect.unit ![0, 256] S1024x256.size inb_S1024x1280_S1024x256_0_256))) (View.ld hg (Rect.unit ![0, 256] S1x256.size inb_S1x640_S1x256_0_256))) slices_S1024x256_o0_128_S1024x128) cos sin⟩,
    ⟨Rect.unit ![0, 256] S1024x128.size inb_S1024x512_S1024x128_0_256, roped (extractStridedSlice S1024x128 ![0, 0] (headed e (proj x (View.ld w (Rect.unit ![0, 256] S1024x256.size inb_S1024x1280_S1024x256_0_256))) (View.ld hg (Rect.unit ![0, 256] S1x256.size inb_S1x640_S1x256_0_256))) slices_S1024x256_o0_0_S1024x128) cos sin⟩,
    ⟨Rect.unit ![0, 128] S1024x128.size inb_S1024x512_S1024x128_0_128, roped (extractStridedSlice S1024x128 ![0, 128] (headed e (proj x (View.ld w (Rect.unit ![0, 0] S1024x256.size inb_S1024x1280_S1024x256_0_0))) (View.ld hg (Rect.unit ![0, 0] S1x256.size inb_S1x640_S1x256_0_0))) slices_S1024x256_o0_128_S1024x128) cos sin⟩,
    ⟨Rect.unit ![0, 0] S1024x128.size inb_S1024x512_S1024x128_0_0, roped (extractStridedSlice S1024x128 ![0, 0] (headed e (proj x (View.ld w (Rect.unit ![0, 0] S1024x256.size inb_S1024x1280_S1024x256_0_0))) (View.ld hg (Rect.unit ![0, 0] S1x256.size inb_S1x640_S1x256_0_0))) slices_S1024x256_o0_0_S1024x128) cos sin⟩]
/-- The keys and values before their parts. -/
def kv (x : Vec F S1024x1024 .f32) (w : Vec F S1024x1280 .bf16) : FVec F S1024x256 .f32 := proj x (View.ld w (Rect.unit ![0, 512] S1024x256.size inb_S1024x1280_S1024x256_0_512))
def kOut (x : Vec F S1024x1024 .f32) (w : Vec F S1024x1280 .bf16) (hg : Vec F S1x640 .f32) (e : Vec F S256x256 .bf16) (cos sin : FVec F S1024x128 .f32) : Vec F S1024x256 .bf16 :=
  View.canon [
    ⟨Rect.unit ![0, 128] S1024x128.size inb_S1024x256_S1024x128_0_128, truncf .bf16 (dynamicRotate 1 64#32 none (roped (headedK e (kv x w) (View.ld hg (Rect.unit ![0, 512] S1x128.size inb_S1x640_S1x128_0_512))) cos sin) rotates_S1024x128_d1) bitsLt_bf16_f32⟩,
    ⟨Rect.unit ![0, 0] S1024x128.size inb_S1024x256_S1024x128_0_0, truncf .bf16 (roped (headedK e (kv x w) (View.ld hg (Rect.unit ![0, 512] S1x128.size inb_S1x640_S1x128_0_512))) cos sin) bitsLt_bf16_f32⟩]
def vOut (x : Vec F S1024x1024 .f32) (w : Vec F S1024x1280 .bf16) : Vec F S1x2x80x1024 .bf16 :=
  View.canon [
    ⟨Rect.unit ![0, 1, 64, 0] S1x1x16x1024.size inb_S1x2x80x1024_S1x1x16x1024_0_1_64_0, k0_pay2 (k0_pay56 (F := F))⟩,
    ⟨Rect.unit ![0, 1, 0, 0] S1x1x64x1024.size inb_S1x2x80x1024_S1x1x64x1024_0_1_0_0, k0_pay1 (k0_pay59 (kv x w))⟩,
    ⟨Rect.unit ![0, 0, 64, 0] S1x1x16x1024.size inb_S1x2x80x1024_S1x1x16x1024_0_0_64_0, k0_pay58 (F := F)⟩,
    ⟨Rect.unit ![0, 0, 0, 0] S1x1x64x1024.size inb_S1x2x80x1024_S1x1x64x1024_0_0_0_0, k0_pay57 (kv x w)⟩]
def uOut (x : Vec F S1024x1024 .f32) (w : Vec F S1024x1280 .bf16) : Vec F S1024x512 .f32 :=
  View.canon [
    ⟨Rect.unit ![0, 256] S1024x256.size inb_S1024x512_S1024x256_0_256, proj x (View.ld w (Rect.unit ![0, 1024] S1024x256.size inb_S1024x1280_S1024x256_0_1024))⟩,
    ⟨Rect.unit ![0, 0] S1024x256.size inb_S1024x512_S1024x256_0_0, proj x (View.ld w (Rect.unit ![0, 768] S1024x256.size inb_S1024x1280_S1024x256_0_768))⟩]

variable (c : Dev nD) (i : grid0.Coords) (arg1 : Memref sig .tc .vmem S1024x1024 .f32) (harg1 : arg1.IsWhole) (arg2 : Memref sig .tc .vmem S1024x1280 .bf16) (harg2 : arg2.IsWhole) (arg3 : Memref sig .tc .vmem S1x640 .f32) (harg3 : arg3.IsWhole) (arg4 : Memref sig .tc .vmem S256x256 .bf16) (harg4 : arg4.IsWhole) (arg5 : Memref sig .tc .vmem S16x128 .f32) (harg5 : arg5.IsWhole) (arg6 : Memref sig .tc .vmem S16x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1x2x80x1024 .bf16) (harg11 : arg11.IsWhole) (arg12 : Memref sig .tc .vmem S1024x512 .f32) (harg12 : arg12.IsWhole)    (x0 : Vec F S1024x1024 .f32) (x1 : Vec F S1024x1280 .bf16) (x2 : Vec F S1x640 .f32) (x3 : Vec F S256x256 .bf16) (x4 : Vec F S16x128 .f32) (x5 : Vec F S16x128 .f32) (x6 : Vec F S64x128 .f32) (x7 : Vec F S64x128 .f32)

set_option maxHeartbeats 1600000

theorem out8_eq : out0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 x7 = qOut x0 x1 x2 x3 (table x4 x6) (table x5 x7) := by
  unfold out0_A_8
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S1024x1024) hz2, View.ld_unit_zero (S := S256x256) hz2, View.ld_unit_zero (S := S64x128) hz2]
  unfold qOut
  rfl

theorem out9_eq : out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 = kOut x0 x1 x2 x3 (table x4 x6) (table x5 x7) := by
  unfold out0_A_9
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S1024x1024) hz2, View.ld_unit_zero (S := S256x256) hz2, View.ld_unit_zero (S := S64x128) hz2]
  unfold kOut
  rfl

theorem out10_eq : out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 = vOut x0 x1 := by
  unfold out0_A_10
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S1024x1024) hz2, View.ld_unit_zero (S := S256x256) hz2, View.ld_unit_zero (S := S64x128) hz2]
  unfold vOut
  rfl

theorem out11_eq : out0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 = uOut x0 x1 := by
  unfold out0_A_11
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S1024x1024) hz2, View.ld_unit_zero (S := S256x256) hz2, View.ld_unit_zero (S := S64x128) hz2]
  unfold uOut
  rfl

end Cert.Proof.ProjTile

end
-- ==== Proof.ProjBlock.lean ====
/-
  The input projection's block results read at an index, over the extended reals.
-/
module

public import proofs.«01_k».proof.Proof.ProjTile
public import proofs.«01_k».proof.Proof.MixBlock
public import proofs.«01_k».proof.Proof.BlockValue

@[expose] public section

set_option maxRecDepth 16384

noncomputable section

namespace Cert.Proof.ProjBlock

open Cert.ProjIdeal Cert.ProjIdeal.Gen Cert.Proof.ProjTile Idealize.ShloMosaic Idealize.ShloMosaic.TcCoe
open Cert.Proof.MixMath (rms)
open Cert.Proof.MixBlock (at2 at3 idx2)
open Cert.Proof.BlockValue (at4)

/-! ## The row functions -/

/-- A row through one column of the weights, times the row's scale. -/
def pRow (x w : Fin 1024 → EReal) : EReal := (∑ k, x k * w k) * rms 0x44800000#32 x
/-- A head's lanes scaled to unit mean square, times the gains. -/
def headNorm (p g : Fin 64 → EReal) (d : Fin 64) : EReal := p d * rms 0x42800000#32 p * g d
/-- A head's lanes turned: the two halves of each axis by the axis's cosines and sines. -/
def turn (n : Fin 64 → EReal) (c s : Fin 2 → Fin 16 → EReal) (d : Fin 64) : EReal :=
  if h : d.val % 32 < 16 then n d * c ⟨d.val / 32, by omega⟩ ⟨d.val % 16, by omega⟩ - n ⟨d.val + 16, by omega⟩ * s ⟨d.val / 32, by omega⟩ ⟨d.val % 16, by omega⟩
  else n ⟨d.val - 16, by omega⟩ * s ⟨d.val / 32, by omega⟩ ⟨d.val % 16, by omega⟩ + n d * c ⟨d.val / 32, by omega⟩ ⟨d.val % 16, by omega⟩
/-- Head `h` of a row. -/
def headRow (x : Fin 1024 → EReal) (w : Fin 1024 → Fin 1280 → EReal) (hg : Fin 640 → EReal) (h : Fin 10) : Fin 64 → EReal :=
  headNorm (fun d => pRow x fun k => w k ⟨64 * h.val + d.val, by omega⟩) (fun d => hg ⟨64 * h.val + d.val, by omega⟩)

/-! ## The parts -/

theorem proj_apply (x : Vec Ideal S1024x1024 .f32) (w : Vec Ideal S1024x256 .bf16) (r : Fin 1024) (y : Fin 256) :
    proj x w (ix2 r y) = pRow (fun k => x (ix2 r k)) (fun k => w (ix2 k y)) := by
  pointwise [proj, k0_pay39, k0_pay5, k0_pay6, k0_pay4]
  rfl

theorem headSum {N H : ℕ} (hN : N = 64 * H) (f : Fin N → EReal) (y : Fin N) :
    ∑ l : Fin N, f l * (if l.val / 64 = y.val / 64 then 1 else 0) = ∑ d : Fin 64, f ⟨64 * (y.val / 64) + d.val, by omega⟩ := by
  simp only [mul_ite, mul_one, mul_zero]
  rw [← Finset.sum_filter]
  refine Finset.sum_nbij' (fun l => (⟨l.val % 64, by omega⟩ : Fin 64)) (fun d => (⟨64 * (y.val / 64) + d.val, by omega⟩ : Fin N)) ?_ ?_ ?_ ?_ ?_
  · intro l _; exact Finset.mem_univ _
  · intro d _
    refine Finset.mem_filter.2 ⟨Finset.mem_univ _, ?_⟩
    show (64 * (y.val / 64) + d.val) / 64 = y.val / 64
    omega
  · intro l hl
    have h := (Finset.mem_filter.1 hl).2
    apply Fin.ext
    show 64 * (y.val / 64) + l.val % 64 = l.val
    omega
  · intro d _
    apply Fin.ext
    show (64 * (y.val / 64) + d.val) % 64 = d.val
    omega
  · intro l hl
    have h := (Finset.mem_filter.1 hl).2
    refine congrArg f (Fin.ext ?_)
    show l.val = 64 * (y.val / 64) + l.val % 64
    omega

theorem ofBits_64 : Ideal.ofBits .f32 0x42800000#32 = ((64 : ℝ) : EReal) := by
  simp [Ideal.ofBits, Ideal.ieee]
  rw [← EReal.coe_mul]
  norm_num
theorem ofBits_64th : Ideal.ofBits .f32 0x3C800000#32 = ((1 / 64 : ℝ) : EReal) := by
  simp [Ideal.ofBits, Ideal.ieee]
  rw [← EReal.coe_mul]
  norm_num
theorem over64 (x : EReal) : x * Ideal.ofBits .f32 0x3C800000#32 = Ideal.div x (Ideal.ofBits .f32 0x42800000#32) := by
  rw [ofBits_64, ofBits_64th, Ideal.div_coe (by norm_num)]

/-- The lanes of one head, marked. -/
def Marks (e : Vec Ideal S256x256 .bf16) : Prop := ∀ l y : Fin 256, e (ix2 l y) = if l.val / 64 = y.val / 64 then 1 else 0

theorem headed_apply (e : Vec Ideal S256x256 .bf16) (he : Marks e) (p : FVec Ideal S1024x256 .f32) (g : Vec Ideal S1x256 .f32) (r : Fin 1024) (y : Fin 256) :
    headed e p g (ix2 r y) = headNorm (fun d => p (ix2 r (⟨64 * (y.val / 64) + d.val, by omega⟩ : Fin 256))) (fun d => g (ix2 (0 : Fin 1) (⟨64 * (y.val / 64) + d.val, by omega⟩ : Fin 256))) ⟨y.val % 64, by omega⟩ := by
  have hy : ∀ f : Fin 256 → EReal, f ⟨64 * (y.val / 64) + y.val % 64, by omega⟩ = f y := fun f => congrArg f (Fin.ext (Nat.div_add_mod _ _))
  pointwise [headed, k0_pay41, k0_pay7]
  simp only [he _ _]
  rw [headSum (H := 4) rfl (fun l => p (ix2 r l) * p (ix2 r l)) y, over64]
  unfold headNorm rms
  exact (congrArg₂ (fun a b : EReal => a * _ * b) (hy fun l => p (ix2 r l)) (hy fun l => g (ix2 (0 : Fin 1) l))).symm

theorem headedK_apply (e : Vec Ideal S256x256 .bf16) (he : Marks e) (p : FVec Ideal S1024x256 .f32) (g : Vec Ideal S1x128 .f32) (r : Fin 1024) (y : Fin 128) :
    headedK e p g (ix2 r y) = headNorm (fun d => p (ix2 r (⟨64 * (y.val / 64) + d.val, by omega⟩ : Fin 256))) (fun d => g (ix2 (0 : Fin 1) (⟨64 * (y.val / 64) + d.val, by omega⟩ : Fin 128))) ⟨y.val % 64, by omega⟩ := by
  have hy : ∀ f : Fin 256 → EReal, f ⟨64 * (y.val / 64) + y.val % 64, by omega⟩ = f ⟨y.val, by omega⟩ := fun f => congrArg f (Fin.ext (Nat.div_add_mod _ _))
  have hy' : ∀ f : Fin 128 → EReal, f ⟨64 * (y.val / 64) + y.val % 64, by omega⟩ = f y := fun f => congrArg f (Fin.ext (Nat.div_add_mod _ _))
  pointwise [headedK, k0_pay50, k0_pay51, k0_pay7]
  simp only [he _ _]
  rw [headSum (H := 2) rfl (fun l : Fin 128 => p (ix2 r (⟨l.val, by omega⟩ : Fin 256)) * p (ix2 r (⟨l.val, by omega⟩ : Fin 256))) y, over64]
  unfold headNorm rms
  exact (congrArg₂ (fun a b : EReal => a * _ * b) (hy fun l => p (ix2 r l)) (hy' fun l => g (ix2 (0 : Fin 1) l))).symm

/-- The lanes of first halves. -/
theorem lanes_bit : ∀ l : Fin 128, IntOp.cmpi .eq (IntOp.andi (BitVec.ofNat 32 l.val) 16#32) 0#32 = if l.val % 32 < 16 then 1#1 else 0#1 := by decide +kernel
theorem lanes_apply (r : Fin 1024) (l : Fin 128) : k0_pay38 (ix2 r l) = if l.val % 32 < 16 then 1#1 else 0#1 := by
  rw [← lanes_bit]
  pointwise [k0_pay38]

theorem roped_apply (x cos sin : FVec Ideal S1024x128 .f32) (r : Fin 1024) (h : Fin 2) (n : Fin 64 → EReal) (c s : Fin 2 → Fin 16 → EReal)
    (hx : ∀ (d : Fin 64) (l : Fin 128), l.val = 64 * h.val + d.val → x (ix2 r l) = n d)
    (hc : ∀ l : Fin 128, cos (ix2 r l) = c ⟨l.val % 64 / 32, by omega⟩ ⟨l.val % 16, by omega⟩)
    (hs : ∀ l : Fin 128, sin (ix2 r l) = if l.val % 32 < 16 then -(s ⟨l.val % 64 / 32, by omega⟩ ⟨l.val % 16, by omega⟩) else s ⟨l.val % 64 / 32, by omega⟩ ⟨l.val % 16, by omega⟩)
    (d : Fin 64) (l : Fin 128) (hl : l.val = 64 * h.val + d.val) : roped x cos sin (ix2 r l) = turn n c s d := by
  have i0 : (⟨l.val % 64 / 32, by omega⟩ : Fin 2) = ⟨d.val / 32, by omega⟩ := Fin.ext (by show l.val % 64 / 32 = d.val / 32; omega)
  have i1 : (⟨l.val % 16, by omega⟩ : Fin 16) = ⟨d.val % 16, by omega⟩ := Fin.ext (by show l.val % 16 = d.val % 16; omega)
  pointwise [roped]
  rw [lanes_apply, hc, hs, hx d l hl, i0, i1]
  unfold turn
  by_cases hd : d.val % 32 < 16
  · rw [if_pos (by omega), if_pos (by omega), dif_pos hd]
    pointwise
    rw [hx ⟨d.val + 16, by omega⟩ _ (by show (l.val + 128 - 112) % 128 = 64 * h.val + (d.val + 16); omega), mul_neg, sub_eq_add_neg]
  · rw [if_neg (by omega), if_neg (by omega), dif_neg hd]
    pointwise
    rw [hx ⟨d.val - 16, by omega⟩ _ (by show (l.val + 128 - 16) % 128 = 64 * h.val + (d.val - 16); omega), add_comm]

theorem rowOf_apply (x : Vec Ideal S16x128 .f32) (g : Fin 16) (l : Fin 128) : rowOf x g (ix2 (0 : Fin 1) l) = x (ix2 g l) :=
  at2 x _ _ (by show g.val + 1 * 0 = g.val; omega) (by show 0 + 1 * l.val = l.val; omega)
theorem addRow_apply (col : Vec Ideal S64x128 .f32) (row : Vec Ideal S1x128 .f32) (r : Fin 64) (l : Fin 128) : addRow col row (ix2 r l) = row (ix2 (0 : Fin 1) l) + col (ix2 r l) := by
  pointwise [addRow]
theorem stack_apply (f : Fin 16 → FVec Ideal S64x128 .f32) (r : Fin 1024) (l : Fin 128) :
    stack f (ix2 r l) = f ⟨r.val / 64, by omega⟩ (ix2 (⟨r.val % 64, by omega⟩ : Fin 64) l) := by
  refine Idealize.ShloMosaic.concatenate_ofFn_apply (t := S1024x128) (s₁ := S64x128) 0 f concatenates_S64x128_S64x128_S64x128_S64x128_S64x128_S64x128_S64x128_S64x128_S64x128_S64x128_S64x128_S64x128_S64x128_S64x128_S64x128_S64x128_S1024x128_d0 rfl 64 rfl (ix2 r l) ⟨r.val / 64, by omega⟩ rfl (ix2 (⟨r.val % 64, by omega⟩ : Fin 64) l) rfl ?_
  intro b hb
  match b with
  | ⟨0, _⟩ => exact absurd rfl hb
  | ⟨1, _⟩ => rfl
theorem table_apply (x : Vec Ideal S16x128 .f32) (col : Vec Ideal S64x128 .f32) (r : Fin 1024) (l : Fin 128) :
    table x col (ix2 r l) = x (ix2 (⟨r.val / 64, by omega⟩ : Fin 16) l) + col (ix2 (⟨r.val % 64, by omega⟩ : Fin 64) l) := by
  unfold table
  rw [stack_apply, addRow_apply, rowOf_apply]

/-! ## The four results -/

variable (x : Vec Ideal S1024x1024 .f32) (w : Vec Ideal S1024x1280 .bf16) (hg : Vec Ideal S1x640 .f32) (e : Vec Ideal S256x256 .bf16) (cos sin : FVec Ideal S1024x128 .f32) (C S : Fin 1024 → Fin 2 → Fin 16 → EReal)

/-- The tables hold a position's cosines and its signed sines at every lane. -/
def Turns : Prop :=
  (∀ (r : Fin 1024) (l : Fin 128), cos (ix2 r l) = C r ⟨l.val % 64 / 32, by omega⟩ ⟨l.val % 16, by omega⟩) ∧
  (∀ (r : Fin 1024) (l : Fin 128), sin (ix2 r l) = if l.val % 32 < 16 then -(S r ⟨l.val % 64 / 32, by omega⟩ ⟨l.val % 16, by omega⟩) else S r ⟨l.val % 64 / 32, by omega⟩ ⟨l.val % 16, by omega⟩)

/-- A turned head's lane at a row; and a plain column at a row. -/
def turned (r : Fin 1024) (h : Fin 10) (d : Fin 64) : EReal :=
  turn (headRow (fun k => x (ix2 r k)) (fun k y => w (ix2 k y)) (fun y => hg (ix2 (0 : Fin 1) y)) h) (C r) (S r) d
def plain (r : Fin 1024) (y : Fin 1280) : EReal := pRow (fun k => x (ix2 r k)) (fun k => w (ix2 k y))
/-- The keys' heads in the order they are laid out: both, then both swapped. -/
def keyHead (g : ℕ) : Fin 10 := if g = 0 then 8 else if g = 1 then 9 else if g = 2 then 9 else 8

def qAt (r : Fin 1024) (y : Fin 512) : EReal := turned x w hg C S r ⟨y.val / 64, by omega⟩ ⟨y.val % 64, by omega⟩
def kAt (r : Fin 1024) (y : Fin 256) : EReal := turned x w hg C S r (keyHead (y.val / 64)) ⟨y.val % 64, by omega⟩
def vAt (g : Fin 2) (d : Fin 80) (r : Fin 1024) : EReal := if h : d.val < 64 then plain x w r ⟨640 + 64 * g.val + d.val, by omega⟩ else Ideal.ofBits .bf16 0x3F80#16
def uAt (r : Fin 1024) (y : Fin 512) : EReal := plain x w r ⟨768 + y.val, by omega⟩
def qFn : Vec Ideal S1024x512 .f32 := fun i => qAt x w hg C S (i 0 : Fin 1024) (i 1 : Fin 512)
def kFn : Vec Ideal S1024x256 .bf16 := fun i => kAt x w hg C S (i 0 : Fin 1024) (i 1 : Fin 256)
def vFn : Vec Ideal S1x2x80x1024 .bf16 := fun i => vAt x w (i 1 : Fin 2) (i 2 : Fin 80) (i 3 : Fin 1024)
def uFn : Vec Ideal S1024x512 .f32 := fun i => uAt x w (i 0 : Fin 1024) (i 1 : Fin 512)

theorem part_apply (o : ℕ) (i1 : ∀ a, (![0, o] : Fin 2 → ℕ) a + S1024x256.size a ≤ S1024x1280.size a) (r : Fin 1024) (y : Fin 256) (z : Fin 1280) (hz : z.val = o + y.val) :
    proj x (View.ld w (Rect.unit ![0, o] S1024x256.size i1)) (ix2 r y) = plain x w r z := by
  refine (proj_apply x _ r y).trans (congrArg (pRow _) (funext fun k => ?_))
  exact at2 w _ (ix2 k z) (by show 0 + 1 * k.val = k.val; omega) (by show o + 1 * y.val = z.val; omega)

variable {e} (he : Marks e)
include he

theorem query_apply (O o : ℕ) (ho : o = 64 * O) (i1 : ∀ a, (![0, o] : Fin 2 → ℕ) a + S1024x256.size a ≤ S1024x1280.size a) (i2 : ∀ a, (![0, o] : Fin 2 → ℕ) a + S1x256.size a ≤ S1x640.size a)
    (r : Fin 1024) (y : Fin 256) (h : Fin 10) (d : Fin 64) (hy : 64 * O + y.val = 64 * h.val + d.val) :
    headed e (proj x (View.ld w (Rect.unit ![0, o] S1024x256.size i1))) (View.ld hg (Rect.unit ![0, o] S1x256.size i2)) (ix2 r y)
      = headRow (fun k => x (ix2 r k)) (fun k y => w (ix2 k y)) (fun y => hg (ix2 (0 : Fin 1) y)) h d := by
  have hd : (⟨y.val % 64, by omega⟩ : Fin 64) = d := Fin.ext (by show y.val % 64 = d.val; omega)
  have e0 : (fun d : Fin 64 => proj x (View.ld w (Rect.unit ![0, o] S1024x256.size i1)) (ix2 r (⟨64 * (y.val / 64) + d.val, by omega⟩ : Fin 256)))
      = fun d => pRow (fun k => x (ix2 r k)) fun k => w (ix2 k (⟨64 * h.val + d.val, by omega⟩ : Fin 1280)) := funext fun d' =>
    part_apply x w o i1 r _ (⟨64 * h.val + d'.val, by omega⟩ : Fin 1280) (by show 64 * h.val + d'.val = o + (64 * (y.val / 64) + d'.val); omega)
  have e1 : (fun d : Fin 64 => View.ld hg (Rect.unit ![0, o] S1x256.size i2) (ix2 (0 : Fin 1) (⟨64 * (y.val / 64) + d.val, by omega⟩ : Fin 256)))
      = fun d => hg (ix2 (0 : Fin 1) (⟨64 * h.val + d.val, by omega⟩ : Fin 640)) := funext fun d' =>
    at2 hg _ _ rfl (by show o + 1 * (64 * (y.val / 64) + d'.val) = 64 * h.val + d'.val; omega)
  rw [headed_apply e he, hd, e0, e1]
  rfl

theorem key_apply (i2 : ∀ a, (![0, 512] : Fin 2 → ℕ) a + S1x128.size a ≤ S1x640.size a) (r : Fin 1024) (y : Fin 128) (h : Fin 10) (d : Fin 64) (hy : 512 + y.val = 64 * h.val + d.val) :
    headedK e (kv x w) (View.ld hg (Rect.unit ![0, 512] S1x128.size i2)) (ix2 r y)
      = headRow (fun k => x (ix2 r k)) (fun k y => w (ix2 k y)) (fun y => hg (ix2 (0 : Fin 1) y)) h d := by
  have hd : (⟨y.val % 64, by omega⟩ : Fin 64) = d := Fin.ext (by show y.val % 64 = d.val; omega)
  have e0 : (fun d : Fin 64 => kv x w (ix2 r (⟨64 * (y.val / 64) + d.val, by omega⟩ : Fin 256)))
      = fun d => pRow (fun k => x (ix2 r k)) fun k => w (ix2 k (⟨64 * h.val + d.val, by omega⟩ : Fin 1280)) := funext fun d' =>
    part_apply x w 512 _ r _ (⟨64 * h.val + d'.val, by omega⟩ : Fin 1280) (by show 64 * h.val + d'.val = 512 + (64 * (y.val / 64) + d'.val); omega)
  have e1 : (fun d : Fin 64 => View.ld hg (Rect.unit ![0, 512] S1x128.size i2) (ix2 (0 : Fin 1) (⟨64 * (y.val / 64) + d.val, by omega⟩ : Fin 128)))
      = fun d => hg (ix2 (0 : Fin 1) (⟨64 * h.val + d.val, by omega⟩ : Fin 640)) := funext fun d' =>
    at2 hg _ _ rfl (by show 512 + 1 * (64 * (y.val / 64) + d'.val) = 64 * h.val + d'.val; omega)
  rw [headedK_apply e he, hd, e0, e1]
  rfl

omit he
theorem slice_lo (p : FVec Ideal S1024x256 .f32) (r : Fin 1024) (l : Fin 128) : extractStridedSlice S1024x128 ![0, 0] p slices_S1024x256_o0_0_S1024x128 (ix2 r l) = p (ix2 r (⟨0 + l.val, by omega⟩ : Fin 256)) :=
  at2 p _ _ (by show 0 + r.val = r.val; omega) rfl
theorem slice_hi (p : FVec Ideal S1024x256 .f32) (r : Fin 1024) (l : Fin 128) : extractStridedSlice S1024x128 ![0, 128] p slices_S1024x256_o0_128_S1024x128 (ix2 r l) = p (ix2 r (⟨128 + l.val, by omega⟩ : Fin 256)) :=
  at2 p _ _ (by show 0 + r.val = r.val; omega) rfl
include he

variable {cos sin C S} (ht : Turns cos sin C S)
include ht

/-- A block of turned lanes, where what is turned is a pair of heads. -/
theorem pair_apply (p : FVec Ideal S1024x128 .f32) (r : Fin 1024) (h0 : ℕ) (hh : h0 + 2 ≤ 10)
    (hp : ∀ (l : Fin 128) (h : Fin 10) (d : Fin 64), 64 * h0 + l.val = 64 * h.val + d.val → p (ix2 r l) = headRow (fun k => x (ix2 r k)) (fun k y => w (ix2 k y)) (fun y => hg (ix2 (0 : Fin 1) y)) h d)
    (l : Fin 128) (h : Fin 10) (d : Fin 64) (hl : 64 * h0 + l.val = 64 * h.val + d.val) : roped p cos sin (ix2 r l) = turned x w hg C S r h d :=
  roped_apply p cos sin r ⟨h.val - h0, by omega⟩ _ (C r) (S r) (fun d' l' hl' => hp l' h d' (by have : l'.val = 64 * (h.val - h0) + d'.val := hl'; omega)) (ht.1 r) (ht.2 r) d l
    (by show l.val = 64 * (h.val - h0) + d.val; omega)

theorem qCut (p : FVec Ideal S1024x128 .f32) (h0 o : ℕ) (hh : h0 + 2 ≤ 8) (ho : o = 64 * h0) (i0 : ∀ a, (![0, o] : Fin 2 → ℕ) a + S1024x128.size a ≤ S1024x512.size a)
    (hp : ∀ (r : Fin 1024) (l : Fin 128) (h : Fin 10) (d : Fin 64), 64 * h0 + l.val = 64 * h.val + d.val → p (ix2 r l) = headRow (fun k => x (ix2 r k)) (fun k y => w (ix2 k y)) (fun y => hg (ix2 (0 : Fin 1) y)) h d)
    (z : S1024x128.Idx) : roped p cos sin z = qFn x w hg C S ((Rect.unit (s := S1024x512) ![0, o] S1024x128.size i0).emb z) := by
  rw [idx2 z]
  have hz : (z 1).val < 128 := (z 1).isLt
  refine (pair_apply x w hg he ht p _ h0 (by omega) (hp _) _ (⟨(o + (z 1).val) / 64, by omega⟩ : Fin 10) (⟨(o + (z 1).val) % 64, by omega⟩ : Fin 64) ?_).trans ?_
  · show 64 * h0 + (z 1).val = 64 * ((o + (z 1).val) / 64) + (o + (z 1).val) % 64
    omega
  · refine (at2 (qFn x w hg C S) (ix2 (z 0 : Fin 1024) (⟨o + (z 1).val, by omega⟩ : Fin 512)) _ ?_ ?_)
    · show (z 0).val = 0 + 1 * (z 0).val; omega
    · show o + (z 1).val = o + 1 * (z 1).val; omega

theorem q_eq : qOut x w hg e cos sin = qFn x w hg C S := by
  funext y
  have h0 : (y 0).val < 1024 := (y 0).isLt
  have h1 : (y 1).val < 512 := (y 1).isLt
  unfold qOut
  refine View.canon_apply_of_pieces (qFn x w hg C S) _ ?_ y ?_
  · simp only [List.forall_mem_cons]
    refine ⟨qCut x w hg he ht _ 6 _ (by omega) rfl _ fun r l h d hl => ?_, qCut x w hg he ht _ 4 _ (by omega) rfl _ fun r l h d hl => ?_,
      qCut x w hg he ht _ 2 _ (by omega) rfl _ fun r l h d hl => ?_, qCut x w hg he ht _ 0 _ (by omega) rfl _ fun r l h d hl => ?_, by simp⟩
    · exact (slice_hi _ r l).trans (query_apply x w hg he 4 _ rfl _ _ r _ h d (by show 64 * 4 + (128 + l.val) = _; omega))
    · exact (slice_lo _ r l).trans (query_apply x w hg he 4 _ rfl _ _ r _ h d (by show 64 * 4 + (0 + l.val) = _; omega))
    · exact (slice_hi _ r l).trans (query_apply x w hg he 0 _ rfl _ _ r _ h d (by show 64 * 0 + (128 + l.val) = _; omega))
    · exact (slice_lo _ r l).trans (query_apply x w hg he 0 _ rfl _ _ r _ h d (by show 64 * 0 + (0 + l.val) = _; omega))
  · simp only [List.exists_mem_cons_iff, Rect.mem_set_unit, Fin.forall_fin_two]
    simp only [Matrix.cons_val_zero, Matrix.cons_val_one]
    simp [h0]
    omega

/-- The keys' lanes, turned. -/
theorem keys_apply (r : Fin 1024) (l : Fin 128) (h : Fin 10) (d : Fin 64) (hl : 512 + l.val = 64 * h.val + d.val) :
    roped (headedK e (kv x w) (View.ld hg (Rect.unit ![0, 512] S1x128.size inb_S1x640_S1x128_0_512))) cos sin (ix2 r l) = turned x w hg C S r h d :=
  pair_apply x w hg he ht _ r 8 (by omega) (fun l h d hl => key_apply x w hg he _ r l h d hl) l h d hl

omit he ht
theorem swap_apply (p : FVec Ideal S1024x128 .f32) (r : Fin 1024) (l : Fin 128) :
    (truncf .bf16 (dynamicRotate 1 64#32 none p rotates_S1024x128_d1) bitsLt_bf16_f32 : FVec Ideal S1024x128 .bf16) (ix2 r l) = p (ix2 r (⟨(l.val + 128 - 64) % 128, by omega⟩ : Fin 128)) := by
  pointwise
theorem same_apply (p : FVec Ideal S1024x128 .f32) (r : Fin 1024) (l : Fin 128) : (truncf .bf16 p bitsLt_bf16_f32 : FVec Ideal S1024x128 .bf16) (ix2 r l) = p (ix2 r l) := rfl
theorem kFn_at (r : Fin 1024) (y : Fin 256) (h : Fin 10) (d : Fin 64) (hh : keyHead (y.val / 64) = h) (hd : d.val = y.val % 64) : kFn x w hg C S (ix2 r y) = turned x w hg C S r h d := by
  have : d = ⟨y.val % 64, by omega⟩ := Fin.ext hd
  rw [← hh, this]
  rfl
include he ht

theorem k_eq : kOut x w hg e cos sin = kFn x w hg C S := by
  funext y
  have h0 : (y 0).val < 1024 := (y 0).isLt
  have h1 : (y 1).val < 256 := (y 1).isLt
  unfold kOut
  refine View.canon_apply_of_pieces (kFn x w hg C S) _ ?_ y ?_
  · simp only [List.forall_mem_cons]
    refine ⟨fun z => ?_, fun z => ?_, by simp⟩
    · rw [idx2 z]
      have hz : (z 1).val < 128 := (z 1).isLt
      refine (swap_apply _ _ _).trans ((keys_apply x w hg he ht _ _ (⟨8 + ((z 1).val + 128 - 64) % 128 / 64, by omega⟩ : Fin 10) (⟨(z 1).val % 64, by omega⟩ : Fin 64) ?_).trans
        ((kFn_at x w hg (z 0 : Fin 1024) (⟨128 + (z 1).val, by omega⟩ : Fin 256) _ _ ?_ ?_).symm.trans (at2 (kFn x w hg C S) _ _ ?_ ?_)))
      · show 512 + ((z 1).val + 128 - 64) % 128 = 64 * (8 + ((z 1).val + 128 - 64) % 128 / 64) + (z 1).val % 64; omega
      · show keyHead ((128 + (z 1).val) / 64) = _
        by_cases h : (z 1).val < 64
        · exact (congrArg keyHead (show (128 + (z 1).val) / 64 = 2 by omega)).trans (Fin.ext (by show 9 = 8 + ((z 1).val + 128 - 64) % 128 / 64; omega))
        · exact (congrArg keyHead (show (128 + (z 1).val) / 64 = 3 by omega)).trans (Fin.ext (by show 8 = 8 + ((z 1).val + 128 - 64) % 128 / 64; omega))
      · show (z 1).val % 64 = (128 + (z 1).val) % 64; omega
      · show (z 0).val = 0 + 1 * (z 0).val; omega
      · show 128 + (z 1).val = 128 + 1 * (z 1).val; omega
    · rw [idx2 z]
      have hz : (z 1).val < 128 := (z 1).isLt
      refine (same_apply _ _ _).trans ((keys_apply x w hg he ht _ _ (⟨8 + (z 1).val / 64, by omega⟩ : Fin 10) (⟨(z 1).val % 64, by omega⟩ : Fin 64) ?_).trans
        ((kFn_at x w hg (z 0 : Fin 1024) (⟨(z 1).val, by omega⟩ : Fin 256) _ _ ?_ ?_).symm.trans (at2 (kFn x w hg C S) _ _ ?_ ?_)))
      · show 512 + (z 1).val = 64 * (8 + (z 1).val / 64) + (z 1).val % 64; omega
      · show keyHead ((z 1).val / 64) = _
        by_cases h : (z 1).val < 64
        · exact (congrArg keyHead (show (z 1).val / 64 = 0 by omega)).trans (Fin.ext (by show 8 = 8 + (z 1).val / 64; omega))
        · exact (congrArg keyHead (show (z 1).val / 64 = 1 by omega)).trans (Fin.ext (by show 9 = 8 + (z 1).val / 64; omega))
      · rfl
      · show (z 0).val = 0 + 1 * (z 0).val; omega
      · show (z 1).val = 0 + 1 * (z 1).val; omega
  · simp only [List.exists_mem_cons_iff, Rect.mem_set_unit, Fin.forall_fin_two]
    simp only [Matrix.cons_val_zero, Matrix.cons_val_one]
    simp [h0]
    omega

omit he ht
theorem uCut (o : ℕ) (i0 : ∀ a, (![0, o] : Fin 2 → ℕ) a + S1024x256.size a ≤ S1024x512.size a) (o' : ℕ) (ho : o' = 768 + o) (i1 : ∀ a, (![0, o'] : Fin 2 → ℕ) a + S1024x256.size a ≤ S1024x1280.size a) (z : S1024x256.Idx) :
    proj x (View.ld w (Rect.unit ![0, o'] S1024x256.size i1)) z = uFn x w ((Rect.unit (s := S1024x512) ![0, o] S1024x256.size i0).emb z) := by
  rw [idx2 z]
  have hb : o + 256 ≤ 512 := i0 1
  have hz : (z 1).val < 256 := (z 1).isLt
  refine (part_apply x w o' i1 _ _ (⟨768 + (o + (z 1).val), by omega⟩ : Fin 1280) ?_).trans (at2 (uFn x w) (ix2 (z 0 : Fin 1024) (⟨o + (z 1).val, by omega⟩ : Fin 512)) _ ?_ ?_)
  · show 768 + (o + (z 1).val) = o' + (z 1).val; omega
  · show (z 0).val = 0 + 1 * (z 0).val; omega
  · show o + (z 1).val = o + 1 * (z 1).val; omega
theorem u_eq : uOut x w = uFn x w := by
  funext y
  have h0 : (y 0).val < 1024 := (y 0).isLt
  have h1 : (y 1).val < 512 := (y 1).isLt
  unfold uOut
  refine View.canon_apply_of_pieces (uFn x w) _ ?_ y ?_
  · simp only [List.forall_mem_cons]
    exact ⟨uCut x w 256 _ 1024 rfl _, uCut x w 0 _ 768 rfl _, by simp⟩
  · simp only [List.exists_mem_cons_iff, Rect.mem_set_unit, Fin.forall_fin_two]
    simp only [Matrix.cons_val_zero, Matrix.cons_val_one]
    simp [h0]
    omega

theorem idx4 {A B D E : ℕ} (i : Shape.Idx ⟨4, ![A, B, D, E]⟩) : i = ix4 (i 0 : Fin A) (i 1 : Fin B) (i 2 : Fin D) (i 3 : Fin E) := by
  funext a; fin_cases a <;> rfl
theorem stand_apply (q : FVec Ideal S64x1024 .bf16) (a b : Fin 1) (d : Fin 64) (r : Fin 1024) : k0_pay1 q (ix4 a b d r) = q (ix2 d r) := by
  pointwise [k0_pay1]
theorem values_lo (p : FVec Ideal S1024x256 .f32) (a b : Fin 1) (d : Fin 64) (r : Fin 1024) : k0_pay57 p (ix4 a b d r) = p (ix2 r (⟨128 + d.val, by omega⟩ : Fin 256)) := by
  pointwise [k0_pay57, k0_pay55]
theorem values_hi (p : FVec Ideal S1024x256 .f32) (a b : Fin 1) (d : Fin 64) (r : Fin 1024) : k0_pay1 (k0_pay59 p) (ix4 a b d r) = p (ix2 r (⟨192 + d.val, by omega⟩ : Fin 256)) := by
  rw [stand_apply]
  pointwise [k0_pay59, k0_pay55]
  exact congrArg (fun z : Fin 256 => p (ix2 r z)) (Fin.ext (by show 128 + (64 + d.val) = 192 + d.val; omega))
theorem ones_apply (a b : Fin 1) (d : Fin 16) (r : Fin 1024) : k0_pay58 (F := Ideal) (ix4 a b d r) = Ideal.ofBits .bf16 0x3F80#16 := by
  pointwise [k0_pay58, k0_pay56]
theorem ones_apply' (a b : Fin 1) (d : Fin 16) (r : Fin 1024) : k0_pay2 (k0_pay56 (F := Ideal)) (ix4 a b d r) = Ideal.ofBits .bf16 0x3F80#16 := by
  pointwise [k0_pay2, k0_pay56]
theorem vFn_pad (i : S1x2x80x1024.Idx) (h : ¬ (i 2 : Fin 80).val < 64) : vFn x w i = Ideal.ofBits .bf16 0x3F80#16 := dif_neg h
theorem vFn_at (a : Fin 1) (g : Fin 2) (d : Fin 80) (r : Fin 1024) (y : Fin 1280) (hd : d.val < 64) (hy : y.val = 640 + 64 * g.val + d.val) : vFn x w (ix4 a g d r) = plain x w r y := by
  have : y = ⟨640 + 64 * g.val + d.val, by omega⟩ := Fin.ext hy
  rw [this]
  exact dif_pos hd

theorem v_eq : vOut x w = vFn x w := by
  funext y
  have h0 : (y 0).val < 1 := (y 0).isLt
  have h1 : (y 1).val < 2 := (y 1).isLt
  have h2 : (y 2).val < 80 := (y 2).isLt
  have h3 : (y 3).val < 1024 := (y 3).isLt
  unfold vOut
  refine View.canon_apply_of_pieces (vFn x w) _ ?_ y ?_
  · simp only [List.forall_mem_cons]
    refine ⟨fun z => ?_, fun z => ?_, fun z => ?_, fun z => ?_, by simp⟩
    · rw [idx4 z]
      exact (ones_apply' _ _ _ _).trans (vFn_pad x w _ (by show ¬ 64 + 1 * (z 2).val < 64; omega)).symm
    · rw [idx4 z]
      have z0 : (z 0).val < 1 := (z 0).isLt
      have z1 : (z 1).val < 1 := (z 1).isLt
      have z2 : (z 2).val < 64 := (z 2).isLt
      refine (values_hi _ _ _ _ _).trans ((part_apply x w 512 _ _ _ (⟨704 + (z 2).val, by omega⟩ : Fin 1280) ?_).trans
        ((vFn_at x w (0 : Fin 1) (1 : Fin 2) (⟨(z 2).val, by omega⟩ : Fin 80) (z 3 : Fin 1024) _ z2 ?_).symm.trans (at4 (vFn x w) _ _ ?_ ?_ ?_ ?_)))
      · show 704 + (z 2).val = 512 + (192 + (z 2).val); omega
      · show 704 + (z 2).val = 640 + 64 * 1 + (z 2).val; omega
      · show 0 = 0 + 1 * (z 0).val; omega
      · show 1 = 1 + 1 * (z 1).val; omega
      · show (z 2).val = 0 + 1 * (z 2).val; omega
      · show (z 3).val = 0 + 1 * (z 3).val; omega
    · rw [idx4 z]
      exact (ones_apply _ _ _ _).trans (vFn_pad x w _ (by show ¬ 64 + 1 * (z 2).val < 64; omega)).symm
    · rw [idx4 z]
      have z0 : (z 0).val < 1 := (z 0).isLt
      have z1 : (z 1).val < 1 := (z 1).isLt
      have z2 : (z 2).val < 64 := (z 2).isLt
      refine (values_lo _ _ _ _ _).trans ((part_apply x w 512 _ _ _ (⟨640 + (z 2).val, by omega⟩ : Fin 1280) ?_).trans
        ((vFn_at x w (0 : Fin 1) (0 : Fin 2) (⟨(z 2).val, by omega⟩ : Fin 80) (z 3 : Fin 1024) _ z2 ?_).symm.trans (at4 (vFn x w) _ _ ?_ ?_ ?_ ?_)))
      · show 640 + (z 2).val = 512 + (128 + (z 2).val); omega
      · show 640 + (z 2).val = 640 + 64 * 0 + (z 2).val; omega
      · show 0 = 0 + 1 * (z 0).val; omega
      · show 0 = 0 + 1 * (z 1).val; omega
      · show (z 2).val = 0 + 1 * (z 2).val; omega
      · show (z 3).val = 0 + 1 * (z 3).val; omega
  · simp only [List.exists_mem_cons_iff, Rect.mem_set_unit, Fin.forall_fin_succ]
    simp
    omega

end Cert.Proof.ProjBlock

end
-- ==== Proof.ProjRef.lean ====
/-
  What the input projection's reference computes, row by row, over the extended reals.
-/
module

public import proofs.«01_k».proof.Proof.ProjBlock
public import proofs.«01_k».proof.Proof.Gen.ProjRefIdeal.Run

@[expose] public section

set_option maxRecDepth 16384

noncomputable section

namespace Cert.Proof.ProjRef

open Cert.ProjRefIdeal Cert.ProjRefIdeal.Gen Cert.ProjRefIdeal.Value Idealize.ShloMosaic Idealize.ShloMosaic.TcCoe
open Cert.Proof.MixMath (rms rms_real pull ofBits_1024)
open Cert.Proof.MixBlock (at2 at3)
open Cert.Proof.BlockValue (at4)
open Cert.Proof.ProjBlock (pRow headNorm turn headRow keyHead)

/-- Rows scaled to unit mean square, times their gains, through the weights. -/
def all (x : FVec Ideal S8x4096x1024 .f32) (g : FVec Ideal S1024 .f32) (w : FVec Ideal S1024x1280 .f32) : FVec Ideal S8x4096x1280 .f32 :=
  Host.dotGeneral dot_S8x4096x1024_S1024x1280_S8x4096x1280_2_0_01_1_n_n none
    (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))) w
/-- A table by row and a table by column, laid out by position. -/
def places (row col : FVec Ideal S64x16 .f32) : FVec Ideal S4096x2x16 .f32 :=
  concatenate S4096x2x16 1 [⟨S4096x1x16, broadcastInDim S4096x1x16 ![0, 2] bcast_S4096x16_S4096x1x16_0_2 (shapeCast S4096x16 (broadcastInDim S64x64x16 ![0, 1, 2] bcast_S64x1x16_S64x64x16_0_1_2 (broadcastInDim S64x1x16 ![0, 2] bcast_S64x16_S64x1x16_0_2 row) : FVec Ideal S64x64x16 .f32) shapeCasts_S64x64x16_S4096x16 : FVec Ideal S4096x16 .f32)⟩,
    ⟨S4096x1x16, broadcastInDim S4096x1x16 ![0, 2] bcast_S4096x16_S4096x1x16_0_2 (shapeCast S4096x16 (broadcastInDim S64x64x16 ![0, 1, 2] bcast_S1x64x16_S64x64x16_0_1_2 (broadcastInDim S1x64x16 ![1, 2] bcast_S64x16_S1x64x16_1_2 col) : FVec Ideal S64x64x16 .f32) shapeCasts_S64x64x16_S4096x16 : FVec Ideal S4096x16 .f32)⟩] concatenates_S4096x1x16_S4096x1x16_S4096x2x16_d1

/-! ## Eight heads -/

/-- Each head's lanes scaled to unit mean square, times the gains. -/
def normed8 (p : FVec Ideal S8x4096x8x64 .f32) (g : FVec Ideal S64 .f32) : FVec Ideal S8x4096x8x64 .f32 :=
  mulf (mulf p (broadcastInDim S8x4096x8x64 ![0, 1, 2, 3] bcast_S8x4096x8x1_S8x4096x8x64_0_1_2_3 (Host.rsqrt (addf (Host.divf (broadcastInDim S8x4096x8x1 ![0, 1, 2] bcast_S8x4096x8_S8x4096x8x1_0_1_2 (Host.reduceAdd (mulf p p) (constant S_ .f32 0x00000000#32) reducesTo_S8x4096x8x64_S8x4096x8_d3 h_S_)) (broadcastInDim S8x4096x8x1 ![] bcast_S_S8x4096x8x1 (constant S_ .f32 0x42800000#32))) (broadcastInDim S8x4096x8x1 ![] bcast_S_S8x4096x8x1 (constant S_ .f32 0x358637BD#32)))))) (broadcastInDim S8x4096x8x64 ![0, 1, 2, 3] bcast_S1x1x1x64_S8x4096x8x64_0_1_2_3 (broadcastInDim S1x1x1x64 ![3] bcast_S64_S1x1x1x64_3 g))
/-- The first and the second halves of each axis's lanes, and their union. -/
def first8 (n : FVec Ideal S8x4096x8x64 .f32) : FVec Ideal S8x4096x8x2x16 .f32 :=
  shapeCast S8x4096x8x2x16 (extractStridedSlice S8x4096x8x2x1x16 ![0, 0, 0, 0, 0, 0] (shapeCast S8x4096x8x2x2x16 n shapeCasts_S8x4096x8x64_S8x4096x8x2x2x16 : FVec Ideal S8x4096x8x2x2x16 .f32) slices_S8x4096x8x2x2x16_S8x4096x8x2x1x16_0_0_0_0_0_0 : FVec Ideal S8x4096x8x2x1x16 .f32) shapeCasts_S8x4096x8x2x1x16_S8x4096x8x2x16
def second8 (n : FVec Ideal S8x4096x8x64 .f32) : FVec Ideal S8x4096x8x2x16 .f32 :=
  shapeCast S8x4096x8x2x16 (extractStridedSlice S8x4096x8x2x1x16 ![0, 0, 0, 0, 1, 0] (shapeCast S8x4096x8x2x2x16 n shapeCasts_S8x4096x8x64_S8x4096x8x2x2x16 : FVec Ideal S8x4096x8x2x2x16 .f32) slices_S8x4096x8x2x2x16_S8x4096x8x2x1x16_0_0_0_0_1_0 : FVec Ideal S8x4096x8x2x1x16 .f32) shapeCasts_S8x4096x8x2x1x16_S8x4096x8x2x16
def union8 (u v : FVec Ideal S8x4096x8x2x16 .f32) : FVec Ideal S8x4096x8x64 .f32 :=
  shapeCast S8x4096x8x64 (concatenate S8x4096x8x2x2x16 4 [⟨S8x4096x8x2x1x16, (broadcastInDim S8x4096x8x2x1x16 ![0, 1, 2, 3, 5] bcast_S8x4096x8x2x16_S8x4096x8x2x1x16_0_1_2_3_5 u : FVec Ideal S8x4096x8x2x1x16 .f32)⟩, ⟨S8x4096x8x2x1x16, (broadcastInDim S8x4096x8x2x1x16 ![0, 1, 2, 3, 5] bcast_S8x4096x8x2x16_S8x4096x8x2x1x16_0_1_2_3_5 v : FVec Ideal S8x4096x8x2x1x16 .f32)⟩] concatenates_S8x4096x8x2x1x16_S8x4096x8x2x1x16_S8x4096x8x2x2x16_d4 : FVec Ideal S8x4096x8x2x2x16 .f32) shapeCasts_S8x4096x8x2x2x16_S8x4096x8x64
/-- A table by position at every batch and head. -/
def spread8 (c : FVec Ideal S4096x2x16 .f32) : FVec Ideal S8x4096x8x2x16 .f32 :=
  broadcastInDim S8x4096x8x2x16 ![0, 1, 2, 3, 4] bcast_S1x4096x1x2x16_S8x4096x8x2x16_0_1_2_3_4 (broadcastInDim S1x4096x1x2x16 ![1, 3, 4] bcast_S4096x2x16_S1x4096x1x2x16_1_3_4 c)
/-- The lanes turned by their positions. -/
def turned8 (n : FVec Ideal S8x4096x8x64 .f32) (c s : FVec Ideal S4096x2x16 .f32) : FVec Ideal S8x4096x8x64 .f32 :=
  union8 (subf (mulf (first8 n) (spread8 c)) (mulf (second8 n) (spread8 s))) (addf (mulf (first8 n) (spread8 s)) (mulf (second8 n) (spread8 c)))

theorem normed8_apply (p : FVec Ideal S8x4096x8x64 .f32) (g : FVec Ideal S64 .f32) (b : Fin 8) (s : Fin 4096) (h : Fin 8) (d : Fin 64) :
    normed8 p g (ix4 b s h d) = headNorm (fun d => p (ix4 b s h d)) (fun d => g (ix1 d)) d := by
  pointwise [normed8]
  rfl
theorem first8_apply (n : FVec Ideal S8x4096x8x64 .f32) (b : Fin 8) (s : Fin 4096) (h : Fin 8) (a : Fin 2) (j : Fin 16) :
    first8 n (ix5 b s h a j) = n (ix4 b s h (⟨32 * a.val + j.val, by omega⟩ : Fin 64)) := by
  unfold first8
  rw [shapeCast_apply _ _ _ (ix6 b s h a (0 : Fin 1) j) (by
    rw [Shape.rowMajor_val_five, Shape.rowMajor_val_six]
    show ((((b.val * 4096 + s.val) * 8 + h.val) * 2 + a.val) * 1 + 0) * 16 + j.val = (((b.val * 4096 + s.val) * 8 + h.val) * 2 + a.val) * 16 + j.val
    omega)]
  rw [show ∀ y : FVec Ideal S8x4096x8x2x2x16 .f32, extractStridedSlice S8x4096x8x2x1x16 ![0, 0, 0, 0, 0, 0] y slices_S8x4096x8x2x2x16_S8x4096x8x2x1x16_0_0_0_0_0_0 (ix6 b s h a (0 : Fin 1) j) = y (ix6 b s h a (0 : Fin 2) j) from fun y => by pointwise]
  rw [shapeCast_apply _ _ _ (ix4 b s h (⟨32 * a.val + j.val, by omega⟩ : Fin 64)) (by
    rw [Shape.rowMajor_val_four, Shape.rowMajor_val_six]
    show ((b.val * 4096 + s.val) * 8 + h.val) * 64 + (32 * a.val + j.val) = ((((b.val * 4096 + s.val) * 8 + h.val) * 2 + a.val) * 2 + 0) * 16 + j.val
    omega)]
theorem second8_apply (n : FVec Ideal S8x4096x8x64 .f32) (b : Fin 8) (s : Fin 4096) (h : Fin 8) (a : Fin 2) (j : Fin 16) :
    second8 n (ix5 b s h a j) = n (ix4 b s h (⟨32 * a.val + 16 + j.val, by omega⟩ : Fin 64)) := by
  unfold second8
  rw [shapeCast_apply _ _ _ (ix6 b s h a (0 : Fin 1) j) (by
    rw [Shape.rowMajor_val_five, Shape.rowMajor_val_six]
    show ((((b.val * 4096 + s.val) * 8 + h.val) * 2 + a.val) * 1 + 0) * 16 + j.val = (((b.val * 4096 + s.val) * 8 + h.val) * 2 + a.val) * 16 + j.val
    omega)]
  rw [show ∀ y : FVec Ideal S8x4096x8x2x2x16 .f32, extractStridedSlice S8x4096x8x2x1x16 ![0, 0, 0, 0, 1, 0] y slices_S8x4096x8x2x2x16_S8x4096x8x2x1x16_0_0_0_0_1_0 (ix6 b s h a (0 : Fin 1) j) = y (ix6 b s h a (1 : Fin 2) j) from fun y => by pointwise]
  rw [shapeCast_apply _ _ _ (ix4 b s h (⟨32 * a.val + 16 + j.val, by omega⟩ : Fin 64)) (by
    rw [Shape.rowMajor_val_four, Shape.rowMajor_val_six]
    show ((b.val * 4096 + s.val) * 8 + h.val) * 64 + (32 * a.val + 16 + j.val) = ((((b.val * 4096 + s.val) * 8 + h.val) * 2 + a.val) * 2 + 1) * 16 + j.val
    omega)]
theorem union8_apply (u v : FVec Ideal S8x4096x8x2x16 .f32) (b : Fin 8) (s : Fin 4096) (h : Fin 8) (d : Fin 64) :
    union8 u v (ix4 b s h d) = if d.val % 32 < 16 then u (ix5 b s h (⟨d.val / 32, by omega⟩ : Fin 2) (⟨d.val % 16, by omega⟩ : Fin 16)) else v (ix5 b s h (⟨d.val / 32, by omega⟩ : Fin 2) (⟨d.val % 16, by omega⟩ : Fin 16)) := by
  unfold union8
  rw [shapeCast_apply _ _ _ (ix6 b s h (⟨d.val / 32, by omega⟩ : Fin 2) (⟨d.val / 16 % 2, by omega⟩ : Fin 2) (⟨d.val % 16, by omega⟩ : Fin 16)) (by
    rw [Shape.rowMajor_val_four, Shape.rowMajor_val_six]
    show ((((b.val * 4096 + s.val) * 8 + h.val) * 2 + d.val / 32) * 2 + d.val / 16 % 2) * 16 + d.val % 16 = ((b.val * 4096 + s.val) * 8 + h.val) * 64 + d.val
    omega)]
  by_cases hd : d.val % 32 < 16
  · rw [if_pos hd, show (⟨d.val / 16 % 2, by omega⟩ : Fin 2) = 0 from Fin.ext (by show d.val / 16 % 2 = 0; omega)]
    pointwise
  · rw [if_neg hd, show (⟨d.val / 16 % 2, by omega⟩ : Fin 2) = 1 from Fin.ext (by show d.val / 16 % 2 = 1; omega)]
    pointwise
theorem spread8_apply (c : FVec Ideal S4096x2x16 .f32) (b : Fin 8) (s : Fin 4096) (h : Fin 8) (a : Fin 2) (j : Fin 16) : spread8 c (ix5 b s h a j) = c (ix3 s a j) := by
  pointwise [spread8]
theorem turned8_apply (n : FVec Ideal S8x4096x8x64 .f32) (c s : FVec Ideal S4096x2x16 .f32) (b : Fin 8) (t : Fin 4096) (h : Fin 8) (d : Fin 64) :
    turned8 n c s (ix4 b t h d) = turn (fun d => n (ix4 b t h d)) (fun a j => c (ix3 t a j)) (fun a j => s (ix3 t a j)) d := by
  unfold turned8 turn
  rw [union8_apply]
  have e : ∀ k : Fin 64, k.val = 32 * (d.val / 32) + d.val % 16 → n (ix4 b t h (⟨32 * (d.val / 32) + d.val % 16, by omega⟩ : Fin 64)) = n (ix4 b t h k) := fun k hk => congrArg (fun z : Fin 64 => n (ix4 b t h z)) (Fin.ext hk.symm)
  have e' : ∀ k : Fin 64, k.val = 32 * (d.val / 32) + 16 + d.val % 16 → n (ix4 b t h (⟨32 * (d.val / 32) + 16 + d.val % 16, by omega⟩ : Fin 64)) = n (ix4 b t h k) := fun k hk => congrArg (fun z : Fin 64 => n (ix4 b t h z)) (Fin.ext hk.symm)
  by_cases hd : d.val % 32 < 16
  · rw [if_pos hd, dif_pos hd]
    refine (show ∀ p q r w : FVec Ideal S8x4096x8x2x16 .f32, ∀ i, subf (mulf p q) (mulf r w) i = p i * q i - r i * w i from fun _ _ _ _ _ => rfl) _ _ _ _ _ |>.trans ?_
    rw [first8_apply, second8_apply, spread8_apply, spread8_apply]
    rw [e d (by omega), e' ⟨d.val + 16, by omega⟩ (by show d.val + 16 = _; omega)]
  · rw [if_neg hd, dif_neg hd]
    refine (show ∀ p q r w : FVec Ideal S8x4096x8x2x16 .f32, ∀ i, addf (mulf p q) (mulf r w) i = p i * q i + r i * w i from fun _ _ _ _ _ => rfl) _ _ _ _ _ |>.trans ?_
    rw [first8_apply, second8_apply, spread8_apply, spread8_apply]
    rw [e ⟨d.val - 16, by omega⟩ (by show d.val - 16 = _; omega), e' d (by omega)]

/-! ## Two heads -/

/-- Each head's lanes scaled to unit mean square, times the gains. -/
def normed2 (p : FVec Ideal S8x4096x2x64 .f32) (g : FVec Ideal S64 .f32) : FVec Ideal S8x4096x2x64 .f32 :=
  mulf (mulf p (broadcastInDim S8x4096x2x64 ![0, 1, 2, 3] bcast_S8x4096x2x1_S8x4096x2x64_0_1_2_3 (Host.rsqrt (addf (Host.divf (broadcastInDim S8x4096x2x1 ![0, 1, 2] bcast_S8x4096x2_S8x4096x2x1_0_1_2 (Host.reduceAdd (mulf p p) (constant S_ .f32 0x00000000#32) reducesTo_S8x4096x2x64_S8x4096x2_d3 h_S_)) (broadcastInDim S8x4096x2x1 ![] bcast_S_S8x4096x2x1 (constant S_ .f32 0x42800000#32))) (broadcastInDim S8x4096x2x1 ![] bcast_S_S8x4096x2x1 (constant S_ .f32 0x358637BD#32)))))) (broadcastInDim S8x4096x2x64 ![0, 1, 2, 3] bcast_S1x1x1x64_S8x4096x2x64_0_1_2_3 (broadcastInDim S1x1x1x64 ![3] bcast_S64_S1x1x1x64_3 g))
/-- The first and the second halves of each axis's lanes, and their union. -/
def first2 (n : FVec Ideal S8x4096x2x64 .f32) : FVec Ideal S8x4096x2x2x16 .f32 :=
  shapeCast S8x4096x2x2x16 (extractStridedSlice S8x4096x2x2x1x16 ![0, 0, 0, 0, 0, 0] (shapeCast S8x4096x2x2x2x16 n shapeCasts_S8x4096x2x64_S8x4096x2x2x2x16 : FVec Ideal S8x4096x2x2x2x16 .f32) slices_S8x4096x2x2x2x16_S8x4096x2x2x1x16_0_0_0_0_0_0 : FVec Ideal S8x4096x2x2x1x16 .f32) shapeCasts_S8x4096x2x2x1x16_S8x4096x2x2x16
def second2 (n : FVec Ideal S8x4096x2x64 .f32) : FVec Ideal S8x4096x2x2x16 .f32 :=
  shapeCast S8x4096x2x2x16 (extractStridedSlice S8x4096x2x2x1x16 ![0, 0, 0, 0, 1, 0] (shapeCast S8x4096x2x2x2x16 n shapeCasts_S8x4096x2x64_S8x4096x2x2x2x16 : FVec Ideal S8x4096x2x2x2x16 .f32) slices_S8x4096x2x2x2x16_S8x4096x2x2x1x16_0_0_0_0_1_0 : FVec Ideal S8x4096x2x2x1x16 .f32) shapeCasts_S8x4096x2x2x1x16_S8x4096x2x2x16
def union2 (u v : FVec Ideal S8x4096x2x2x16 .f32) : FVec Ideal S8x4096x2x64 .f32 :=
  shapeCast S8x4096x2x64 (concatenate S8x4096x2x2x2x16 4 [⟨S8x4096x2x2x1x16, (broadcastInDim S8x4096x2x2x1x16 ![0, 1, 2, 3, 5] bcast_S8x4096x2x2x16_S8x4096x2x2x1x16_0_1_2_3_5 u : FVec Ideal S8x4096x2x2x1x16 .f32)⟩, ⟨S8x4096x2x2x1x16, (broadcastInDim S8x4096x2x2x1x16 ![0, 1, 2, 3, 5] bcast_S8x4096x2x2x16_S8x4096x2x2x1x16_0_1_2_3_5 v : FVec Ideal S8x4096x2x2x1x16 .f32)⟩] concatenates_S8x4096x2x2x1x16_S8x4096x2x2x1x16_S8x4096x2x2x2x16_d4 : FVec Ideal S8x4096x2x2x2x16 .f32) shapeCasts_S8x4096x2x2x2x16_S8x4096x2x64
/-- A table by position at every batch and head. -/
def spread2 (c : FVec Ideal S4096x2x16 .f32) : FVec Ideal S8x4096x2x2x16 .f32 :=
  broadcastInDim S8x4096x2x2x16 ![0, 1, 2, 3, 4] bcast_S1x4096x1x2x16_S8x4096x2x2x16_0_1_2_3_4 (broadcastInDim S1x4096x1x2x16 ![1, 3, 4] bcast_S4096x2x16_S1x4096x1x2x16_1_3_4 c)
/-- The lanes turned by their positions. -/
def turned2 (n : FVec Ideal S8x4096x2x64 .f32) (c s : FVec Ideal S4096x2x16 .f32) : FVec Ideal S8x4096x2x64 .f32 :=
  union2 (subf (mulf (first2 n) (spread2 c)) (mulf (second2 n) (spread2 s))) (addf (mulf (first2 n) (spread2 s)) (mulf (second2 n) (spread2 c)))

theorem normed2_apply (p : FVec Ideal S8x4096x2x64 .f32) (g : FVec Ideal S64 .f32) (b : Fin 8) (s : Fin 4096) (h : Fin 2) (d : Fin 64) :
    normed2 p g (ix4 b s h d) = headNorm (fun d => p (ix4 b s h d)) (fun d => g (ix1 d)) d := by
  pointwise [normed2]
  rfl
theorem first2_apply (n : FVec Ideal S8x4096x2x64 .f32) (b : Fin 8) (s : Fin 4096) (h : Fin 2) (a : Fin 2) (j : Fin 16) :
    first2 n (ix5 b s h a j) = n (ix4 b s h (⟨32 * a.val + j.val, by omega⟩ : Fin 64)) := by
  unfold first2
  rw [shapeCast_apply _ _ _ (ix6 b s h a (0 : Fin 1) j) (by
    rw [Shape.rowMajor_val_five, Shape.rowMajor_val_six]
    show ((((b.val * 4096 + s.val) * 2 + h.val) * 2 + a.val) * 1 + 0) * 16 + j.val = (((b.val * 4096 + s.val) * 2 + h.val) * 2 + a.val) * 16 + j.val
    omega)]
  rw [show ∀ y : FVec Ideal S8x4096x2x2x2x16 .f32, extractStridedSlice S8x4096x2x2x1x16 ![0, 0, 0, 0, 0, 0] y slices_S8x4096x2x2x2x16_S8x4096x2x2x1x16_0_0_0_0_0_0 (ix6 b s h a (0 : Fin 1) j) = y (ix6 b s h a (0 : Fin 2) j) from fun y => by pointwise]
  rw [shapeCast_apply _ _ _ (ix4 b s h (⟨32 * a.val + j.val, by omega⟩ : Fin 64)) (by
    rw [Shape.rowMajor_val_four, Shape.rowMajor_val_six]
    show ((b.val * 4096 + s.val) * 2 + h.val) * 64 + (32 * a.val + j.val) = ((((b.val * 4096 + s.val) * 2 + h.val) * 2 + a.val) * 2 + 0) * 16 + j.val
    omega)]
theorem second2_apply (n : FVec Ideal S8x4096x2x64 .f32) (b : Fin 8) (s : Fin 4096) (h : Fin 2) (a : Fin 2) (j : Fin 16) :
    second2 n (ix5 b s h a j) = n (ix4 b s h (⟨32 * a.val + 16 + j.val, by omega⟩ : Fin 64)) := by
  unfold second2
  rw [shapeCast_apply _ _ _ (ix6 b s h a (0 : Fin 1) j) (by
    rw [Shape.rowMajor_val_five, Shape.rowMajor_val_six]
    show ((((b.val * 4096 + s.val) * 2 + h.val) * 2 + a.val) * 1 + 0) * 16 + j.val = (((b.val * 4096 + s.val) * 2 + h.val) * 2 + a.val) * 16 + j.val
    omega)]
  rw [show ∀ y : FVec Ideal S8x4096x2x2x2x16 .f32, extractStridedSlice S8x4096x2x2x1x16 ![0, 0, 0, 0, 1, 0] y slices_S8x4096x2x2x2x16_S8x4096x2x2x1x16_0_0_0_0_1_0 (ix6 b s h a (0 : Fin 1) j) = y (ix6 b s h a (1 : Fin 2) j) from fun y => by pointwise]
  rw [shapeCast_apply _ _ _ (ix4 b s h (⟨32 * a.val + 16 + j.val, by omega⟩ : Fin 64)) (by
    rw [Shape.rowMajor_val_four, Shape.rowMajor_val_six]
    show ((b.val * 4096 + s.val) * 2 + h.val) * 64 + (32 * a.val + 16 + j.val) = ((((b.val * 4096 + s.val) * 2 + h.val) * 2 + a.val) * 2 + 1) * 16 + j.val
    omega)]
theorem union2_apply (u v : FVec Ideal S8x4096x2x2x16 .f32) (b : Fin 8) (s : Fin 4096) (h : Fin 2) (d : Fin 64) :
    union2 u v (ix4 b s h d) = if d.val % 32 < 16 then u (ix5 b s h (⟨d.val / 32, by omega⟩ : Fin 2) (⟨d.val % 16, by omega⟩ : Fin 16)) else v (ix5 b s h (⟨d.val / 32, by omega⟩ : Fin 2) (⟨d.val % 16, by omega⟩ : Fin 16)) := by
  unfold union2
  rw [shapeCast_apply _ _ _ (ix6 b s h (⟨d.val / 32, by omega⟩ : Fin 2) (⟨d.val / 16 % 2, by omega⟩ : Fin 2) (⟨d.val % 16, by omega⟩ : Fin 16)) (by
    rw [Shape.rowMajor_val_four, Shape.rowMajor_val_six]
    show ((((b.val * 4096 + s.val) * 2 + h.val) * 2 + d.val / 32) * 2 + d.val / 16 % 2) * 16 + d.val % 16 = ((b.val * 4096 + s.val) * 2 + h.val) * 64 + d.val
    omega)]
  by_cases hd : d.val % 32 < 16
  · rw [if_pos hd, show (⟨d.val / 16 % 2, by omega⟩ : Fin 2) = 0 from Fin.ext (by show d.val / 16 % 2 = 0; omega)]
    pointwise
  · rw [if_neg hd, show (⟨d.val / 16 % 2, by omega⟩ : Fin 2) = 1 from Fin.ext (by show d.val / 16 % 2 = 1; omega)]
    pointwise
theorem spread2_apply (c : FVec Ideal S4096x2x16 .f32) (b : Fin 8) (s : Fin 4096) (h : Fin 2) (a : Fin 2) (j : Fin 16) : spread2 c (ix5 b s h a j) = c (ix3 s a j) := by
  pointwise [spread2]
theorem turned2_apply (n : FVec Ideal S8x4096x2x64 .f32) (c s : FVec Ideal S4096x2x16 .f32) (b : Fin 8) (t : Fin 4096) (h : Fin 2) (d : Fin 64) :
    turned2 n c s (ix4 b t h d) = turn (fun d => n (ix4 b t h d)) (fun a j => c (ix3 t a j)) (fun a j => s (ix3 t a j)) d := by
  unfold turned2 turn
  rw [union2_apply]
  have e : ∀ k : Fin 64, k.val = 32 * (d.val / 32) + d.val % 16 → n (ix4 b t h (⟨32 * (d.val / 32) + d.val % 16, by omega⟩ : Fin 64)) = n (ix4 b t h k) := fun k hk => congrArg (fun z : Fin 64 => n (ix4 b t h z)) (Fin.ext hk.symm)
  have e' : ∀ k : Fin 64, k.val = 32 * (d.val / 32) + 16 + d.val % 16 → n (ix4 b t h (⟨32 * (d.val / 32) + 16 + d.val % 16, by omega⟩ : Fin 64)) = n (ix4 b t h k) := fun k hk => congrArg (fun z : Fin 64 => n (ix4 b t h z)) (Fin.ext hk.symm)
  by_cases hd : d.val % 32 < 16
  · rw [if_pos hd, dif_pos hd]
    refine (show ∀ p q r w : FVec Ideal S8x4096x2x2x16 .f32, ∀ i, subf (mulf p q) (mulf r w) i = p i * q i - r i * w i from fun _ _ _ _ _ => rfl) _ _ _ _ _ |>.trans ?_
    rw [first2_apply, second2_apply, spread2_apply, spread2_apply]
    rw [e d (by omega), e' ⟨d.val + 16, by omega⟩ (by show d.val + 16 = _; omega)]
  · rw [if_neg hd, dif_neg hd]
    refine (show ∀ p q r w : FVec Ideal S8x4096x2x2x16 .f32, ∀ i, addf (mulf p q) (mulf r w) i = p i * q i + r i * w i from fun _ _ _ _ _ => rfl) _ _ _ _ _ |>.trans ?_
    rw [first2_apply, second2_apply, spread2_apply, spread2_apply]
    rw [e ⟨d.val - 16, by omega⟩ (by show d.val - 16 = _; omega), e' d (by omega)]

/-! ## The four results -/

section Results
variable (x : FVec Ideal S8x4096x1024 .f32) (g : FVec Ideal S1024 .f32) (w : FVec Ideal S1024x1280 .f32) (gq gk : FVec Ideal S64 .f32) (cr sr cc sc : FVec Ideal S64x16 .f32)

/-- The queries' and the keys' heads. -/
def queries (p : FVec Ideal S8x4096x1280 .f32) : FVec Ideal S8x4096x8x64 .f32 := shapeCast S8x4096x8x64 (extractStridedSlice S8x4096x512 ![0, 0, 0] p slices_S8x4096x1280_S8x4096x512_0_0_0 : FVec Ideal S8x4096x512 .f32) shapeCasts_S8x4096x512_S8x4096x8x64
def keys (p : FVec Ideal S8x4096x1280 .f32) : FVec Ideal S8x4096x2x64 .f32 := shapeCast S8x4096x2x64 (extractStridedSlice S8x4096x128 ![0, 0, 512] p slices_S8x4096x1280_S8x4096x128_0_0_512 : FVec Ideal S8x4096x128 .f32) shapeCasts_S8x4096x128_S8x4096x2x64
/-- The keys' heads, then swapped. -/
def swapped (k : FVec Ideal S8x4096x2x64 .f32) : FVec Ideal S8x4096x4x64 .f32 :=
  concatenate S8x4096x4x64 2 [⟨S8x4096x2x64, k⟩, ⟨S8x4096x1x64, (extractStridedSlice S8x4096x1x64 ![0, 0, 1, 0] k slices_S8x4096x2x64_S8x4096x1x64_0_0_1_0 : FVec Ideal S8x4096x1x64 .f32)⟩, ⟨S8x4096x1x64, (extractStridedSlice S8x4096x1x64 ![0, 0, 0, 0] k slices_S8x4096x2x64_S8x4096x1x64_0_0_0_0 : FVec Ideal S8x4096x1x64 .f32)⟩] concatenates_S8x4096x2x64_S8x4096x1x64_S8x4096x1x64_S8x4096x4x64_d2

def qWhole : FVec Ideal S32768x512 .f32 := shapeCast S32768x512 (turned8 (normed8 (queries (all x g w)) gq) (places cr cc) (places sr sc)) shapeCasts_S8x4096x8x64_S32768x512
def kWhole : FVec Ideal S32768x256 .bf16 := truncf .bf16 (shapeCast S32768x256 (swapped (turned2 (normed2 (keys (all x g w)) gk) (places cr cc) (places sr sc))) shapeCasts_S8x4096x4x64_S32768x256 : FVec Ideal S32768x256 .f32) bitsLt_bf16_f32
def vWhole : FVec Ideal S8x2x80x4096 .bf16 :=
  truncf .bf16 (concatenate S8x2x80x4096 2 [⟨S8x2x64x4096, (transpose S8x2x64x4096 [0, 2, 3, 1] (shapeCast S8x4096x2x64 (extractStridedSlice S8x4096x128 ![0, 0, 640] (all x g w) slices_S8x4096x1280_S8x4096x128_0_0_640 : FVec Ideal S8x4096x128 .f32) shapeCasts_S8x4096x128_S8x4096x2x64 : FVec Ideal S8x4096x2x64 .f32) transposes_S8x4096x2x64_S8x2x64x4096_0_2_3_1 : FVec Ideal S8x2x64x4096 .f32)⟩, ⟨S8x2x16x4096, (broadcastInDim S8x2x16x4096 ![] bcast_S_S8x2x16x4096 (constant S_ .f32 0x3F800000#32) : FVec Ideal S8x2x16x4096 .f32)⟩] concatenates_S8x2x64x4096_S8x2x16x4096_S8x2x80x4096_d2 : FVec Ideal S8x2x80x4096 .f32) bitsLt_bf16_f32
def uWhole : FVec Ideal S32768x512 .f32 := shapeCast S32768x512 (extractStridedSlice S8x4096x512 ![0, 0, 768] (all x g w) slices_S8x4096x1280_S8x4096x512_0_0_768 : FVec Ideal S8x4096x512 .f32) shapeCasts_S8x4096x512_S32768x512
end Results

section Named
variable (m : (ℓ : Loc nD τ sig) → Buf (Elt Ideal) ℓ) (c : Dev nD)

theorem q_eq : res_main_v113 m c = qWhole (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg5)) (m ((c.tc : Thread nD τ).loc main_arg6)) (m ((c.tc : Thread nD τ).loc main_arg7)) (m ((c.tc : Thread nD τ).loc main_arg8)) := by
  unfold res_main_v113
  rfl
theorem k_eq : res_main_v115 m c = kWhole (m ((c.tc : Thread nD τ).loc main_arg0)) (m ((c.tc : Thread nD τ).loc main_arg1)) (m ((c.tc : Thread nD τ).loc main_arg2)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8)) := by
  unfold res_main_v115
  rfl
end Named

/-! ## Read at an index -/

theorem all_apply (x : FVec Ideal S8x4096x1024 .f32) (g : FVec Ideal S1024 .f32) (w : FVec Ideal S1024x1280 .f32) (b : Fin 8) (s : Fin 4096) (y : Fin 1280) :
    all x g w (ix3 b s y) = pRow (fun k => x (ix3 b s k)) (fun k => w (ix2 k y) * g (ix1 k)) := by
  unfold pRow
  rw [← pull (fun k => x (ix3 b s k)) (fun k => g (ix1 k)) (fun k => w (ix2 k y)) _ (rms_real 0x44800000#32 1024 (by norm_num) ofBits_1024 _)]
  pointwise [all]
  rfl

/-- A position's angles' table: by its row for the first axis, by its column for the second. -/
def angle (row col : FVec Ideal S64x16 .f32) (s : Fin 4096) (a : Fin 2) (j : Fin 16) : EReal :=
  if a.val = 0 then row (ix2 (⟨s.val / 64, by omega⟩ : Fin 64) j) else col (ix2 (⟨s.val % 64, by omega⟩ : Fin 64) j)
theorem places_apply (row col : FVec Ideal S64x16 .f32) (s : Fin 4096) (a : Fin 2) (j : Fin 16) : places row col (ix3 s a j) = angle row col s a j := by
  unfold angle
  fin_cases a
  · pointwise [places]
  · pointwise [places]

theorem queries_apply (p : FVec Ideal S8x4096x1280 .f32) (b : Fin 8) (s : Fin 4096) (h : Fin 8) (d : Fin 64) : queries p (ix4 b s h d) = p (ix3 b s (⟨64 * h.val + d.val, by omega⟩ : Fin 1280)) := by
  unfold queries
  rw [shapeCast_apply _ _ _ (ix3 b s (⟨64 * h.val + d.val, by omega⟩ : Fin 512)) (by
    rw [Shape.rowMajor_val_three, Shape.rowMajor_val_four]
    show (b.val * 4096 + s.val) * 512 + (64 * h.val + d.val) = ((b.val * 4096 + s.val) * 8 + h.val) * 64 + d.val
    omega)]
  exact at3 p _ _ (by show 0 + b.val = b.val; omega) (by show 0 + s.val = s.val; omega) (by show 0 + (64 * h.val + d.val) = 64 * h.val + d.val; omega)
theorem pairs_apply (o : ℕ) (hs : S8x4096x1280.Slices ![0, 0, o] S8x4096x128) (p : FVec Ideal S8x4096x1280 .f32) (b : Fin 8) (s : Fin 4096) (h : Fin 2) (d : Fin 64) (z : Fin 1280) (hz : z.val = o + (64 * h.val + d.val)) :
    (shapeCast S8x4096x2x64 (extractStridedSlice S8x4096x128 ![0, 0, o] p hs : FVec Ideal S8x4096x128 .f32) shapeCasts_S8x4096x128_S8x4096x2x64 : FVec Ideal S8x4096x2x64 .f32) (ix4 b s h d) = p (ix3 b s z) := by
  rw [shapeCast_apply _ _ _ (ix3 b s (⟨64 * h.val + d.val, by omega⟩ : Fin 128)) (by
    rw [Shape.rowMajor_val_three, Shape.rowMajor_val_four]
    show (b.val * 4096 + s.val) * 128 + (64 * h.val + d.val) = ((b.val * 4096 + s.val) * 2 + h.val) * 64 + d.val
    omega)]
  exact at3 p _ _ (by show 0 + b.val = b.val; omega) (by show 0 + s.val = s.val; omega) (by show o + (64 * h.val + d.val) = z.val; omega)
theorem swapped_apply (k : FVec Ideal S8x4096x2x64 .f32) (b : Fin 8) (s : Fin 4096) (g : Fin 4) (d : Fin 64) : swapped k (ix4 b s g d) = k (ix4 b s ((![0, 1, 1, 0] : Fin 4 → Fin 2) g) d) := by
  fin_cases g
  · pointwise [swapped]
  · pointwise [swapped]
  · pointwise [swapped]
  · pointwise [swapped]

theorem one_bits : Ideal.ofBits .f32 0x3F800000#32 = Ideal.ofBits .bf16 0x3F80#16 := by
  simp [Ideal.ofBits, Ideal.ieee]
  rw [← EReal.coe_mul, ← EReal.coe_mul]
  norm_num

/-- Rows of sixty-four over rows of sixteen. -/
theorem over_apply (p : FVec Ideal S8x4096x2x64 .f32) (o : FVec Ideal S8x2x16x4096 .f32) (b : Fin 8) (q : Fin 2) (d : Fin 80) (s : Fin 4096) :
    (truncf .bf16 (concatenate S8x2x80x4096 2 [⟨S8x2x64x4096, (transpose S8x2x64x4096 [0, 2, 3, 1] p transposes_S8x4096x2x64_S8x2x64x4096_0_2_3_1 : FVec Ideal S8x2x64x4096 .f32)⟩, ⟨S8x2x16x4096, o⟩] concatenates_S8x2x64x4096_S8x2x16x4096_S8x2x80x4096_d2 : FVec Ideal S8x2x80x4096 .f32) bitsLt_bf16_f32 : FVec Ideal S8x2x80x4096 .bf16) (ix4 b q d s)
      = if h : d.val < 64 then p (ix4 b s q (⟨d.val, h⟩ : Fin 64)) else o (ix4 b q (⟨d.val - 64, by omega⟩ : Fin 16) s) := by
  pointwise

theorem last_apply (p : FVec Ideal S8x4096x1280 .f32) (b : Fin 8) (s : Fin 4096) (y : Fin 512) :
    extractStridedSlice S8x4096x512 ![0, 0, 768] p slices_S8x4096x1280_S8x4096x512_0_0_768 (ix3 b s y) = p (ix3 b s (⟨768 + y.val, by omega⟩ : Fin 1280)) :=
  at3 p _ _ (by show 0 + b.val = b.val; omega) (by show 0 + s.val = s.val; omega) rfl
theorem keyHead_val : ∀ h : Fin 4, (keyHead h.val).val = 8 + ((![0, 1, 1, 0] : Fin 4 → Fin 2) h).val := by decide

/-- The gains of the queries' heads, and of the keys'. -/
def QueryGains (G : Fin 640 → EReal) (gq : FVec Ideal S64 .f32) : Prop := ∀ (h : Fin 10) (d : Fin 64), h.val < 8 → G ⟨64 * h.val + d.val, by omega⟩ = gq (ix1 d)
def KeyGains (G : Fin 640 → EReal) (gk : FVec Ideal S64 .f32) : Prop := ∀ (h : Fin 10) (d : Fin 64), 8 ≤ h.val → G ⟨64 * h.val + d.val, by omega⟩ = gk (ix1 d)

section Whole
variable (x : FVec Ideal S8x4096x1024 .f32) (g : FVec Ideal S1024 .f32) (w : FVec Ideal S1024x1280 .f32) (gq gk : FVec Ideal S64 .f32) (cr sr cc sc : FVec Ideal S64x16 .f32)
  (W : Fin 1024 → Fin 1280 → EReal) (hW : ∀ k y, W k y = w (ix2 k y) * g (ix1 k)) (G : Fin 640 → EReal)
  (hq : QueryGains G gq) (hk : KeyGains G gk)
  (b : Fin 8) (s : Fin 4096) (r : Fin 32768) (hr : r.val = 4096 * b.val + s.val)

include hW in
theorem all_row (y : Fin 1280) : all x g w (ix3 b s y) = pRow (fun k => x (ix3 b s k)) (fun k => W k y) := by
  rw [all_apply]
  simp only [hW]

include hW hq hr in
theorem qWhole_apply (y : Fin 512) : qWhole x g w gq cr sr cc sc (ix2 r y)
    = turn (headRow (fun k => x (ix3 b s k)) W G ⟨y.val / 64, by omega⟩) (angle cr cc s) (angle sr sc s) ⟨y.val % 64, by omega⟩ := by
  unfold qWhole
  rw [shapeCast_apply _ _ _ (ix4 b s (⟨y.val / 64, by omega⟩ : Fin 8) (⟨y.val % 64, by omega⟩ : Fin 64)) (by
    rw [Shape.rowMajor_val_two, Shape.rowMajor_val_four]
    show ((b.val * 4096 + s.val) * 8 + y.val / 64) * 64 + y.val % 64 = r.val * 512 + y.val
    omega)]
  rw [turned8_apply]
  simp only [places_apply, normed8_apply, queries_apply, all_row x g w W hW b s]
  have e : (fun d : Fin 64 => gq (ix1 d)) = fun d => G ⟨64 * (y.val / 64) + d.val, by omega⟩ := funext fun d => (hq ⟨y.val / 64, by omega⟩ d (by show y.val / 64 < 8; omega)).symm
  rw [e]
  rfl

include hW hk hr in
theorem kWhole_apply (y : Fin 256) : kWhole x g w gk cr sr cc sc (ix2 r y)
    = turn (headRow (fun k => x (ix3 b s k)) W G (keyHead (y.val / 64))) (angle cr cc s) (angle sr sc s) ⟨y.val % 64, by omega⟩ := by
  unfold kWhole
  refine (show ∀ z : FVec Ideal S32768x256 .f32, (truncf .bf16 z bitsLt_bf16_f32 : FVec Ideal S32768x256 .bf16) (ix2 r y) = z (ix2 r y) from fun z => rfl) _ |>.trans ?_
  rw [shapeCast_apply _ _ _ (ix4 b s (⟨y.val / 64, by omega⟩ : Fin 4) (⟨y.val % 64, by omega⟩ : Fin 64)) (by
    rw [Shape.rowMajor_val_two, Shape.rowMajor_val_four]
    show ((b.val * 4096 + s.val) * 4 + y.val / 64) * 64 + y.val % 64 = r.val * 256 + y.val
    omega)]
  rw [swapped_apply, turned2_apply]
  have e' := keyHead_val ⟨y.val / 64, by omega⟩
  simp only [places_apply, normed2_apply]
  generalize (![0, 1, 1, 0] : Fin 4 → Fin 2) ⟨y.val / 64, by omega⟩ = h at e' ⊢
  rw [show keyHead (y.val / 64) = ⟨8 + h.val, by omega⟩ from Fin.ext e']
  have e0 : (fun d : Fin 64 => keys (all x g w) (ix4 b s h d)) = fun d => pRow (fun k => x (ix3 b s k)) (fun k => W k ⟨64 * (8 + h.val) + d.val, by omega⟩) := funext fun d =>
    (pairs_apply 512 _ (all x g w) b s h d (⟨64 * (8 + h.val) + d.val, by omega⟩ : Fin 1280) (by show 64 * (8 + h.val) + d.val = 512 + (64 * h.val + d.val); omega)).trans (all_row x g w W hW b s _)
  have e1 : (fun d : Fin 64 => gk (ix1 d)) = fun d => G ⟨64 * (8 + h.val) + d.val, by omega⟩ := funext fun d => (hk ⟨8 + h.val, by omega⟩ d (by show 8 ≤ 8 + h.val; omega)).symm
  rw [e0, e1]
  rfl

include hW in
theorem vWhole_apply (q : Fin 2) (d : Fin 80) : vWhole x g w (ix4 b q d s)
    = if h : d.val < 64 then pRow (fun k => x (ix3 b s k)) (fun k => W k ⟨640 + 64 * q.val + d.val, by omega⟩) else Ideal.ofBits .bf16 0x3F80#16 := by
  unfold vWhole
  refine (over_apply _ _ b q d s).trans ?_
  by_cases h : d.val < 64
  · rw [dif_pos h, dif_pos h]
    exact (pairs_apply 640 _ (all x g w) b s q _ (⟨640 + 64 * q.val + d.val, by omega⟩ : Fin 1280) (by show 640 + 64 * q.val + d.val = 640 + (64 * q.val + d.val); omega)).trans (all_row x g w W hW b s _)
  · rw [dif_neg h, dif_neg h]
    exact one_bits

include hW hr in
theorem uWhole_apply (y : Fin 512) : uWhole x g w (ix2 r y) = pRow (fun k => x (ix3 b s k)) (fun k => W k ⟨768 + y.val, by omega⟩) := by
  unfold uWhole
  rw [shapeCast_apply _ _ _ (ix3 b s y) (by
    rw [Shape.rowMajor_val_two, Shape.rowMajor_val_three]
    show (b.val * 4096 + s.val) * 512 + y.val = r.val * 512 + y.val
    omega)]
  exact (last_apply (all x g w) b s y).trans (all_row x g w W hW b s _)
end Whole

end Cert.Proof.ProjRef

end
-- ==== Proof.ProjHost.lean ====
/-
  The arrays that the input projection's windows run over, as the host code before the call lays them out.
-/
module

public import proofs.«01_k».proof.Proof.ProjRef
public import proofs.«01_k».proof.Proof.Gen.ProjIdeal.Frame
public import Idealize.ShloMosaic.Lib.Pointwise
public import Idealize.ShloMosaic.Lib.StableHlo.Run

@[expose] public section

set_option maxRecDepth 16384

noncomputable section

namespace Cert.Proof.ProjHost

open Cert.ProjIdeal Cert.ProjIdeal.Gen Idealize.ShloMosaic Idealize.ShloMosaic.TcCoe Idealize.SL.Sem Idealize.ShloMosaic.StableHlo
open Cert.Proof.MixBlock (at2 at3)

/-- The weights with the gains on their rows. -/
def weights (w : FVec Ideal S1024x1280 .f32) (g : FVec Ideal S1024 .f32) : FVec Ideal S1024x1280 .bf16 :=
  truncf .bf16 (mulf (broadcastInDim S1024x1280 ![0, 1] bcast_S1024x1_S1024x1280_0_1 (broadcastInDim S1024x1 ![0] bcast_S1024_S1024x1_0 g)) w) bitsLt_bf16_f32
/-- Each head's gains one after another. -/
def gains (gq gk : FVec Ideal S64 .f32) : FVec Ideal S1x640 .f32 :=
  shapeCast S1x640 (concatenate S640 0 [⟨S512, (shapeCast S512 (broadcastInDim S8x64 ![0, 1] bcast_S1x64_S8x64_0_1 (shapeCast S1x64 gq shapeCasts_S64_S1x64 : FVec Ideal S1x64 .f32) : FVec Ideal S8x64 .f32) shapeCasts_S8x64_S512 : FVec Ideal S512 .f32)⟩,
    ⟨S128, (shapeCast S128 (broadcastInDim S2x64 ![0, 1] bcast_S1x64_S2x64_0_1 (shapeCast S1x64 gk shapeCasts_S64_S1x64 : FVec Ideal S1x64 .f32) : FVec Ideal S2x64 .f32) shapeCasts_S2x64_S128 : FVec Ideal S128 .f32)⟩] concatenates_S512_S128_S640_d0 : FVec Ideal S640 .f32) shapeCasts_S640_S1x640
/-- Each lane's head. -/
def heads : IVec S256 32 := shapeCast S256 (iotaInDim S4x64 32 0) shapeCasts_S4x64_S256
/-- Where two lanes' heads are one. -/
def marks : FVec Ideal S256x256 .bf16 :=
  uitofp .bf16 (cmpi .eq (broadcastInDim S256x256 ![0, 1] bcast_S256x1_S256x256_0_1 (broadcastInDim S256x1 ![0] bcast_S256_S256x1_0 heads)) (broadcastInDim S256x256 ![0, 1] bcast_S1x256_S256x256_0_1 (broadcastInDim S1x256 ![1] bcast_S256_S1x256_1 heads)))
/-- Lanes of zeros; a table before them and after them, twice over. -/
def zeros : FVec Ideal S64x32 .f32 := broadcastInDim S64x32 ![] bcast_S_S64x32 (constant S_ .f32 0x00000000#32)
def before (a b : FVec Ideal S64x16 .f32) : FVec Ideal S64x64 .f32 := concatenate S64x64 1 [⟨S64x16, a⟩, ⟨S64x16, b⟩, ⟨S64x32, zeros⟩] concatenates_S64x16_S64x16_S64x32_S64x64_d1
def behind (a b : FVec Ideal S64x16 .f32) : FVec Ideal S64x64 .f32 := concatenate S64x64 1 [⟨S64x32, zeros⟩, ⟨S64x16, a⟩, ⟨S64x16, b⟩] concatenates_S64x32_S64x16_S64x16_S64x64_d1
def twice (a : FVec Ideal S64x64 .f32) : FVec Ideal S64x128 .f32 := concatenate S64x128 1 [⟨S64x64, a⟩, ⟨S64x64, a⟩] concatenates_S64x64_S64x64_S64x128_d1

section Named
variable (m : (ℓ : Loc nD τ sig) → Buf (Elt Ideal) ℓ) (c : Dev nD)

theorem V_v0 : V m c main_v0 = (shapeCast S32768x1024 (m ((c : Thread nD τ).loc main_arg0)) shapeCasts_S8x4096x1024_S32768x1024 : FVec Ideal S32768x1024 .f32) := by
  unfold V; simp only [hostOps0]
  after_results
  rfl
theorem V_v4 : V m c main_v4 = weights (m ((c : Thread nD τ).loc main_arg2)) (m ((c : Thread nD τ).loc main_arg1)) := by
  unfold V; simp only [hostOps0]
  after_results
  rfl
theorem V_v12 : V m c main_v12 = gains (m ((c : Thread nD τ).loc main_arg3)) (m ((c : Thread nD τ).loc main_arg4)) := by
  unfold V; simp only [hostOps0]
  after_results
  rfl
theorem V_v20 : V m c main_v20 = marks := by
  unfold V; simp only [hostOps0]
  after_results
  rfl
theorem V_v28 : V m c main_v28 = twice (before (m ((c : Thread nD τ).loc main_arg5)) (m ((c : Thread nD τ).loc main_arg5))) := by
  unfold V; simp only [hostOps0]
  after_results
  rfl
theorem V_v29 : V m c main_v29 = twice (before (Host.negf (m ((c : Thread nD τ).loc main_arg6) : FVec Ideal S64x16 .f32)) (m ((c : Thread nD τ).loc main_arg6))) := by
  unfold V; simp only [hostOps0]
  after_results
  rfl
theorem V_v30 : V m c main_v30 = twice (behind (m ((c : Thread nD τ).loc main_arg7)) (m ((c : Thread nD τ).loc main_arg7))) := by
  unfold V; simp only [hostOps0]
  after_results
  rfl
theorem V_v31 : V m c main_v31 = twice (behind (Host.negf (m ((c : Thread nD τ).loc main_arg8) : FVec Ideal S64x16 .f32)) (m ((c : Thread nD τ).loc main_arg8))) := by
  unfold V; simp only [hostOps0]
  after_results
  rfl
end Named

/-! ## Read at an index -/

theorem rows_apply (x : FVec Ideal S8x4096x1024 .f32) (r : Fin 32768) (e : Fin 1024) (b : Fin 8) (s : Fin 4096) (h : r.val = 4096 * b.val + s.val) :
    (shapeCast S32768x1024 x shapeCasts_S8x4096x1024_S32768x1024 : FVec Ideal S32768x1024 .f32) (ix2 r e) = x (ix3 b s e) := by
  rw [shapeCast_apply _ _ _ (ix3 b s e) (by
    rw [Shape.rowMajor_val_two, Shape.rowMajor_val_three]
    show (b.val * 4096 + s.val) * 1024 + e.val = r.val * 1024 + e.val
    omega)]
theorem weights_apply (w : FVec Ideal S1024x1280 .f32) (g : FVec Ideal S1024 .f32) (k : Fin 1024) (y : Fin 1280) : weights w g (ix2 k y) = w (ix2 k y) * g (ix1 k) := by
  rw [mul_comm]
  pointwise [weights]
theorem heads_apply (l : Fin 256) : heads (ix1 l) = BitVec.ofNat 32 (l.val / 64) := by
  unfold heads
  rw [shapeCast_apply _ _ _ (ix2 (⟨l.val / 64, by omega⟩ : Fin 4) (⟨l.val % 64, by omega⟩ : Fin 64)) (by
    rw [Shape.rowMajor_val_one, Shape.rowMajor_val_two]
    show l.val / 64 * 64 + l.val % 64 = l.val
    omega)]
  rfl
theorem marks_apply : ProjBlock.Marks marks := by
  intro l y
  pointwise [marks, heads_apply]
  by_cases h : l.val / 64 = y.val / 64
  · rw [if_pos h, h]
    simp [IntOp.cmpi]
    show (((1#1 : BitVec 1).toNat : ℝ) : EReal) = 1
    simp
  · rw [if_neg h]
    have : BitVec.ofNat 32 (l.val / 64) ≠ BitVec.ofNat 32 (y.val / 64) := fun e => h (by
      have := congrArg BitVec.toNat e
      simp at this
      omega)
    rw [show IntOp.cmpi .eq (BitVec.ofNat 32 (l.val / 64)) (BitVec.ofNat 32 (y.val / 64)) = 0#1 from
      congrArg BitVec.ofBool (beq_eq_false_iff_ne.2 this)]
    show (((0#1 : BitVec 1).toNat : ℝ) : EReal) = 0
    simp

theorem gains_apply (gq gk : FVec Ideal S64 .f32) (r : Fin 1) (y : Fin 640) : gains gq gk (ix2 r y) = if y.val < 512 then gq (ix1 (⟨y.val % 64, by omega⟩ : Fin 64)) else gk (ix1 (⟨y.val % 64, by omega⟩ : Fin 64)) := by
  pointwise [gains]
  by_cases h : y.val < 512
  · rw [dif_pos h, if_pos h]
  · rw [dif_neg h, if_neg h]
    exact congrArg (fun z : Fin 64 => gk (ix1 z)) (Fin.ext (by show (y.val - 512) % 64 = y.val % 64; omega))

/-- Two reads of a row of sixteen agree at equal lanes. -/
theorem at_lane (a : FVec Ideal S64x16 .f32) (h : Fin 64) (x y : Fin 16) (e : x.val = y.val) : a (ix2 h x) = a (ix2 h y) := by
  rw [Fin.ext e]

/-- The table of a lane: for the first axis's lanes, and for the second's. -/
theorem before_apply (a b : FVec Ideal S64x16 .f32) (h : Fin 64) (l : Fin 128) :
    twice (before a b) (ix2 h l) = if l.val % 64 < 32 then (if l.val % 32 < 16 then a (ix2 h (⟨l.val % 16, by omega⟩ : Fin 16)) else b (ix2 h (⟨l.val % 16, by omega⟩ : Fin 16))) else 0 := by
  pointwise [twice, before, zeros]
  by_cases e1 : l.val % 64 < 32 <;> by_cases e2 : l.val % 32 < 16 <;> simp only [e1, e2, if_true, if_false] <;> split_ifs <;> first
    | rfl
    | omega
    | (apply at_lane; dsimp only; omega)
theorem behind_apply (a b : FVec Ideal S64x16 .f32) (h : Fin 64) (l : Fin 128) :
    twice (behind a b) (ix2 h l) = if l.val % 64 < 32 then 0 else (if l.val % 32 < 16 then a (ix2 h (⟨l.val % 16, by omega⟩ : Fin 16)) else b (ix2 h (⟨l.val % 16, by omega⟩ : Fin 16))) := by
  pointwise [twice, behind, zeros]
  by_cases e1 : l.val % 64 < 32 <;> by_cases e2 : l.val % 32 < 16 <;> simp only [e1, e2, if_true, if_false] <;> split_ifs <;> first
    | rfl
    | omega
    | (apply at_lane; dsimp only; omega)

end Cert.Proof.ProjHost

end
-- ==== Proof.ProjResults.lean ====
/-
  What the input projection's call leaves in its four results, against the reference's.
-/
module

public import proofs.«01_k».proof.Proof.ProjHost
public import proofs.«01_k».proof.Proof.ProjRef
public import proofs.«01_k».proof.Proof.Gen.ProjIdeal.Value

@[expose] public section

set_option maxRecDepth 16384

noncomputable section

namespace Cert.Proof.ProjResults

open Cert.ProjIdeal Cert.ProjIdeal.Gen Cert.Proof.ProjTile Cert.Proof.ProjHost Idealize.ShloMosaic Idealize.ShloMosaic.TcCoe Idealize.SL.Sem
open Cert.Proof.ProjBlock (pRow headRow turn turned plain keyHead Marks Turns qAt kAt vAt uAt qFn kFn vFn uFn table_apply idx4)
open Cert.Proof.ProjRef (angle)
open Cert.Proof.MixBlock (at2 at3 idx2)
open Cert.Proof.BlockValue (at4)
open Idealize.ShloMosaic.Pipeline (Dat Cfg Window)

/-- A point is below thirty-two; its batch, and its place in the batch. -/
theorem t_lt (t : Fin cfg0.N) : t.val < 32 := t.isLt
def bOf (t : Fin cfg0.N) : Fin 8 := ⟨t.val / 4, by have : t.val < 32 := t.isLt; omega⟩
/-- A point's row's position in its batch. -/
def sOf (t : Fin cfg0.N) (r : Fin 1024) : Fin 4096 := ⟨1024 * (t.val % 4) + r.val, by omega⟩
def rOf (t : Fin cfg0.N) (r : Fin 1024) : Fin 32768 := ⟨1024 * t.val + r.val, by have : t.val < 32 := t.isLt; omega⟩
theorem rOf_eq (t : Fin cfg0.N) (r : Fin 1024) : (rOf t r).val = 4096 * (bOf t).val + (sOf t r).val := by
  show 1024 * t.val + r.val = 4096 * (t.val / 4) + (1024 * (t.val % 4) + r.val)
  omega

theorem ix_0 : ∀ t : Fin cfg0.N, cc0_transform_0 (grid0.coords t) = ![t.val, 0] := by decide +kernel
theorem ix_1 : ∀ t : Fin cfg0.N, cc0_transform_1 (grid0.coords t) = ![0, 0] := by decide +kernel
theorem ix_2 : ∀ t : Fin cfg0.N, cc0_transform_2 (grid0.coords t) = ![0, 0] := by decide +kernel
theorem ix_3 : ∀ t : Fin cfg0.N, cc0_transform_3 (grid0.coords t) = ![0, 0] := by decide +kernel
theorem ix_4 : ∀ t : Fin cfg0.N, cc0_transform_4 (grid0.coords t) = ![t.val % 4, 0] := by decide +kernel
theorem ix_5 : ∀ t : Fin cfg0.N, cc0_transform_5 (grid0.coords t) = ![t.val % 4, 0] := by decide +kernel
theorem ix_6 : ∀ t : Fin cfg0.N, cc0_transform_6 (grid0.coords t) = ![0, 0] := by decide +kernel
theorem ix_7 : ∀ t : Fin cfg0.N, cc0_transform_7 (grid0.coords t) = ![0, 0] := by decide +kernel
theorem ix_8 : ∀ t : Fin cfg0.N, cc0_transform_8 (grid0.coords t) = ![t.val, 0] := by decide +kernel
theorem ix_9 : ∀ t : Fin cfg0.N, cc0_transform_9 (grid0.coords t) = ![t.val, 0] := by decide +kernel
theorem ix_10 : ∀ t : Fin cfg0.N, cc0_transform_10 (grid0.coords t) = ![t.val / 4, 0, 0, t.val % 4] := by decide +kernel
theorem ix_11 : ∀ t : Fin cfg0.N, cc0_transform_11 (grid0.coords t) = ![t.val, 0] := by decide +kernel

/-! ## The tables at a position -/

/-- A row part and a column part of the cosines, added at a lane. -/
theorem cos_sum (a b : FVec Ideal S64x16 .f32) (s : Fin 4096) (h k : Fin 64) (hh : h.val = s.val / 64) (hk : k.val = s.val % 64) (l : Fin 128) :
    twice (before a a) (ix2 h l) + twice (behind b b) (ix2 k l) = angle a b s ⟨l.val % 64 / 32, by omega⟩ ⟨l.val % 16, by omega⟩ := by
  rw [before_apply, behind_apply]
  unfold angle
  rw [show (⟨s.val / 64, by omega⟩ : Fin 64) = h from Fin.ext hh.symm, show (⟨s.val % 64, by omega⟩ : Fin 64) = k from Fin.ext hk.symm]
  by_cases e : l.val % 64 < 32
  · rw [if_pos e, if_pos e, if_pos (show l.val % 64 / 32 = 0 by omega), add_zero, ite_self]
  · rw [if_neg e, if_neg e, if_neg (show ¬ l.val % 64 / 32 = 0 by omega), zero_add, ite_self]
/-- The same of the signed sines. -/
theorem sin_sum (a b : FVec Ideal S64x16 .f32) (s : Fin 4096) (h k : Fin 64) (hh : h.val = s.val / 64) (hk : k.val = s.val % 64) (l : Fin 128) :
    twice (before (Host.negf a) a) (ix2 h l) + twice (behind (Host.negf b) b) (ix2 k l)
      = if l.val % 32 < 16 then -(angle a b s ⟨l.val % 64 / 32, by omega⟩ ⟨l.val % 16, by omega⟩) else angle a b s ⟨l.val % 64 / 32, by omega⟩ ⟨l.val % 16, by omega⟩ := by
  rw [before_apply, behind_apply]
  unfold angle
  rw [show (⟨s.val / 64, by omega⟩ : Fin 64) = h from Fin.ext hh.symm, show (⟨s.val % 64, by omega⟩ : Fin 64) = k from Fin.ext hk.symm]
  by_cases e : l.val % 64 < 32
  · rw [if_pos e, if_pos e, if_pos (show l.val % 64 / 32 = 0 by omega), add_zero]
    rfl
  · rw [if_neg e, if_neg e, if_neg (show ¬ l.val % 64 / 32 = 0 by omega), zero_add]
    rfl

variable (m : (ℓ : Loc nD τ sig) → Buf (Elt Ideal) ℓ) (c : Dev nD) (t : Fin cfg0.N)

/-! ## The blocks a point computes with -/

abbrev x0 : Vec Ideal S1024x1024 .f32 := iblk m c 0 t
abbrev x1 : Vec Ideal S1024x1280 .bf16 := iblk m c 1 t
abbrev x2 : Vec Ideal S1x640 .f32 := iblk m c 2 t
abbrev x3 : Vec Ideal S256x256 .bf16 := iblk m c 3 t
abbrev x4 : Vec Ideal S16x128 .f32 := iblk m c 4 t
abbrev x5 : Vec Ideal S16x128 .f32 := iblk m c 5 t
abbrev x6 : Vec Ideal S64x128 .f32 := iblk m c 6 t
abbrev x7 : Vec Ideal S64x128 .f32 := iblk m c 7 t

abbrev xA : FVec Ideal S8x4096x1024 .f32 := m ((c : Thread nD τ).loc main_arg0)
abbrev gA : FVec Ideal S1024 .f32 := m ((c : Thread nD τ).loc main_arg1)
abbrev wA : FVec Ideal S1024x1280 .f32 := m ((c : Thread nD τ).loc main_arg2)
abbrev gqA : FVec Ideal S64 .f32 := m ((c : Thread nD τ).loc main_arg3)
abbrev gkA : FVec Ideal S64 .f32 := m ((c : Thread nD τ).loc main_arg4)
abbrev crA : FVec Ideal S64x16 .f32 := m ((c : Thread nD τ).loc main_arg5)
abbrev srA : FVec Ideal S64x16 .f32 := m ((c : Thread nD τ).loc main_arg6)
abbrev ccA : FVec Ideal S64x16 .f32 := m ((c : Thread nD τ).loc main_arg7)
abbrev scA : FVec Ideal S64x16 .f32 := m ((c : Thread nD τ).loc main_arg8)

/-- The reference's results of the call's arguments. -/
def qRef : FVec Ideal S32768x512 .f32 := ProjRef.qWhole (xA m c) (gA m c) (wA m c) (gqA m c) (crA m c) (srA m c) (ccA m c) (scA m c)
def kRef : FVec Ideal S32768x256 .bf16 := ProjRef.kWhole (xA m c) (gA m c) (wA m c) (gkA m c) (crA m c) (srA m c) (ccA m c) (scA m c)
def vRef : FVec Ideal S8x2x80x4096 .bf16 := ProjRef.vWhole (xA m c) (gA m c) (wA m c)
def uRef : FVec Ideal S32768x512 .f32 := ProjRef.uWhole (xA m c) (gA m c) (wA m c)

/-- The folded weights and the heads' gains, by their indices. -/
def W : Fin 1024 → Fin 1280 → EReal := fun k y => weights (wA m c) (gA m c) (ix2 k y)
def G : Fin 640 → EReal := fun y => gains (gqA m c) (gkA m c) (ix2 (0 : Fin 1) y)
theorem W_eq (k : Fin 1024) (y : Fin 1280) : W m c k y = wA m c (ix2 k y) * gA m c (ix1 k) := weights_apply _ _ k y
theorem G_lo : ProjRef.QueryGains (G m c) (gqA m c) := by
  intro h d hh
  refine (gains_apply _ _ _ _).trans ((if_pos (show 64 * h.val + d.val < 512 by omega)).trans ?_)
  exact congrArg (fun z : Fin 64 => gqA m c (ix1 z)) (Fin.ext (by show (64 * h.val + d.val) % 64 = d.val; omega))
theorem G_hi : ProjRef.KeyGains (G m c) (gkA m c) := by
  intro h d hh
  refine (gains_apply _ _ _ _).trans ((if_neg (show ¬ 64 * h.val + d.val < 512 by omega)).trans ?_)
  exact congrArg (fun z : Fin 64 => gkA m c (ix1 z)) (Fin.ext (by show (64 * h.val + d.val) % 64 = d.val; omega))
/-- A position's cosines and sines, by the point's row. -/
def C : Fin 1024 → Fin 2 → Fin 16 → EReal := fun r => angle (crA m c) (ccA m c) (sOf t r)
def S : Fin 1024 → Fin 2 → Fin 16 → EReal := fun r => angle (srA m c) (scA m c) (sOf t r)

theorem x0_apply (r : Fin 1024) (e : Fin 1024) : x0 m c t (ix2 r e) = xA m c (ix3 (bOf t) (sOf t r) e) := by
  refine (at2 (V m c main_v0 : FVec Ideal S32768x1024 .f32) _ (ix2 (rOf t r) e) ?_ ?_).trans ?_
  · show cc0_transform_0 (grid0.coords t) 0 * 1024 + 1 * r.val = 1024 * t.val + r.val
    rw [ix_0]; show t.val * 1024 + _ = _; omega
  · show cc0_transform_0 (grid0.coords t) 1 * 1024 + 1 * e.val = e.val
    rw [ix_0]; show 0 * 1024 + _ = _; omega
  · rw [V_v0]
    exact rows_apply _ _ e (bOf t) (sOf t r) (rOf_eq t r)
theorem x1_apply (k : Fin 1024) (y : Fin 1280) : x1 m c t (ix2 k y) = W m c k y := by
  refine (at2 (V m c main_v4 : FVec Ideal S1024x1280 .bf16) _ (ix2 k y) ?_ ?_).trans ?_
  · show cc0_transform_1 (grid0.coords t) 0 * 1024 + 1 * k.val = k.val
    rw [ix_1]; show 0 * 1024 + _ = _; omega
  · show cc0_transform_1 (grid0.coords t) 1 * 1280 + 1 * y.val = y.val
    rw [ix_1]; show 0 * 1280 + _ = _; omega
  · rw [V_v4]; rfl
theorem x2_apply (y : Fin 640) : x2 m c t (ix2 (0 : Fin 1) y) = G m c y := by
  refine (at2 (V m c main_v12 : FVec Ideal S1x640 .f32) _ (ix2 (0 : Fin 1) y) ?_ ?_).trans ?_
  · show cc0_transform_2 (grid0.coords t) 0 * 1 + 1 * 0 = 0
    rw [ix_2]; rfl
  · show cc0_transform_2 (grid0.coords t) 1 * 640 + 1 * y.val = y.val
    rw [ix_2]; show 0 * 640 + _ = _; omega
  · rw [V_v12]; rfl
theorem x3_marks : Marks (x3 m c t) := by
  intro a b
  refine (at2 (V m c main_v20 : FVec Ideal S256x256 .bf16) _ (ix2 a b) ?_ ?_).trans ?_
  · show cc0_transform_3 (grid0.coords t) 0 * 256 + 1 * a.val = a.val
    rw [ix_3]; show 0 * 256 + _ = _; omega
  · show cc0_transform_3 (grid0.coords t) 1 * 256 + 1 * b.val = b.val
    rw [ix_3]; show 0 * 256 + _ = _; omega
  · rw [V_v20]
    exact marks_apply a b
theorem x4_apply (j : Fin 16) (l : Fin 128) : x4 m c t (ix2 j l) = twice (before (crA m c) (crA m c)) (ix2 (⟨16 * (t.val % 4) + j.val, by omega⟩ : Fin 64) l) := by
  refine (at2 (V m c main_v28 : FVec Ideal S64x128 .f32) _ (ix2 (⟨16 * (t.val % 4) + j.val, by omega⟩ : Fin 64) l) ?_ ?_).trans ?_
  · show cc0_transform_4 (grid0.coords t) 0 * 16 + 1 * j.val = 16 * (t.val % 4) + j.val
    rw [ix_4]; show t.val % 4 * 16 + _ = _; omega
  · show cc0_transform_4 (grid0.coords t) 1 * 128 + 1 * l.val = l.val
    rw [ix_4]; show 0 * 128 + _ = _; omega
  · rw [V_v28]
theorem x5_apply (j : Fin 16) (l : Fin 128) : x5 m c t (ix2 j l) = twice (before (Host.negf (srA m c)) (srA m c)) (ix2 (⟨16 * (t.val % 4) + j.val, by omega⟩ : Fin 64) l) := by
  refine (at2 (V m c main_v29 : FVec Ideal S64x128 .f32) _ (ix2 (⟨16 * (t.val % 4) + j.val, by omega⟩ : Fin 64) l) ?_ ?_).trans ?_
  · show cc0_transform_5 (grid0.coords t) 0 * 16 + 1 * j.val = 16 * (t.val % 4) + j.val
    rw [ix_5]; show t.val % 4 * 16 + _ = _; omega
  · show cc0_transform_5 (grid0.coords t) 1 * 128 + 1 * l.val = l.val
    rw [ix_5]; show 0 * 128 + _ = _; omega
  · rw [V_v29]
theorem x6_apply (j : Fin 64) (l : Fin 128) : x6 m c t (ix2 j l) = twice (behind (ccA m c) (ccA m c)) (ix2 j l) := by
  refine (at2 (V m c main_v30 : FVec Ideal S64x128 .f32) _ (ix2 j l) ?_ ?_).trans ?_
  · show cc0_transform_6 (grid0.coords t) 0 * 64 + 1 * j.val = j.val
    rw [ix_6]; show 0 * 64 + _ = _; omega
  · show cc0_transform_6 (grid0.coords t) 1 * 128 + 1 * l.val = l.val
    rw [ix_6]; show 0 * 128 + _ = _; omega
  · rw [V_v30]
theorem x7_apply (j : Fin 64) (l : Fin 128) : x7 m c t (ix2 j l) = twice (behind (Host.negf (scA m c)) (scA m c)) (ix2 j l) := by
  refine (at2 (V m c main_v31 : FVec Ideal S64x128 .f32) _ (ix2 j l) ?_ ?_).trans ?_
  · show cc0_transform_7 (grid0.coords t) 0 * 64 + 1 * j.val = j.val
    rw [ix_7]; show 0 * 64 + _ = _; omega
  · show cc0_transform_7 (grid0.coords t) 1 * 128 + 1 * l.val = l.val
    rw [ix_7]; show 0 * 128 + _ = _; omega
  · rw [V_v31]
/-- The point's tables hold its rows' cosines and signed sines. -/
theorem turns : Turns (table (x4 m c t) (x6 m c t)) (table (x5 m c t) (x7 m c t)) (C m c t) (S m c t) := by
  constructor
  · intro r l
    rw [table_apply, x4_apply, x6_apply]
    exact cos_sum _ _ (sOf t r) _ _ (by show 16 * (t.val % 4) + r.val / 64 = (1024 * (t.val % 4) + r.val) / 64; omega) (by show r.val % 64 = (1024 * (t.val % 4) + r.val) % 64; omega) l
  · intro r l
    rw [table_apply, x5_apply, x7_apply]
    exact sin_sum _ _ (sOf t r) _ _ (by show 16 * (t.val % 4) + r.val / 64 = (1024 * (t.val % 4) + r.val) / 64; omega) (by show r.val % 64 = (1024 * (t.val % 4) + r.val) % 64; omega) l

/-! ## The four results -/

theorem rows_eq (r : Fin 1024) : (fun k => x0 m c t (ix2 r k)) = fun k => xA m c (ix3 (bOf t) (sOf t r) k) := funext fun k => x0_apply m c t r k
theorem weights_eq : (fun k y => x1 m c t (ix2 k y)) = W m c := funext fun k => funext fun y => x1_apply m c t k y
theorem gains_eq : (fun y => x2 m c t (ix2 (0 : Fin 1) y)) = G m c := funext fun y => x2_apply m c t y
theorem turned_eq (r : Fin 1024) (h : Fin 10) (d : Fin 64) : turned (x0 m c t) (x1 m c t) (x2 m c t) (C m c t) (S m c t) r h d
    = turn (headRow (fun k => xA m c (ix3 (bOf t) (sOf t r) k)) (W m c) (G m c) h) (angle (crA m c) (ccA m c) (sOf t r)) (angle (srA m c) (scA m c) (sOf t r)) d := by
  unfold turned
  rw [rows_eq, weights_eq, gains_eq]
  rfl
theorem plain_eq (r : Fin 1024) (y : Fin 1280) : plain (x0 m c t) (x1 m c t) r y = pRow (fun k => xA m c (ix3 (bOf t) (sOf t r) k)) (fun k => W m c k y) := by
  unfold plain
  rw [rows_eq, ← weights_eq m c t]

theorem q_block (r : Fin 1024) (y : Fin 512) : qAt (x0 m c t) (x1 m c t) (x2 m c t) (C m c t) (S m c t) r y = qRef m c (ix2 (rOf t r) y) := by
  unfold qAt qRef
  rw [turned_eq]
  exact (ProjRef.qWhole_apply _ _ _ _ _ _ _ _ (W m c) (W_eq m c) (G m c) (G_lo m c) (bOf t) (sOf t r) (rOf t r) (rOf_eq t r) y).symm
theorem k_block (r : Fin 1024) (y : Fin 256) : kAt (x0 m c t) (x1 m c t) (x2 m c t) (C m c t) (S m c t) r y = kRef m c (ix2 (rOf t r) y) := by
  unfold kAt kRef
  rw [turned_eq]
  exact (ProjRef.kWhole_apply _ _ _ _ _ _ _ _ (W m c) (W_eq m c) (G m c) (G_hi m c) (bOf t) (sOf t r) (rOf t r) (rOf_eq t r) y).symm
theorem v_block (g : Fin 2) (d : Fin 80) (r : Fin 1024) : vAt (x0 m c t) (x1 m c t) g d r = vRef m c (ix4 (bOf t) g d (sOf t r)) := by
  unfold vAt vRef
  simp only [plain_eq]
  exact (ProjRef.vWhole_apply _ _ _ (W m c) (W_eq m c) (bOf t) (sOf t r) (rOf t r) g d).symm
theorem u_block (r : Fin 1024) (y : Fin 512) : uAt (x0 m c t) (x1 m c t) r y = uRef m c (ix2 (rOf t r) y) := by
  unfold uAt uRef
  rw [plain_eq]
  exact (ProjRef.uWhole_apply _ _ _ (W m c) (W_eq m c) (bOf t) (sOf t r) (rOf t r) (rOf_eq t r) y).symm

theorem q_arr : (dats m 0 c).arrAt 8 cfg0.N = qRef m c := by
  refine (dats m 0 c).arrAt_eq_of_cover 8 (qRef m c) ?_ ?_
  · intro t _
    rw [Cert.ProjIdeal.Value.flushed8_A, ProjTile.out8_eq, ProjBlock.q_eq _ _ _ (x3_marks m c t) (turns m c t)]
    show qFn (x0 m c t) (x1 m c t) (x2 m c t) (C m c t) (S m c t) = _
    funext i
    refine (q_block m c t (i 0 : Fin 1024) (i 1 : Fin 512)).trans (at2 (qRef m c) _ _ ?_ ?_)
    · show 1024 * t.val + (i 0).val = cc0_transform_8 (grid0.coords t) 0 * 1024 + 1 * (i 0).val
      rw [ix_8]; show _ = t.val * 1024 + _; omega
    · show (i 1).val = cc0_transform_8 (grid0.coords t) 1 * 512 + 1 * (i 1).val
      rw [ix_8]; show _ = 0 * 512 + _; omega
  · intro i
    have h0 : (i 0).val < 32768 := (i 0).isLt
    have h1 : (i 1).val < 512 := (i 1).isLt
    obtain ⟨t, ht⟩ : ∃ t : Fin cfg0.N, t.val = (i 0).val / 1024 := ⟨⟨(i 0).val / 1024, by show _ < 32; omega⟩, rfl⟩
    refine ⟨t, flush0_8 t, ?_⟩
    rw [View.set_slice_whole, Rect.mem_set_unit]
    intro a
    fin_cases a
    · show cc0_transform_8 (grid0.coords t) 0 * 1024 ≤ (i 0).val ∧ (i 0).val < cc0_transform_8 (grid0.coords t) 0 * 1024 + 1024
      rw [ix_8]
      show t.val * 1024 ≤ (i 0).val ∧ (i 0).val < t.val * 1024 + 1024; omega
    · show cc0_transform_8 (grid0.coords t) 1 * 512 ≤ (i 1).val ∧ (i 1).val < cc0_transform_8 (grid0.coords t) 1 * 512 + 512
      rw [ix_8]
      show 0 * 512 ≤ (i 1).val ∧ (i 1).val < 0 * 512 + 512; omega

theorem k_arr : (dats m 0 c).arrAt 9 cfg0.N = kRef m c := by
  refine (dats m 0 c).arrAt_eq_of_cover 9 (kRef m c) ?_ ?_
  · intro t _
    rw [Cert.ProjIdeal.Value.flushed9_A, ProjTile.out9_eq, ProjBlock.k_eq _ _ _ (x3_marks m c t) (turns m c t)]
    show kFn (x0 m c t) (x1 m c t) (x2 m c t) (C m c t) (S m c t) = _
    funext i
    refine (k_block m c t (i 0 : Fin 1024) (i 1 : Fin 256)).trans (at2 (kRef m c) _ _ ?_ ?_)
    · show 1024 * t.val + (i 0).val = cc0_transform_9 (grid0.coords t) 0 * 1024 + 1 * (i 0).val
      rw [ix_9]; show _ = t.val * 1024 + _; omega
    · show (i 1).val = cc0_transform_9 (grid0.coords t) 1 * 256 + 1 * (i 1).val
      rw [ix_9]; show _ = 0 * 256 + _; omega
  · intro i
    have h0 : (i 0).val < 32768 := (i 0).isLt
    have h1 : (i 1).val < 256 := (i 1).isLt
    obtain ⟨t, ht⟩ : ∃ t : Fin cfg0.N, t.val = (i 0).val / 1024 := ⟨⟨(i 0).val / 1024, by show _ < 32; omega⟩, rfl⟩
    refine ⟨t, flush0_9 t, ?_⟩
    rw [View.set_slice_whole, Rect.mem_set_unit]
    intro a
    fin_cases a
    · show cc0_transform_9 (grid0.coords t) 0 * 1024 ≤ (i 0).val ∧ (i 0).val < cc0_transform_9 (grid0.coords t) 0 * 1024 + 1024
      rw [ix_9]
      show t.val * 1024 ≤ (i 0).val ∧ (i 0).val < t.val * 1024 + 1024; omega
    · show cc0_transform_9 (grid0.coords t) 1 * 256 ≤ (i 1).val ∧ (i 1).val < cc0_transform_9 (grid0.coords t) 1 * 256 + 256
      rw [ix_9]
      show 0 * 256 ≤ (i 1).val ∧ (i 1).val < 0 * 256 + 256; omega

theorem u_arr : (dats m 0 c).arrAt 11 cfg0.N = uRef m c := by
  refine (dats m 0 c).arrAt_eq_of_cover 11 (uRef m c) ?_ ?_
  · intro t _
    rw [Cert.ProjIdeal.Value.flushed11_A, ProjTile.out11_eq, ProjBlock.u_eq _ _]
    show uFn (x0 m c t) (x1 m c t) = _
    funext i
    refine (u_block m c t (i 0 : Fin 1024) (i 1 : Fin 512)).trans (at2 (uRef m c) _ _ ?_ ?_)
    · show 1024 * t.val + (i 0).val = cc0_transform_11 (grid0.coords t) 0 * 1024 + 1 * (i 0).val
      rw [ix_11]; show _ = t.val * 1024 + _; omega
    · show (i 1).val = cc0_transform_11 (grid0.coords t) 1 * 512 + 1 * (i 1).val
      rw [ix_11]; show _ = 0 * 512 + _; omega
  · intro i
    have h0 : (i 0).val < 32768 := (i 0).isLt
    have h1 : (i 1).val < 512 := (i 1).isLt
    obtain ⟨t, ht⟩ : ∃ t : Fin cfg0.N, t.val = (i 0).val / 1024 := ⟨⟨(i 0).val / 1024, by show _ < 32; omega⟩, rfl⟩
    refine ⟨t, flush0_11 t, ?_⟩
    rw [View.set_slice_whole, Rect.mem_set_unit]
    intro a
    fin_cases a
    · show cc0_transform_11 (grid0.coords t) 0 * 1024 ≤ (i 0).val ∧ (i 0).val < cc0_transform_11 (grid0.coords t) 0 * 1024 + 1024
      rw [ix_11]
      show t.val * 1024 ≤ (i 0).val ∧ (i 0).val < t.val * 1024 + 1024; omega
    · show cc0_transform_11 (grid0.coords t) 1 * 512 ≤ (i 1).val ∧ (i 1).val < cc0_transform_11 (grid0.coords t) 1 * 512 + 512
      rw [ix_11]
      show 0 * 512 ≤ (i 1).val ∧ (i 1).val < 0 * 512 + 512; omega

theorem v_arr : (dats m 0 c).arrAt 10 cfg0.N = vRef m c := by
  refine (dats m 0 c).arrAt_eq_of_cover 10 (vRef m c) ?_ ?_
  · intro t _
    rw [Cert.ProjIdeal.Value.flushed10_A, ProjTile.out10_eq, ProjBlock.v_eq _ _]
    show vFn (x0 m c t) (x1 m c t) = _
    funext i
    have hi : (i 0).val < 1 := (i 0).isLt
    refine (v_block m c t (i 1 : Fin 2) (i 2 : Fin 80) (i 3 : Fin 1024)).trans (at4 (vRef m c) _ _ ?_ ?_ ?_ ?_)
    · show t.val / 4 = cc0_transform_10 (grid0.coords t) 0 * 1 + 1 * (i 0).val
      rw [ix_10]; show _ = t.val / 4 * 1 + _; omega
    · show (i 1).val = cc0_transform_10 (grid0.coords t) 1 * 2 + 1 * (i 1).val
      rw [ix_10]; show _ = 0 * 2 + _; omega
    · show (i 2).val = cc0_transform_10 (grid0.coords t) 2 * 80 + 1 * (i 2).val
      rw [ix_10]; show _ = 0 * 80 + _; omega
    · show 1024 * (t.val % 4) + (i 3).val = cc0_transform_10 (grid0.coords t) 3 * 1024 + 1 * (i 3).val
      rw [ix_10]; show _ = t.val % 4 * 1024 + _; omega
  · intro i
    have h0 : (i 0).val < 8 := (i 0).isLt
    have h1 : (i 1).val < 2 := (i 1).isLt
    have h2 : (i 2).val < 80 := (i 2).isLt
    have h3 : (i 3).val < 4096 := (i 3).isLt
    obtain ⟨t, ht⟩ : ∃ t : Fin cfg0.N, t.val = 4 * (i 0).val + (i 3).val / 1024 := ⟨⟨4 * (i 0).val + (i 3).val / 1024, by show _ < 32; omega⟩, rfl⟩
    refine ⟨t, flush0_10 t, ?_⟩
    rw [View.set_slice_whole, Rect.mem_set_unit]
    intro a
    fin_cases a
    · show cc0_transform_10 (grid0.coords t) 0 * 1 ≤ (i 0).val ∧ (i 0).val < cc0_transform_10 (grid0.coords t) 0 * 1 + 1
      rw [ix_10]
      show t.val / 4 * 1 ≤ (i 0).val ∧ (i 0).val < t.val / 4 * 1 + 1; omega
    · show cc0_transform_10 (grid0.coords t) 1 * 2 ≤ (i 1).val ∧ (i 1).val < cc0_transform_10 (grid0.coords t) 1 * 2 + 2
      rw [ix_10]
      show 0 * 2 ≤ (i 1).val ∧ (i 1).val < 0 * 2 + 2; omega
    · show cc0_transform_10 (grid0.coords t) 2 * 80 ≤ (i 2).val ∧ (i 2).val < cc0_transform_10 (grid0.coords t) 2 * 80 + 80
      rw [ix_10]
      show 0 * 80 ≤ (i 2).val ∧ (i 2).val < 0 * 80 + 80; omega
    · show cc0_transform_10 (grid0.coords t) 3 * 1024 ≤ (i 3).val ∧ (i 3).val < cc0_transform_10 (grid0.coords t) 3 * 1024 + 1024
      rw [ix_10]
      show t.val % 4 * 1024 ≤ (i 3).val ∧ (i 3).val < t.val % 4 * 1024 + 1024; omega

end Cert.Proof.ProjResults

end
-- ==== Proof.lean ====
/-
  The claims: the attention call's frame on bits and on ideal values, the reference's frame, the one named constant, and the
  call's four results against the reference's; then the mixing call's frames and its result against its reference's; then the
  input projection's frames and its four results against its reference's.
-/
module

public import proofs.«01_k».proof.Defs
public import proofs.«01_k».proof.Proof.Gen.Attn
public import proofs.«01_k».proof.Proof.Gen.AttnIdeal
public import proofs.«01_k».proof.Proof.Gen.AttnRefIdeal
public import proofs.«01_k».proof.Proof.Gen.AttnRefIdeal.Run
public import proofs.«01_k».proof.Proof.Gen.Mix
public import proofs.«01_k».proof.Proof.Gen.Mix.Frame
public import proofs.«01_k».proof.Proof.Gen.MixIdeal
public import proofs.«01_k».proof.Proof.Gen.MixIdeal.Value
public import proofs.«01_k».proof.Proof.Gen.MixRefIdeal
public import proofs.«01_k».proof.Proof.Gen.MixRefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Value
public import proofs.«01_k».proof.Proof.Gen.ProjRefIdeal
public import proofs.«01_k».proof.Proof.Gen.ProjRefIdeal.Run
public import proofs.«01_k».proof.Proof.RunBits
public import proofs.«01_k».proof.Proof.RunIdeal
public import proofs.«01_k».proof.Proof.Finite
public import proofs.«01_k».proof.Proof.Results
public import proofs.«01_k».proof.Proof.FinitePooled
public import proofs.«01_k».proof.Proof.MixResults
public import proofs.«01_k».proof.Proof.ProjResults

@[expose] public section

noncomputable section

namespace Cert.Proof

open Idealize.ShloMosaic Idealize.SL.Sem

/-- The reference's frame: it has no semaphore. -/
theorem frame_ref : Cert.quiescent_AttnRefIdeal (hAttnRefIdeal := Cert.AttnRefIdeal.Gen.facts) := fun m g _ =>
  (θ_run Cert.AttnRefIdeal.defs _ _).mono (fun r h => ⟨fun c => (h c).2.2.2.2, sem_eq_zero_of_no_sems rfl r.2⟩) (Cert.AttnRefIdeal.Value.run m g)

/-- The call's four results are the reference's. -/
theorem values : Cert.algebraic_AttnIdeal_AttnRefIdeal_pre_finite_scores (hAttnIdeal := Cert.AttnIdeal.Gen.facts) (hAttnRefIdeal := Cert.AttnRefIdeal.Gen.facts)
    (hPre_finite_scores := Finite.facts) := by
  intro m g m' g' hpre heq
  refine ⟨Results.outRef m, Results.woRef m, Results.wfRef m, Results.wdRef m, ?_, ?_⟩
  · refine (θ_run _ _ _).mono (fun r h c => ?_) (RunIdeal.run_main m g)
    obtain ⟨hq, hk, hkm⟩ := Finite.real_of_pre (hP := Finite.facts) _ _ _ _ _ _ _ _ _ _ _ (hpre c)
    choose qf hqf using hq
    choose kf hkf using hk
    choose kmf hkmf using hkm
    exact ⟨((h.1 c).1 10).trans (Results.out_arr m c qf kf kmf hqf hkf hkmf), ((h.1 c).1 11).trans (Results.wo_arr m c),
      ((h.1 c).1 12).trans (Results.wf_arr m c), ((h.1 c).1 13).trans (Results.wd_arr m c), RunIdeal.args_kept m r h.1 c⟩
  · refine (θ_run _ _ _).mono (fun r h c => ?_) (Cert.AttnRefIdeal.Value.run m' g')
    obtain ⟨e0, e1, e2, e3, e4, e5, e6, e7, e8, e9, e10⟩ := heq c
    obtain ⟨h0, h1, h2, h3, hargs⟩ := h c
    refine ⟨h0.trans ((RefValue.out_eq m' c).trans ?_), h1.trans ?_, h2.trans ?_, h3.trans ?_, hargs⟩
    · rw [e0, e1, e2, e3, e4]; rfl
    · rw [e5, e6, e7]; rfl
    · rw [e8, e9]; rfl
    · rw [e10]; rfl

/-- The mixing reference's frame: it has no semaphore. -/
theorem frame_mix_ref : Cert.quiescent_MixRefIdeal (hMixRefIdeal := Cert.MixRefIdeal.Gen.facts) := fun m g _ =>
  (θ_run Cert.MixRefIdeal.defs _ _).mono (fun r h => ⟨fun c => (h c).2, sem_eq_zero_of_no_sems rfl r.2⟩) (Cert.MixRefIdeal.Value.run m g)

/-- The mixing call's result is the reference's. -/
theorem mix_values : Cert.algebraic_MixIdeal_MixRefIdeal_pre_finite_pooled (hMixIdeal := Cert.MixIdeal.Gen.facts) (hMixRefIdeal := Cert.MixRefIdeal.Gen.facts)
    (hPre_finite_pooled := FinitePooled.facts) := by
  intro m g m' g' hpre heq
  refine ⟨MixResults.outRef m, ?_, ?_⟩
  · refine (θ_run _ _ _).mono (fun r h c => ?_) (Cert.MixIdeal.Value.run_blocks m g)
    obtain ⟨hu, hum⟩ := FinitePooled.real_of_pre (hP := FinitePooled.facts) _ _ _ _ _ _ _ _ _ _ _ _ (hpre c)
    choose uf huf using hu
    choose umf humf using hum
    exact ⟨(h c).1.trans (MixResults.out_arr m c uf umf huf humf), (h c).2⟩
  · refine (θ_run _ _ _).mono (fun r h c => ?_) (Cert.MixRefIdeal.Value.run m' g')
    obtain ⟨e0, e1, e2, e3, e4, e5, e6, e7, e8, e9, e10, e11⟩ := heq c
    refine ⟨(h c).1.trans ((MixRef.whole_eq (StableHlo.launchContents m' c)).trans ?_), (h c).2⟩
    show MixRef.whole (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1))
      (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg3))
      (m' ((c.tc : Thread Cert.MixRefIdeal.nD Cert.MixRefIdeal.τ).loc Cert.MixRefIdeal.main_arg4)) (m' ((c.tc : Thread Cert.MixRefIdeal.nD Cert.MixRefIdeal.τ).loc Cert.MixRefIdeal.main_arg5))
      (m' ((c.tc : Thread Cert.MixRefIdeal.nD Cert.MixRefIdeal.τ).loc Cert.MixRefIdeal.main_arg6)) (m' ((c.tc : Thread Cert.MixRefIdeal.nD Cert.MixRefIdeal.τ).loc Cert.MixRefIdeal.main_arg7))
      (m' ((c.tc : Thread Cert.MixRefIdeal.nD Cert.MixRefIdeal.τ).loc Cert.MixRefIdeal.main_arg8)) (m' ((c.tc : Thread Cert.MixRefIdeal.nD Cert.MixRefIdeal.τ).loc Cert.MixRefIdeal.main_arg9))
      (m' ((c.tc : Thread Cert.MixRefIdeal.nD Cert.MixRefIdeal.τ).loc Cert.MixRefIdeal.main_arg10)) (m' ((c.tc : Thread Cert.MixRefIdeal.nD Cert.MixRefIdeal.τ).loc Cert.MixRefIdeal.main_arg11)) = _
    rw [e0, e1, e2, e3, e4, e5, e6, e7, e8, e9, e10, e11]
    rfl

/-- The input projection's reference's frame: it has no semaphore. -/
theorem frame_proj_ref : Cert.quiescent_ProjRefIdeal (hProjRefIdeal := Cert.ProjRefIdeal.Gen.facts) := fun m g _ =>
  (θ_run Cert.ProjRefIdeal.defs _ _).mono (fun r h => ⟨fun c => (h c).2.2.2.2, sem_eq_zero_of_no_sems rfl r.2⟩) (Cert.ProjRefIdeal.Value.run m g)

/-- The input projection's four results are the reference's. -/
theorem proj_values : Cert.algebraic_ProjIdeal_ProjRefIdeal (hProjIdeal := Cert.ProjIdeal.Gen.facts) (hProjRefIdeal := Cert.ProjRefIdeal.Gen.facts) := by
  intro m g m' g' _ heq
  refine ⟨ProjResults.qRef m, ProjResults.kRef m, ProjResults.vRef m, ProjResults.uRef m, ?_, ?_⟩
  · refine (θ_run _ _ _).mono (fun r h c => ?_) (Cert.ProjIdeal.Value.run_blocks m g)
    obtain ⟨h0, h1, h2, h3, hargs⟩ := h c
    exact ⟨h0.trans (ProjResults.q_arr m c), h1.trans (ProjResults.k_arr m c), h2.trans (ProjResults.v_arr m c), h3.trans (ProjResults.u_arr m c), hargs⟩
  · refine (θ_run _ _ _).mono (fun r h c => ?_) (Cert.ProjRefIdeal.Value.run m' g')
    obtain ⟨e0, e1, e2, e3, e4, e5, e6, e7, e8⟩ := heq c
    obtain ⟨h0, h1, h2, h3, hargs⟩ := h c
    refine ⟨h0.trans ((ProjRef.q_eq m' c).trans ?_), h1.trans ((ProjRef.k_eq m' c).trans ?_), h2.trans ?_, h3.trans ?_, hargs⟩
    · rw [e0, e1, e2, e3, e5, e6, e7, e8]; rfl
    · rw [e0, e1, e2, e4, e5, e6, e7, e8]; rfl
    · rw [e0, e1, e2]; rfl
    · rw [e0, e1, e2]; rfl

theorem claim : Cert.Claim := ⟨Cert.Attn.Gen.facts, Cert.AttnIdeal.Gen.facts, Cert.AttnRefIdeal.Gen.facts, Cert.Mix.Gen.facts, Cert.MixIdeal.Gen.facts, Cert.MixRefIdeal.Gen.facts,
  Cert.Proj.Gen.facts, Cert.ProjIdeal.Gen.facts, Cert.ProjRefIdeal.Gen.facts, Finite.facts, FinitePooled.facts,
  fun m g _ => RunBits.frame_run m g, fun m g _ => RunIdeal.frame_run m g, fun m g _ => RunIdeal.frame_run m g, frame_ref, fun m g _ => frame_ref m g trivial,
  fun m g _ => Cert.Mix.Gen.frame m g, fun m g _ => Cert.MixIdeal.Gen.frame m g, fun m g _ => Cert.MixIdeal.Gen.frame m g, frame_mix_ref, fun m g _ => frame_mix_ref m g trivial,
  fun m g _ => Cert.Proj.Gen.frame m g, fun m g _ => Cert.ProjIdeal.Gen.frame m g, frame_proj_ref,
  IdealRules.named_const.statement Cert.AttnIdeal.κ "scale" .f32 0x3E38AA3B#32 _ rfl, values, trivial, mix_values, trivial, proj_values⟩

end Cert.Proof

end
